-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_bytes_regular [hPre_up_bytes_regular : Cert.Pre_up_bytes_regular.Facts] (m : (ℓ : Loc Cert.UpIdeal.nD Cert.UpIdeal.τ Cert.UpIdeal.sig) → Buf (Elt Ideal) ℓ) : Prop :=
  ∀ c : Dev Cert.UpIdeal.nD,
    (Cert.Pre_up_bytes_regular.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_bytes_regular [hPre_up_bytes_regular : Cert.Pre_up_bytes_regular.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_bytes_regular.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_scale_bytes_regular [hPre_scale_bytes_regular : Cert.Pre_scale_bytes_regular.Facts] (m : (ℓ : Loc Cert.DownIdeal.nD Cert.DownIdeal.τ Cert.DownIdeal.sig) → Buf (Elt Ideal) ℓ) : Prop :=
  ∀ c : Dev Cert.DownIdeal.nD,
    (Cert.Pre_scale_bytes_regular.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_scale_bytes_regular [hPre_scale_bytes_regular : Cert.Pre_scale_bytes_regular.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_scale_bytes_regular.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2))) = (fun _ => 1#1)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_up_bytes_regular [hUpIdeal : Cert.UpIdeal.Facts] [hPre_up_bytes_regular : Cert.Pre_up_bytes_regular.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_bytes_regular m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_up_bytes_regular [hUpRefIdeal : Cert.UpRefIdeal.Facts] [hPre_up_bytes_regular : Cert.Pre_up_bytes_regular.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_bytes_regular m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownIdeal_pre_scale_bytes_regular [hDownIdeal : Cert.DownIdeal.Facts] [hPre_scale_bytes_regular : Cert.Pre_scale_bytes_regular.Facts] : Prop :=
  ∀ (m : (ℓ : Loc Cert.DownIdeal.nD Cert.DownIdeal.τ Cert.DownIdeal.sig) → Buf (Elt Ideal) ℓ) (g : Dev Cert.DownIdeal.nD → PrngReg), Pre_DownIdeal_scale_bytes_regular m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownRefIdeal_pre_scale_bytes_regular [hDownRefIdeal : Cert.DownRefIdeal.Facts] [hPre_scale_bytes_regular : Cert.Pre_scale_bytes_regular.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_scale_bytes_regular m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def preserves_Up_UpIdeal : Prop :=
  IdealRules.bf16_pair.Statement Cert.UpIdeal.S32x128 Cert.UpIdeal.S16x128

def algebraic_UpIdeal_UpRefIdeal_pre_up_bytes_regular [hUpIdeal : Cert.UpIdeal.Facts] [hUpRefIdeal : Cert.UpRefIdeal.Facts] [hPre_up_bytes_regular : Cert.Pre_up_bytes_regular.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_bytes_regular m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)) (v3 : (c : Dev Cert.UpIdeal.nD) → Buf (Elt Ideal) ((c.tc : Thread Cert.UpIdeal.nD Cert.UpIdeal.τ).loc Cert.UpIdeal.main_v0_3)) (v4 : (c : Dev Cert.UpIdeal.nD) → Buf (Elt Ideal) ((c.tc : Thread Cert.UpIdeal.nD Cert.UpIdeal.τ).loc Cert.UpIdeal.main_v0_4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_v0_3) = v3 c
          ∧ r.2.mem ((c.tc : Thread Cert.UpIdeal.nD Cert.UpIdeal.τ).loc Cert.UpIdeal.main_v0_4) = v4 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0_0) = v0 c
          ∧ r.2.mem ((c.tc : Thread Cert.UpRefIdeal.nD Cert.UpRefIdeal.τ).loc Cert.UpRefIdeal.main_v0_1) = v1 c
          ∧ r.2.mem ((c.tc : Thread Cert.UpRefIdeal.nD Cert.UpRefIdeal.τ).loc Cert.UpRefIdeal.main_v0_2) = v2 c
          ∧ r.2.mem ((c.tc : Thread Cert.UpRefIdeal.nD Cert.UpRefIdeal.τ).loc Cert.UpRefIdeal.main_v0_3) = v3 c
          ∧ r.2.mem ((c.tc : Thread Cert.UpRefIdeal.nD Cert.UpRefIdeal.τ).loc Cert.UpRefIdeal.main_v0_4) = v4 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal_pre_scale_bytes_regular [hDownIdeal : Cert.DownIdeal.Facts] [hDownRefIdeal : Cert.DownRefIdeal.Facts] [hPre_scale_bytes_regular : Cert.Pre_scale_bytes_regular.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_scale_bytes_regular m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def Claim : Prop :=
  ∃ (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPre_up_bytes_regular : Cert.Pre_up_bytes_regular.Facts) (hPre_scale_bytes_regular : Cert.Pre_scale_bytes_regular.Facts),
    quiescent_Up (hUp := hUp)
    ∧ quiescent_UpIdeal (hUpIdeal := hUpIdeal)
    ∧ quiescent_UpIdeal_pre_up_bytes_regular (hUpIdeal := hUpIdeal) (hPre_up_bytes_regular := hPre_up_bytes_regular)
    ∧ quiescent_UpRefIdeal (hUpRefIdeal := hUpRefIdeal)
    ∧ quiescent_UpRefIdeal_pre_up_bytes_regular (hUpRefIdeal := hUpRefIdeal) (hPre_up_bytes_regular := hPre_up_bytes_regular)
    ∧ quiescent_Down (hDown := hDown)
    ∧ quiescent_DownIdeal (hDownIdeal := hDownIdeal)
    ∧ quiescent_DownIdeal_pre_scale_bytes_regular (hDownIdeal := hDownIdeal) (hPre_scale_bytes_regular := hPre_scale_bytes_regular)
    ∧ quiescent_DownRefIdeal (hDownRefIdeal := hDownRefIdeal)
    ∧ quiescent_DownRefIdeal_pre_scale_bytes_regular (hDownRefIdeal := hDownRefIdeal) (hPre_scale_bytes_regular := hPre_scale_bytes_regular)
    ∧ preserves_Up_UpIdeal
    ∧ algebraic_UpIdeal_UpRefIdeal_pre_up_bytes_regular (hUpIdeal := hUpIdeal) (hUpRefIdeal := hUpRefIdeal) (hPre_up_bytes_regular := hPre_up_bytes_regular)
    ∧ preserves_Down_DownIdeal
    ∧ algebraic_DownIdeal_DownRefIdeal_pre_scale_bytes_regular (hDownIdeal := hDownIdeal) (hDownRefIdeal := hDownRefIdeal) (hPre_scale_bytes_regular := hPre_scale_bytes_regular)
-- ==== Pre_scale_bytes_regular.lean ====
abbrev S1152x8192 : Shape := ⟨2, ![1152, 8192]⟩
abbrev S8192x3072 : Shape := ⟨2, ![8192, 3072]⟩
abbrev S256x3072 : Shape := ⟨2, ![256, 3072]⟩
abbrev S_ : Shape := ⟨0, ![]⟩

class Facts : Prop where
  bcast_S_S256x3072 : S_.BroadcastsInDim S256x3072 (![] : Fin 0 → Fin S256x3072.rank)

variable [Facts]

def fn {F : FTy → Type} [FloatOps F] (main_arg0 : FVec F S1152x8192 .bf16) (main_arg1 : FVec F S8192x3072 .fp8e4m3) (main_arg2 : IVec S256x3072 8) : IVec S256x3072 1 :=
  let main_c : IVec S_ 8 := constantI S_ 8 1#8
  let main_v0 : IVec S256x3072 8 := broadcastInDim S256x3072 ![] bcast_S_S256x3072 main_c
  let main_v1 : IVec S256x3072 1 := cmpi .uge main_arg2 main_v0
  let main_c_0 : IVec S_ 8 := constantI S_ 8 254#8
  let main_v2 : IVec S256x3072 8 := broadcastInDim S256x3072 ![] bcast_S_S256x3072 main_c_0
  let main_v3 : IVec S256x3072 1 := cmpi .ule main_arg2 main_v2
  let main_v4 : IVec S256x3072 1 := andi main_v1 main_v3
  main_v4
-- ==== Pre_up_bytes_regular.lean ====
abbrev S1152x3072 : Shape := ⟨2, ![1152, 3072]⟩
abbrev S3072x16384 : Shape := ⟨2, ![3072, 16384]⟩
abbrev S96x16384 : Shape := ⟨2, ![96, 16384]⟩
abbrev S_ : Shape := ⟨0, ![]⟩

class Facts : Prop where
  bcast_S_S96x16384 : S_.BroadcastsInDim S96x16384 (![] : Fin 0 → Fin S96x16384.rank)

variable [Facts]

def fn {F : FTy → Type} [FloatOps F] (main_arg0 : FVec F S1152x3072 .bf16) (main_arg1 : FVec F S3072x16384 .fp8e4m3) (main_arg2 : IVec S96x16384 8) : IVec S96x16384 1 :=
  let main_c : IVec S_ 8 := constantI S_ 8 1#8
  let main_v0 : IVec S96x16384 8 := broadcastInDim S96x16384 ![] bcast_S_S96x16384 main_c
  let main_v1 : IVec S96x16384 1 := cmpi .uge main_arg2 main_v0
  let main_c_0 : IVec S_ 8 := constantI S_ 8 254#8
  let main_v2 : IVec S96x16384 8 := broadcastInDim S96x16384 ![] bcast_S_S96x16384 main_c_0
  let main_v3 : IVec S96x16384 1 := cmpi .ule main_arg2 main_v2
  let main_v4 : IVec S96x16384 1 := andi main_v1 main_v3
  main_v4
-- ==== Up.lean ====
abbrev S1152x3072 : Shape := ⟨2, ![1152, 3072]⟩
abbrev S3072x16384 : Shape := ⟨2, ![3072, 16384]⟩
abbrev S96x16384 : Shape := ⟨2, ![96, 16384]⟩
abbrev S1152x96 : Shape := ⟨2, ![1152, 96]⟩
abbrev S1152x8192 : Shape := ⟨2, ![1152, 8192]⟩
abbrev S1152x256 : Shape := ⟨2, ![1152, 256]⟩
abbrev S3072x256 : Shape := ⟨2, ![3072, 256]⟩
abbrev S96x256 : Shape := ⟨2, ![96, 256]⟩
abbrev S2x96x128 : Shape := ⟨3, ![2, 96, 128]⟩
abbrev S2x1152x128 : Shape := ⟨3, ![2, 1152, 128]⟩
abbrev S32x128 : Shape := ⟨2, ![32, 128]⟩
abbrev S16x128 : Shape := ⟨2, ![16, 128]⟩
abbrev S32x128x1 : Shape := ⟨3, ![32, 128, 1]⟩
abbrev S32x96 : Shape := ⟨2, ![32, 96]⟩
abbrev S96x128 : Shape := ⟨2, ![96, 128]⟩
abbrev S1x96x128 : Shape := ⟨3, ![1, 96, 128]⟩
abbrev S1x1x128 : Shape := ⟨3, ![1, 1, 128]⟩
abbrev S1x128 : Shape := ⟨2, ![1, 128]⟩
abbrev S1x32x128 : Shape := ⟨3, ![1, 32, 128]⟩

abbrev nBuf : Space → Nat
  | .hbm => 8
  | .vmem => 24
  | .smem => 0
  | _ => 0

abbrev bufTy : (tb : Table) → Fin (tcTables nBuf tb) → BufTy
  | .hbm, ⟨0, _⟩ => ⟨S1152x3072, .bf16⟩
  | .hbm, ⟨1, _⟩ => ⟨S3072x16384, .fp8e4m3⟩
  | .hbm, ⟨2, _⟩ => ⟨S96x16384, .i8⟩
  | .hbm, ⟨3, _⟩ => ⟨S1152x3072, .fp8e4m3⟩
  | .hbm, ⟨4, _⟩ => ⟨S1152x96, .f32⟩
  | .hbm, ⟨5, _⟩ => ⟨S1152x8192, .fp8e4m3⟩
  | .hbm, ⟨6, _⟩ => ⟨S1152x256, .f32⟩
  | .hbm, ⟨7, _⟩ => ⟨S1152x8192, .bf16⟩
  | .local _ .vmem, ⟨0, _⟩ => ⟨S1152x3072, .bf16⟩
  | .local _ .vmem, ⟨1, _⟩ => ⟨S3072x256, .fp8e4m3⟩
  | .local _ .vmem, ⟨2, _⟩ => ⟨S3072x256, .fp8e4m3⟩
  | .local _ .vmem, ⟨3, _⟩ => ⟨S3072x256, .fp8e4m3⟩
  | .local _ .vmem, ⟨4, _⟩ => ⟨S3072x256, .fp8e4m3⟩
  | .local _ .vmem, ⟨5, _⟩ => ⟨S96x256, .i8⟩
  | .local _ .vmem, ⟨6, _⟩ => ⟨S96x256, .i8⟩
  | .local _ .vmem, ⟨7, _⟩ => ⟨S96x256, .i8⟩
  | .local _ .vmem, ⟨8, _⟩ => ⟨S96x256, .i8⟩
  | .local _ .vmem, ⟨9, _⟩ => ⟨S1152x3072, .fp8e4m3⟩
  | .local _ .vmem, ⟨10, _⟩ => ⟨S1152x96, .f32⟩
  | .local _ .vmem, ⟨11, _⟩ => ⟨S1152x256, .fp8e4m3⟩
  | .local _ .vmem, ⟨12, _⟩ => ⟨S1152x256, .fp8e4m3⟩
  | .local _ .vmem, ⟨13, _⟩ => ⟨S1152x256, .f32⟩
  | .local _ .vmem, ⟨14, _⟩ => ⟨S1152x256, .bf16⟩
  | .local _ .vmem, ⟨15, _⟩ => ⟨S1152x256, .bf16⟩
  | .local _ .vmem, ⟨16, _⟩ => ⟨S1152x3072, .bf16⟩
  | .local _ .vmem, ⟨17, _⟩ => ⟨S3072x256, .bf16⟩
  | .local _ .vmem, ⟨18, _⟩ => ⟨S3072x256, .bf16⟩
  | .local _ .vmem, ⟨19, _⟩ => ⟨S2x96x128, .i32⟩
  | .local _ .vmem, ⟨20, _⟩ => ⟨S2x96x128, .i32⟩
  | .local _ .vmem, ⟨21, _⟩ => ⟨S1152x256, .f32⟩
  | .local _ .vmem, ⟨22, _⟩ => ⟨S1152x256, .f32⟩
  | .local _ .vmem, ⟨23, _⟩ => ⟨S2x1152x128, .f32⟩
  | _, _ => ⟨S1152x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_55 : BitVec 32 := 0#32
  let c36_i32_56 : BitVec 32 := 36#32
  let v63 : BitVec 32 := Scalar.addi c0_i32_55 c36_i32_56
  let c1_i32_57 : BitVec 32 := 1#32
  ⟨c0_i32_55, v63, c1_i32_57⟩
def k0_mult1 (k0_t1 : Fin k0_t1_loop.trips) : BitVec 32 :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  v64
def k0_off1 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v68 : Index := Scalar.indexCast v65
  let c0_60 : Index := 0#32
  ![v68.toNat, 0]
def k0_off2 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v163 : Index := Scalar.indexCast v65
  let c128_78 : Index := 128#32
  ![v163.toNat, 128]
def k0_off3 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v258 : Index := Scalar.indexCast v65
  let c256 : Index := 256#32
  ![v258.toNat, 256]
def k0_off4 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v353 : Index := Scalar.indexCast v65
  let c384 : Index := 384#32
  ![v353.toNat, 384]
def k0_off5 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v448 : Index := Scalar.indexCast v65
  let c512 : Index := 512#32
  ![v448.toNat, 512]
def k0_off6 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v543 : Index := Scalar.indexCast v65
  let c640 : Index := 640#32
  ![v543.toNat, 640]
def k0_off7 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v638 : Index := Scalar.indexCast v65
  let c768 : Index := 768#32
  ![v638.toNat, 768]
def k0_off8 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v733 : Index := Scalar.indexCast v65
  let c896 : Index := 896#32
  ![v733.toNat, 896]
def k0_off9 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v828 : Index := Scalar.indexCast v65
  let c1024 : Index := 1024#32
  ![v828.toNat, 1024]
def k0_off10 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v923 : Index := Scalar.indexCast v65
  let c1152 : Index := 1152#32
  ![v923.toNat, 1152]
def k0_off11 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1018 : Index := Scalar.indexCast v65
  let c1280 : Index := 1280#32
  ![v1018.toNat, 1280]
def k0_off12 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1113 : Index := Scalar.indexCast v65
  let c1408 : Index := 1408#32
  ![v1113.toNat, 1408]
def k0_off13 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1208 : Index := Scalar.indexCast v65
  let c1536 : Index := 1536#32
  ![v1208.toNat, 1536]
def k0_off14 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1303 : Index := Scalar.indexCast v65
  let c1664 : Index := 1664#32
  ![v1303.toNat, 1664]
def k0_off15 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1398 : Index := Scalar.indexCast v65
  let c1792 : Index := 1792#32
  ![v1398.toNat, 1792]
def k0_off16 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1493 : Index := Scalar.indexCast v65
  let c1920 : Index := 1920#32
  ![v1493.toNat, 1920]
def k0_off17 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1588 : Index := Scalar.indexCast v65
  let c2048 : Index := 2048#32
  ![v1588.toNat, 2048]
def k0_off18 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1683 : Index := Scalar.indexCast v65
  let c2176 : Index := 2176#32
  ![v1683.toNat, 2176]
def k0_off19 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1778 : Index := Scalar.indexCast v65
  let c2304 : Index := 2304#32
  ![v1778.toNat, 2304]
def k0_off20 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1873 : Index := Scalar.indexCast v65
  let c2432 : Index := 2432#32
  ![v1873.toNat, 2432]
def k0_off21 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v1968 : Index := Scalar.indexCast v65
  let c2560 : Index := 2560#32
  ![v1968.toNat, 2560]
def k0_off22 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v2063 : Index := Scalar.indexCast v65
  let c2688 : Index := 2688#32
  ![v2063.toNat, 2688]
def k0_off23 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v2158 : Index := Scalar.indexCast v65
  let c2816 : Index := 2816#32
  ![v2158.toNat, 2816]
def k0_off24 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v2253 : Index := Scalar.indexCast v65
  let c2944 : Index := 2944#32
  ![v2253.toNat, 2944]
def k0_off25 (k0_t1 : Fin k0_t1_loop.trips) : Fin 2 → Nat :=
  let c0_i32_55 : BitVec 32 := 0#32
  let c1_i32_57 : BitVec 32 := 1#32
  let arg19 : BitVec 32 := Scf.iv c0_i32_55 c1_i32_57 k0_t1
  let c32_i32 : BitVec 32 := 32#32
  let v64 : BitVec 32 := Scalar.muli arg19 c32_i32
  let v65 : BitVec 32 := v64
  let v2401 : Index := Scalar.indexCast v65
  let c0_627 : Index := 0#32
  ![v2401.toNat, 0]
@[reducible] def k0_t2_loop : Scf.Loop 32 :=
  let c0_i32_24 : BitVec 32 := 0#32
  let c96_i32 : BitVec 32 := 96#32
  let v43 : BitVec 32 := Scalar.addi c0_i32_24 c96_i32
  let c1_i32 : BitVec 32 := 1#32
  ⟨c0_i32_24, v43, c1_i32⟩
def k0_mult2 (k0_t2 : Fin k0_t2_loop.trips) : BitVec 32 :=
  let c0_i32_24 : BitVec 32 := 0#32
  let c1_i32 : BitVec 32 := 1#32
  let arg19 : BitVec 32 := Scf.iv c0_i32_24 c1_i32 k0_t2
  let c32_i32 : BitVec 32 := 32#32
  let v63 : BitVec 32 := Scalar.muli arg19 c32_i32
  v63
def k0_off26 (k0_t2 : Fin k0_t2_loop.trips) : Fin 3 → Nat :=
  let c0_55 : Index := 0#32
  let c0_i32_24 : BitVec 32 := 0#32
  let c1_i32 : BitVec 32 := 1#32
  let arg19 : BitVec 32 := Scf.iv c0_i32_24 c1_i32 k0_t2
  let v65 : Index := Scalar.indexCast arg19
  let c0_56 : Index := 0#32
  ![0, v65.toNat, 0]
def k0_off27 (k0_t2 : Fin k0_t2_loop.trips) : Fin 2 → Nat :=
  let c0_i32_24 : BitVec 32 := 0#32
  let c1_i32 : BitVec 32 := 1#32
  let arg19 : BitVec 32 := Scf.iv c0_i32_24 c1_i32 k0_t2
  let c32_i32 : BitVec 32 := 32#32
  let v63 : BitVec 32 := Scalar.muli arg19 c32_i32
  let v64 : BitVec 32 := v63
  let v70 : Index := Scalar.indexCast v64
  let c0_57 : Index := 0#32
  ![v70.toNat, 0]
@[reducible] def k0_t3_loop : Scf.Loop 32 :=
  let c0_i32_26 : BitVec 32 := 0#32
  let c96_i32_27 : BitVec 32 := 96#32
  let v44 : BitVec 32 := Scalar.addi c0_i32_26 c96_i32_27
  let c1_i32_28 : BitVec 32 := 1#32
  ⟨c0_i32_26, v44, c1_i32_28⟩
def k0_mult3 (k0_t3 : Fin k0_t3_loop.trips) : BitVec 32 :=
  let c0_i32_26 : BitVec 32 := 0#32
  let c1_i32_28 : BitVec 32 := 1#32
  let arg19 : BitVec 32 := Scf.iv c0_i32_26 c1_i32_28 k0_t3
  let c32_i32 : BitVec 32 := 32#32
  let v63 : BitVec 32 := Scalar.muli arg19 c32_i32
  v63
def k0_off28 (k0_t3 : Fin k0_t3_loop.trips) : Fin 3 → Nat :=
  let c1_55 : Index := 1#32
  let c0_i32_26 : BitVec 32 := 0#32
  let c1_i32_28 : BitVec 32 := 1#32
  let arg19 : BitVec 32 := Scf.iv c0_i32_26 c1_i32_28 k0_t3
  let v65 : Index := Scalar.indexCast arg19
  let c0_56 : Index := 0#32
  ![1, v65.toNat, 0]
def k0_off29 (k0_t3 : Fin k0_t3_loop.trips) : Fin 2 → Nat :=
  let c0_i32_26 : BitVec 32 := 0#32
  let c1_i32_28 : BitVec 32 := 1#32
  let arg19 : BitVec 32 := Scf.iv c0_i32_26 c1_i32_28 k0_t3
  let c32_i32 : BitVec 32 := 32#32
  let v63 : BitVec 32 := Scalar.muli arg19 c32_i32
  let v64 : BitVec 32 := v63
  let v70 : Index := Scalar.indexCast v64
  let c128_57 : Index := 128#32
  ![v70.toNat, 128]
@[reducible] def k0_t4_loop : Scf.Loop 32 :=
  let c0_i32_30 : BitVec 32 := 0#32
  let c96_i32_31 : BitVec 32 := 96#32
  let v45 : BitVec 32 := Scalar.addi c0_i32_30 c96_i32_31
  let c1_i32_32 : BitVec 32 := 1#32
  ⟨c0_i32_30, v45, c1_i32_32⟩
def k0_mult4 (k0_t4 : Fin k0_t4_loop.trips) : BitVec 32 :=
  let c0_i32_30 : BitVec 32 := 0#32
  let c1_i32_32 : BitVec 32 := 1#32
  let arg19 : BitVec 32 := Scf.iv c0_i32_30 c1_i32_32 k0_t4
  let c32_i32 : BitVec 32 := 32#32
  let v63 : BitVec 32 := Scalar.muli arg19 c32_i32
  v63
def k0_off30 (k0_t4 : Fin k0_t4_loop.trips) : Fin 3 → Nat :=
  let c0_55 : Index := 0#32
  let c0_i32_30 : BitVec 32 := 0#32
  let c1_i32_32 : BitVec 32 := 1#32
  let arg19 : BitVec 32 := Scf.iv c0_i32_30 c1_i32_32 k0_t4
  let v65 : Index := Scalar.indexCast arg19
  let c0_56 : Index := 0#32
  ![0, v65.toNat, 0]
def k0_off31 (k0_t4 : Fin k0_t4_loop.trips) : Fin 2 → Nat :=
  let c0_i32_30 : BitVec 32 := 0#32
  let c1_i32_32 : BitVec 32 := 1#32
  let arg19 : BitVec 32 := Scf.iv c0_i32_30 c1_i32_32 k0_t4
  let c32_i32 : BitVec 32 := 32#32
  let v63 : BitVec 32 := Scalar.muli arg19 c32_i32
  let v64 : BitVec 32 := v63
  let v70 : Index := Scalar.indexCast v64
  let c0_57 : Index := 0#32
  ![v70.toNat, 0]
@[reducible] def k0_t5_loop : Scf.Loop 32 :=
  let c0_i32_34 : BitVec 32 := 0#32
  let c96_i32_35 : BitVec 32 := 96#32
  let v46 : BitVec 32 := Scalar.addi c0_i32_34 c96_i32_35
  let c1_i32_36 : BitVec 32 := 1#32
  ⟨c0_i32_34, v46, c1_i32_36⟩
def k0_mult5 (k0_t5 : Fin k0_t5_loop.trips) : BitVec 32 :=
  let c0_i32_34 : BitVec 32 := 0#32
  let c1_i32_36 : BitVec 32 := 1#32
  let arg19 : BitVec 32 := Scf.iv c0_i32_34 c1_i32_36 k0_t5
  let c32_i32 : BitVec 32 := 32#32
  let v63 : BitVec 32 := Scalar.muli arg19 c32_i32
  v63
def k0_off32 (k0_t5 : Fin k0_t5_loop.trips) : Fin 3 → Nat :=
  let c1_55 : Index := 1#32
  let c0_i32_34 : BitVec 32 := 0#32
  let c1_i32_36 : BitVec 32 := 1#32
  let arg19 : BitVec 32 := Scf.iv c0_i32_34 c1_i32_36 k0_t5
  let v65 : Index := Scalar.indexCast arg19
  let c0_56 : Index := 0#32
  ![1, v65.toNat, 0]
def k0_off33 (k0_t5 : Fin k0_t5_loop.trips) : Fin 2 → Nat :=
  let c0_i32_34 : BitVec 32 := 0#32
  let c1_i32_36 : BitVec 32 := 1#32
  let arg19 : BitVec 32 := Scf.iv c0_i32_34 c1_i32_36 k0_t5
  let c32_i32 : BitVec 32 := 32#32
  let v63 : BitVec 32 := Scalar.muli arg19 c32_i32
  let v64 : BitVec 32 := v63
  let v70 : Index := Scalar.indexCast v64
  let c128_57 : Index := 128#32
  ![v70.toNat, 128]
@[reducible] def k0_t6_loop : Scf.Loop 32 :=
  let c0_i32_51 : BitVec 32 := 0#32
  let c36_i32 : BitVec 32 := 36#32
  let v59 : BitVec 32 := Scalar.addi c0_i32_51 c36_i32
  let c1_i32_52 : BitVec 32 := 1#32
  ⟨c0_i32_51, v59, c1_i32_52⟩
def k0_mult6 (k0_t6 : Fin k0_t6_loop.trips) : BitVec 32 :=
  let c0_i32_51 : BitVec 32 := 0#32
  let c1_i32_52 : BitVec 32 := 1#32
  let arg19 : BitVec 32 := Scf.iv c0_i32_51 c1_i32_52 k0_t6
  let c32_i32 : BitVec 32 := 32#32
  let v63 : BitVec 32 := Scalar.muli arg19 c32_i32
  v63
def k0_off34 (k0_t6 : Fin k0_t6_loop.trips) : Fin 2 → Nat :=
  let c0_i32_51 : BitVec 32 := 0#32
  let c1_i32_52 : BitVec 32 := 1#32
  let arg19 : BitVec 32 := Scf.iv c0_i32_51 c1_i32_52 k0_t6
  let c32_i32 : BitVec 32 := 32#32
  let v63 : BitVec 32 := Scalar.muli arg19 c32_i32
  let v64 : BitVec 32 := v63
  let v66 : Index := Scalar.indexCast v64
  let c0_55 : Index := 0#32
  ![v66.toNat, 0]
def k0_off35 (i : grid0.Coords) (k0_t6 : Fin k0_t6_loop.trips) (c0_i32_70 : BitVec 32) : Fin 3 → Nat :=
  let arg0 : BitVec 32 := BitVec.ofNat 32 (i 0).val
  let c2_i32 : BitVec 32 := 2#32
  let v149 : BitVec 32 := Scalar.muli arg0 c2_i32
  let v150 : BitVec 32 := Scalar.addi v149 c0_i32_70
  let c0_i32_84 : BitVec 32 := 0#32
  let v181 : BitVec 1 := Scalar.cmpi .sgt v150 c0_i32_84
  let v182 : BitVec 32 := Scalar.extui v181
  let c0_i32_85 : BitVec 32 := 0#32
  let v183 : BitVec 1 := Scalar.cmpi .slt v150 c0_i32_85
  let v184 : BitVec 32 := Scalar.extui v183
  let v185 : BitVec 32 := Scalar.subi v182 v184
  let c32_i32_83 : BitVec 32 := 32#32
  let c0_i32_86 : BitVec 32 := 0#32
  let v186 : BitVec 1 := Scalar.cmpi .sgt c32_i32_83 c0_i32_86
  let v187 : BitVec 32 := Scalar.extui v186
  let c0_i32_87 : BitVec 32 := 0#32
  let v188 : BitVec 1 := Scalar.cmpi .slt c32_i32_83 c0_i32_87
  let v189 : BitVec 32 := Scalar.extui v188
  let v190 : BitVec 32 := Scalar.subi v187 v189
  let v191 : BitVec 1 := Scalar.cmpi .ne v185 v190
  let v192 : BitVec 32 := Scalar.remsi v150 c32_i32_83
  let c0_i32_88 : BitVec 32 := 0#32
  let v193 : BitVec 1 := Scalar.cmpi .ne v192 c0_i32_88
  let v194 : BitVec 1 := Scalar.andi v191 v193
  let v180 : BitVec 32 := Scalar.divsi v150 c32_i32_83
  let c1_i32_89 : BitVec 32 := 1#32
  let v195 : BitVec 32 := Scalar.subi v180 c1_i32_89
  let v196 : BitVec 32 := Scalar.select v194 v195 v180
  let v197 : Index := Scalar.indexCast v196
  let c0_i32_51 : BitVec 32 := 0#32
  let c1_i32_52 : BitVec 32 := 1#32
  let arg19 : BitVec 32 := Scf.iv c0_i32_51 c1_i32_52 k0_t6
  let c32_i32 : BitVec 32 := 32#32
  let v63 : BitVec 32 := Scalar.muli arg19 c32_i32
  let v64 : BitVec 32 := v63
  let v198 : Index := Scalar.indexCast v64
  let c0_90 : Index := 0#32
  ![v197.toNat, v198.toNat, 0]
def k0_off36 (k0_t6 : Fin k0_t6_loop.trips) : Fin 2 → Nat :=
  let c0_i32_51 : BitVec 32 := 0#32
  let c1_i32_52 : BitVec 32 := 1#32
  let arg19 : BitVec 32 := Scf.iv c0_i32_51 c1_i32_52 k0_t6
  let c32_i32 : BitVec 32 := 32#32
  let v63 : BitVec 32 := Scalar.muli arg19 c32_i32
  let v64 : BitVec 32 := v63
  let v224 : Index := Scalar.indexCast v64
  let c128_99 : Index := 128#32
  ![v224.toNat, 128]
def k0_cond2 (i : grid0.Coords) : BitVec 1 :=
  let arg0 : BitVec 32 := BitVec.ofNat 32 (i 0).val
  let c31_i32 : BitVec 32 := 31#32
  let v60 : BitVec 1 := Scalar.cmpi .eq arg0 c31_i32
  let v61 : BitVec 32 := Scalar.extui v60
  let c0_i32_54 : BitVec 32 := 0#32
  let v62 : BitVec 1 := Scalar.cmpi .ne v61 c0_i32_54
  v62

@[reducible] def k0_t7_loop : Scf.Loop 32 :=
  let c0_i32_55 : BitVec 32 := 0#32
  let c36_i32_56 : BitVec 32 := 36#32
  let v63 : BitVec 32 := Scalar.addi c0_i32_55 c36_i32_56
  let c1_i32_57 : BitVec 32 := 1#32
  ⟨c0_i32_55, v63, c1_i32_57⟩
def k0_mult7 (k0_t7 : Fin k0_t7_loop.trips) : BitVec 32 :=
  let c0_i32_55 : BitVec 32 := 0#32
  let c1_i32_57 : BitVec 32 := 1#32
  let arg19 : BitVec 32 := Scf.iv c0_i32_55 c1_i32_57 k0_t7
  let c32_i32 : BitVec 32 := 32#32
  let v65 : BitVec 32 := Scalar.muli arg19 c32_i32
  v65
def k0_off37 (k0_t7 : Fin k0_t7_loop.trips) : Fin 3 → Nat :=
  let c0_63 : Index := 0#32
  let c0_i32_55 : BitVec 32 := 0#32
  let c1_i32_57 : BitVec 32 := 1#32
  let arg19 : BitVec 32 := Scf.iv c0_i32_55 c1_i32_57 k0_t7
  let c32_i32 : BitVec 32 := 32#32
  let v65 : BitVec 32 := Scalar.muli arg19 c32_i32
  let v66 : BitVec 32 := v65
  let v67 : Index := Scalar.indexCast v66
  let c0_64 : Index := 0#32
  ![0, v67.toNat, 0]
def k0_off38 (k0_t7 : Fin k0_t7_loop.trips) : Fin 2 → Nat :=
  let c0_i32_55 : BitVec 32 := 0#32
  let c1_i32_57 : BitVec 32 := 1#32
  let arg19 : BitVec 32 := Scf.iv c0_i32_55 c1_i32_57 k0_t7
  let c32_i32 : BitVec 32 := 32#32
  let v65 : BitVec 32 := Scalar.muli arg19 c32_i32
  let v66 : BitVec 32 := v65
  let v122 : Index := Scalar.indexCast v66
  let c0_79 : Index := 0#32
  ![v122.toNat, 0]
@[reducible] def k0_t8_loop : Scf.Loop 32 :=
  let c0_i32_59 : BitVec 32 := 0#32
  let c36_i32_60 : BitVec 32 := 36#32
  let v64 : BitVec 32 := Scalar.addi c0_i32_59 c36_i32_60
  let c1_i32_61 : BitVec 32 := 1#32
  ⟨c0_i32_59, v64, c1_i32_61⟩
def k0_mult8 (k0_t8 : Fin k0_t8_loop.trips) : BitVec 32 :=
  let c0_i32_59 : BitVec 32 := 0#32
  let c1_i32_61 : BitVec 32 := 1#32
  let arg19 : BitVec 32 := Scf.iv c0_i32_59 c1_i32_61 k0_t8
  let c32_i32 : BitVec 32 := 32#32
  let v65 : BitVec 32 := Scalar.muli arg19 c32_i32
  v65
def k0_off39 (k0_t8 : Fin k0_t8_loop.trips) : Fin 3 → Nat :=
  let c1_63 : Index := 1#32
  let c0_i32_59 : BitVec 32 := 0#32
  let c1_i32_61 : BitVec 32 := 1#32
  let arg19 : BitVec 32 := Scf.iv c0_i32_59 c1_i32_61 k0_t8
  let c32_i32 : BitVec 32 := 32#32
  let v65 : BitVec 32 := Scalar.muli arg19 c32_i32
  let v66 : BitVec 32 := v65
  let v67 : Index := Scalar.indexCast v66
  let c0_64 : Index := 0#32
  ![1, v67.toNat, 0]
def k0_off40 (k0_t8 : Fin k0_t8_loop.trips) : Fin 2 → Nat :=
  let c0_i32_59 : BitVec 32 := 0#32
  let c1_i32_61 : BitVec 32 := 1#32
  let arg19 : BitVec 32 := Scf.iv c0_i32_59 c1_i32_61 k0_t8
  let c32_i32 : BitVec 32 := 32#32
  let v65 : BitVec 32 := Scalar.muli arg19 c32_i32
  let v66 : BitVec 32 := v65
  let v122 : Index := Scalar.indexCast v66
  let c128_79 : Index := 128#32
  ![v122.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1152x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1152x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1152x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1152x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1152x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== UpIdeal.lean ====
variable {F : FTy → Type} [FloatOps F]
-- ==== UpRefIdeal.lean ====
abbrev S1152x3072 : Shape := ⟨2, ![1152, 3072]⟩
abbrev S3072x16384 : Shape := ⟨2, ![3072, 16384]⟩
abbrev S96x16384 : Shape := ⟨2, ![96, 16384]⟩
abbrev S1152x96 : Shape := ⟨2, ![1152, 96]⟩
abbrev S1152x8192 : Shape := ⟨2, ![1152, 8192]⟩
abbrev S1152x256 : Shape := ⟨2, ![1152, 256]⟩
abbrev S1152x96x32 : Shape := ⟨3, ![1152, 96, 32]⟩
abbrev S1152x96x1 : Shape := ⟨3, ![1152, 96, 1]⟩
abbrev S96x1x16384 : Shape := ⟨3, ![96, 1, 16384]⟩
abbrev S96x32x16384 : Shape := ⟨3, ![96, 32, 16384]⟩
abbrev S1152x16384 : Shape := ⟨2, ![1152, 16384]⟩
abbrev S1152x256x32 : Shape := ⟨3, ![1152, 256, 32]⟩
abbrev S1152x256x1 : Shape := ⟨3, ![1152, 256, 1]⟩

abbrev nBuf : Space → Nat
  | .hbm => 8
  | .vmem => 8
  | .smem => 0
  | _ => 0

abbrev bufTy : (tb : Table) → Fin (tcTables nBuf tb) → BufTy
  | .hbm, ⟨0, _⟩ => ⟨S1152x3072, .bf16⟩
  | .hbm, ⟨1, _⟩ => ⟨S3072x16384, .fp8e4m3⟩
  | .hbm, ⟨2, _⟩ => ⟨S96x16384, .i8⟩
  | .hbm, ⟨3, _⟩ => ⟨S1152x3072, .fp8e4m3⟩
  | .hbm, ⟨4, _⟩ => ⟨S1152x96, .f32⟩
  | .hbm, ⟨5, _⟩ => ⟨S1152x8192, .fp8e4m3⟩
  | .hbm, ⟨6, _⟩ => ⟨S1152x256, .f32⟩
  | .hbm, ⟨7, _⟩ => ⟨S1152x8192, .bf16⟩
  | .local _ .vmem, ⟨0, _⟩ => ⟨S1152x3072, .bf16⟩
  | .local _ .vmem, ⟨1, _⟩ => ⟨S3072x16384, .fp8e4m3⟩
  | .local _ .vmem, ⟨2, _⟩ => ⟨S96x16384, .i8⟩
  | .local _ .vmem, ⟨3, _⟩ => ⟨S1152x3072, .fp8e4m3⟩
  | .local _ .vmem, ⟨4, _⟩ => ⟨S1152x96, .f32⟩
  | .local _ .vmem, ⟨5, _⟩ => ⟨S1152x8192, .fp8e4m3⟩
  | .local _ .vmem, ⟨6, _⟩ => ⟨S1152x256, .f32⟩
  | .local _ .vmem, ⟨7, _⟩ => ⟨S1152x8192, .bf16⟩
  | _, _ => ⟨S1152x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1152x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x16384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1152x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1152x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1152x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S1152x8192 : Shape := ⟨2, ![1152, 8192]⟩
abbrev S8192x3072 : Shape := ⟨2, ![8192, 3072]⟩
abbrev S256x3072 : Shape := ⟨2, ![256, 3072]⟩
abbrev S1152x3072 : Shape := ⟨2, ![1152, 3072]⟩
abbrev S8192x256 : Shape := ⟨2, ![8192, 256]⟩
abbrev S256x256 : Shape := ⟨2, ![256, 256]⟩
abbrev S1152x256 : Shape := ⟨2, ![1152, 256]⟩
abbrev S2x256x128 : Shape := ⟨3, ![2, 256, 128]⟩
abbrev S256x128 : Shape := ⟨2, ![256, 128]⟩
abbrev S1x256x128 : Shape := ⟨3, ![1, 256, 128]⟩
abbrev S1x1x128 : Shape := ⟨3, ![1, 1, 128]⟩
abbrev S1x128 : Shape := ⟨2, ![1, 128]⟩
abbrev S16x128 : Shape := ⟨2, ![16, 128]⟩
abbrev S32x128 : Shape := ⟨2, ![32, 128]⟩

abbrev nBuf : Space → Nat
  | .hbm => 4
  | .vmem => 9
  | .smem => 0
  | _ => 0

abbrev bufTy : (tb : Table) → Fin (tcTables nBuf tb) → BufTy
  | .hbm, ⟨0, _⟩ => ⟨S1152x8192, .bf16⟩
  | .hbm, ⟨1, _⟩ => ⟨S8192x3072, .fp8e4m3⟩
  | .hbm, ⟨2, _⟩ => ⟨S256x3072, .i8⟩
  | .hbm, ⟨3, _⟩ => ⟨S1152x3072, .bf16⟩
  | .local _ .vmem, ⟨0, _⟩ => ⟨S1152x8192, .bf16⟩
  | .local _ .vmem, ⟨1, _⟩ => ⟨S8192x256, .fp8e4m3⟩
  | .local _ .vmem, ⟨2, _⟩ => ⟨S8192x256, .fp8e4m3⟩
  | .local _ .vmem, ⟨3, _⟩ => ⟨S256x256, .i8⟩
  | .local _ .vmem, ⟨4, _⟩ => ⟨S256x256, .i8⟩
  | .local _ .vmem, ⟨5, _⟩ => ⟨S1152x256, .bf16⟩
  | .local _ .vmem, ⟨6, _⟩ => ⟨S1152x256, .bf16⟩
  | .local _ .vmem, ⟨7, _⟩ => ⟨S8192x256, .bf16⟩
  | .local _ .vmem, ⟨8, _⟩ => ⟨S2x256x128, .i32⟩
  | _, _ => ⟨S1152x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c256_i32 : BitVec 32 := 256#32
  let v20 : BitVec 32 := Scalar.addi c0_i32 c256_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c32_i32 : BitVec 32 := 32#32
  let v27 : BitVec 32 := Scalar.muli arg7 c32_i32
  v27
def k0_off1 (k0_t1 : Fin k0_t1_loop.trips) : Fin 3 → Nat :=
  let c0_20 : Index := 0#32
  let c0_i32 : BitVec 32 := 0#32
  let c1_i32 : BitVec 32 := 1#32
  let arg7 : BitVec 32 := Scf.iv c0_i32 c1_i32 k0_t1
  let v29 : Index := Scalar.indexCast arg7
  let c0_21 : Index := 0#32
  ![0, v29.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v27 : BitVec 32 := Scalar.muli arg7 c32_i32
  let v28 : BitVec 32 := v27
  let v34 : Index := Scalar.indexCast v28
  let c0_22 : Index := 0#32
  ![v34.toNat, 0]
@[reducible] def k0_t2_loop : Scf.Loop 32 :=
  let c0_i32_10 : BitVec 32 := 0#32
  let c256_i32_11 : BitVec 32 := 256#32
  let v21 : BitVec 32 := Scalar.addi c0_i32_10 c256_i32_11
  let c1_i32_12 : BitVec 32 := 1#32
  ⟨c0_i32_10, v21, c1_i32_12⟩
def k0_mult2 (k0_t2 : Fin k0_t2_loop.trips) : BitVec 32 :=
  let c0_i32_10 : BitVec 32 := 0#32
  let c1_i32_12 : BitVec 32 := 1#32
  let arg7 : BitVec 32 := Scf.iv c0_i32_10 c1_i32_12 k0_t2
  let c32_i32 : BitVec 32 := 32#32
  let v27 : BitVec 32 := Scalar.muli arg7 c32_i32
  v27
def k0_off3 (k0_t2 : Fin k0_t2_loop.trips) : Fin 3 → Nat :=
  let c1_20 : Index := 1#32
  let c0_i32_10 : BitVec 32 := 0#32
  let c1_i32_12 : BitVec 32 := 1#32
  let arg7 : BitVec 32 := Scf.iv c0_i32_10 c1_i32_12 k0_t2
  let v29 : Index := Scalar.indexCast arg7
  let c0_21 : Index := 0#32
  ![1, v29.toNat, 0]
def k0_off4 (k0_t2 : Fin k0_t2_loop.trips) : Fin 2 → Nat :=
  let c0_i32_10 : BitVec 32 := 0#32
  let c1_i32_12 : BitVec 32 := 1#32
  let arg7 : BitVec 32 := Scf.iv c0_i32_10 c1_i32_12 k0_t2
  let c32_i32 : BitVec 32 := 32#32
  let v27 : BitVec 32 := Scalar.muli arg7 c32_i32
  let v28 : BitVec 32 := v27
  let v34 : Index := Scalar.indexCast v28
  let c128_22 : Index := 128#32
  ![v34.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S1152x8192 : Shape := ⟨2, ![1152, 8192]⟩
abbrev S8192x3072 : Shape := ⟨2, ![8192, 3072]⟩
abbrev S256x3072 : Shape := ⟨2, ![256, 3072]⟩
abbrev S1152x3072 : Shape := ⟨2, ![1152, 3072]⟩
abbrev S256x1x3072 : Shape := ⟨3, ![256, 1, 3072]⟩
abbrev S256x32x3072 : Shape := ⟨3, ![256, 32, 3072]⟩

abbrev nBuf : Space → Nat
  | .hbm => 4
  | .vmem => 4
  | .smem => 0
  | _ => 0

abbrev bufTy : (tb : Table) → Fin (tcTables nBuf tb) → BufTy
  | .hbm, ⟨0, _⟩ => ⟨S1152x8192, .bf16⟩
  | .hbm, ⟨1, _⟩ => ⟨S8192x3072, .fp8e4m3⟩
  | .hbm, ⟨2, _⟩ => ⟨S256x3072, .i8⟩
  | .hbm, ⟨3, _⟩ => ⟨S1152x3072, .bf16⟩
  | .local _ .vmem, ⟨0, _⟩ => ⟨S1152x8192, .bf16⟩
  | .local _ .vmem, ⟨1, _⟩ => ⟨S8192x3072, .fp8e4m3⟩
  | .local _ .vmem, ⟨2, _⟩ => ⟨S256x3072, .i8⟩
  | .local _ .vmem, ⟨3, _⟩ => ⟨S1152x3072, .bf16⟩
  | _, _ => ⟨S1152x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1152x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x3072 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Dequant.lean ====
/- Dequantised weights, one tile at a time.

   A weight is an eight-bit float times a power of two shared by 32 consecutive rows of its column. The power of two is
   stored as its biased exponent, one byte. The kernels move that byte to the exponent field of a sixteen-bit float, put two
   copies in one 32-bit word, and read the word as two sixteen-bit floats. This file reads one 32x128 tile of that
   computation at an index, for any float values. -/
module

public import Idealize.ShloMosaic.PureOps
public import Idealize.ShloMosaic.Lib.BitcastPair
public import Idealize.ShloMosaic.Lib.ValueLayout

@[expose] public section

noncomputable section

namespace Cert.Dequant

open Idealize.ShloMosaic Idealize.ShloMosaic.ValueIdx

variable {F : FTy → Type} [FloatOps F]

/-- The byte in the exponent field of a sixteen-bit float. -/
def scaleWord (s : BitVec 8) : BitVec 16 := s.setWidth 16 <<< 7

/-- The word the kernels store for a byte: the byte in both exponent fields. -/
def scalePair (s : BitVec 8) : BitVec 32 :=
  IntOp.ori (IntOp.shli .vector (s.setWidth 32) 7#32) (IntOp.shli .vector (s.setWidth 32) 23#32)

/-- Either half of the stored word is the byte in the exponent field. -/
theorem scalePair_half (s : BitVec 8) (h : Nat) (hh : h < 2) :
    (scalePair s).extractLsb' (16 * h) 16 = scaleWord s := by
  have e : ∀ s : BitVec 8, (scalePair s).extractLsb' 0 16 = scaleWord s ∧ (scalePair s).extractLsb' 16 16 = scaleWord s := by
    decide +kernel
  match h, hh with
  | 0, _ => exact (e s).1
  | 1, _ => exact (e s).2

/-- One weight from its code and its scale byte. -/
def weight (w : F .fp8e4m3) (s : BitVec 8) : F .bf16 :=
  FloatOps.mulf (FloatOps.extf .bf16 (by decide) w) (FloatOps.ofBits .bf16 (scaleWord s))

/-- The scale words of a block of bytes, at an index. -/
theorem words_at {n : Nat} (v : IVec ⟨2, ![n, 128]⟩ 8) (h0 : 8 < 32)
    (h1 : (⟨2, ![n, 128]⟩ : Shape).ShapeCasts ⟨3, ![1, n, 128]⟩) (u : Fin 1) (r : Fin n) (l : Fin 128) :
    shapeCast ⟨3, ![1, n, 128]⟩ (ori (shli (extui 32 v h0) (broadcast ⟨2, ![n, 128]⟩ 7#32))
      (shli (extui 32 v h0) (broadcast ⟨2, ![n, 128]⟩ 23#32))) h1 (ix3 u r l) = scalePair (v (ix2 r l)) := by
  rw [shapeCast_ab_1ab_apply]; rfl

/-- One dequantised tile at an index. -/
theorem tile_at (v30 : IVec ⟨3, ![1, 1, 128]⟩ 32) (v35 : FVec F ⟨2, ![32, 128]⟩ .fp8e4m3)
    (h0 : FTy.fp8e4m3.bits < FTy.bf16.bits)
    (h1 : (⟨3, ![1, 1, 128]⟩ : Shape).ShapeCasts ⟨2, ![1, 128]⟩) (h2 : (⟨2, ![1, 128]⟩ : Shape).ShapeCasts ⟨2, ![1, 128]⟩)
    (h3 : (⟨2, ![1, 128]⟩ : Shape).Broadcasts ⟨2, ![16, 128]⟩) (h4 : (⟨2, ![16, 128]⟩ : Shape).Bitcasts 32 ⟨2, ![32, 128]⟩ 16)
    (h5 : (⟨2, ![32, 128]⟩ : Shape).ShapeCasts ⟨2, ![32, 128]⟩) (r : Fin 32) (l : Fin 128) (s : BitVec 8)
    (hs : v30 (ix3 0 0 l) = scalePair s) :
    shapeCast ⟨2, ![32, 128]⟩ (mulf (extf .bf16 v35 h0) (bitcastToFloat .bf16 (bitcast ⟨2, ![32, 128]⟩ 16
      (broadcastTo ⟨2, ![16, 128]⟩ (shapeCast ⟨2, ![1, 128]⟩ (shapeCast ⟨2, ![1, 128]⟩ v30 h1) h2) h3) h4))) h5 (ix2 r l)
      = weight (v35 (ix2 r l)) s := by
  rw [shapeCast_self]
  show FloatOps.mulf (FloatOps.extf .bf16 h0 (v35 (ix2 r l))) (FloatOps.ofBits .bf16 (bitcast _ 16 _ h4 (ix2 r l))) = _
  rw [bitcast_32_16]
  have hrow : (⟨2, ![32, 128]⟩ : Shape).row (ix2 r l) = r.val := rfl
  have hi : h4.srcIdx (ix2 r l) ((⟨2, ![32, 128]⟩ : Shape).row (ix2 r l) / 2) (fun a ha => by
        have := h4.pos_lt (ix2 r l) 0 (by decide) a ha; omega) = ix2 ⟨r.val / 2, by omega⟩ l := by
    funext a; apply Fin.ext
    match a with
    | ⟨0, _⟩ => rw [Shape.Bitcasts.srcIdx_row _ _ _ _ _ rfl]; rfl
    | ⟨1, _⟩ => rw [Shape.Bitcasts.srcIdx_other _ _ _ _ _ (show ¬ (1 + 2 = 2) by decide)]; rfl
  rw [hi, broadcastTo_1b_ab_apply, shapeCast_self, shapeCast_1ab_ab_apply, hs, scalePair_half _ _ (Nat.mod_lt _ (by decide))]
  rfl

end Cert.Dequant

end
-- ==== Proof.DownTile.lean ====
/- The down projection's dequantised weight tile.

   The body stores the weights through two counted loops, one per 128-column half, 32 rows at a time. This file reads what
   the two loops leave in the weight buffer: one function of the codes and of the scale bytes. -/
module

public import proofs.«01_k».proof.Proof.Dequant
public import proofs.«01_k».proof.Proof.Gen.DownIdeal.Loops
public import Idealize.ShloMosaic.Lib.WritesUnit

@[expose] public section

noncomputable section

namespace Cert.DownIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The weight tile: each code times its scale, the scale shared by 32 rows of a column. -/
def wTile (x1 : Vec F S8192x256 .fp8e4m3) (x2 : Vec F S256x256 .i8) : Vec F S8192x256 .bf16 :=
  fun y => Cert.Dequant.weight (x1 y) (x2 (ix2 ⟨(y 0).val / 32, by have : (y 0).val < 8192 := (y 0).isLt; omega⟩ (y 1)))

section Pieces

variable (𝒱 : Variants) (c : Dev nD) (bd : Option 𝒱.V) (i : grid0.Coords) (arg1 : Memref sig .tc .vmem S1152x8192 .bf16) (harg1 : arg1.IsWhole) (arg2 : Memref sig .tc .vmem S8192x256 .fp8e4m3) (harg2 : arg2.IsWhole) (arg3 : Memref sig .tc .vmem S256x256 .i8) (harg3 : arg3.IsWhole) (arg4 : Memref sig .tc .vmem S1152x256 .bf16) (harg4 : arg4.IsWhole) (arg5 : Memref sig .tc .vmem S8192x256 .bf16) (harg5 : arg5.IsWhole) (arg6 : Memref sig .tc .vmem S2x256x128 .i32) (harg6 : arg6.IsWhole) (X_arg2 : BufTy.Contents (Elt F) arg2.view.ty) (X_arg6 : BufTy.Contents (Elt F) arg6.view.ty)

/-- The tile that trip `k` of the first loop stores. -/
def piece1 (k : Fin k0_t1_loop.trips) : View.Piece (Elt F) S8192x256 .bf16 :=
  ⟨Rect.unit (s := S8192x256) (k0_off2 k) S32x128.size (k0_off2_inb k), k0_pay3
    (View.readAt (Elt F) arg6.view (Rect.unit (s := S2x256x128) (k0_off1 k) S1x1x128.size (k0_off1_inb k)).toLoadRect X_arg6)
    (View.readAt (Elt F) arg2.view (Rect.unit (s := S8192x256) (k0_off2 k) S32x128.size (k0_off2_inb k)).toLoadRect X_arg2)⟩

/-- The tile that trip `k` of the second loop stores. -/
def piece2 (k : Fin k0_t2_loop.trips) : View.Piece (Elt F) S8192x256 .bf16 :=
  ⟨Rect.unit (s := S8192x256) (k0_off4 k) S32x128.size (k0_off4_inb k), k0_pay4
    (View.readAt (Elt F) arg6.view (Rect.unit (s := S2x256x128) (k0_off3 k) S1x1x128.size (k0_off3_inb k)).toLoadRect X_arg6)
    (View.readAt (Elt F) arg2.view (Rect.unit (s := S8192x256) (k0_off4 k) S32x128.size (k0_off4_inb k)).toLoadRect X_arg2)⟩

theorem tripL1_eq (k : Fin k0_t1_loop.trips) :
    tripL_k0_t1 𝒱 c bd i arg1 harg1 arg2 harg2 arg3 harg3 arg4 harg4 arg5 harg5 arg6 harg6 X_arg2 X_arg6 k
      = [piece1 arg2 arg6 X_arg2 X_arg6 k] := by
  unfold tripL_k0_t1 trip_k0_t1
  dsimp only
  sl_unfold_words
  rfl

theorem tripL2_eq (k : Fin k0_t2_loop.trips) :
    tripL_k0_t2 𝒱 c bd i arg1 harg1 arg2 harg2 arg3 harg3 arg4 harg4 arg5 harg5 arg6 harg6 X_arg2 X_arg6 k
      = [piece2 arg2 arg6 X_arg2 X_arg6 k] := by
  unfold tripL_k0_t2 trip_k0_t2
  dsimp only
  sl_unfold_words
  rfl

/-- The pieces of the first `n` trips are the trips' tiles. -/
theorem mem_pb1 (n : ℕ) (hn : n ≤ k0_t1_loop.trips) (p : View.Piece (Elt F) S8192x256 .bf16) :
    p ∈ pb_k0_t1 𝒱 c bd i arg1 harg1 arg2 harg2 arg3 harg3 arg4 harg4 arg5 harg5 arg6 harg6 X_arg2 X_arg6 n
      ↔ ∃ k : Fin k0_t1_loop.trips, k.val < n ∧ p = piece1 arg2 arg6 X_arg2 X_arg6 k := by
  induction n with
  | zero => simp [pb_k0_t1]
  | succ n ih =>
    have h := pb_k0_t1_succ 𝒱 c bd i arg1 harg1 arg2 harg2 arg3 harg3 arg4 harg4 arg5 harg5 arg6 harg6 X_arg2 X_arg6 ⟨n, hn⟩
    dsimp only at h
    rw [h, tripL1_eq, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

theorem mem_pb2 (n : ℕ) (hn : n ≤ k0_t2_loop.trips) (p : View.Piece (Elt F) S8192x256 .bf16) :
    p ∈ pb_k0_t2 𝒱 c bd i arg1 harg1 arg2 harg2 arg3 harg3 arg4 harg4 arg5 harg5 arg6 harg6 X_arg2 X_arg6 n
      ↔ ∃ k : Fin k0_t2_loop.trips, k.val < n ∧ p = piece2 arg2 arg6 X_arg2 X_arg6 k := by
  induction n with
  | zero => simp [pb_k0_t2]
  | succ n ih =>
    have h := pb_k0_t2_succ 𝒱 c bd i arg1 harg1 arg2 harg2 arg3 harg3 arg4 harg4 arg5 harg5 arg6 harg6 X_arg2 X_arg6 ⟨n, hn⟩
    dsimp only at h
    rw [h, tripL2_eq, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

/-- Each tile is a restriction of `wTile`, provided the word buffer holds the scale words. -/
theorem piece1_eq (x1 : Vec F S8192x256 .fp8e4m3) (x2 : Vec F S256x256 .i8) (h2 : arg2.view.read (Elt F) X_arg2 = x1)
    (h6 : ∀ (a : Fin 2) (r : Fin 256) (l : Fin 128), arg6.view.read (Elt F) X_arg6 (ix3 a r l)
      = Cert.Dequant.scalePair (x2 (ix2 r ⟨128 * a.val + l.val, by omega⟩)))
    (k : Fin k0_t1_loop.trips) (x : S32x128.Idx) :
    (piece1 arg2 arg6 X_arg2 X_arg6 k).2 x = wTile x1 x2 ((Rect.unit (s := S8192x256) (k0_off2 k) S32x128.size (k0_off2_inb k)).emb x) := by
  have hk : k.val < 256 := Nat.lt_of_lt_of_le k.isLt k0_t1_abs.2.1
  obtain ⟨r, l, rfl⟩ : ∃ (r : Fin 32) (l : Fin 128), x = ix2 r l := ⟨x 0, x 1, eq_ix2 x⟩
  have e2 : k0_off2 k = ![32 * k.val, 0] := k0_off2_eq k
  have e1 : k0_off1 k = ![0, k.val, 0] := k0_off1_eq k
  have he : (Rect.unit (s := S8192x256) (k0_off2 k) S32x128.size (k0_off2_inb k)).emb (ix2 r l)
      = (ix2 ⟨32 * k.val + r.val, by omega⟩ ⟨l.val, by omega⟩ : S8192x256.Idx) := by
    funext a; apply Fin.ext
    match a with
    | ⟨0, _⟩ => show k0_off2 k 0 + 1 * r.val = _; rw [e2]; simp
    | ⟨1, _⟩ => show k0_off2 k 1 + 1 * l.val = _; rw [e2]; simp
  refine (Cert.Dequant.tile_at _ _ _ _ _ _ _ _ r l (x2 (ix2 ⟨k.val, hk⟩ ⟨l.val, by omega⟩)) ?_).trans ?_
  · rw [View.readAt_apply, show (Rect.unit (s := S2x256x128) (k0_off1 k) S1x1x128.size (k0_off1_inb k)).toLoadRect.idx (ix3 0 0 l) = (ix3 0 ⟨k.val, hk⟩ l : S2x256x128.Idx) from ?_, h6]
    · simp
    · funext a; apply Fin.ext
      match a with
      | ⟨0, _⟩ => show k0_off1 k 0 + 1 * 0 = _; rw [e1]; rfl
      | ⟨1, _⟩ => show k0_off1 k 1 + 1 * 0 = _; rw [e1]; rfl
      | ⟨2, _⟩ => show k0_off1 k 2 + 1 * l.val = _; rw [e1]; simp
  · rw [he]
    unfold wTile
    congr 1
    · rw [View.readAt_apply, h2]; exact congrArg x1 he
    · congr 1; congr 1; apply Fin.ext; show k.val = (32 * k.val + r.val) / 32; omega

theorem piece2_eq (x1 : Vec F S8192x256 .fp8e4m3) (x2 : Vec F S256x256 .i8) (h2 : arg2.view.read (Elt F) X_arg2 = x1)
    (h6 : ∀ (a : Fin 2) (r : Fin 256) (l : Fin 128), arg6.view.read (Elt F) X_arg6 (ix3 a r l)
      = Cert.Dequant.scalePair (x2 (ix2 r ⟨128 * a.val + l.val, by omega⟩)))
    (k : Fin k0_t2_loop.trips) (x : S32x128.Idx) :
    (piece2 arg2 arg6 X_arg2 X_arg6 k).2 x = wTile x1 x2 ((Rect.unit (s := S8192x256) (k0_off4 k) S32x128.size (k0_off4_inb k)).emb x) := by
  have hk : k.val < 256 := Nat.lt_of_lt_of_le k.isLt k0_t2_abs.2.1
  obtain ⟨r, l, rfl⟩ : ∃ (r : Fin 32) (l : Fin 128), x = ix2 r l := ⟨x 0, x 1, eq_ix2 x⟩
  have e2 : k0_off4 k = ![32 * k.val, 128] := k0_off4_eq k
  have e1 : k0_off3 k = ![1, k.val, 0] := k0_off3_eq k
  have he : (Rect.unit (s := S8192x256) (k0_off4 k) S32x128.size (k0_off4_inb k)).emb (ix2 r l)
      = (ix2 ⟨32 * k.val + r.val, by omega⟩ ⟨128 + l.val, by omega⟩ : S8192x256.Idx) := by
    funext a; apply Fin.ext
    match a with
    | ⟨0, _⟩ => show k0_off4 k 0 + 1 * r.val = _; rw [e2]; simp
    | ⟨1, _⟩ => show k0_off4 k 1 + 1 * l.val = _; rw [e2]; simp
  refine (Cert.Dequant.tile_at _ _ _ _ _ _ _ _ r l (x2 (ix2 ⟨k.val, hk⟩ ⟨128 + l.val, by omega⟩)) ?_).trans ?_
  · rw [View.readAt_apply, show (Rect.unit (s := S2x256x128) (k0_off3 k) S1x1x128.size (k0_off3_inb k)).toLoadRect.idx (ix3 0 0 l) = (ix3 1 ⟨k.val, hk⟩ l : S2x256x128.Idx) from ?_, h6]
    · simp
    · funext a; apply Fin.ext
      match a with
      | ⟨0, _⟩ => show k0_off3 k 0 + 1 * 0 = _; rw [e1]; rfl
      | ⟨1, _⟩ => show k0_off3 k 1 + 1 * 0 = _; rw [e1]; rfl
      | ⟨2, _⟩ => show k0_off3 k 2 + 1 * l.val = _; rw [e1]; simp
  · rw [he]
    unfold wTile
    congr 1
    · rw [View.readAt_apply, h2]; exact congrArg x1 he
    · congr 1; congr 1; apply Fin.ext; show k.val = (32 * k.val + r.val) / 32; omega

/-- After the two loops the weight buffer reads `wTile`, whatever it held before. -/
theorem read_pieces (x1 : Vec F S8192x256 .fp8e4m3) (x2 : Vec F S256x256 .i8) (h2 : arg2.view.read (Elt F) X_arg2 = x1)
    (h6 : ∀ (a : Fin 2) (r : Fin 256) (l : Fin 128), arg6.view.read (Elt F) X_arg6 (ix3 a r l)
      = Cert.Dequant.scalePair (x2 (ix2 r ⟨128 * a.val + l.val, by omega⟩)))
    (f : BufTy.Contents (Elt F) arg5.view.ty) :
    arg5.view.read (Elt F) (arg5.view.writes (Elt F) f
      (pb_k0_t2 𝒱 c bd i arg1 harg1 arg2 harg2 arg3 harg3 arg4 harg4 arg5 harg5 arg6 harg6 X_arg2 X_arg6 k0_t2_loop.trips
        ++ pb_k0_t1 𝒱 c bd i arg1 harg1 arg2 harg2 arg3 harg3 arg4 harg4 arg5 harg5 arg6 harg6 X_arg2 X_arg6 k0_t1_loop.trips))
      = wTile x1 x2 := by
  have ht1 : k0_t1_loop.trips = 256 := by decide +kernel
  have ht2 : k0_t2_loop.trips = 256 := by decide +kernel
  funext y
  refine View.read_writes_apply_of_pieces arg5.view _ (wTile x1 x2) _ ?_ y ?_
  · intro p hp x
    rcases List.mem_append.mp hp with hp | hp
    · obtain ⟨k, -, rfl⟩ := (mem_pb2 𝒱 c bd i arg1 harg1 arg2 harg2 arg3 harg3 arg4 harg4 arg5 harg5 arg6 harg6 X_arg2 X_arg6 _ le_rfl p).mp hp
      exact piece2_eq arg2 arg6 X_arg2 X_arg6 x1 x2 h2 h6 k x
    · obtain ⟨k, -, rfl⟩ := (mem_pb1 𝒱 c bd i arg1 harg1 arg2 harg2 arg3 harg3 arg4 harg4 arg5 harg5 arg6 harg6 X_arg2 X_arg6 _ le_rfl p).mp hp
      exact piece1_eq arg2 arg6 X_arg2 X_arg6 x1 x2 h2 h6 k x
  · have hy0 : (y 0).val < 8192 := (y 0).isLt
    have hy1 : (y 1).val < 256 := (y 1).isLt
    by_cases hc : (y 1).val < 128
    · refine ⟨piece1 arg2 arg6 X_arg2 X_arg6 ⟨(y 0).val / 32, by omega⟩, List.mem_append_right _ ((mem_pb1 𝒱 c bd i arg1 harg1 arg2 harg2 arg3 harg3 arg4 harg4 arg5 harg5 arg6 harg6 X_arg2 X_arg6 _ le_rfl _).mpr ⟨_, by show (y 0).val / 32 < _; omega, rfl⟩), ?_⟩
      show y ∈ (Rect.unit (s := S8192x256) (k0_off2 ⟨(y 0).val / 32, by omega⟩) S32x128.size (k0_off2_inb _)).set
      rw [Rect.mem_set_unit]; intro a
      rw [k0_off2_eq]
      match a with
      | ⟨0, _⟩ => show 32 * ((y 0).val / 32) ≤ (y 0).val ∧ (y 0).val < 32 * ((y 0).val / 32) + 32; omega
      | ⟨1, _⟩ => show 0 ≤ (y 1).val ∧ (y 1).val < 0 + 128; omega
    · refine ⟨piece2 arg2 arg6 X_arg2 X_arg6 ⟨(y 0).val / 32, by omega⟩, List.mem_append_left _ ((mem_pb2 𝒱 c bd i arg1 harg1 arg2 harg2 arg3 harg3 arg4 harg4 arg5 harg5 arg6 harg6 X_arg2 X_arg6 _ le_rfl _).mpr ⟨_, by show (y 0).val / 32 < _; omega, rfl⟩), ?_⟩
      show y ∈ (Rect.unit (s := S8192x256) (k0_off4 ⟨(y 0).val / 32, by omega⟩) S32x128.size (k0_off4_inb _)).set
      rw [Rect.mem_set_unit]; intro a
      rw [k0_off4_eq]
      match a with
      | ⟨0, _⟩ => show 32 * ((y 0).val / 32) ≤ (y 0).val ∧ (y 0).val < 32 * ((y 0).val / 32) + 32; omega
      | ⟨1, _⟩ => show 128 ≤ (y 1).val ∧ (y 1).val < 128 + 128; omega

end Pieces

/-- The word buffer after the two stores of scale words. -/
theorem read_words (arg3 : Memref sig .tc .vmem S256x256 .i8) (arg6 : Memref sig .tc .vmem S2x256x128 .i32)
    (X_arg3 : BufTy.Contents (Elt F) arg3.view.ty) (x2 : Vec F S256x256 .i8) (h3 : arg3.view.read (Elt F) X_arg3 = x2)
    (f : BufTy.Contents (Elt F) arg6.view.ty) (i1 i0 j1 j0) (a : Fin 2) (r : Fin 256) (l : Fin 128) :
    arg6.view.read (Elt F) (arg6.view.writes (Elt F) f
      [⟨Rect.unit (s := S2x256x128) ![1, 0, 0] S1x256x128.size i1, k0_pay2 (View.readAt (Elt F) arg3.view (Rect.unit (s := S256x256) ![0, 128] S256x128.size j1).toLoadRect X_arg3)⟩,
       ⟨Rect.unit (s := S2x256x128) ![0, 0, 0] S1x256x128.size i0, k0_pay1 (View.readAt (Elt F) arg3.view (Rect.unit (s := S256x256) ![0, 0] S256x128.size j0).toLoadRect X_arg3)⟩]) (ix3 a r l)
      = Cert.Dequant.scalePair (x2 (ix2 r ⟨128 * a.val + l.val, by omega⟩)) := by
  refine View.read_writes_apply_of_pieces (Val := Elt F) arg6.view _ (fun z : S2x256x128.Idx => Cert.Dequant.scalePair (x2 (ix2 (z 1)
    ⟨128 * (z 0).val + (z 2).val, by have : (z 0).val < 2 := (z 0).isLt; have : (z 2).val < 128 := (z 2).isLt; omega⟩))) _ ?_ (ix3 a r l) ?_
  · intro p hp x
    simp only [List.mem_cons, List.not_mem_nil, or_false] at hp
    rcases hp with rfl | rfl
    · obtain ⟨u, r, l, rfl⟩ : ∃ (u : Fin 1) (r : Fin 256) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 128 + 1 * l.val = 128 * (1 + 1 * u.val) + (0 + 1 * l.val); omega
    · obtain ⟨u, r, l, rfl⟩ : ∃ (u : Fin 1) (r : Fin 256) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 0 + 1 * l.val = 128 * (0 + 1 * u.val) + (0 + 1 * l.val); omega
  · match a with
    | ⟨0, _⟩ =>
      refine ⟨_, List.mem_cons_of_mem _ (List.mem_cons_self ..), ?_⟩
      dsimp only; rw [Rect.mem_set_unit]; intro b
      match b with
      | ⟨0, _⟩ => show 0 ≤ 0 ∧ 0 < 0 + 1; omega
      | ⟨1, _⟩ => show 0 ≤ r.val ∧ r.val < 0 + 256; omega
      | ⟨2, _⟩ => show 0 ≤ l.val ∧ l.val < 0 + 128; omega
    | ⟨1, _⟩ =>
      refine ⟨_, List.mem_cons_self .., ?_⟩
      dsimp only; rw [Rect.mem_set_unit]; intro b
      match b with
      | ⟨0, _⟩ => show 1 ≤ 1 ∧ 1 < 1 + 1; omega
      | ⟨1, _⟩ => show 0 ≤ r.val ∧ r.val < 0 + 256; omega
      | ⟨2, _⟩ => show 0 ≤ l.val ∧ l.val < 0 + 128; omega

end Cert.DownIdeal.Gen

end
-- ==== Proof.DownRun.lean ====
/- One step of the down projection: what the kernel body leaves in its output block.

   The body dequantises a 256-column block of the weights and multiplies the activations by it. -/
module

public import proofs.«01_k».proof.Proof.DownTile
public import Idealize.ShloMosaic.Lib.VecWindow
public import Idealize.ShloMosaic.Lib.Claim
public import proofs.«01_k».proof.Proof.Gen.DownIdeal.Frame

@[expose] public section

noncomputable section

namespace Cert.DownIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The output block: the activations times the dequantised weight tile. -/
def outTile (x0 : Vec F S1152x8192 .bf16) (x1 : Vec F S8192x256 .fp8e4m3) (x2 : Vec F S256x256 .i8) : Vec F S1152x256 .bf16 :=
  k0_pay5 x0 (wTile x1 x2)

theorem hz : (![0, 0] : Fin 2 → Nat) = fun _ => 0 := funext fun a => by fin_cases a <;> rfl

set_option maxHeartbeats 1000000 in
/-- The body's triple: the output block at `outTile` of the input blocks. -/
theorem kernelRun (c : Dev nD) (i : grid0.Coords) (arg1 : Memref sig .tc .vmem S1152x8192 .bf16) (harg1 : arg1.IsWhole) (arg2 : Memref sig .tc .vmem S8192x256 .fp8e4m3) (harg2 : arg2.IsWhole) (arg3 : Memref sig .tc .vmem S256x256 .i8) (harg3 : arg3.IsWhole) (arg4 : Memref sig .tc .vmem S1152x256 .bf16) (harg4 : arg4.IsWhole) (arg5 : Memref sig .tc .vmem S8192x256 .bf16) (harg5 : arg5.IsWhole) (arg6 : Memref sig .tc .vmem S2x256x128 .i32) (harg6 : arg6.IsWhole)
    (x0 : Vec F S1152x8192 .bf16) (x1 : Vec F S8192x256 .fp8e4m3) (x2 : Vec F S256x256 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare (outTile x0 x1 x2) ∗ (∃ d, owns (c : Thread nD τ) arg5 fullShare d) ∗ (∃ d, owns (c : Thread nD τ) arg6 fullShare d)) -∗ K ⟨⟩))
          ⊢ wp frame (wpE (defs₀ (F := F)) Variants.none c none) E (cc0_down i arg1 harg1 arg2 harg2 arg3 harg3 arg4 harg4 arg5 harg5 arg6 harg6) K := by
    intro E K
    simp only [cc0_down_eq_skeleton]; unfold cc0_down_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro; dsimp only; sl_unfold_words
      refine (View.read_writes_full arg4.view _ _ _ []).trans ?_
      unfold outTile
      congr 1
      · rw [View.readAt_eq_ld, View.ld_unit_zero hz]; exact harg1.read_unread _
      · rw [View.readAt_eq_ld, View.ld_unit_zero hz]
        exact read_pieces Variants.none c none i arg1 harg1 arg2 harg2 arg3 harg3 arg4 harg4 arg5 harg5 arg6 harg6 _ _ x1 x2
          (harg2.read_unread _) (read_words arg3 arg6 _ x2 (harg3.read_unread _) _ _ _ _ _) _
    isplitl [HS0]
    · iexists _, _; isplitr; swap; · iexact HS0
      ipureintro; rfl
    iexists _, _; isplitr; swap; · iexact HS1
    ipureintro; rfl

end Cert.DownIdeal.Gen
-- ==== Proof.DownFrame.lean ====
/- The down projection's run over any floats: what the buffers hold at every step, the body's obligation, and the frame with
   the result array at what the twelve steps wrote. -/
module

public import proofs.«01_k».proof.Proof.DownRun
public import proofs.«01_k».proof.Proof.Gen.DownIdeal.Launch
public import proofs.«01_k».proof.Proof.Gen.DownIdeal.Points
public import proofs.«01_k».proof.Proof.Gen.DownIdeal.Frame

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Each window's buffer at step `t`, and that it is a whole buffer. -/
abbrev ms0_0 (t : Fin cfg0.N) : Memref sig .tc .vmem S1152x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1152x256 .bf16 := win0_3.stage (cfg0.slots t 3)
abbrev hs0_3 (t : Fin cfg0.N) : (ms0_3 t).IsWhole := hstage0_3 ((cfg0.slots t 3).cast nbuf0_3)
/-- The scratch buffers: the dequantised weights and the scale words. -/
abbrev scM0_0 : Memref sig .tc .vmem S8192x256 .bf16 := Memref.whole cc0_scratch0
abbrev scM0_1 : Memref sig .tc .vmem S2x256x128 .i32 := Memref.whole cc0_scratch1

/-- The scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The run's data: after step `t` each input's buffer at its block and the output's at `outTile` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t)
  Φ _ := Pipeline.ΦA spec0 c
  q _ := fullShare
  owed _ := 0

/-- The run's arrays start as the memory has them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outTile (iblk m c 0 t) (iblk m c 1 t) (iblk m c 2 t) := by dsimp only [dats]

/-- Each input's buffer holds its block at every step, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body's obligation -/

/-- What the body is called with at step `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any step: the inputs' buffers hold their blocks, and the scratch buffers come back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply ((kernelRun c (grid0.coords t) _ (hs0_0 t) _ (hs0_1 t) _ (hs0_2 t) _ (hs0_3 t) _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at step `t`. -/
theorem defs₀_row (t : Fin cfg0.N) :
    defs₀ (F := F) .tc cfg0.body (cfg0.bodyArgs t (cfg0.slots t)) = bodyAt0 t := by
  unfold defs₀; rw [Defs.onTc_tc]

/-- The body's obligation at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: every array at what the run's data says, and every semaphore counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame at any float type: the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.DownIdeal.Gen

end
-- ==== Proof.DownSame.lean ====
/- The program at machine floats and the program over the extended reals are one text.

   No operation was rewritten between the two, so each definition of one is the other's at any float type. The frame proved
   of the second at any float type is then the first's. -/
module

public import proofs.«01_k».proof.Proof.DownFrame
public import proofs.«01_k».proof.Proof.Gen.Down

@[expose] public section

noncomputable section

namespace Cert.DownSame

open Idealize.ShloMosaic Idealize.ShloMosaic.TcCoe
open Idealize.SL Idealize.SL.Sem

variable {F : FTy → Type} [FloatOps F]

/-- The two body tables. -/
theorem defs₀_eq : Down.defs₀ (F := F) = DownIdeal.defs₀ (F := F) := by
  unfold Down.defs₀ DownIdeal.defs₀
  refine congrArg _ (funext fun l => ?_)
  match l with
  | 0 => rfl

/-- The two programs' definitions. -/
theorem defs_eq : Down.defs (F := F) = DownIdeal.defs (F := F) :=
  congrArg (Pipeline.defs (DownIdeal.pcfgs (F := F))) defs₀_eq

theorem frame (m : (ℓ : Loc Down.nD Down.τ Down.sig) → Buf (Elt F) ℓ) (ρ : Dev Down.nD → PrngReg) :
    θ_run Down.defs (onTc (τ := Down.τ) (Down.main (F := F))) ⟨m, fun _ => 0, ρ⟩ (fun r => (∀ c : Dev Down.nD,
      r.2.mem ((c.tc : Thread Down.nD Down.τ).loc Down.main_arg0) = m ((c.tc : Thread Down.nD Down.τ).loc Down.main_arg0)
      ∧ r.2.mem ((c.tc : Thread Down.nD Down.τ).loc Down.main_arg1) = m ((c.tc : Thread Down.nD Down.τ).loc Down.main_arg1)
      ∧ r.2.mem ((c.tc : Thread Down.nD Down.τ).loc Down.main_arg2) = m ((c.tc : Thread Down.nD Down.τ).loc Down.main_arg2))
      ∧ r.2.sem = fun _ => 0) := by
  rw [defs_eq]
  exact DownIdeal.Gen.frame m ρ

end Cert.DownSame

end
-- ==== Proof.DownValue.lean ====
/- The down projection's result over the extended reals.

   Element (r, c) of the result is the sum over k of the activation (r, k) times the weight (k, c), the weight being its
   code times the scale of its block of 32 rows. The kernel's twelve steps each write a block of 256 columns of it. -/
module

public import proofs.«01_k».proof.Proof.DownFrame
public import Idealize.ShloMosaic.PureOps.Ideal
public import Idealize.ShloMosaic.Lib.MatmulPlain
public import Idealize.ShloMosaic.Lib.Pipeline.Value

@[expose] public section

noncomputable section

namespace Cert.DownIdeal.Value

open Cert.DownIdeal Cert.DownIdeal.Gen
open Idealize.ShloMosaic Idealize.ShloMosaic.TcCoe Idealize.ShloMosaic.ValueIdx
open Idealize.SL Idealize.SL.Sem
open scoped BigOperators

/-- The product: activations times dequantised weights. -/
def product (h : Vec Ideal S1152x8192 .bf16) (w : Vec Ideal S8192x3072 .fp8e4m3) (s : Vec Ideal S256x3072 .i8) : Vec Ideal S1152x3072 .bf16 :=
  fun y => ∑ k : Fin 8192, (h (ix2 (y 0) k) * Cert.Dequant.weight (F := Ideal) (w (ix2 k (y 1))) (s (ix2 ⟨k.val / 32, by omega⟩ (y 1))) : EReal)

/-- The step's output block at an index. -/
theorem outTile_apply (x0 : Vec Ideal S1152x8192 .bf16) (x1 : Vec Ideal S8192x256 .fp8e4m3) (x2 : Vec Ideal S256x256 .i8) (r : Fin 1152) (c : Fin 256) :
    outTile x0 x1 x2 (ix2 r c) = ∑ k : Fin 8192, (x0 (ix2 r k) * Cert.Dequant.weight (F := Ideal) (x1 (ix2 k c)) (x2 (ix2 ⟨k.val / 32, by omega⟩ c)) : EReal) := by
  unfold outTile k0_pay5
  refine (Ideal.matmul_plain_apply (φ₁ := .bf16) (φ₂ := .bf16) (M := 1152) (K := 8192) (N := 256) none x0 (wTile x1 x2) _ r c).trans ?_
  rw [show constant (F := Ideal) S1152x256 .f32 0x00000000#32 (ix2 r c) = (0 : EReal) from by
    show Ideal.ofBits .f32 0x00000000#32 = 0
    simp [Ideal.ofBits, Ideal.ieee], zero_add]
  rfl

variable (m : (ℓ : Loc nD τ sig) → Buf (Elt Ideal) ℓ) (ρ : Dev nD → PrngReg)

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val :=
  (by decide +kernel : ∀ t : Fin grid0.N, _)
theorem index2 : ∀ t : Fin cfg0.N, win0_2.index t (0 : Fin 2) = 0 ∧ win0_2.index t (1 : Fin 2) = t.val :=
  (by decide +kernel : ∀ t : Fin grid0.N, _)
theorem index3 : ∀ t : Fin cfg0.N, win0_3.index t (0 : Fin 2) = 0 ∧ win0_3.index t (1 : Fin 2) = t.val :=
  (by decide +kernel : ∀ t : Fin grid0.N, _)

theorem lt12 (t : Fin cfg0.N) : t.val < 12 := t.isLt

/-- The blocks of step `t`, at an index of the argument arrays. -/
theorem iblk0_apply (c : Dev nD) (t : Fin cfg0.N) (r : Fin 1152) (k : Fin 8192) :
    iblk m c 0 t (ix2 r k) = V m c main_arg0 (ix2 r k) := by
  obtain ⟨e0, e1⟩ := index0 t
  refine congrArg (V m c main_arg0) (funext fun a => Fin.ext ?_)
  match a with
  | ⟨0, _⟩ => show win0_0.index t (0 : Fin 2) * 1152 + 1 * r.val = r.val; omega
  | ⟨1, _⟩ => show win0_0.index t (1 : Fin 2) * 8192 + 1 * k.val = k.val; omega

theorem iblk1_apply (c : Dev nD) (t : Fin cfg0.N) (k : Fin 8192) (j : Fin 256) :
    iblk m c 1 t (ix2 k j) = V m c main_arg1 (ix2 k ⟨256 * t.val + j.val, by have := lt12 t; omega⟩) := by
  obtain ⟨e0, e1⟩ := index1 t
  refine congrArg (V m c main_arg1) (funext fun a => Fin.ext ?_)
  match a with
  | ⟨0, _⟩ => show win0_1.index t (0 : Fin 2) * 8192 + 1 * k.val = k.val; omega
  | ⟨1, _⟩ => show win0_1.index t (1 : Fin 2) * 256 + 1 * j.val = 256 * t.val + j.val; omega

theorem iblk2_apply (c : Dev nD) (t : Fin cfg0.N) (k : Fin 256) (j : Fin 256) :
    iblk m c 2 t (ix2 k j) = V m c main_arg2 (ix2 k ⟨256 * t.val + j.val, by have := lt12 t; omega⟩) := by
  obtain ⟨e0, e1⟩ := index2 t
  refine congrArg (V m c main_arg2) (funext fun a => Fin.ext ?_)
  match a with
  | ⟨0, _⟩ => show win0_2.index t (0 : Fin 2) * 256 + 1 * k.val = k.val; omega
  | ⟨1, _⟩ => show win0_2.index t (1 : Fin 2) * 256 + 1 * j.val = 256 * t.val + j.val; omega

theorem emb3 (t : Fin cfg0.N) (r : Fin 1152) (j : Fin 256) :
    ((cfg0.win 3).blk t).view.emb (ix2 r j : S1152x256.Idx) = (ix2 r ⟨256 * t.val + j.val, by have := lt12 t; omega⟩ : S1152x3072.Idx) := by
  obtain ⟨e0, e1⟩ := index3 t
  funext a; apply Fin.ext
  match a with
  | ⟨0, _⟩ => show win0_3.index t (0 : Fin 2) * 1152 + 1 * r.val = r.val; omega
  | ⟨1, _⟩ => show win0_3.index t (1 : Fin 2) * 256 + 1 * j.val = 256 * t.val + j.val; omega

/-- Step `t`'s block of an array, at an index. -/
theorem read3 (G : Vec Ideal S1152x3072 .bf16) (t : Fin cfg0.N) (r : Fin 1152) (j : Fin 256) :
    ((cfg0.win 3).blk t).view.read (Elt Ideal) G (ix2 r j : S1152x256.Idx)
      = G (ix2 r ⟨256 * t.val + j.val, by have := lt12 t; omega⟩ : S1152x3072.Idx) :=
  congrArg G (emb3 t r j)

/-- What step `t` writes back is its block of the product. -/
theorem flushed3 (c : Dev nD) (t : Fin cfg0.N) :
    (dats m 0 c).flushed 3 t = ((cfg0.win 3).blk t).view.read (Elt Ideal) (product (V m c main_arg0) (V m c main_arg1) (V m c main_arg2)) := by
  show (cfg0.win 3).cut (grid0.coords t) ((dats m 0 c).after 3 t) = _
  rw [after0_3]
  funext j
  obtain ⟨r, l, rfl⟩ : ∃ (r : Fin 1152) (l : Fin 256), j = (ix2 r l : S1152x256.Idx) := ⟨j 0, j 1, eq_ix2 j⟩
  refine (outTile_apply (iblk m c 0 t) (iblk m c 1 t) (iblk m c 2 t) r l).trans ?_
  refine Eq.trans ?_ (read3 (product (V m c main_arg0) (V m c main_arg1) (V m c main_arg2)) t r l).symm
  unfold product
  refine Finset.sum_congr rfl fun k _ => ?_
  rw [iblk0_apply, iblk1_apply, iblk2_apply]

/-- Every index of the result is in some step's block. -/
theorem covered3 (i : S1152x3072.Idx) : ∃ t : Fin cfg0.N, (cfg0.win 3).flush t = true ∧ i ∈ ((cfg0.win 3).blk t).view.set := by
  have h1 : (i 1).val < 3072 := (i 1).isLt
  have h0 : (i 0).val < 1152 := (i 0).isLt
  have ht : (i 1).val / 256 < cfg0.N := by show _ < 12; omega
  have e : (ix2 ⟨(i 0).val, h0⟩ ⟨256 * ((i 1).val / 256) + (i 1).val % 256, by omega⟩ : S1152x3072.Idx) = i := by
    funext a; apply Fin.ext
    match a with
    | ⟨0, _⟩ => rfl
    | ⟨1, _⟩ => show 256 * ((i 1).val / 256) + (i 1).val % 256 = (i 1).val; omega
  have h := ((cfg0.win 3).blk ⟨(i 1).val / 256, ht⟩).view.emb_mem_set (ix2 ⟨(i 0).val, h0⟩ ⟨(i 1).val % 256, by omega⟩ : S1152x256.Idx)
  rw [show ((cfg0.win 3).blk ⟨(i 1).val / 256, ht⟩).view.emb (ix2 ⟨(i 0).val, h0⟩ ⟨(i 1).val % 256, by omega⟩ : S1152x256.Idx) = i from
    (emb3 ⟨(i 1).val / 256, ht⟩ ⟨(i 0).val, h0⟩ ⟨(i 1).val % 256, by omega⟩).trans e] at h
  exact ⟨⟨(i 1).val / 256, ht⟩, flush0_3 _, h⟩

/-- The result array after the run. -/
theorem final3 (c : Dev nD) : (dats m 0 c).arrAt 3 cfg0.N
    = product (m ((c : Thread nD τ).loc main_arg0)) (m ((c : Thread nD τ).loc main_arg1)) (m ((c : Thread nD τ).loc main_arg2)) :=
  ((dats m 0 c).arrAt_eq_of_cover 3 (product (V m c main_arg0) (V m c main_arg1) (V m c main_arg2)) (fun t _ => flushed3 m c t) covered3).trans
    (by rw [V_main_arg0, V_main_arg1, V_main_arg2])

/-- The run: the result at the product of the arguments, the arguments unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.DownIdeal.Value

end
-- ==== Proof.ScaleByte.lean ====
/- The power of two of a scale byte, over the extended reals.

   A byte between 1 and 254 in the exponent field of a sixteen-bit float is two to that byte less 127. The two bytes left
   out are not: 0 gives zero and 255 an infinity. -/
module

public import proofs.«01_k».proof.Proof.Dequant
public import Idealize.ShloMosaic.PureOps.Ideal

@[expose] public section

noncomputable section

namespace Cert.Dequant

open Idealize.ShloMosaic

/-- The fields of the float a byte makes: sign and fraction zero, the byte as exponent. -/
theorem scaleWord_fields (s : BitVec 8) : (scaleWord s).extractLsb' 15 1 = 0#1
    ∧ (scaleWord s).extractLsb' 7 8 = s ∧ (scaleWord s).extractLsb' 0 7 = 0#7 := by
  revert s; decide +kernel

/-- A byte between 1 and 254 reads as the power of two the format gives it. -/
theorem ofBits_scaleWord (s : BitVec 8) (h1 : 1 ≤ s.toNat) (h2 : s.toNat ≤ 254) :
    Ideal.ofBits .bf16 (scaleWord s) = ((2 : ℝ) ^ ((s.toNat : ℤ) - 127) : ℝ) := by
  obtain ⟨a, b, c⟩ := scaleWord_fields s
  show Ideal.ieee 8 7 (scaleWord s) = _
  unfold Ideal.ieee
  rw [a, b, c]
  simp only [BitVec.toNat_zero, show (0#1 == 1#1) = false from rfl, Bool.false_eq_true, if_false]
  rw [if_neg (by norm_num; omega), if_neg (by omega), EReal.coe_eq_coe_iff]
  norm_num
  rw [show (128 : ℝ) = (2 : ℝ) ^ (7 : ℤ) by norm_num, ← zpow_add₀ (by norm_num)]
  congr 1; ring

/-- The same power of two from the byte's number, by the exponential. -/
theorem exp2_byte (s : BitVec 8) :
    Ideal.exp2 (((s.toNat : ℝ) : EReal) - ((127 : ℝ) : EReal)) = ((2 : ℝ) ^ ((s.toNat : ℤ) - 127) : ℝ) := by
  rw [← EReal.coe_sub, Ideal.exp2_coe, EReal.coe_eq_coe_iff, ← Real.rpow_intCast]
  push_cast
  rfl

end Cert.Dequant

end
-- ==== Proof.DownAlgebra.lean ====
/- The down projection equals its reference over the extended reals.

   The reference dequantises the whole weight matrix, each code times two to its block's byte less 127, and takes one
   product. At an index both sides are the same sum; the scales agree because every byte is between 1 and 254. -/
module

public import proofs.«01_k».proof.Proof.DownValue
public import proofs.«01_k».proof.Proof.ScaleByte
public import proofs.«01_k».proof.Proof.Gen.DownRefIdeal.Value
public import proofs.«01_k».proof.Proof.Gen.Pre_scale_bytes_regular
public import proofs.«01_k».proof.Defs

@[expose] public section

noncomputable section

namespace Cert.DownAlgebra

open Idealize.ShloMosaic Idealize.ShloMosaic.TcCoe Idealize.ShloMosaic.ValueIdx
open Idealize.SL Idealize.SL.Sem
open Cert.DownRefIdeal Cert.DownRefIdeal.Gen
open scoped BigOperators

/-- The reference's dequantised weight at row `32 b + r`. -/
theorem refWeight {a b n : Nat} (w : FVec Ideal ⟨2, ![a * b, n]⟩ .bf16) (s : FVec Ideal ⟨2, ![a, n]⟩ .bf16)
    (h1 : (⟨2, ![a, n]⟩ : Shape).ShapeCasts ⟨3, ![a, 1, n]⟩) (h2 : (⟨3, ![a, 1, n]⟩ : Shape).ShapeCasts ⟨3, ![a, 1, n]⟩)
    (h3 : (⟨3, ![a, 1, n]⟩ : Shape).Broadcasts ⟨3, ![a, b, n]⟩) (h4 : (⟨2, ![a * b, n]⟩ : Shape).ShapeCasts ⟨3, ![a, b, n]⟩)
    (h5 : (⟨3, ![a, b, n]⟩ : Shape).ShapeCasts ⟨2, ![a * b, n]⟩) (k : Fin (a * b)) (l : Fin n) (q : Fin a) (hq : k.val / b = q.val) :
    shapeCast ⟨2, ![a * b, n]⟩ (mulf (shapeCast ⟨3, ![a, b, n]⟩ w h4)
      (broadcastTo ⟨3, ![a, b, n]⟩ (shapeCast ⟨3, ![a, 1, n]⟩ (shapeCast ⟨3, ![a, 1, n]⟩ s h1) h2) h3)) h5 (ix2 k l)
      = (w (ix2 k l) * s (ix2 q l) : EReal) := by
  have hb : 0 < b := Nat.pos_of_ne_zero fun h => by subst h; exact absurd k.isLt (by simp)
  have hr : k.val % b < b := Nat.mod_lt _ hb
  have hk : k.val = b * q.val + k.val % b := by rw [← hq, Nat.div_add_mod]
  rw [shapeCast_apply _ h5 (ix2 k l) (ix3 q ⟨k.val % b, hr⟩ l) (by
    rw [Shape.rowMajor_val_three, Shape.rowMajor_val_two]
    show (q.val * b + k.val % b) * n + l.val = k.val * n + l.val
    rw [Nat.mul_comm q.val b, ← hk])]
  show (shapeCast ⟨3, ![a, b, n]⟩ w h4 (ix3 q ⟨k.val % b, hr⟩ l) * broadcastTo ⟨3, ![a, b, n]⟩ _ h3 (ix3 q ⟨k.val % b, hr⟩ l) : EReal) = _
  rw [shapeCast_apply _ h4 (ix3 q ⟨k.val % b, hr⟩ l) (ix2 k l) (by
    rw [Shape.rowMajor_val_three, Shape.rowMajor_val_two]
    show k.val * n + l.val = (q.val * b + k.val % b) * n + l.val
    rw [Nat.mul_comm q.val b, ← hk])]
  rw [broadcastTo_apply _ h3 (ix3 q ⟨k.val % b, hr⟩ l) (ix3 q (0 : Fin 1) l) (fun x => by
    match x with
    | ⟨0, _⟩ => show q.val = if a = 1 then 0 else q.val; have := q.isLt; split <;> omega
    | ⟨1, _⟩ => rfl
    | ⟨2, _⟩ => show l.val = if n = 1 then 0 else l.val; have := l.isLt; split <;> omega)]
  rw [shapeCast_self, shapeCast_apply _ h1 (ix3 q (0 : Fin 1) l) (ix2 q l) (by
    rw [Shape.rowMajor_val_three, Shape.rowMajor_val_two]
    show q.val * n + l.val = (q.val * 1 + 0) * n + l.val
    rw [Nat.mul_one, Nat.add_zero])]

/-- The reference's scale of a byte is the kernel's, for a byte between 1 and 254. -/
theorem scale_eq (s : BitVec 8) (h1 : 1 ≤ s.toNat) (h2 : s.toNat ≤ 254) :
    Ideal.exp2 (((((s.setWidth 32).toInt : ℝ)) : EReal) - Ideal.ofBits .f32 0x42FE0000#32) = Ideal.ofBits .bf16 (Cert.Dequant.scaleWord s) := by
  have e : Ideal.ofBits .f32 0x42FE0000#32 = ((127 : ℝ) : EReal) := by
    simp [Ideal.ofBits, Ideal.ieee, -EReal.coe_mul]; norm_num
  have i : (s.setWidth 32).toInt = (s.toNat : ℤ) := by
    revert s; decide +kernel
  rw [e, i, Cert.Dequant.ofBits_scaleWord s h1 h2, ← Cert.Dequant.exp2_byte s]
  norm_cast

/-- The reference's product, at bytes between 1 and 254, is the kernel's. -/
theorem reference_eq (h : Vec Ideal S1152x8192 .bf16) (w : Vec Ideal S8192x3072 .fp8e4m3) (s : Vec Ideal S256x3072 .i8)
    (hs : ∀ j, 1 ≤ (s j).toNat ∧ (s j).toNat ≤ 254) :
    k0_pay1 w s h = Cert.DownIdeal.Value.product h w s := by
  funext y
  obtain ⟨r, c, rfl⟩ : ∃ (r : Fin 1152) (c : Fin 3072), y = (ix2 r c : S1152x3072.Idx) := ⟨y 0, y 1, eq_ix2 y⟩
  unfold k0_pay1
  refine (Ideal.matmul_plain_apply (φ₁ := .bf16) (φ₂ := .bf16) (M := 1152) (K := 8192) (N := 3072) none h _ _ r c).trans ?_
  rw [show constant (F := Ideal) S1152x3072 .f32 0x00000000#32 (ix2 r c) = (0 : EReal) from by
    show Ideal.ofBits .f32 0x00000000#32 = 0
    simp [Ideal.ofBits, Ideal.ieee], zero_add]
  unfold Cert.DownIdeal.Value.product
  refine Finset.sum_congr rfl fun k _ => congrArg (h (ix2 r k) * ·) ?_
  refine (refWeight (a := 256) (b := 32) (n := 3072) _ _ _ _ _ _ _ k c ⟨k.val / 32, by omega⟩ rfl).trans ?_
  exact congrArg (w (ix2 k c) * ·) (scale_eq _ (hs _).1 (hs _).2)

/-- The precondition, read at an index. -/
theorem bytes_of_pre (a0 : Vec Ideal S1152x8192 .bf16) (a1 : Vec Ideal S8192x3072 .fp8e4m3) (a2 : Vec Ideal S256x3072 .i8)
    (h : Cert.Pre_scale_bytes_regular.fn (F := Ideal) a0 a1 a2 = fun _ => 1#1) (j : S256x3072.Idx) :
    1 ≤ (a2 j).toNat ∧ (a2 j).toNat ≤ 254 := by
  have e := congrFun h j
  change IntOp.andi (IntOp.cmpi .uge (a2 j) 1#8) (IntOp.cmpi .ule (a2 j) 254#8) = 1#1 at e
  generalize a2 j = s at e ⊢
  revert s; decide +kernel

theorem algebraic : Cert.algebraic_DownIdeal_DownRefIdeal_pre_scale_bytes_regular := by
  intro m g m' g' hpre hargs
  refine ⟨fun c => Cert.DownIdeal.Value.product (m ((c : Thread Cert.DownIdeal.nD Cert.DownIdeal.τ).loc Cert.DownIdeal.main_arg0))
    (m ((c : Thread Cert.DownIdeal.nD Cert.DownIdeal.τ).loc Cert.DownIdeal.main_arg1)) (m ((c : Thread Cert.DownIdeal.nD Cert.DownIdeal.τ).loc Cert.DownIdeal.main_arg2)),
    Cert.DownIdeal.Value.run m g, ?_⟩
  refine (θ_run _ _ _).mono (fun r h c => ?_) (Cert.DownRefIdeal.Value.run m' g')
  obtain ⟨h0, h1, h2, h3⟩ := h c
  refine ⟨h0.trans ?_, h1, h2, h3⟩
  obtain ⟨e0, e1, e2⟩ := hargs c
  unfold Cert.DownRefIdeal.Value.G3
  rw [e0, e1, e2]
  exact reference_eq _ _ _ (bytes_of_pre _ _ _ (hpre c))

end Cert.DownAlgebra

end
-- ==== Proof.MachQuant.lean ====
/- The block quantiser on one tile of 32 rows and 128 lanes, and the arrays its tiles make up.

   A lane's block is the 32 lanes from the nearest multiple of 32 below it. The quantiser takes the largest power of two
   below each entry over 448, spreads the block's largest over the block, and scales by twice that power.

   Here for the kernel at machine floats; `UpQuant` is the same over the reals. -/
module

public import proofs.«01_k».proof.Proof.Gen.Up.Skeleton
public import Idealize.ShloMosaic.Lib.WritesUnit
public import Idealize.ShloMosaic.Lib.ValueIdx

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- A tile read as words of two rows and read back. -/
def throughWords (p : FVec F S32x128 .bf16) : FVec F S32x128 .bf16 :=
  bitcastToFloat .bf16 (bitcast S32x128 16 (bitcast S16x128 32 (bitcastToInt p) bitcasts_S32x128_w16_S16x128_w32) bitcasts_S16x128_w32_S32x128_w16)

/-- Each entry or the one `128 - n` lanes on, whichever is larger: the turn is of words of two rows. -/
def turnMax (n : BitVec 32) (p : FVec F S32x128 .bf16) : FVec F S32x128 .bf16 :=
  maximumf (throughWords p) (bitcastToFloat .bf16 (bitcast S32x128 16 (dynamicRotate 1 n none (bitcast S16x128 32 (bitcastToInt p) bitcasts_S32x128_w16_S16x128_w32) rotates_S16x128_d1)
    bitcasts_S16x128_w32_S32x128_w16))

/-- The largest power of two not above each entry over 448. -/
def powT (v : FVec F S32x128 .f32) : FVec F S32x128 .bf16 :=
  truncf .bf16 (exp2 (floor (divf (log (absf (mulf v (broadcast S32x128 (Scalar.ofBits .f32 0x3B124925#32)))))
    (log (broadcast S32x128 (Scalar.ofBits .f32 0x40000000#32)))))) bitsLt_bf16_f32

/-- At a block's first lane the largest of these powers over the block. -/
def maxT (v : FVec F S32x128 .f32) : FVec F S32x128 .f32 :=
  extf .f32 (throughWords (turnMax 112#32 (turnMax 120#32 (turnMax 124#32 (turnMax 126#32 (turnMax 127#32 (powT v))))))) bitsLt_bf16_f32

/-- Each lane's block's first lane. -/
def blockLane : IVec S32x128 32 :=
  have q : IVec S32x128 32 := andi (iota .tc S32x128 32 [1] iota_S32x128_d1_w32) (broadcast S32x128 4294967264#32)
  shapeCast S32x128 (shapeCast S32x128x1 (select (cmpi .slt q (broadcast S32x128 0#32)) (addi q (broadcast S32x128 128#32)) q)
    shapeCasts_S32x128_S32x128x1) shapeCasts_S32x128x1_S32x128

/-- Half of each block's scale, on every lane of the block: the block's largest power of two, or one half where that is zero. -/
def halfT (v : FVec F S32x128 .f32) : FVec F S32x128 .bf16 :=
  have g : FVec F S32x128 .bf16 := truncf .bf16 (dynamicGather 1 (maxT v) blockLane) bitsLt_bf16_f32
  select (cmpf .oeq g (broadcast S32x128 (Scalar.ofBits .bf16 0x0000#16))) (broadcast S32x128 (Scalar.ofBits .bf16 0x3F00#16)) g

/-- Each block's scale. -/
def scaleT (v : FVec F S32x128 .f32) : FVec F S32x128 .bf16 := addf (halfT v) (halfT v)

/-- The codes: each entry over its block's scale, clipped to ±448. -/
def codesT (v : FVec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf v (extf .f32 (divf (broadcast S32x128 (Scalar.ofBits .bf16 0x3F00#16)) (halfT v)) bitsLt_bf16_f32)))) bitsLt_fp8e4m3_f32

/-- The codes times the scale. -/
def deqT (v : FVec F S32x128 .f32) : FVec F S32x128 .bf16 := mulf (extf .bf16 (codesT v) bitsLt_fp8e4m3_bf16) (scaleT v)

/-- The tile of the activations in row block `a` and column block `b`. -/
def xTile (x0 : Vec F S1152x3072 .bf16) (a : Fin 36) (b : Fin 24) : FVec F S32x128 .f32 :=
  extf .f32 (φ := .bf16) (fun y : S32x128.Idx => x0 (ix2 ⟨32 * a.val + (y 0).val, by have : (y 0).val < 32 := (y 0).isLt; omega⟩
    ⟨128 * b.val + (y 1).val, by have : (y 1).val < 128 := (y 1).isLt; omega⟩)) bitsLt_bf16_f32

/-- The activations' codes. -/
def xCodes (x0 : Vec F S1152x3072 .bf16) : Vec F S1152x3072 .fp8e4m3 := fun y =>
  codesT (xTile x0 ⟨(y 0).val / 32, by have : (y 0).val < 1152 := (y 0).isLt; omega⟩ ⟨(y 1).val / 128, by have : (y 1).val < 3072 := (y 1).isLt; omega⟩)
    (ix2 ⟨(y 0).val % 32, by omega⟩ ⟨(y 1).val % 128, by omega⟩)

/-- The quantised activations: codes times scales. -/
def xDeq (x0 : Vec F S1152x3072 .bf16) : Vec F S1152x3072 .bf16 := fun y =>
  deqT (xTile x0 ⟨(y 0).val / 32, by have : (y 0).val < 1152 := (y 0).isLt; omega⟩ ⟨(y 1).val / 128, by have : (y 1).val < 3072 := (y 1).isLt; omega⟩)
    (ix2 ⟨(y 0).val % 32, by omega⟩ ⟨(y 1).val % 128, by omega⟩)

/-- The activations' scales: four blocks to a tile, each read at the block's lane of the tile's own number. -/
def xScale (x0 : Vec F S1152x3072 .bf16) : Vec F S1152x96 .f32 := fun y =>
  extf .f32 (scaleT (xTile x0 ⟨(y 0).val / 32, by have : (y 0).val < 1152 := (y 0).isLt; omega⟩ ⟨(y 1).val / 4, by have : (y 1).val < 96 := (y 1).isLt; omega⟩)) bitsLt_bf16_f32
    (ix2 ⟨(y 0).val % 32, by omega⟩ ⟨32 * ((y 1).val % 4) + (y 1).val / 4, by have : (y 1).val < 96 := (y 1).isLt; omega⟩)

end Cert.Up.Gen

end
-- ==== Proof.MachX.lean ====
/- What the activation loop stores: codes, quantised activations and scales, tile by tile.

   Here for the kernel at machine floats; `UpX` is the same over the reals. -/
module

public import proofs.«01_k».proof.Proof.MachQuant
public import proofs.«01_k».proof.Proof.Dequant
public import proofs.«01_k».proof.Proof.Gen.Up.Loops

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole)
variable (h1 : k0_cond1 i = 1#1) (X : BufTy.Contents (Elt F) a1.view.ty) (x0 : Vec F S1152x3072 .bf16)

variable (hX : a1.view.read (Elt F) X = x0)

include hX in
/-- A tile loaded at row block `k`, column block `b` is the activations' tile there. -/
theorem xTile_read {off : Fin 2 → ℕ} (k : Fin 36) (b : Fin 24) (e : off = ![32 * k.val, 128 * b.val])
    (inb : ∀ a, off a + S32x128.size a ≤ S1152x3072.size a) :
    extf .f32 (φ := .bf16) (View.readAt (Elt F) a1.view (Rect.unit (s := S1152x3072) off S32x128.size inb).toLoadRect X) bitsLt_bf16_f32
      = xTile x0 k b := by
  unfold xTile
  congr 1
  funext y
  rw [View.readAt_apply, hX]
  congr 1
  funext a; apply Fin.ext
  match a with
  | ⟨0, _⟩ => show off 0 + 1 * (y 0).val = 32 * k.val + (y 0).val; have : off 0 = 32 * k.val := by rw [e]; rfl
              omega
  | ⟨1, _⟩ => show off 1 + 1 * (y 1).val = 128 * b.val + (y 1).val; have : off 1 = 128 * b.val := by rw [e]; rfl
              omega

/-- A stored tile is a restriction of the whole array's tiles. -/
theorem tile_emb {α : Type} (f : Fin 36 → Fin 24 → S32x128.Idx → α) {off : Fin 2 → ℕ} (k : Fin 36) (b : Fin 24)
    (e : off = ![32 * k.val, 128 * b.val]) (inb : ∀ a, off a + S32x128.size a ≤ S1152x3072.size a) (x : S32x128.Idx) :
    f k b x = (fun y : S1152x3072.Idx => f ⟨(y 0).val / 32, by have : (y 0).val < 1152 := (y 0).isLt; omega⟩
      ⟨(y 1).val / 128, by have : (y 1).val < 3072 := (y 1).isLt; omega⟩ (ix2 ⟨(y 0).val % 32, by omega⟩ ⟨(y 1).val % 128, by omega⟩))
        ((Rect.unit (s := S1152x3072) off S32x128.size inb).emb x) := by
  obtain ⟨r, l, rfl⟩ : ∃ (r : Fin 32) (l : Fin 128), x = ix2 r l := ⟨x 0, x 1, eq_ix2 x⟩
  have e0 : ((Rect.unit (s := S1152x3072) off S32x128.size inb).emb (ix2 r l) 0).val = 32 * k.val + r.val := by
    show off 0 + 1 * r.val = _; rw [e]; simp
  have e1 : ((Rect.unit (s := S1152x3072) off S32x128.size inb).emb (ix2 r l) 1).val = 128 * b.val + l.val := by
    show off 1 + 1 * l.val = _; rw [e]; simp
  dsimp only
  have h0 : k = ⟨((Rect.unit (s := S1152x3072) off S32x128.size inb).emb (ix2 r l) 0).val / 32, by omega⟩ := by
    apply Fin.ext; show k.val = _ / 32; rw [e0]; omega
  have h1 : b = ⟨((Rect.unit (s := S1152x3072) off S32x128.size inb).emb (ix2 r l) 1).val / 128, by omega⟩ := by
    apply Fin.ext; show b.val = _ / 128; rw [e1]; omega
  refine (congrArg (fun k => f k b (ix2 r l)) h0).trans ((congrArg (fun b => f _ b (ix2 r l)) h1).trans (congrArg (f _ _) ?_))
  · funext a; apply Fin.ext
    match a with
    | ⟨0, _⟩ => show r.val = _ % 32; rw [e0]; omega
    | ⟨1, _⟩ => show l.val = _ % 128; rw [e1]; omega

include hX in
theorem codes_at {off : Fin 2 → ℕ} (k : Fin 36) (b : Fin 24) (e : off = ![32 * k.val, 128 * b.val])
    (inb : ∀ a, off a + S32x128.size a ≤ S1152x3072.size a) (x : S32x128.Idx) :
    codesT (extf .f32 (φ := .bf16) (View.readAt (Elt F) a1.view (Rect.unit (s := S1152x3072) off S32x128.size inb).toLoadRect X) bitsLt_bf16_f32) x
      = xCodes x0 ((Rect.unit (s := S1152x3072) off S32x128.size inb).emb x) := by
  rw [xTile_read a1 X x0 hX k b e inb]
  exact tile_emb (fun a b => codesT (xTile x0 a b)) k b e inb x

include hX in
theorem deq_at {off : Fin 2 → ℕ} (k : Fin 36) (b : Fin 24) (e : off = ![32 * k.val, 128 * b.val])
    (inb : ∀ a, off a + S32x128.size a ≤ S1152x3072.size a) (x : S32x128.Idx) :
    deqT (extf .f32 (φ := .bf16) (View.readAt (Elt F) a1.view (Rect.unit (s := S1152x3072) off S32x128.size inb).toLoadRect X) bitsLt_bf16_f32) x
      = xDeq x0 ((Rect.unit (s := S1152x3072) off S32x128.size inb).emb x) := by
  rw [xTile_read a1 X x0 hX k b e inb]
  exact tile_emb (fun a b => deqT (xTile x0 a b)) k b e inb x

include hX in
/-- The same through a reshape to its own shape. -/
theorem deq_at' {off : Fin 2 → ℕ} (k : Fin 36) (b : Fin 24) (e : off = ![32 * k.val, 128 * b.val])
    (inb : ∀ a, off a + S32x128.size a ≤ S1152x3072.size a) (x : S32x128.Idx) :
    shapeCast S32x128 (deqT (extf .f32 (φ := .bf16) (View.readAt (Elt F) a1.view (Rect.unit (s := S1152x3072) off S32x128.size inb).toLoadRect X) bitsLt_bf16_f32)) shapeCasts_S32x128_S32x128 x
      = xDeq x0 ((Rect.unit (s := S1152x3072) off S32x128.size inb).emb x) := by
  rw [shapeCast_self]
  exact deq_at a1 X x0 hX k b e inb x

include hX in
theorem trip1_codes (k : Fin k0_t1_loop.trips) : ∀ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).1,
    ∀ x, p.2 x = xCodes x0 (p.1.emb x) := by
  have hk : k.val < 36 := Nat.lt_of_lt_of_le k.isLt k0_t1_abs.2.1
  unfold tripL_k0_t1 trip_k0_t1
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, fun _ h => absurd h List.not_mem_nil⟩
  · first | exact fun x => codes_at a1 X x0 hX ⟨k.val, hk⟩ 23 (k0_off24_eq k) (k0_off24_inb i k h1) x
  · first | exact fun x => codes_at a1 X x0 hX ⟨k.val, hk⟩ 22 (k0_off23_eq k) (k0_off23_inb i k h1) x
  · first | exact fun x => codes_at a1 X x0 hX ⟨k.val, hk⟩ 21 (k0_off22_eq k) (k0_off22_inb i k h1) x
  · first | exact fun x => codes_at a1 X x0 hX ⟨k.val, hk⟩ 20 (k0_off21_eq k) (k0_off21_inb i k h1) x
  · first | exact fun x => codes_at a1 X x0 hX ⟨k.val, hk⟩ 19 (k0_off20_eq k) (k0_off20_inb i k h1) x
  · first | exact fun x => codes_at a1 X x0 hX ⟨k.val, hk⟩ 18 (k0_off19_eq k) (k0_off19_inb i k h1) x
  · first | exact fun x => codes_at a1 X x0 hX ⟨k.val, hk⟩ 17 (k0_off18_eq k) (k0_off18_inb i k h1) x
  · first | exact fun x => codes_at a1 X x0 hX ⟨k.val, hk⟩ 16 (k0_off17_eq k) (k0_off17_inb i k h1) x
  · first | exact fun x => codes_at a1 X x0 hX ⟨k.val, hk⟩ 15 (k0_off16_eq k) (k0_off16_inb i k h1) x
  · first | exact fun x => codes_at a1 X x0 hX ⟨k.val, hk⟩ 14 (k0_off15_eq k) (k0_off15_inb i k h1) x
  · first | exact fun x => codes_at a1 X x0 hX ⟨k.val, hk⟩ 13 (k0_off14_eq k) (k0_off14_inb i k h1) x
  · first | exact fun x => codes_at a1 X x0 hX ⟨k.val, hk⟩ 12 (k0_off13_eq k) (k0_off13_inb i k h1) x
  · first | exact fun x => codes_at a1 X x0 hX ⟨k.val, hk⟩ 11 (k0_off12_eq k) (k0_off12_inb i k h1) x
  · first | exact fun x => codes_at a1 X x0 hX ⟨k.val, hk⟩ 10 (k0_off11_eq k) (k0_off11_inb i k h1) x
  · first | exact fun x => codes_at a1 X x0 hX ⟨k.val, hk⟩ 9 (k0_off10_eq k) (k0_off10_inb i k h1) x
  · first | exact fun x => codes_at a1 X x0 hX ⟨k.val, hk⟩ 8 (k0_off9_eq k) (k0_off9_inb i k h1) x
  · first | exact fun x => codes_at a1 X x0 hX ⟨k.val, hk⟩ 7 (k0_off8_eq k) (k0_off8_inb i k h1) x
  · first | exact fun x => codes_at a1 X x0 hX ⟨k.val, hk⟩ 6 (k0_off7_eq k) (k0_off7_inb i k h1) x
  · first | exact fun x => codes_at a1 X x0 hX ⟨k.val, hk⟩ 5 (k0_off6_eq k) (k0_off6_inb i k h1) x
  · first | exact fun x => codes_at a1 X x0 hX ⟨k.val, hk⟩ 4 (k0_off5_eq k) (k0_off5_inb i k h1) x
  · first | exact fun x => codes_at a1 X x0 hX ⟨k.val, hk⟩ 3 (k0_off4_eq k) (k0_off4_inb i k h1) x
  · first | exact fun x => codes_at a1 X x0 hX ⟨k.val, hk⟩ 2 (k0_off3_eq k) (k0_off3_inb i k h1) x
  · first | exact fun x => codes_at a1 X x0 hX ⟨k.val, hk⟩ 1 (k0_off2_eq k) (k0_off2_inb i k h1) x
  · first | exact fun x => codes_at a1 X x0 hX ⟨k.val, hk⟩ 0 (k0_off1_eq k) (k0_off1_inb i k h1) x

include hX in
theorem trip1_deq (k : Fin k0_t1_loop.trips) : ∀ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.2,
    ∀ x, p.2 x = xDeq x0 (p.1.emb x) := by
  have hk : k.val < 36 := Nat.lt_of_lt_of_le k.isLt k0_t1_abs.2.1
  unfold tripL_k0_t1 trip_k0_t1
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, fun _ h => absurd h List.not_mem_nil⟩
  · first | exact fun x => deq_at a1 X x0 hX ⟨k.val, hk⟩ 23 (k0_off24_eq k) (k0_off24_inb i k h1) x | exact fun x => deq_at' a1 X x0 hX ⟨k.val, hk⟩ 23 (k0_off24_eq k) (k0_off24_inb i k h1) x
  · first | exact fun x => deq_at a1 X x0 hX ⟨k.val, hk⟩ 22 (k0_off23_eq k) (k0_off23_inb i k h1) x | exact fun x => deq_at' a1 X x0 hX ⟨k.val, hk⟩ 22 (k0_off23_eq k) (k0_off23_inb i k h1) x
  · first | exact fun x => deq_at a1 X x0 hX ⟨k.val, hk⟩ 21 (k0_off22_eq k) (k0_off22_inb i k h1) x | exact fun x => deq_at' a1 X x0 hX ⟨k.val, hk⟩ 21 (k0_off22_eq k) (k0_off22_inb i k h1) x
  · first | exact fun x => deq_at a1 X x0 hX ⟨k.val, hk⟩ 20 (k0_off21_eq k) (k0_off21_inb i k h1) x | exact fun x => deq_at' a1 X x0 hX ⟨k.val, hk⟩ 20 (k0_off21_eq k) (k0_off21_inb i k h1) x
  · first | exact fun x => deq_at a1 X x0 hX ⟨k.val, hk⟩ 19 (k0_off20_eq k) (k0_off20_inb i k h1) x | exact fun x => deq_at' a1 X x0 hX ⟨k.val, hk⟩ 19 (k0_off20_eq k) (k0_off20_inb i k h1) x
  · first | exact fun x => deq_at a1 X x0 hX ⟨k.val, hk⟩ 18 (k0_off19_eq k) (k0_off19_inb i k h1) x | exact fun x => deq_at' a1 X x0 hX ⟨k.val, hk⟩ 18 (k0_off19_eq k) (k0_off19_inb i k h1) x
  · first | exact fun x => deq_at a1 X x0 hX ⟨k.val, hk⟩ 17 (k0_off18_eq k) (k0_off18_inb i k h1) x | exact fun x => deq_at' a1 X x0 hX ⟨k.val, hk⟩ 17 (k0_off18_eq k) (k0_off18_inb i k h1) x
  · first | exact fun x => deq_at a1 X x0 hX ⟨k.val, hk⟩ 16 (k0_off17_eq k) (k0_off17_inb i k h1) x | exact fun x => deq_at' a1 X x0 hX ⟨k.val, hk⟩ 16 (k0_off17_eq k) (k0_off17_inb i k h1) x
  · first | exact fun x => deq_at a1 X x0 hX ⟨k.val, hk⟩ 15 (k0_off16_eq k) (k0_off16_inb i k h1) x | exact fun x => deq_at' a1 X x0 hX ⟨k.val, hk⟩ 15 (k0_off16_eq k) (k0_off16_inb i k h1) x
  · first | exact fun x => deq_at a1 X x0 hX ⟨k.val, hk⟩ 14 (k0_off15_eq k) (k0_off15_inb i k h1) x | exact fun x => deq_at' a1 X x0 hX ⟨k.val, hk⟩ 14 (k0_off15_eq k) (k0_off15_inb i k h1) x
  · first | exact fun x => deq_at a1 X x0 hX ⟨k.val, hk⟩ 13 (k0_off14_eq k) (k0_off14_inb i k h1) x | exact fun x => deq_at' a1 X x0 hX ⟨k.val, hk⟩ 13 (k0_off14_eq k) (k0_off14_inb i k h1) x
  · first | exact fun x => deq_at a1 X x0 hX ⟨k.val, hk⟩ 12 (k0_off13_eq k) (k0_off13_inb i k h1) x | exact fun x => deq_at' a1 X x0 hX ⟨k.val, hk⟩ 12 (k0_off13_eq k) (k0_off13_inb i k h1) x
  · first | exact fun x => deq_at a1 X x0 hX ⟨k.val, hk⟩ 11 (k0_off12_eq k) (k0_off12_inb i k h1) x | exact fun x => deq_at' a1 X x0 hX ⟨k.val, hk⟩ 11 (k0_off12_eq k) (k0_off12_inb i k h1) x
  · first | exact fun x => deq_at a1 X x0 hX ⟨k.val, hk⟩ 10 (k0_off11_eq k) (k0_off11_inb i k h1) x | exact fun x => deq_at' a1 X x0 hX ⟨k.val, hk⟩ 10 (k0_off11_eq k) (k0_off11_inb i k h1) x
  · first | exact fun x => deq_at a1 X x0 hX ⟨k.val, hk⟩ 9 (k0_off10_eq k) (k0_off10_inb i k h1) x | exact fun x => deq_at' a1 X x0 hX ⟨k.val, hk⟩ 9 (k0_off10_eq k) (k0_off10_inb i k h1) x
  · first | exact fun x => deq_at a1 X x0 hX ⟨k.val, hk⟩ 8 (k0_off9_eq k) (k0_off9_inb i k h1) x | exact fun x => deq_at' a1 X x0 hX ⟨k.val, hk⟩ 8 (k0_off9_eq k) (k0_off9_inb i k h1) x
  · first | exact fun x => deq_at a1 X x0 hX ⟨k.val, hk⟩ 7 (k0_off8_eq k) (k0_off8_inb i k h1) x | exact fun x => deq_at' a1 X x0 hX ⟨k.val, hk⟩ 7 (k0_off8_eq k) (k0_off8_inb i k h1) x
  · first | exact fun x => deq_at a1 X x0 hX ⟨k.val, hk⟩ 6 (k0_off7_eq k) (k0_off7_inb i k h1) x | exact fun x => deq_at' a1 X x0 hX ⟨k.val, hk⟩ 6 (k0_off7_eq k) (k0_off7_inb i k h1) x
  · first | exact fun x => deq_at a1 X x0 hX ⟨k.val, hk⟩ 5 (k0_off6_eq k) (k0_off6_inb i k h1) x | exact fun x => deq_at' a1 X x0 hX ⟨k.val, hk⟩ 5 (k0_off6_eq k) (k0_off6_inb i k h1) x
  · first | exact fun x => deq_at a1 X x0 hX ⟨k.val, hk⟩ 4 (k0_off5_eq k) (k0_off5_inb i k h1) x | exact fun x => deq_at' a1 X x0 hX ⟨k.val, hk⟩ 4 (k0_off5_eq k) (k0_off5_inb i k h1) x
  · first | exact fun x => deq_at a1 X x0 hX ⟨k.val, hk⟩ 3 (k0_off4_eq k) (k0_off4_inb i k h1) x | exact fun x => deq_at' a1 X x0 hX ⟨k.val, hk⟩ 3 (k0_off4_eq k) (k0_off4_inb i k h1) x
  · first | exact fun x => deq_at a1 X x0 hX ⟨k.val, hk⟩ 2 (k0_off3_eq k) (k0_off3_inb i k h1) x | exact fun x => deq_at' a1 X x0 hX ⟨k.val, hk⟩ 2 (k0_off3_eq k) (k0_off3_inb i k h1) x
  · first | exact fun x => deq_at a1 X x0 hX ⟨k.val, hk⟩ 1 (k0_off2_eq k) (k0_off2_inb i k h1) x | exact fun x => deq_at' a1 X x0 hX ⟨k.val, hk⟩ 1 (k0_off2_eq k) (k0_off2_inb i k h1) x
  · first | exact fun x => deq_at a1 X x0 hX ⟨k.val, hk⟩ 0 (k0_off1_eq k) (k0_off1_inb i k h1) x | exact fun x => deq_at' a1 X x0 hX ⟨k.val, hk⟩ 0 (k0_off1_eq k) (k0_off1_inb i k h1) x

end Pieces
end Cert.Up.Gen

end
-- ==== Proof.MachLanes.lean ====
/- The lanes of a tile: which tile of a row each keeps a scale for, and where a packed column reads.

   Here for the kernel at machine floats; `UpLanes` is the same over the reals. -/
module

public import proofs.«01_k».proof.Proof.Gen.Up.Skeleton
public import Idealize.ShloMosaic.Lib.WritesUnit
public import Idealize.ShloMosaic.Lib.ValueIdx

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- Each lane's number within its block. -/
def laneMod : IVec S32x128 32 :=
  have n : BitVec 32 := Scalar.select (Scalar.cmpi .eq 32#32 0#32) 1#32 32#32
  have q : IVec S32x128 32 := remsi (iota .tc S32x128 32 [1] iota_S32x128_d1_w32) (broadcast S32x128 n)
  select (andi (xori (cmpi .slt q (broadcast S32x128 0#32)) (broadcastTo S32x128 (broadcast S32x128 (Scalar.cmpi .slt n 0#32)) broadcasts_S32x128_S32x128))
    (cmpi .ne q (broadcast S32x128 0#32))) (addi q (broadcast S32x128 n)) q

/-- The scales of a row of tiles, tile `n`'s kept on the lanes numbered `n` in their blocks. -/
def accTo (S : ℕ → FVec F S32x128 .bf16) : ℕ → FVec F S32x128 .f32
  | 0 => broadcast S32x128 (Scalar.ofBits .f32 0x00000000#32)
  | n + 1 => select (cmpi .eq laneMod (broadcast S32x128 (BitVec.ofNat 32 n))) (extf .f32 (S n) bitsLt_bf16_f32) (accTo S n)

theorem laneMod_apply : ∀ (r : Fin 32) (l : Fin 128), laneMod (ix2 r l) = BitVec.ofNat 32 (l.val % 32) := by decide +kernel

theorem cmpi_eq_one {w : ℕ} (x y : BitVec w) : IntOp.cmpi .eq x y = 1#1 ↔ x = y := by
  simp only [IntOp.cmpi]
  by_cases h : x = y
  · simp [h]
  · rw [beq_false_of_ne h]; exact ⟨fun h' => absurd h' (by decide), fun h' => absurd h' h⟩

/-- What is kept on a lane after `n` tiles. -/
theorem accTo_apply (S : ℕ → FVec F S32x128 .bf16) (n : ℕ) (hn : n ≤ 32) (r : Fin 32) (l : Fin 128) (h : l.val % 32 < n) :
    accTo S n (ix2 r l) = extf .f32 (S (l.val % 32)) bitsLt_bf16_f32 (ix2 r l) := by
  induction n with
  | zero => omega
  | succ n ih =>
    show (if (IntOp.cmpi .eq (laneMod (ix2 r l)) (BitVec.ofNat 32 n)) = 1#1 then _ else _) = _
    rw [laneMod_apply]
    by_cases e : l.val % 32 = n
    · rw [e, if_pos ((cmpi_eq_one _ _).2 rfl)]
    · rw [if_neg (fun hc => e ?_), ih (by omega) (by omega)]
      have := congrArg BitVec.toNat ((cmpi_eq_one _ _).1 hc)
      simp only [BitVec.toNat_ofNat] at this
      omega

/-- The lane a packed column reads: column `j` is block `j % 4` of tile `j / 4`. -/
def packIdx : IVec S32x128 32 :=
  have i0 : IVec S32x128 32 := iota .tc S32x128 32 [1] iota_S32x128_d1_w32
  have n : BitVec 32 := Scalar.select (Scalar.cmpi .eq 4#32 0#32) 1#32 4#32
  have q : IVec S32x128 32 := remsi i0 (broadcast S32x128 n)
  have m : IVec S32x128 32 := select (andi (xori (cmpi .slt q (broadcast S32x128 0#32))
    (broadcastTo S32x128 (broadcast S32x128 (Scalar.cmpi .slt n 0#32)) broadcasts_S32x128_S32x128)) (cmpi .ne q (broadcast S32x128 0#32)))
    (addi q (broadcast S32x128 n)) q
  have d : IVec S32x128 32 := divsi i0 (broadcast S32x128 4#32)
  have g : IVec S32x128 32 := subi (extui 32 (cmpi .sgt i0 (broadcast S32x128 0#32)) natLt_1_32) (extui 32 (cmpi .slt i0 (broadcast S32x128 0#32)) natLt_1_32)
  have b : BitVec 32 := Scalar.subi (Scalar.extui (Scalar.cmpi .sgt 4#32 0#32)) (Scalar.extui (Scalar.cmpi .slt 4#32 0#32))
  have d' : IVec S32x128 32 := select (andi (cmpi .ne g (broadcast S32x128 b)) (cmpi .ne (remsi i0 (broadcast S32x128 4#32)) (broadcast S32x128 0#32)))
    (subi d (broadcast S32x128 1#32)) d
  have p : IVec S32x128 32 := addi (muli (broadcast S32x128 32#32) m) d'
  shapeCast S32x128 (shapeCast S32x128x1 (select (cmpi .slt p (broadcast S32x128 0#32)) (addi p (broadcast S32x128 128#32)) p)
    shapeCasts_S32x128_S32x128x1) shapeCasts_S32x128x1_S32x128

/-- A tile with its lanes packed. -/
def packT (acc : FVec F S32x128 .f32) : FVec F S32x128 .f32 := dynamicGather 1 acc packIdx

theorem packIdx_apply : ∀ (r : Fin 32) (l : Fin 128), packIdx (ix2 r l) = BitVec.ofNat 32 (32 * (l.val % 4) + l.val / 4) := by
  decide +kernel

/-- The packed scales of a row of tiles. -/
theorem pack_apply (acc : FVec F S32x128 .f32) (r : Fin 32) (j : Fin 96) :
    extractStridedSlice S32x96 ![0, 0] (packT acc) slices_S32x128_o0_0_S32x96 (ix2 r j) = acc (ix2 r ⟨32 * (j.val % 4) + j.val / 4, by omega⟩) := by
  show acc _ = _
  refine congrArg acc (funext fun b => Fin.ext ?_)
  match b with
  | ⟨0, _⟩ => show 0 + r.val = r.val; omega
  | ⟨1, _⟩ =>
    show (packIdx _).toNat % 128 = 32 * (j.val % 4) + j.val / 4
    have e := packIdx_apply ⟨0 + r.val, by omega⟩ ⟨0 + j.val, by omega⟩
    rw [eq_ix2 (n0 := 32) (n1 := 128) (fun a : Fin 2 => _)]
    refine (congrArg (fun i : BitVec 32 => i.toNat % 128) e).trans ?_
    simp only [BitVec.toNat_ofNat, Nat.zero_add]; omega

/-- All 128 packed lanes. -/
theorem packT_apply (acc : FVec F S32x128 .f32) (r : Fin 32) (l : Fin 128) :
    packT acc (ix2 r l) = acc (ix2 r ⟨32 * (l.val % 4) + l.val / 4, by omega⟩) := by
  show acc _ = _
  refine congrArg acc (funext fun b => Fin.ext ?_)
  match b with
  | ⟨0, _⟩ => rfl
  | ⟨1, _⟩ =>
    show (packIdx (ix2 r l)).toNat % 128 = 32 * (l.val % 4) + l.val / 4
    refine (congrArg (fun i : BitVec 32 => i.toNat % 128) (packIdx_apply r l)).trans ?_
    simp only [BitVec.toNat_ofNat]; omega

end Cert.Up.Gen

end
-- ==== Proof.MachXRead.lean ====
/- What the activation loop leaves: the codes, the scales and the quantised activations of the whole array.

   Here for the kernel at machine floats; `UpXRead` is the same over the reals. -/
module

public import proofs.«01_k».proof.Proof.MachX
public import proofs.«01_k».proof.Proof.MachLanes
public import proofs.«01_k».proof.Proof.Dequant
public import proofs.«01_k».proof.Proof.Gen.Up.Loops

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole)
variable (h1 : k0_cond1 i = 1#1) (X : BufTy.Contents (Elt F) a1.view.ty) (x0 : Vec F S1152x3072 .bf16)

variable (hX : a1.view.read (Elt F) X = x0)

/-- A tile loaded from the activations. -/
abbrev loadX {off : Fin 2 → ℕ} (inb : ∀ a, off a + S32x128.size a ≤ S1152x3072.size a) : FVec F S32x128 .f32 :=
  extf .f32 (φ := .bf16) (View.readAt (Elt F) a1.view (Rect.unit (s := S1152x3072) off S32x128.size inb).toLoadRect X) bitsLt_bf16_f32

/-- The scales of the row of tiles that trip `k` loads. -/
def rowScales (k : Fin k0_t1_loop.trips) : ℕ → FVec F S32x128 .bf16
  | 0 => scaleT (loadX a1 X (k0_off1_inb i k h1))
  | 1 => scaleT (loadX a1 X (k0_off2_inb i k h1))
  | 2 => scaleT (loadX a1 X (k0_off3_inb i k h1))
  | 3 => scaleT (loadX a1 X (k0_off4_inb i k h1))
  | 4 => scaleT (loadX a1 X (k0_off5_inb i k h1))
  | 5 => scaleT (loadX a1 X (k0_off6_inb i k h1))
  | 6 => scaleT (loadX a1 X (k0_off7_inb i k h1))
  | 7 => scaleT (loadX a1 X (k0_off8_inb i k h1))
  | 8 => scaleT (loadX a1 X (k0_off9_inb i k h1))
  | 9 => scaleT (loadX a1 X (k0_off10_inb i k h1))
  | 10 => scaleT (loadX a1 X (k0_off11_inb i k h1))
  | 11 => scaleT (loadX a1 X (k0_off12_inb i k h1))
  | 12 => scaleT (loadX a1 X (k0_off13_inb i k h1))
  | 13 => scaleT (loadX a1 X (k0_off14_inb i k h1))
  | 14 => scaleT (loadX a1 X (k0_off15_inb i k h1))
  | 15 => scaleT (loadX a1 X (k0_off16_inb i k h1))
  | 16 => scaleT (loadX a1 X (k0_off17_inb i k h1))
  | 17 => scaleT (loadX a1 X (k0_off18_inb i k h1))
  | 18 => scaleT (loadX a1 X (k0_off19_inb i k h1))
  | 19 => scaleT (loadX a1 X (k0_off20_inb i k h1))
  | 20 => scaleT (loadX a1 X (k0_off21_inb i k h1))
  | 21 => scaleT (loadX a1 X (k0_off22_inb i k h1))
  | 22 => scaleT (loadX a1 X (k0_off23_inb i k h1))
  | 23 => scaleT (loadX a1 X (k0_off24_inb i k h1))
  | _ + 24 => scaleT (loadX a1 X (k0_off1_inb i k h1))

include hX in
theorem rowScales_eq (k : Fin k0_t1_loop.trips) (k' : Fin 36) (hk : k'.val = k.val) (n : ℕ) (hn : n < 24) :
    rowScales i a1 h1 X k n = scaleT (xTile x0 k' ⟨n, hn⟩) := by
  obtain ⟨k', hk'⟩ := k'
  dsimp only at hk
  subst hk
  match n, hn with
  | 0, _ => exact congrArg scaleT (xTile_read a1 X x0 hX ⟨k.val, hk'⟩ 0 (k0_off1_eq k) (k0_off1_inb i k h1))
  | 1, _ => exact congrArg scaleT (xTile_read a1 X x0 hX ⟨k.val, hk'⟩ 1 (k0_off2_eq k) (k0_off2_inb i k h1))
  | 2, _ => exact congrArg scaleT (xTile_read a1 X x0 hX ⟨k.val, hk'⟩ 2 (k0_off3_eq k) (k0_off3_inb i k h1))
  | 3, _ => exact congrArg scaleT (xTile_read a1 X x0 hX ⟨k.val, hk'⟩ 3 (k0_off4_eq k) (k0_off4_inb i k h1))
  | 4, _ => exact congrArg scaleT (xTile_read a1 X x0 hX ⟨k.val, hk'⟩ 4 (k0_off5_eq k) (k0_off5_inb i k h1))
  | 5, _ => exact congrArg scaleT (xTile_read a1 X x0 hX ⟨k.val, hk'⟩ 5 (k0_off6_eq k) (k0_off6_inb i k h1))
  | 6, _ => exact congrArg scaleT (xTile_read a1 X x0 hX ⟨k.val, hk'⟩ 6 (k0_off7_eq k) (k0_off7_inb i k h1))
  | 7, _ => exact congrArg scaleT (xTile_read a1 X x0 hX ⟨k.val, hk'⟩ 7 (k0_off8_eq k) (k0_off8_inb i k h1))
  | 8, _ => exact congrArg scaleT (xTile_read a1 X x0 hX ⟨k.val, hk'⟩ 8 (k0_off9_eq k) (k0_off9_inb i k h1))
  | 9, _ => exact congrArg scaleT (xTile_read a1 X x0 hX ⟨k.val, hk'⟩ 9 (k0_off10_eq k) (k0_off10_inb i k h1))
  | 10, _ => exact congrArg scaleT (xTile_read a1 X x0 hX ⟨k.val, hk'⟩ 10 (k0_off11_eq k) (k0_off11_inb i k h1))
  | 11, _ => exact congrArg scaleT (xTile_read a1 X x0 hX ⟨k.val, hk'⟩ 11 (k0_off12_eq k) (k0_off12_inb i k h1))
  | 12, _ => exact congrArg scaleT (xTile_read a1 X x0 hX ⟨k.val, hk'⟩ 12 (k0_off13_eq k) (k0_off13_inb i k h1))
  | 13, _ => exact congrArg scaleT (xTile_read a1 X x0 hX ⟨k.val, hk'⟩ 13 (k0_off14_eq k) (k0_off14_inb i k h1))
  | 14, _ => exact congrArg scaleT (xTile_read a1 X x0 hX ⟨k.val, hk'⟩ 14 (k0_off15_eq k) (k0_off15_inb i k h1))
  | 15, _ => exact congrArg scaleT (xTile_read a1 X x0 hX ⟨k.val, hk'⟩ 15 (k0_off16_eq k) (k0_off16_inb i k h1))
  | 16, _ => exact congrArg scaleT (xTile_read a1 X x0 hX ⟨k.val, hk'⟩ 16 (k0_off17_eq k) (k0_off17_inb i k h1))
  | 17, _ => exact congrArg scaleT (xTile_read a1 X x0 hX ⟨k.val, hk'⟩ 17 (k0_off18_eq k) (k0_off18_inb i k h1))
  | 18, _ => exact congrArg scaleT (xTile_read a1 X x0 hX ⟨k.val, hk'⟩ 18 (k0_off19_eq k) (k0_off19_inb i k h1))
  | 19, _ => exact congrArg scaleT (xTile_read a1 X x0 hX ⟨k.val, hk'⟩ 19 (k0_off20_eq k) (k0_off20_inb i k h1))
  | 20, _ => exact congrArg scaleT (xTile_read a1 X x0 hX ⟨k.val, hk'⟩ 20 (k0_off21_eq k) (k0_off21_inb i k h1))
  | 21, _ => exact congrArg scaleT (xTile_read a1 X x0 hX ⟨k.val, hk'⟩ 21 (k0_off22_eq k) (k0_off22_inb i k h1))
  | 22, _ => exact congrArg scaleT (xTile_read a1 X x0 hX ⟨k.val, hk'⟩ 22 (k0_off23_eq k) (k0_off23_inb i k h1))
  | 23, _ => exact congrArg scaleT (xTile_read a1 X x0 hX ⟨k.val, hk'⟩ 23 (k0_off24_eq k) (k0_off24_inb i k h1))
  | n + 24, hn => exact absurd hn (by omega)

theorem lane_mod {j : ℕ} (h : j < 96) : (32 * (j % 4) + j / 4) % 32 = j / 4 := by
  rw [Nat.mul_add_mod]; exact Nat.mod_eq_of_lt (by omega)

/-- The activations' scales at row `32 k + r`, column `j`. -/
theorem xScale_at (y : S1152x96.Idx) (k : Fin 36) (r : Fin 32) (j : Fin 96) (e0 : (y 0).val = 32 * k.val + r.val) (e1 : (y 1).val = j.val) :
    extf .f32 (scaleT (xTile x0 k ⟨j.val / 4, by omega⟩)) bitsLt_bf16_f32 (ix2 r ⟨32 * (j.val % 4) + j.val / 4, by omega⟩)
      = xScale x0 y := by
  have hr : (ix2 r (⟨32 * (j.val % 4) + j.val / 4, by omega⟩ : Fin 128) : S32x128.Idx)
      = ix2 ⟨(y 0).val % 32, by omega⟩ ⟨32 * ((y 1).val % 4) + (y 1).val / 4, by omega⟩ := by
    congr 1
    · apply Fin.ext; dsimp only; omega
    · apply Fin.ext; dsimp only; omega
  unfold xScale
  rw [← hr]
  have h0 : k = ⟨(y 0).val / 32, by omega⟩ := by apply Fin.ext; dsimp only; omega
  have h1' : (⟨j.val / 4, by omega⟩ : Fin 24) = ⟨(y 1).val / 4, by omega⟩ := by apply Fin.ext; dsimp only; omega
  exact congrArg (fun t => extf .f32 (scaleT t) bitsLt_bf16_f32 _) (congrArg₂ (xTile x0) h0 h1')

include hX in
/-- The packed scales of a row of tiles are a restriction of the activations' scales. -/
theorem scale_at (k : Fin k0_t1_loop.trips) (x : S32x96.Idx) :
    extractStridedSlice S32x96 ![0, 0] (packT (accTo (rowScales i a1 h1 X k) 24)) slices_S32x128_o0_0_S32x96 x
      = xScale x0 ((Rect.unit (s := S1152x96) (k0_off25 k) S32x96.size (k0_off25_inb i k h1)).emb x) := by
  have hk : k.val < 36 := Nat.lt_of_lt_of_le k.isLt k0_t1_abs.2.1
  obtain ⟨r, j, rfl⟩ : ∃ (r : Fin 32) (j : Fin 96), x = ix2 r j := ⟨x 0, x 1, eq_ix2 x⟩
  have e : k0_off25 k = ![32 * k.val, 0] := k0_off25_eq k
  have e0 : ((Rect.unit (s := S1152x96) (k0_off25 k) S32x96.size (k0_off25_inb i k h1)).emb (ix2 r j) 0).val = 32 * k.val + r.val := by
    show k0_off25 k 0 + 1 * r.val = _; rw [e]; simp
  have e1 : ((Rect.unit (s := S1152x96) (k0_off25 k) S32x96.size (k0_off25_inb i k h1)).emb (ix2 r j) 1).val = j.val := by
    show k0_off25 k 1 + 1 * j.val = _; rw [e]; simp
  rw [pack_apply, accTo_apply _ 24 (by omega) r _ (by rw [lane_mod j.isLt]; omega), lane_mod j.isLt]
  rw [rowScales_eq i a1 h1 X x0 hX k ⟨k.val, hk⟩ rfl _ (by omega)]
  exact xScale_at x0 _ ⟨k.val, hk⟩ r j e0 e1

include hX in
theorem trip1_scale (k : Fin k0_t1_loop.trips) : ∀ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.1,
    ∀ x, p.2 x = xScale x0 (p.1.emb x) := by
  unfold tripL_k0_t1 trip_k0_t1
  dsimp only
  simp only [List.forall_mem_cons]
  refine ⟨?_, fun _ h => absurd h List.not_mem_nil⟩
  exact fun x => scale_at i a1 h1 X x0 hX k x

include hX in
/-- Every stored piece restricts the whole array. -/
theorem pb1_codes (n : ℕ) (hn : n ≤ k0_t1_loop.trips) (p : View.Piece (Elt F) S1152x3072 .fp8e4m3)
    (hp : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).1) : ∀ x, p.2 x = xCodes x0 (p.1.emb x) := by
  induction n with
  | zero => exact absurd hp List.not_mem_nil
  | succ n ih =>
    have h := congrArg (fun q => q.1) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append] at hp
    rcases hp with hp | hp
    · exact trip1_codes 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX ⟨n, hn⟩ p hp
    · exact ih (by omega) hp

/-- The pieces of trip `k` are among those of the first `n`. -/
theorem pb1_mem_codes (n : ℕ) (hn : n ≤ k0_t1_loop.trips) (k : Fin k0_t1_loop.trips) (hk : k.val < n) (p : View.Piece (Elt F) S1152x3072 .fp8e4m3)
    (hp : p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).1) : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).1 := by
  induction n with
  | zero => omega
  | succ n ih =>
    have h := congrArg (fun q => q.1) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append]
    rcases Nat.lt_succ_iff_lt_or_eq.mp hk with h' | h'
    · exact .inr (ih (by omega) h')
    · subst h'; exact .inl hp

include hX in
/-- Every stored piece restricts the whole array. -/
theorem pb1_scale (n : ℕ) (hn : n ≤ k0_t1_loop.trips) (p : View.Piece (Elt F) S1152x96 .f32)
    (hp : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).2.1) : ∀ x, p.2 x = xScale x0 (p.1.emb x) := by
  induction n with
  | zero => exact absurd hp List.not_mem_nil
  | succ n ih =>
    have h := congrArg (fun q => q.2.1) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append] at hp
    rcases hp with hp | hp
    · exact trip1_scale 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX ⟨n, hn⟩ p hp
    · exact ih (by omega) hp

/-- The pieces of trip `k` are among those of the first `n`. -/
theorem pb1_mem_scale (n : ℕ) (hn : n ≤ k0_t1_loop.trips) (k : Fin k0_t1_loop.trips) (hk : k.val < n) (p : View.Piece (Elt F) S1152x96 .f32)
    (hp : p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.1) : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).2.1 := by
  induction n with
  | zero => omega
  | succ n ih =>
    have h := congrArg (fun q => q.2.1) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append]
    rcases Nat.lt_succ_iff_lt_or_eq.mp hk with h' | h'
    · exact .inr (ih (by omega) h')
    · subst h'; exact .inl hp

include hX in
/-- Every stored piece restricts the whole array. -/
theorem pb1_deq (n : ℕ) (hn : n ≤ k0_t1_loop.trips) (p : View.Piece (Elt F) S1152x3072 .bf16)
    (hp : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).2.2) : ∀ x, p.2 x = xDeq x0 (p.1.emb x) := by
  induction n with
  | zero => exact absurd hp List.not_mem_nil
  | succ n ih =>
    have h := congrArg (fun q => q.2.2) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append] at hp
    rcases hp with hp | hp
    · exact trip1_deq 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX ⟨n, hn⟩ p hp
    · exact ih (by omega) hp

/-- The pieces of trip `k` are among those of the first `n`. -/
theorem pb1_mem_deq (n : ℕ) (hn : n ≤ k0_t1_loop.trips) (k : Fin k0_t1_loop.trips) (hk : k.val < n) (p : View.Piece (Elt F) S1152x3072 .bf16)
    (hp : p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.2) : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).2.2 := by
  induction n with
  | zero => omega
  | succ n ih =>
    have h := congrArg (fun q => q.2.2) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append]
    rcases Nat.lt_succ_iff_lt_or_eq.mp hk with h' | h'
    · exact .inr (ih (by omega) h')
    · subst h'; exact .inl hp

theorem mem_off {n : ℕ} (off : Fin 2 → ℕ) (k b m : ℕ) (e : off = ![32 * k, b])
    (inb : ∀ a, off a + (⟨2, ![32, m]⟩ : Shape).size a ≤ (⟨2, ![1152, n]⟩ : Shape).size a) (y : (⟨2, ![1152, n]⟩ : Shape).Idx)
    (_hy : (y 0).val < 1152) (h0 : (y 0).val / 32 = k) (h1 : b ≤ (y 1).val) (h2 : (y 1).val < b + m) :
    y ∈ (Rect.unit (s := ⟨2, ![1152, n]⟩) off (⟨2, ![32, m]⟩ : Shape).size inb).set := by
  subst e
  rw [Rect.mem_set_unit]; intro a
  match a with
  | ⟨0, _⟩ => show 32 * k ≤ (y 0).val ∧ (y 0).val < 32 * k + 32; omega
  | ⟨1, _⟩ => show b ≤ (y 1).val ∧ (y 1).val < b + m; omega

/-- Trip `k` stores every element of its rows. -/
theorem trip1_cover_codes (k : Fin k0_t1_loop.trips) (y : S1152x3072.Idx) (hy : (y 0).val / 32 = k.val) :
    ∃ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).1, y ∈ p.1.set := by
  have hy0 : (y 0).val < 1152 := (y 0).isLt
  unfold tripL_k0_t1 trip_k0_t1
  dsimp only
  have hy1 : (y 1).val < 3072 := (y 1).isLt
  have hb : (y 1).val / 128 < 24 := by omega
  generalize hq : (y 1).val / 128 = q at hb
  match q, hb, hq with
  | 0, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))), mem_off _ k.val (0) 128 (k0_off1_eq k) (k0_off1_inb i k h1) y hy0 hy (by omega) (by omega)⟩
  | 1, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))), mem_off _ k.val (128) 128 (k0_off2_eq k) (k0_off2_inb i k h1) y hy0 hy (by omega) (by omega)⟩
  | 2, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))), mem_off _ k.val (256) 128 (k0_off3_eq k) (k0_off3_inb i k h1) y hy0 hy (by omega) (by omega)⟩
  | 3, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))), mem_off _ k.val (384) 128 (k0_off4_eq k) (k0_off4_inb i k h1) y hy0 hy (by omega) (by omega)⟩
  | 4, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))), mem_off _ k.val (512) 128 (k0_off5_eq k) (k0_off5_inb i k h1) y hy0 hy (by omega) (by omega)⟩
  | 5, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))), mem_off _ k.val (640) 128 (k0_off6_eq k) (k0_off6_inb i k h1) y hy0 hy (by omega) (by omega)⟩
  | 6, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))), mem_off _ k.val (768) 128 (k0_off7_eq k) (k0_off7_inb i k h1) y hy0 hy (by omega) (by omega)⟩
  | 7, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))), mem_off _ k.val (896) 128 (k0_off8_eq k) (k0_off8_inb i k h1) y hy0 hy (by omega) (by omega)⟩
  | 8, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))), mem_off _ k.val (1024) 128 (k0_off9_eq k) (k0_off9_inb i k h1) y hy0 hy (by omega) (by omega)⟩
  | 9, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))), mem_off _ k.val (1152) 128 (k0_off10_eq k) (k0_off10_inb i k h1) y hy0 hy (by omega) (by omega)⟩
  | 10, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), mem_off _ k.val (1280) 128 (k0_off11_eq k) (k0_off11_inb i k h1) y hy0 hy (by omega) (by omega)⟩
  | 11, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), mem_off _ k.val (1408) 128 (k0_off12_eq k) (k0_off12_inb i k h1) y hy0 hy (by omega) (by omega)⟩
  | 12, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), mem_off _ k.val (1536) 128 (k0_off13_eq k) (k0_off13_inb i k h1) y hy0 hy (by omega) (by omega)⟩
  | 13, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), mem_off _ k.val (1664) 128 (k0_off14_eq k) (k0_off14_inb i k h1) y hy0 hy (by omega) (by omega)⟩
  | 14, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), mem_off _ k.val (1792) 128 (k0_off15_eq k) (k0_off15_inb i k h1) y hy0 hy (by omega) (by omega)⟩
  | 15, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), mem_off _ k.val (1920) 128 (k0_off16_eq k) (k0_off16_inb i k h1) y hy0 hy (by omega) (by omega)⟩
  | 16, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), mem_off _ k.val (2048) 128 (k0_off17_eq k) (k0_off17_inb i k h1) y hy0 hy (by omega) (by omega)⟩
  | 17, _, hq => exact ⟨_, List.mem_cons_of_mem _ (List.mem_cons_of_mem _ (List.mem_cons_of_mem _ (List.mem_cons_of_mem _ (List.mem_cons_of_mem _ (List.mem_cons_of_mem _ (List.mem_cons_self ..)))))), mem_off _ k.val (2176) 128 (k0_off18_eq k) (k0_off18_inb i k h1) y hy0 hy (by omega) (by omega)⟩
  | 18, _, hq => exact ⟨_, List.mem_cons_of_mem _ (List.mem_cons_of_mem _ (List.mem_cons_of_mem _ (List.mem_cons_of_mem _ (List.mem_cons_of_mem _ (List.mem_cons_self ..))))), mem_off _ k.val (2304) 128 (k0_off19_eq k) (k0_off19_inb i k h1) y hy0 hy (by omega) (by omega)⟩
  | 19, _, hq => exact ⟨_, List.mem_cons_of_mem _ (List.mem_cons_of_mem _ (List.mem_cons_of_mem _ (List.mem_cons_of_mem _ (List.mem_cons_self ..)))), mem_off _ k.val (2432) 128 (k0_off20_eq k) (k0_off20_inb i k h1) y hy0 hy (by omega) (by omega)⟩
  | 20, _, hq => exact ⟨_, List.mem_cons_of_mem _ (List.mem_cons_of_mem _ (List.mem_cons_of_mem _ (List.mem_cons_self ..))), mem_off _ k.val (2560) 128 (k0_off21_eq k) (k0_off21_inb i k h1) y hy0 hy (by omega) (by omega)⟩
  | 21, _, hq => exact ⟨_, List.mem_cons_of_mem _ (List.mem_cons_of_mem _ (List.mem_cons_self ..)), mem_off _ k.val (2688) 128 (k0_off22_eq k) (k0_off22_inb i k h1) y hy0 hy (by omega) (by omega)⟩
  | 22, _, hq => exact ⟨_, List.mem_cons_of_mem _ (List.mem_cons_self ..), mem_off _ k.val (2816) 128 (k0_off23_eq k) (k0_off23_inb i k h1) y hy0 hy (by omega) (by omega)⟩
  | 23, _, hq => exact ⟨_, List.mem_cons_self .., mem_off _ k.val (2944) 128 (k0_off24_eq k) (k0_off24_inb i k h1) y hy0 hy (by omega) (by omega)⟩
  | n + 24, hb, _ => exact absurd hb (by omega)

include hX in
theorem read_codes (f : BufTy.Contents (Elt F) a6.view.ty) :
    a6.view.read (Elt F) (a6.view.writes (Elt F) f (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k0_t1_loop.trips).1) = xCodes x0 := by
  have ht : k0_t1_loop.trips = 36 := by decide +kernel
  funext y
  refine View.read_writes_apply_of_pieces (Val := Elt F) a6.view _ (xCodes x0) _
    (fun p hp => pb1_codes 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX _ le_rfl p hp) y ?_
  have hy0 : (y 0).val < 1152 := (y 0).isLt
  obtain ⟨p, hp, hy⟩ := trip1_cover_codes 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨(y 0).val / 32, by omega⟩ y rfl
  exact ⟨p, pb1_mem_codes 𝒱 c bd i a1 w1 a2 w2 a3 w3 a4 w4 a5 w5 a6 w6 a7 w7 a8 w8 a9 w9 a10 w10 a11 w11 a12 w12 a13 w13 a14 w14 a15 w15 a16 w16 a17 w17 a18 w18 h1 X _ le_rfl _ (by dsimp only; omega) p hp, hy⟩

/-- Trip `k` stores every element of its rows. -/
theorem trip1_cover_scale (k : Fin k0_t1_loop.trips) (y : S1152x96.Idx) (hy : (y 0).val / 32 = k.val) :
    ∃ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.1, y ∈ p.1.set := by
  have hy0 : (y 0).val < 1152 := (y 0).isLt
  unfold tripL_k0_t1 trip_k0_t1
  dsimp only
  refine ⟨_, List.mem_cons_self .., ?_⟩
  have hy1 : (y 1).val < 96 := (y 1).isLt
  exact mem_off _ k.val 0 96 (k0_off25_eq k) (k0_off25_inb i k h1) y hy0 hy (by omega) (by omega)

include hX in
theorem read_scale (f : BufTy.Contents (Elt F) a7.view.ty) :
    a7.view.read (Elt F) (a7.view.writes (Elt F) f (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k0_t1_loop.trips).2.1) = xScale x0 := by
  have ht : k0_t1_loop.trips = 36 := by decide +kernel
  funext y
  refine View.read_writes_apply_of_pieces (Val := Elt F) a7.view _ (xScale x0) _
    (fun p hp => pb1_scale 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX _ le_rfl p hp) y ?_
  have hy0 : (y 0).val < 1152 := (y 0).isLt
  obtain ⟨p, hp, hy⟩ := trip1_cover_scale 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨(y 0).val / 32, by omega⟩ y rfl
  exact ⟨p, pb1_mem_scale 𝒱 c bd i a1 w1 a2 w2 a3 w3 a4 w4 a5 w5 a6 w6 a7 w7 a8 w8 a9 w9 a10 w10 a11 w11 a12 w12 a13 w13 a14 w14 a15 w15 a16 w16 a17 w17 a18 w18 h1 X _ le_rfl _ (by dsimp only; omega) p hp, hy⟩

/-- Trip `k` stores every element of its rows. -/
theorem trip1_cover_deq (k : Fin k0_t1_loop.trips) (y : S1152x3072.Idx) (hy : (y 0).val / 32 = k.val) :
    ∃ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.2, y ∈ p.1.set := by
  have hy0 : (y 0).val < 1152 := (y 0).isLt
  unfold tripL_k0_t1 trip_k0_t1
  dsimp only
  have hy1 : (y 1).val < 3072 := (y 1).isLt
  have hb : (y 1).val / 128 < 24 := by omega
  generalize hq : (y 1).val / 128 = q at hb
  match q, hb, hq with
  | 0, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))), mem_off _ k.val (0) 128 (k0_off1_eq k) (k0_off1_inb i k h1) y hy0 hy (by omega) (by omega)⟩
  | 1, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))), mem_off _ k.val (128) 128 (k0_off2_eq k) (k0_off2_inb i k h1) y hy0 hy (by omega) (by omega)⟩
  | 2, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))), mem_off _ k.val (256) 128 (k0_off3_eq k) (k0_off3_inb i k h1) y hy0 hy (by omega) (by omega)⟩
  | 3, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))), mem_off _ k.val (384) 128 (k0_off4_eq k) (k0_off4_inb i k h1) y hy0 hy (by omega) (by omega)⟩
  | 4, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))), mem_off _ k.val (512) 128 (k0_off5_eq k) (k0_off5_inb i k h1) y hy0 hy (by omega) (by omega)⟩
  | 5, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))), mem_off _ k.val (640) 128 (k0_off6_eq k) (k0_off6_inb i k h1) y hy0 hy (by omega) (by omega)⟩
  | 6, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))), mem_off _ k.val (768) 128 (k0_off7_eq k) (k0_off7_inb i k h1) y hy0 hy (by omega) (by omega)⟩
  | 7, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))), mem_off _ k.val (896) 128 (k0_off8_eq k) (k0_off8_inb i k h1) y hy0 hy (by omega) (by omega)⟩
  | 8, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))), mem_off _ k.val (1024) 128 (k0_off9_eq k) (k0_off9_inb i k h1) y hy0 hy (by omega) (by omega)⟩
  | 9, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))), mem_off _ k.val (1152) 128 (k0_off10_eq k) (k0_off10_inb i k h1) y hy0 hy (by omega) (by omega)⟩
  | 10, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), mem_off _ k.val (1280) 128 (k0_off11_eq k) (k0_off11_inb i k h1) y hy0 hy (by omega) (by omega)⟩
  | 11, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), mem_off _ k.val (1408) 128 (k0_off12_eq k) (k0_off12_inb i k h1) y hy0 hy (by omega) (by omega)⟩
  | 12, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), mem_off _ k.val (1536) 128 (k0_off13_eq k) (k0_off13_inb i k h1) y hy0 hy (by omega) (by omega)⟩
  | 13, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), mem_off _ k.val (1664) 128 (k0_off14_eq k) (k0_off14_inb i k h1) y hy0 hy (by omega) (by omega)⟩
  | 14, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), mem_off _ k.val (1792) 128 (k0_off15_eq k) (k0_off15_inb i k h1) y hy0 hy (by omega) (by omega)⟩
  | 15, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), mem_off _ k.val (1920) 128 (k0_off16_eq k) (k0_off16_inb i k h1) y hy0 hy (by omega) (by omega)⟩
  | 16, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), mem_off _ k.val (2048) 128 (k0_off17_eq k) (k0_off17_inb i k h1) y hy0 hy (by omega) (by omega)⟩
  | 17, _, hq => exact ⟨_, List.mem_cons_of_mem _ (List.mem_cons_of_mem _ (List.mem_cons_of_mem _ (List.mem_cons_of_mem _ (List.mem_cons_of_mem _ (List.mem_cons_of_mem _ (List.mem_cons_self ..)))))), mem_off _ k.val (2176) 128 (k0_off18_eq k) (k0_off18_inb i k h1) y hy0 hy (by omega) (by omega)⟩
  | 18, _, hq => exact ⟨_, List.mem_cons_of_mem _ (List.mem_cons_of_mem _ (List.mem_cons_of_mem _ (List.mem_cons_of_mem _ (List.mem_cons_of_mem _ (List.mem_cons_self ..))))), mem_off _ k.val (2304) 128 (k0_off19_eq k) (k0_off19_inb i k h1) y hy0 hy (by omega) (by omega)⟩
  | 19, _, hq => exact ⟨_, List.mem_cons_of_mem _ (List.mem_cons_of_mem _ (List.mem_cons_of_mem _ (List.mem_cons_of_mem _ (List.mem_cons_self ..)))), mem_off _ k.val (2432) 128 (k0_off20_eq k) (k0_off20_inb i k h1) y hy0 hy (by omega) (by omega)⟩
  | 20, _, hq => exact ⟨_, List.mem_cons_of_mem _ (List.mem_cons_of_mem _ (List.mem_cons_of_mem _ (List.mem_cons_self ..))), mem_off _ k.val (2560) 128 (k0_off21_eq k) (k0_off21_inb i k h1) y hy0 hy (by omega) (by omega)⟩
  | 21, _, hq => exact ⟨_, List.mem_cons_of_mem _ (List.mem_cons_of_mem _ (List.mem_cons_self ..)), mem_off _ k.val (2688) 128 (k0_off22_eq k) (k0_off22_inb i k h1) y hy0 hy (by omega) (by omega)⟩
  | 22, _, hq => exact ⟨_, List.mem_cons_of_mem _ (List.mem_cons_self ..), mem_off _ k.val (2816) 128 (k0_off23_eq k) (k0_off23_inb i k h1) y hy0 hy (by omega) (by omega)⟩
  | 23, _, hq => exact ⟨_, List.mem_cons_self .., mem_off _ k.val (2944) 128 (k0_off24_eq k) (k0_off24_inb i k h1) y hy0 hy (by omega) (by omega)⟩
  | n + 24, hb, _ => exact absurd hb (by omega)

include hX in
theorem read_deq (f : BufTy.Contents (Elt F) a11.view.ty) :
    a11.view.read (Elt F) (a11.view.writes (Elt F) f (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k0_t1_loop.trips).2.2) = xDeq x0 := by
  have ht : k0_t1_loop.trips = 36 := by decide +kernel
  funext y
  refine View.read_writes_apply_of_pieces (Val := Elt F) a11.view _ (xDeq x0) _
    (fun p hp => pb1_deq 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX _ le_rfl p hp) y ?_
  have hy0 : (y 0).val < 1152 := (y 0).isLt
  obtain ⟨p, hp, hy⟩ := trip1_cover_deq 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨(y 0).val / 32, by omega⟩ y rfl
  exact ⟨p, pb1_mem_deq 𝒱 c bd i a1 w1 a2 w2 a3 w3 a4 w4 a5 w5 a6 w6 a7 w7 a8 w8 a9 w9 a10 w10 a11 w11 a12 w12 a13 w13 a14 w14 a15 w15 a16 w16 a17 w17 a18 w18 h1 X _ le_rfl _ (by dsimp only; omega) p hp, hy⟩

end Pieces
end Cert.Up.Gen

end
-- ==== Proof.MachWeights.lean ====
/- The weights' scale words, and the dequantised weights of one grid step.

   Here for the kernel at machine floats; `UpWeights` is the same over the reals. -/
module

public import proofs.«01_k».proof.Proof.Dequant
public import proofs.«01_k».proof.Proof.Gen.Up.Skeleton
public import Idealize.ShloMosaic.Lib.WritesUnit

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The words a block of scale bytes is stored as: each byte in the exponent fields of both halves. -/
def wordsT (s : Vec F S96x128 .i8) : IVec S1x96x128 32 :=
  have x : IVec S96x128 32 := extui 32 s natLt_8_32
  shapeCast S1x96x128 (ori (shli x (broadcast S96x128 7#32)) (shli x (broadcast S96x128 23#32))) shapeCasts_S96x128_S1x96x128

/-- A tile of the dequantised weights: the codes times the floats whose bits are the scale words. -/
def mulT (s : Vec F S1x1x128 .i32) (w : Vec F S32x128 .fp8e4m3) : FVec F S32x128 .bf16 :=
  shapeCast S32x128 (mulf (extf .bf16 w bitsLt_fp8e4m3_bf16) (bitcastToFloat .bf16 (bitcast S32x128 16
    (broadcastTo S16x128 (shapeCast S1x128 (shapeCast S1x128 s shapeCasts_S1x1x128_S1x128) shapeCasts_S1x128_S1x128) broadcasts_S1x128_S16x128)
    bitcasts_S16x128_w32_S32x128_w16))) shapeCasts_S32x128_S32x128

/-- The weight tile: each code times its scale, the scale shared by 32 rows of a column. -/
def wTile (x1 : Vec F S3072x256 .fp8e4m3) (x2 : Vec F S96x256 .i8) : Vec F S3072x256 .bf16 :=
  fun y => Cert.Dequant.weight (x1 y) (x2 (ix2 ⟨(y 0).val / 32, by have : (y 0).val < 3072 := (y 0).isLt; omega⟩ (y 1)))

/-- The word buffer after the two stores of scale words. -/
theorem read_wordsG (a3 : Memref sig .tc .vmem S96x256 .i8) (a6 : Memref sig .tc .vmem S2x96x128 .i32)
    (X_arg3 : BufTy.Contents (Elt F) a3.view.ty) (x2 : Vec F S96x256 .i8) (h3 : a3.view.read (Elt F) X_arg3 = x2)
    (f : BufTy.Contents (Elt F) a6.view.ty) (i1 i0 j1 j0) (a : Fin 2) (r : Fin 96) (l : Fin 128) :
    a6.view.read (Elt F) (a6.view.writes (Elt F) f
      [⟨Rect.unit (s := S2x96x128) ![1, 0, 0] S1x96x128.size i1, wordsT (View.readAt (Elt F) a3.view (Rect.unit (s := S96x256) ![0, 128] S96x128.size j1).toLoadRect X_arg3)⟩,
       ⟨Rect.unit (s := S2x96x128) ![0, 0, 0] S1x96x128.size i0, wordsT (View.readAt (Elt F) a3.view (Rect.unit (s := S96x256) ![0, 0] S96x128.size j0).toLoadRect X_arg3)⟩]) (ix3 a r l)
      = Cert.Dequant.scalePair (x2 (ix2 r ⟨128 * a.val + l.val, by omega⟩)) := by
  refine View.read_writes_apply_of_pieces (Val := Elt F) a6.view _ (fun z : S2x96x128.Idx => Cert.Dequant.scalePair (x2 (ix2 (z 1)
    ⟨128 * (z 0).val + (z 2).val, by have : (z 0).val < 2 := (z 0).isLt; have : (z 2).val < 128 := (z 2).isLt; omega⟩))) _ ?_ (ix3 a r l) ?_
  · intro p hp x
    simp only [List.mem_cons, List.not_mem_nil, or_false] at hp
    rcases hp with rfl | rfl
    · obtain ⟨u, r, l, rfl⟩ : ∃ (u : Fin 1) (r : Fin 96) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 128 + 1 * l.val = 128 * (1 + 1 * u.val) + (0 + 1 * l.val); omega
    · obtain ⟨u, r, l, rfl⟩ : ∃ (u : Fin 1) (r : Fin 96) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 0 + 1 * l.val = 128 * (0 + 1 * u.val) + (0 + 1 * l.val); omega
  · match a with
    | ⟨0, _⟩ =>
      refine ⟨_, List.mem_cons_of_mem _ (List.mem_cons_self ..), ?_⟩
      dsimp only; rw [Rect.mem_set_unit]; intro b
      match b with
      | ⟨0, _⟩ => show 0 ≤ 0 ∧ 0 < 0 + 1; omega
      | ⟨1, _⟩ => show 0 ≤ r.val ∧ r.val < 0 + 96; omega
      | ⟨2, _⟩ => show 0 ≤ l.val ∧ l.val < 0 + 128; omega
    | ⟨1, _⟩ =>
      refine ⟨_, List.mem_cons_self .., ?_⟩
      dsimp only; rw [Rect.mem_set_unit]; intro b
      match b with
      | ⟨0, _⟩ => show 1 ≤ 1 ∧ 1 < 1 + 1; omega
      | ⟨1, _⟩ => show 0 ≤ r.val ∧ r.val < 0 + 96; omega
      | ⟨2, _⟩ => show 0 ≤ l.val ∧ l.val < 0 + 128; omega

/-- The word buffer after the two stores of scale words. -/
theorem read_wordsU (a3 : Memref sig .tc .vmem S96x256 .i8) (a6 : Memref sig .tc .vmem S2x96x128 .i32)
    (X_arg3 : BufTy.Contents (Elt F) a3.view.ty) (x2 : Vec F S96x256 .i8) (h3 : a3.view.read (Elt F) X_arg3 = x2)
    (f : BufTy.Contents (Elt F) a6.view.ty) (i1 i0 j1 j0) (a : Fin 2) (r : Fin 96) (l : Fin 128) :
    a6.view.read (Elt F) (a6.view.writes (Elt F) f
      [⟨Rect.unit (s := S2x96x128) ![1, 0, 0] S1x96x128.size i1, wordsT (View.readAt (Elt F) a3.view (Rect.unit (s := S96x256) ![0, 128] S96x128.size j1).toLoadRect X_arg3)⟩,
       ⟨Rect.unit (s := S2x96x128) ![0, 0, 0] S1x96x128.size i0, wordsT (View.readAt (Elt F) a3.view (Rect.unit (s := S96x256) ![0, 0] S96x128.size j0).toLoadRect X_arg3)⟩]) (ix3 a r l)
      = Cert.Dequant.scalePair (x2 (ix2 r ⟨128 * a.val + l.val, by omega⟩)) := by
  refine View.read_writes_apply_of_pieces (Val := Elt F) a6.view _ (fun z : S2x96x128.Idx => Cert.Dequant.scalePair (x2 (ix2 (z 1)
    ⟨128 * (z 0).val + (z 2).val, by have : (z 0).val < 2 := (z 0).isLt; have : (z 2).val < 128 := (z 2).isLt; omega⟩))) _ ?_ (ix3 a r l) ?_
  · intro p hp x
    simp only [List.mem_cons, List.not_mem_nil, or_false] at hp
    rcases hp with rfl | rfl
    · obtain ⟨u, r, l, rfl⟩ : ∃ (u : Fin 1) (r : Fin 96) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 128 + 1 * l.val = 128 * (1 + 1 * u.val) + (0 + 1 * l.val); omega
    · obtain ⟨u, r, l, rfl⟩ : ∃ (u : Fin 1) (r : Fin 96) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 0 + 1 * l.val = 128 * (0 + 1 * u.val) + (0 + 1 * l.val); omega
  · match a with
    | ⟨0, _⟩ =>
      refine ⟨_, List.mem_cons_of_mem _ (List.mem_cons_self ..), ?_⟩
      dsimp only; rw [Rect.mem_set_unit]; intro b
      match b with
      | ⟨0, _⟩ => show 0 ≤ 0 ∧ 0 < 0 + 1; omega
      | ⟨1, _⟩ => show 0 ≤ r.val ∧ r.val < 0 + 96; omega
      | ⟨2, _⟩ => show 0 ≤ l.val ∧ l.val < 0 + 128; omega
    | ⟨1, _⟩ =>
      refine ⟨_, List.mem_cons_self .., ?_⟩
      dsimp only; rw [Rect.mem_set_unit]; intro b
      match b with
      | ⟨0, _⟩ => show 1 ≤ 1 ∧ 1 < 1 + 1; omega
      | ⟨1, _⟩ => show 0 ≤ r.val ∧ r.val < 0 + 96; omega
      | ⟨2, _⟩ => show 0 ≤ l.val ∧ l.val < 0 + 128; omega

end Cert.Up.Gen

end
-- ==== Proof.MachTileG.lean ====
/- The gate projection's dequantised weights: what the two loops over its halves leave in their buffer.

   Here for the kernel at machine floats; `UpTileG` is the same over the reals. -/
module

public import proofs.«01_k».proof.Proof.MachWeights
public import proofs.«01_k».proof.Proof.Gen.Up.Loops
public import Idealize.ShloMosaic.Lib.WritesUnit

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (v32 : IVec S1x96x128 32) (X_arg2 : BufTy.Contents (Elt F) a2.view.ty) (X_arg14 : BufTy.Contents (Elt F) a14.view.ty)

/-- The tile that trip `k` of the first loop stores. -/
def piece1G (k : Fin k0_t2_loop.trips) : View.Piece (Elt F) S3072x256 .bf16 :=
  ⟨Rect.unit (s := S3072x256) (k0_off27 k) S32x128.size (k0_off27_inb k), mulT
    (View.readAt (Elt F) a14.view (Rect.unit (s := S2x96x128) (k0_off26 k) S1x1x128.size (k0_off26_inb k)).toLoadRect X_arg14)
    (View.readAt (Elt F) a2.view (Rect.unit (s := S3072x256) (k0_off27 k) S32x128.size (k0_off27_inb k)).toLoadRect X_arg2)⟩

/-- The tile that trip `k` of the second loop stores. -/
def piece2G (k : Fin k0_t3_loop.trips) : View.Piece (Elt F) S3072x256 .bf16 :=
  ⟨Rect.unit (s := S3072x256) (k0_off29 k) S32x128.size (k0_off29_inb k), mulT
    (View.readAt (Elt F) a14.view (Rect.unit (s := S2x96x128) (k0_off28 k) S1x1x128.size (k0_off28_inb k)).toLoadRect X_arg14)
    (View.readAt (Elt F) a2.view (Rect.unit (s := S3072x256) (k0_off29 k) S32x128.size (k0_off29_inb k)).toLoadRect X_arg2)⟩

theorem tripL1_eqG (k : Fin k0_t2_loop.trips) :
    tripL_k0_t2 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 k
      = [piece1G a2 a14 X_arg2 X_arg14 k] := by
  unfold tripL_k0_t2 trip_k0_t2
  dsimp only
  sl_unfold_words
  rfl

theorem tripL2_eqG (k : Fin k0_t3_loop.trips) :
    tripL_k0_t3 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 k
      = [piece2G a2 a14 X_arg2 X_arg14 k] := by
  unfold tripL_k0_t3 trip_k0_t3
  dsimp only
  sl_unfold_words
  rfl

/-- The pieces of the first `n` trips are the trips' tiles. -/
theorem mem_pb1G (n : ℕ) (hn : n ≤ k0_t2_loop.trips) (p : View.Piece (Elt F) S3072x256 .bf16) :
    p ∈ pb_k0_t2 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 n
      ↔ ∃ k : Fin k0_t2_loop.trips, k.val < n ∧ p = piece1G a2 a14 X_arg2 X_arg14 k := by
  induction n with
  | zero => simp [pb_k0_t2]
  | succ n ih =>
    have h := pb_k0_t2_succ 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 ⟨n, hn⟩
    dsimp only at h
    rw [h, tripL1_eqG, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

theorem mem_pb2G (n : ℕ) (hn : n ≤ k0_t3_loop.trips) (p : View.Piece (Elt F) S3072x256 .bf16) :
    p ∈ pb_k0_t3 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 n
      ↔ ∃ k : Fin k0_t3_loop.trips, k.val < n ∧ p = piece2G a2 a14 X_arg2 X_arg14 k := by
  induction n with
  | zero => simp [pb_k0_t3]
  | succ n ih =>
    have h := pb_k0_t3_succ 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 ⟨n, hn⟩
    dsimp only at h
    rw [h, tripL2_eqG, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

/-- Each tile is a restriction of `wTile`, provided the word buffer holds the scale words. -/
theorem piece1_eqG (x1 : Vec F S3072x256 .fp8e4m3) (x2 : Vec F S96x256 .i8) (h2 : a2.view.read (Elt F) X_arg2 = x1)
    (h6 : ∀ (a : Fin 2) (r : Fin 96) (l : Fin 128), a14.view.read (Elt F) X_arg14 (ix3 a r l)
      = Cert.Dequant.scalePair (x2 (ix2 r ⟨128 * a.val + l.val, by omega⟩)))
    (k : Fin k0_t2_loop.trips) (x : S32x128.Idx) :
    (piece1G a2 a14 X_arg2 X_arg14 k).2 x = wTile x1 x2 ((Rect.unit (s := S3072x256) (k0_off27 k) S32x128.size (k0_off27_inb k)).emb x) := by
  have hk : k.val < 96 := Nat.lt_of_lt_of_le k.isLt k0_t2_abs.2.1
  obtain ⟨r, l, rfl⟩ : ∃ (r : Fin 32) (l : Fin 128), x = ix2 r l := ⟨x 0, x 1, eq_ix2 x⟩
  have e2 : k0_off27 k = ![32 * k.val, 0] := k0_off27_eq k
  have e1 : k0_off26 k = ![0, k.val, 0] := k0_off26_eq k
  have he : (Rect.unit (s := S3072x256) (k0_off27 k) S32x128.size (k0_off27_inb k)).emb (ix2 r l)
      = (ix2 ⟨32 * k.val + r.val, by omega⟩ ⟨l.val, by omega⟩ : S3072x256.Idx) := by
    funext a; apply Fin.ext
    match a with
    | ⟨0, _⟩ => show k0_off27 k 0 + 1 * r.val = _; rw [e2]; simp
    | ⟨1, _⟩ => show k0_off27 k 1 + 1 * l.val = _; rw [e2]; simp
  refine (Cert.Dequant.tile_at _ _ _ _ _ _ _ _ r l (x2 (ix2 ⟨k.val, hk⟩ ⟨l.val, by omega⟩)) ?_).trans ?_
  · rw [View.readAt_apply, show (Rect.unit (s := S2x96x128) (k0_off26 k) S1x1x128.size (k0_off26_inb k)).toLoadRect.idx (ix3 0 0 l) = (ix3 0 ⟨k.val, hk⟩ l : S2x96x128.Idx) from ?_, h6]
    · simp
    · funext a; apply Fin.ext
      match a with
      | ⟨0, _⟩ => show k0_off26 k 0 + 1 * 0 = _; rw [e1]; rfl
      | ⟨1, _⟩ => show k0_off26 k 1 + 1 * 0 = _; rw [e1]; rfl
      | ⟨2, _⟩ => show k0_off26 k 2 + 1 * l.val = _; rw [e1]; simp
  · rw [he]
    unfold wTile
    congr 1
    · rw [View.readAt_apply, h2]; exact congrArg x1 he
    · congr 1; congr 1; apply Fin.ext; show k.val = (32 * k.val + r.val) / 32; omega

theorem piece2_eqG (x1 : Vec F S3072x256 .fp8e4m3) (x2 : Vec F S96x256 .i8) (h2 : a2.view.read (Elt F) X_arg2 = x1)
    (h6 : ∀ (a : Fin 2) (r : Fin 96) (l : Fin 128), a14.view.read (Elt F) X_arg14 (ix3 a r l)
      = Cert.Dequant.scalePair (x2 (ix2 r ⟨128 * a.val + l.val, by omega⟩)))
    (k : Fin k0_t3_loop.trips) (x : S32x128.Idx) :
    (piece2G a2 a14 X_arg2 X_arg14 k).2 x = wTile x1 x2 ((Rect.unit (s := S3072x256) (k0_off29 k) S32x128.size (k0_off29_inb k)).emb x) := by
  have hk : k.val < 96 := Nat.lt_of_lt_of_le k.isLt k0_t3_abs.2.1
  obtain ⟨r, l, rfl⟩ : ∃ (r : Fin 32) (l : Fin 128), x = ix2 r l := ⟨x 0, x 1, eq_ix2 x⟩
  have e2 : k0_off29 k = ![32 * k.val, 128] := k0_off29_eq k
  have e1 : k0_off28 k = ![1, k.val, 0] := k0_off28_eq k
  have he : (Rect.unit (s := S3072x256) (k0_off29 k) S32x128.size (k0_off29_inb k)).emb (ix2 r l)
      = (ix2 ⟨32 * k.val + r.val, by omega⟩ ⟨128 + l.val, by omega⟩ : S3072x256.Idx) := by
    funext a; apply Fin.ext
    match a with
    | ⟨0, _⟩ => show k0_off29 k 0 + 1 * r.val = _; rw [e2]; simp
    | ⟨1, _⟩ => show k0_off29 k 1 + 1 * l.val = _; rw [e2]; simp
  refine (Cert.Dequant.tile_at _ _ _ _ _ _ _ _ r l (x2 (ix2 ⟨k.val, hk⟩ ⟨128 + l.val, by omega⟩)) ?_).trans ?_
  · rw [View.readAt_apply, show (Rect.unit (s := S2x96x128) (k0_off28 k) S1x1x128.size (k0_off28_inb k)).toLoadRect.idx (ix3 0 0 l) = (ix3 1 ⟨k.val, hk⟩ l : S2x96x128.Idx) from ?_, h6]
    · simp
    · funext a; apply Fin.ext
      match a with
      | ⟨0, _⟩ => show k0_off28 k 0 + 1 * 0 = _; rw [e1]; rfl
      | ⟨1, _⟩ => show k0_off28 k 1 + 1 * 0 = _; rw [e1]; rfl
      | ⟨2, _⟩ => show k0_off28 k 2 + 1 * l.val = _; rw [e1]; simp
  · rw [he]
    unfold wTile
    congr 1
    · rw [View.readAt_apply, h2]; exact congrArg x1 he
    · congr 1; congr 1; apply Fin.ext; show k.val = (32 * k.val + r.val) / 32; omega

/-- After the two loops the weight buffer reads `wTile`, whatever it held before. -/
theorem read_piecesG (x1 : Vec F S3072x256 .fp8e4m3) (x2 : Vec F S96x256 .i8) (h2 : a2.view.read (Elt F) X_arg2 = x1)
    (h6 : ∀ (a : Fin 2) (r : Fin 96) (l : Fin 128), a14.view.read (Elt F) X_arg14 (ix3 a r l)
      = Cert.Dequant.scalePair (x2 (ix2 r ⟨128 * a.val + l.val, by omega⟩)))
    (f : BufTy.Contents (Elt F) a12.view.ty) :
    a12.view.read (Elt F) (a12.view.writes (Elt F) f
      (pb_k0_t3 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 k0_t3_loop.trips
        ++ pb_k0_t2 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 k0_t2_loop.trips))
      = wTile x1 x2 := by
  have ht1 : k0_t2_loop.trips = 96 := by decide +kernel
  have ht2 : k0_t3_loop.trips = 96 := by decide +kernel
  funext y
  refine View.read_writes_apply_of_pieces a12.view _ (wTile x1 x2) _ ?_ y ?_
  · intro p hp x
    rcases List.mem_append.mp hp with hp | hp
    · obtain ⟨k, -, rfl⟩ := (mem_pb2G 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 _ le_rfl p).mp hp
      exact piece2_eqG a2 a14 X_arg2 X_arg14 x1 x2 h2 h6 k x
    · obtain ⟨k, -, rfl⟩ := (mem_pb1G 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 _ le_rfl p).mp hp
      exact piece1_eqG a2 a14 X_arg2 X_arg14 x1 x2 h2 h6 k x
  · have hy0 : (y 0).val < 3072 := (y 0).isLt
    have hy1 : (y 1).val < 256 := (y 1).isLt
    by_cases hc : (y 1).val < 128
    · refine ⟨piece1G a2 a14 X_arg2 X_arg14 ⟨(y 0).val / 32, by omega⟩, List.mem_append_right _ ((mem_pb1G 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 _ le_rfl _).mpr ⟨_, by show (y 0).val / 32 < _; omega, rfl⟩), ?_⟩
      show y ∈ (Rect.unit (s := S3072x256) (k0_off27 ⟨(y 0).val / 32, by omega⟩) S32x128.size (k0_off27_inb _)).set
      rw [Rect.mem_set_unit]; intro a
      rw [k0_off27_eq]
      match a with
      | ⟨0, _⟩ => show 32 * ((y 0).val / 32) ≤ (y 0).val ∧ (y 0).val < 32 * ((y 0).val / 32) + 32; omega
      | ⟨1, _⟩ => show 0 ≤ (y 1).val ∧ (y 1).val < 0 + 128; omega
    · refine ⟨piece2G a2 a14 X_arg2 X_arg14 ⟨(y 0).val / 32, by omega⟩, List.mem_append_left _ ((mem_pb2G 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 _ le_rfl _).mpr ⟨_, by show (y 0).val / 32 < _; omega, rfl⟩), ?_⟩
      show y ∈ (Rect.unit (s := S3072x256) (k0_off29 ⟨(y 0).val / 32, by omega⟩) S32x128.size (k0_off29_inb _)).set
      rw [Rect.mem_set_unit]; intro a
      rw [k0_off29_eq]
      match a with
      | ⟨0, _⟩ => show 32 * ((y 0).val / 32) ≤ (y 0).val ∧ (y 0).val < 32 * ((y 0).val / 32) + 32; omega
      | ⟨1, _⟩ => show 128 ≤ (y 1).val ∧ (y 1).val < 128 + 128; omega

end Pieces

end Cert.Up.Gen

end
-- ==== Proof.MachTileU.lean ====
/- The up projection's dequantised weights: what the two loops over its halves leave in their buffer.

   Here for the kernel at machine floats; `UpTileU` is the same over the reals. -/
module

public import proofs.«01_k».proof.Proof.MachWeights
public import proofs.«01_k».proof.Proof.Gen.Up.Loops
public import Idealize.ShloMosaic.Lib.WritesUnit

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (v32 : IVec S1x96x128 32) (X_arg3 : BufTy.Contents (Elt F) a3.view.ty) (X_arg15 : BufTy.Contents (Elt F) a15.view.ty)

/-- The tile that trip `k` of the first loop stores. -/
def piece1U (k : Fin k0_t4_loop.trips) : View.Piece (Elt F) S3072x256 .bf16 :=
  ⟨Rect.unit (s := S3072x256) (k0_off31 k) S32x128.size (k0_off31_inb k), mulT
    (View.readAt (Elt F) a15.view (Rect.unit (s := S2x96x128) (k0_off30 k) S1x1x128.size (k0_off30_inb k)).toLoadRect X_arg15)
    (View.readAt (Elt F) a3.view (Rect.unit (s := S3072x256) (k0_off31 k) S32x128.size (k0_off31_inb k)).toLoadRect X_arg3)⟩

/-- The tile that trip `k` of the second loop stores. -/
def piece2U (k : Fin k0_t5_loop.trips) : View.Piece (Elt F) S3072x256 .bf16 :=
  ⟨Rect.unit (s := S3072x256) (k0_off33 k) S32x128.size (k0_off33_inb k), mulT
    (View.readAt (Elt F) a15.view (Rect.unit (s := S2x96x128) (k0_off32 k) S1x1x128.size (k0_off32_inb k)).toLoadRect X_arg15)
    (View.readAt (Elt F) a3.view (Rect.unit (s := S3072x256) (k0_off33 k) S32x128.size (k0_off33_inb k)).toLoadRect X_arg3)⟩

theorem tripL1_eqU (k : Fin k0_t4_loop.trips) :
    tripL_k0_t4 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 k
      = [piece1U a3 a15 X_arg3 X_arg15 k] := by
  unfold tripL_k0_t4 trip_k0_t4
  dsimp only
  sl_unfold_words
  rfl

theorem tripL2_eqU (k : Fin k0_t5_loop.trips) :
    tripL_k0_t5 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 k
      = [piece2U a3 a15 X_arg3 X_arg15 k] := by
  unfold tripL_k0_t5 trip_k0_t5
  dsimp only
  sl_unfold_words
  rfl

/-- The pieces of the first `n` trips are the trips' tiles. -/
theorem mem_pb1U (n : ℕ) (hn : n ≤ k0_t4_loop.trips) (p : View.Piece (Elt F) S3072x256 .bf16) :
    p ∈ pb_k0_t4 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 n
      ↔ ∃ k : Fin k0_t4_loop.trips, k.val < n ∧ p = piece1U a3 a15 X_arg3 X_arg15 k := by
  induction n with
  | zero => simp [pb_k0_t4]
  | succ n ih =>
    have h := pb_k0_t4_succ 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 ⟨n, hn⟩
    dsimp only at h
    rw [h, tripL1_eqU, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

theorem mem_pb2U (n : ℕ) (hn : n ≤ k0_t5_loop.trips) (p : View.Piece (Elt F) S3072x256 .bf16) :
    p ∈ pb_k0_t5 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 n
      ↔ ∃ k : Fin k0_t5_loop.trips, k.val < n ∧ p = piece2U a3 a15 X_arg3 X_arg15 k := by
  induction n with
  | zero => simp [pb_k0_t5]
  | succ n ih =>
    have h := pb_k0_t5_succ 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 ⟨n, hn⟩
    dsimp only at h
    rw [h, tripL2_eqU, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

/-- Each tile is a restriction of `wTile`, provided the word buffer holds the scale words. -/
theorem piece1_eqU (x1 : Vec F S3072x256 .fp8e4m3) (x2 : Vec F S96x256 .i8) (h2 : a3.view.read (Elt F) X_arg3 = x1)
    (h6 : ∀ (a : Fin 2) (r : Fin 96) (l : Fin 128), a15.view.read (Elt F) X_arg15 (ix3 a r l)
      = Cert.Dequant.scalePair (x2 (ix2 r ⟨128 * a.val + l.val, by omega⟩)))
    (k : Fin k0_t4_loop.trips) (x : S32x128.Idx) :
    (piece1U a3 a15 X_arg3 X_arg15 k).2 x = wTile x1 x2 ((Rect.unit (s := S3072x256) (k0_off31 k) S32x128.size (k0_off31_inb k)).emb x) := by
  have hk : k.val < 96 := Nat.lt_of_lt_of_le k.isLt k0_t4_abs.2.1
  obtain ⟨r, l, rfl⟩ : ∃ (r : Fin 32) (l : Fin 128), x = ix2 r l := ⟨x 0, x 1, eq_ix2 x⟩
  have e2 : k0_off31 k = ![32 * k.val, 0] := k0_off31_eq k
  have e1 : k0_off30 k = ![0, k.val, 0] := k0_off30_eq k
  have he : (Rect.unit (s := S3072x256) (k0_off31 k) S32x128.size (k0_off31_inb k)).emb (ix2 r l)
      = (ix2 ⟨32 * k.val + r.val, by omega⟩ ⟨l.val, by omega⟩ : S3072x256.Idx) := by
    funext a; apply Fin.ext
    match a with
    | ⟨0, _⟩ => show k0_off31 k 0 + 1 * r.val = _; rw [e2]; simp
    | ⟨1, _⟩ => show k0_off31 k 1 + 1 * l.val = _; rw [e2]; simp
  refine (Cert.Dequant.tile_at _ _ _ _ _ _ _ _ r l (x2 (ix2 ⟨k.val, hk⟩ ⟨l.val, by omega⟩)) ?_).trans ?_
  · rw [View.readAt_apply, show (Rect.unit (s := S2x96x128) (k0_off30 k) S1x1x128.size (k0_off30_inb k)).toLoadRect.idx (ix3 0 0 l) = (ix3 0 ⟨k.val, hk⟩ l : S2x96x128.Idx) from ?_, h6]
    · simp
    · funext a; apply Fin.ext
      match a with
      | ⟨0, _⟩ => show k0_off30 k 0 + 1 * 0 = _; rw [e1]; rfl
      | ⟨1, _⟩ => show k0_off30 k 1 + 1 * 0 = _; rw [e1]; rfl
      | ⟨2, _⟩ => show k0_off30 k 2 + 1 * l.val = _; rw [e1]; simp
  · rw [he]
    unfold wTile
    congr 1
    · rw [View.readAt_apply, h2]; exact congrArg x1 he
    · congr 1; congr 1; apply Fin.ext; show k.val = (32 * k.val + r.val) / 32; omega

theorem piece2_eqU (x1 : Vec F S3072x256 .fp8e4m3) (x2 : Vec F S96x256 .i8) (h2 : a3.view.read (Elt F) X_arg3 = x1)
    (h6 : ∀ (a : Fin 2) (r : Fin 96) (l : Fin 128), a15.view.read (Elt F) X_arg15 (ix3 a r l)
      = Cert.Dequant.scalePair (x2 (ix2 r ⟨128 * a.val + l.val, by omega⟩)))
    (k : Fin k0_t5_loop.trips) (x : S32x128.Idx) :
    (piece2U a3 a15 X_arg3 X_arg15 k).2 x = wTile x1 x2 ((Rect.unit (s := S3072x256) (k0_off33 k) S32x128.size (k0_off33_inb k)).emb x) := by
  have hk : k.val < 96 := Nat.lt_of_lt_of_le k.isLt k0_t5_abs.2.1
  obtain ⟨r, l, rfl⟩ : ∃ (r : Fin 32) (l : Fin 128), x = ix2 r l := ⟨x 0, x 1, eq_ix2 x⟩
  have e2 : k0_off33 k = ![32 * k.val, 128] := k0_off33_eq k
  have e1 : k0_off32 k = ![1, k.val, 0] := k0_off32_eq k
  have he : (Rect.unit (s := S3072x256) (k0_off33 k) S32x128.size (k0_off33_inb k)).emb (ix2 r l)
      = (ix2 ⟨32 * k.val + r.val, by omega⟩ ⟨128 + l.val, by omega⟩ : S3072x256.Idx) := by
    funext a; apply Fin.ext
    match a with
    | ⟨0, _⟩ => show k0_off33 k 0 + 1 * r.val = _; rw [e2]; simp
    | ⟨1, _⟩ => show k0_off33 k 1 + 1 * l.val = _; rw [e2]; simp
  refine (Cert.Dequant.tile_at _ _ _ _ _ _ _ _ r l (x2 (ix2 ⟨k.val, hk⟩ ⟨128 + l.val, by omega⟩)) ?_).trans ?_
  · rw [View.readAt_apply, show (Rect.unit (s := S2x96x128) (k0_off32 k) S1x1x128.size (k0_off32_inb k)).toLoadRect.idx (ix3 0 0 l) = (ix3 1 ⟨k.val, hk⟩ l : S2x96x128.Idx) from ?_, h6]
    · simp
    · funext a; apply Fin.ext
      match a with
      | ⟨0, _⟩ => show k0_off32 k 0 + 1 * 0 = _; rw [e1]; rfl
      | ⟨1, _⟩ => show k0_off32 k 1 + 1 * 0 = _; rw [e1]; rfl
      | ⟨2, _⟩ => show k0_off32 k 2 + 1 * l.val = _; rw [e1]; simp
  · rw [he]
    unfold wTile
    congr 1
    · rw [View.readAt_apply, h2]; exact congrArg x1 he
    · congr 1; congr 1; apply Fin.ext; show k.val = (32 * k.val + r.val) / 32; omega

/-- After the two loops the weight buffer reads `wTile`, whatever it held before. -/
theorem read_piecesU (x1 : Vec F S3072x256 .fp8e4m3) (x2 : Vec F S96x256 .i8) (h2 : a3.view.read (Elt F) X_arg3 = x1)
    (h6 : ∀ (a : Fin 2) (r : Fin 96) (l : Fin 128), a15.view.read (Elt F) X_arg15 (ix3 a r l)
      = Cert.Dequant.scalePair (x2 (ix2 r ⟨128 * a.val + l.val, by omega⟩)))
    (f : BufTy.Contents (Elt F) a13.view.ty) :
    a13.view.read (Elt F) (a13.view.writes (Elt F) f
      (pb_k0_t5 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 k0_t5_loop.trips
        ++ pb_k0_t4 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 k0_t4_loop.trips))
      = wTile x1 x2 := by
  have ht1 : k0_t4_loop.trips = 96 := by decide +kernel
  have ht2 : k0_t5_loop.trips = 96 := by decide +kernel
  funext y
  refine View.read_writes_apply_of_pieces a13.view _ (wTile x1 x2) _ ?_ y ?_
  · intro p hp x
    rcases List.mem_append.mp hp with hp | hp
    · obtain ⟨k, -, rfl⟩ := (mem_pb2U 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 _ le_rfl p).mp hp
      exact piece2_eqU a3 a15 X_arg3 X_arg15 x1 x2 h2 h6 k x
    · obtain ⟨k, -, rfl⟩ := (mem_pb1U 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 _ le_rfl p).mp hp
      exact piece1_eqU a3 a15 X_arg3 X_arg15 x1 x2 h2 h6 k x
  · have hy0 : (y 0).val < 3072 := (y 0).isLt
    have hy1 : (y 1).val < 256 := (y 1).isLt
    by_cases hc : (y 1).val < 128
    · refine ⟨piece1U a3 a15 X_arg3 X_arg15 ⟨(y 0).val / 32, by omega⟩, List.mem_append_right _ ((mem_pb1U 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 _ le_rfl _).mpr ⟨_, by show (y 0).val / 32 < _; omega, rfl⟩), ?_⟩
      show y ∈ (Rect.unit (s := S3072x256) (k0_off31 ⟨(y 0).val / 32, by omega⟩) S32x128.size (k0_off31_inb _)).set
      rw [Rect.mem_set_unit]; intro a
      rw [k0_off31_eq]
      match a with
      | ⟨0, _⟩ => show 32 * ((y 0).val / 32) ≤ (y 0).val ∧ (y 0).val < 32 * ((y 0).val / 32) + 32; omega
      | ⟨1, _⟩ => show 0 ≤ (y 1).val ∧ (y 1).val < 0 + 128; omega
    · refine ⟨piece2U a3 a15 X_arg3 X_arg15 ⟨(y 0).val / 32, by omega⟩, List.mem_append_left _ ((mem_pb2U 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 _ le_rfl _).mpr ⟨_, by show (y 0).val / 32 < _; omega, rfl⟩), ?_⟩
      show y ∈ (Rect.unit (s := S3072x256) (k0_off33 ⟨(y 0).val / 32, by omega⟩) S32x128.size (k0_off33_inb _)).set
      rw [Rect.mem_set_unit]; intro a
      rw [k0_off33_eq]
      match a with
      | ⟨0, _⟩ => show 32 * ((y 0).val / 32) ≤ (y 0).val ∧ (y 0).val < 32 * ((y 0).val / 32) + 32; omega
      | ⟨1, _⟩ => show 128 ≤ (y 1).val ∧ (y 1).val < 128 + 128; omega

end Pieces

end Cert.Up.Gen

end
-- ==== Proof.MachOff.lean ====
/- Where the epilogue keeps a row block's scales: the half of the steps, the rows, and lane 0.

   Here for the kernel at machine floats; `UpOff` is the same over the reals. -/
module

public import proofs.«01_k».proof.Proof.Gen.Up.Skeleton
@[expose] public section
namespace Cert.Up.Gen
open Idealize.ShloMosaic
theorem k0_off35_eq0 : ∀ (i : grid0.Coords) (k : Fin k0_t6_loop.trips), k0_off35 i k 0#32 = ![(i 0).val / 16, 32 * k.val, 0] := by decide +kernel
theorem k0_off35_eq1 : ∀ (i : grid0.Coords) (k : Fin k0_t6_loop.trips), k0_off35 i k 1#32 = ![(i 0).val / 16, 32 * k.val, 0] := by decide +kernel
end Cert.Up.Gen
end
-- ==== Proof.MachTrip.lean ====
/- One trip of the epilogue loop: 32 rows of the gated activations quantised, stored, and their scales kept.

   Here for the kernel at machine floats; `UpTrip` is the same over the reals. -/
module

public import proofs.«01_k».proof.Proof.MachLanes
public import proofs.«01_k».proof.Proof.MachQuant
public import proofs.«01_k».proof.Proof.MachOff
public import proofs.«01_k».proof.Proof.Dequant
public import proofs.«01_k».proof.Proof.Gen.Up.Loops

@[expose] public section

set_option maxRecDepth 8192
set_option maxHeartbeats 4000000

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

instance (i : grid0.Coords) (k : Fin k0_t6_loop.trips) : ClosedOff (k0_off35 i k 0#32) := ⟨_, k0_off35_eq0 i k⟩
instance (i : grid0.Coords) (k : Fin k0_t6_loop.trips) : ClosedOff (k0_off35 i k 1#32) := ⟨_, k0_off35_eq1 i k⟩

/-- What one trip stores through the three buffers it writes, from what the trip reads. -/
@[irreducible] def trip6 (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32)
    (X16 : BufTy.Contents (Elt F) a16.view.ty) (X17 : BufTy.Contents (Elt F) a17.view.ty) (f18 : BufTy.Contents (Elt F) a18.view.ty) (k : Fin k0_t6_loop.trips) :
    Σ' (L8 : List (View.Piece (Elt F) S1152x256 .fp8e4m3)) (L10 : List (View.Piece (Elt F) S1152x256 .bf16)),
      { L18 : List (View.Piece (Elt F) S2x1152x128 .f32) // ∀ (E : Set ℕ) (f8 : BufTy.Contents (Elt F) a8.view.ty) (f10 : BufTy.Contents (Elt F) a10.view.ty),
        (iprop((a16.view.loc (c : Thread nD τ) ↦[a16.view.set]{fullShare} X16) ∗ (a17.view.loc (c : Thread nD τ) ↦[a17.view.set]{fullShare} X17) ∗ (a8.view.loc (c : Thread nD τ) ↦[a8.view.set]{fullShare} f8) ∗ (a10.view.loc (c : Thread nD τ) ↦[a10.view.set]{fullShare} f10) ∗ (a18.view.loc (c : Thread nD τ) ↦[a18.view.set]{fullShare} f18)) : sProp 𝕄G)
        ⊢ wp frame (wpE (defs₀ (F := F)) 𝒱 (c : Thread nD τ) bd) E (k0_t6_body (F := F) i a1 w1 a2 w2 a3 w3 a4 w4 a5 w5 a6 w6 a7 w7 a8 w8 a9 w9 a10 w10 a11 w11 a12 w12 a13 w13 a14 w14 a15 w15 a16 w16 a17 w17 a18 w18 a0 k PUnit.unit)
          (fun _ => iprop((a16.view.loc (c : Thread nD τ) ↦[a16.view.set]{fullShare} X16) ∗ (a17.view.loc (c : Thread nD τ) ↦[a17.view.set]{fullShare} X17) ∗ (a8.view.loc (c : Thread nD τ) ↦[a8.view.set]{fullShare} (a8.view.writes (Elt F) f8 L8)) ∗ (a10.view.loc (c : Thread nD τ) ↦[a10.view.set]{fullShare} (a10.view.writes (Elt F) f10 L10)) ∗ (a18.view.loc (c : Thread nD τ) ↦[a18.view.set]{fullShare} (a18.view.writes (Elt F) f18 L18)))) } := by
  have hk : k.val < 36 := Nat.lt_of_lt_of_le k.isLt k0_t6_abs.2.1
  have hi : (i 0).val < 32 := (i 0).isLt
  refine ⟨?_, ?_, ?_, fun E f8 f10 => ?run⟩
  case run =>
    unfold k0_t6_body
    iintro ⟨H16, H17, H8, H10, H18⟩
    sl_exec
    sl_step
    sl_close

end Cert.Up.Gen

end
-- ==== Proof.MachEpi.lean ====
/- The gated activations: their tiles, the quantised array the epilogue leaves, and the scales it keeps.

   Here for the kernel at machine floats; `UpEpi` is the same over the reals. -/
module

public import proofs.«01_k».proof.Proof.MachTrip

@[expose] public section

set_option maxRecDepth 8192
set_option maxHeartbeats 4000000

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The tile of an array in row block `a`, column half `b`. -/
def tileAt (g : Vec F S1152x256 .f32) (a : Fin 36) (b : Fin 2) : Vec F S32x128 .f32 := fun y =>
  g (ix2 ⟨32 * a.val + (y 0).val, by have : (y 0).val < 32 := (y 0).isLt; omega⟩
    ⟨128 * b.val + (y 1).val, by have : (y 1).val < 128 := (y 1).isLt; omega⟩)

/-- The gate times its logistic times the up projection. -/
def gateT (g u : Vec F S32x128 .f32) : FVec F S32x128 .f32 :=
  mulf (mulf g (divf (broadcast S32x128 (Scalar.ofBits .f32 0x3F800000#32)) (addf (broadcast S32x128 (Scalar.ofBits .f32 0x3F800000#32))
    (exp (subf (broadcast S32x128 (Scalar.ofBits .f32 0x00000000#32)) g))))) u

/-- The gated activations' tile. -/
def hTile (g u : Vec F S1152x256 .f32) (a : Fin 36) (b : Fin 2) : FVec F S32x128 .f32 := gateT (tileAt g a b) (tileAt u a b)

/-- The gated activations' codes. -/
def hCodes (g u : Vec F S1152x256 .f32) : Vec F S1152x256 .fp8e4m3 := fun y =>
  codesT (hTile g u ⟨(y 0).val / 32, by have : (y 0).val < 1152 := (y 0).isLt; omega⟩ ⟨(y 1).val / 128, by have : (y 1).val < 256 := (y 1).isLt; omega⟩)
    (ix2 ⟨(y 0).val % 32, by omega⟩ ⟨(y 1).val % 128, by omega⟩)

/-- The quantised gated activations: codes times scales. -/
def hDeq (g u : Vec F S1152x256 .f32) : Vec F S1152x256 .bf16 := fun y =>
  deqT (hTile g u ⟨(y 0).val / 32, by have : (y 0).val < 1152 := (y 0).isLt; omega⟩ ⟨(y 1).val / 128, by have : (y 1).val < 256 := (y 1).isLt; omega⟩)
    (ix2 ⟨(y 0).val % 32, by omega⟩ ⟨(y 1).val % 128, by omega⟩)

/-- A tile's scales. -/
def hSc (g u : Vec F S1152x256 .f32) (a : Fin 36) (b : Fin 2) : FVec F S32x128 .f32 := extf .f32 (scaleT (hTile g u a b)) bitsLt_bf16_f32

/-- The kept scales after a row block of step `t`: the lanes numbered by the step's two tiles take those tiles' scales. -/
def huVal (t : ℕ) (g u : Vec F S1152x256 .f32) (hu : Vec F S2x1152x128 .f32) : Vec F S2x1152x128 .f32 := fun z =>
  if (z 2).val % 32 = (2 * t + 1) % 32 then
    hSc g u ⟨(z 1).val / 32, by have : (z 1).val < 1152 := (z 1).isLt; omega⟩ 1 (ix2 ⟨(z 1).val % 32, by omega⟩ (z 2))
  else if (z 2).val % 32 = (2 * t) % 32 then
    hSc g u ⟨(z 1).val / 32, by have : (z 1).val < 1152 := (z 1).isLt; omega⟩ 0 (ix2 ⟨(z 1).val % 32, by omega⟩ (z 2))
  else hu z

/-- The kept scales after `n` row blocks of step `t`. -/
def huAll (t : ℕ) (g u : Vec F S1152x256 .f32) (hu : Vec F S2x1152x128 .f32) (n : ℕ) : Vec F S2x1152x128 .f32 := fun z =>
  if (z 0).val = t / 16 ∧ (z 1).val < 32 * n then huVal t g u hu z else hu z

/-- The lane number, within a block, of tile `b` of step `t`. -/
def stepLane (t b : BitVec 32) : BitVec 32 :=
  have n : BitVec 32 := Scalar.select (Scalar.cmpi .eq 32#32 0#32) 1#32 32#32
  have q : BitVec 32 := Scalar.remsi (Scalar.addi (Scalar.muli t 2#32) b) n
  Scalar.select (Scalar.andi (Scalar.xori (Scalar.cmpi .slt q 0#32) (Scalar.cmpi .slt n 0#32)) (Scalar.cmpi .ne q 0#32)) (Scalar.addi q n) q

/-- A tile's scales kept on the lanes numbered `n` in their blocks. -/
def keepT (n : BitVec 32) (s : FVec F S32x128 .bf16) (old : Vec F S1x32x128 .f32) : FVec F S1x32x128 .f32 :=
  shapeCast S1x32x128 (select (cmpi .eq laneMod (broadcast S32x128 n)) (extf .f32 s bitsLt_bf16_f32) (shapeCast S32x128 old shapeCasts_S1x32x128_S32x128))
    shapeCasts_S32x128_S1x32x128

/-- Which lanes a tile's scales are kept on. -/
theorem keepT_apply (t : Fin 32) (b : Fin 2) (s : FVec F S32x128 .bf16) (old : Vec F S1x32x128 .f32) (r : Fin 32) (l : Fin 128) :
    keepT (stepLane (BitVec.ofNat 32 t.val) (BitVec.ofNat 32 b.val)) s old (ix3 0 r l)
      = if l.val % 32 = (2 * t.val + b.val) % 32 then extf .f32 s bitsLt_bf16_f32 (ix2 r l) else old (ix3 0 r l) := by
  have hW : ∀ (t : Fin 32) (b : Fin 2), stepLane (BitVec.ofNat 32 t.val) (BitVec.ofNat 32 b.val) = BitVec.ofNat 32 ((2 * t.val + b.val) % 32) := by decide +kernel
  unfold keepT
  rw [hW t b, shapeCast_ab_1ab_apply]
  show (if IntOp.cmpi .eq (laneMod (ix2 r l)) (BitVec.ofNat 32 ((2 * t.val + b.val) % 32)) = 1#1 then extf .f32 s bitsLt_bf16_f32 (ix2 r l) else _) = _
  rw [laneMod_apply]
  by_cases e : l.val % 32 = (2 * t.val + b.val) % 32
  · rw [if_pos e, e, if_pos ((cmpi_eq_one _ _).2 rfl)]
  · rw [if_neg e, if_neg]
    · exact shapeCast_1ab_ab_apply _ _ _ _
    · intro hc
      have := congrArg BitVec.toNat ((cmpi_eq_one _ _).1 hc)
      simp only [BitVec.toNat_ofNat] at this
      omega

/-- The same of the scales of a tile of the gated activations. -/
theorem keepH (t : ℕ) (ht : t < 32) (b : Fin 2) (g u : Vec F S1152x256 .f32) (a : Fin 36) (h : FVec F S32x128 .f32) (e : h = hTile g u a b)
    (old : Vec F S1x32x128 .f32) (r : Fin 32) (l : Fin 128) :
    keepT (stepLane (BitVec.ofNat 32 t) (BitVec.ofNat 32 b.val)) (scaleT h) old (ix3 0 r l)
      = if l.val % 32 = (2 * t + b.val) % 32 then hSc g u a b (ix2 r l) else old (ix3 0 r l) := by
  subst e
  exact keepT_apply ⟨t, ht⟩ b _ old r l

/-- Two stored tiles extend the rows already right by 32. -/
theorem two_tiles {e : EltTy} (m : Memref sig .tc .vmem S1152x256 e) (f : BufTy.Contents (Elt F) m.view.ty) (k : Fin k0_t6_loop.trips)
    (P0 P1 : S32x128.Idx → Elt F e) (G : S1152x256.Idx → Elt F e)
    (h0 : ∀ (hk : k.val < 36) (r : Fin 32) (l : Fin 128), P0 (ix2 r l) = G (ix2 ⟨32 * k.val + r.val, by omega⟩ ⟨l.val, by omega⟩))
    (h1 : ∀ (hk : k.val < 36) (r : Fin 32) (l : Fin 128), P1 (ix2 r l) = G (ix2 ⟨32 * k.val + r.val, by omega⟩ ⟨128 + l.val, by omega⟩))
    (hf : ∀ y : S1152x256.Idx, (y 0).val < 32 * k.val → m.view.read (Elt F) f y = G y) (y : S1152x256.Idx) (hy : (y 0).val < 32 * (k.val + 1)) :
    m.view.read (Elt F) (m.view.writes (Elt F) f
      [⟨Rect.unit (s := S1152x256) (k0_off36 k) S32x128.size (k0_off36_inb k), P1⟩,
       ⟨Rect.unit (s := S1152x256) (k0_off34 k) S32x128.size (k0_off34_inb k), P0⟩]) y = G y := by
  have hk : k.val < 36 := Nat.lt_of_lt_of_le k.isLt k0_t6_abs.2.1
  have hy1 : (y 1).val < 256 := (y 1).isLt
  by_cases hlo : (y 0).val < 32 * k.val
  · rw [View.read_writes_cons_unit_of_not_mem (Val := Elt F) m.view f _ _ _ y (k0_off36_eq k) 0 (.inl hlo),
      View.read_writes_cons_unit_of_not_mem (Val := Elt F) m.view f _ _ _ y (k0_off34_eq k) 0 (.inl hlo)]
    exact hf y hlo
  · by_cases hc : (y 1).val < 128
    · rw [View.read_writes_cons_unit_of_not_mem (Val := Elt F) m.view f _ _ _ y (k0_off36_eq k) 1 (.inl hc),
        View.read_writes_cons_unit_of_mem (Val := Elt F) (size := S32x128.size) m.view f _ _ _ y (ix2 (⟨(y 0).val - 32 * k.val, by omega⟩ : Fin 32) (⟨(y 1).val, hc⟩ : Fin 128)) (k0_off34_eq k)
          (fun a => by match a with
                       | ⟨0, _⟩ => show (y 0).val = 32 * k.val + ((y 0).val - 32 * k.val); omega
                       | ⟨1, _⟩ => show (y 1).val = 0 + (y 1).val; omega), h0 hk]
      exact congrArg G (funext fun a => Fin.ext (by match a with
                       | ⟨0, _⟩ => show 32 * k.val + ((y 0).val - 32 * k.val) = (y 0).val; omega
                       | ⟨1, _⟩ => rfl))
    · rw [View.read_writes_cons_unit_of_mem (Val := Elt F) (size := S32x128.size) m.view f _ _ _ y (ix2 (⟨(y 0).val - 32 * k.val, by omega⟩ : Fin 32) (⟨(y 1).val - 128, by omega⟩ : Fin 128)) (k0_off36_eq k)
          (fun a => by match a with
                       | ⟨0, _⟩ => show (y 0).val = 32 * k.val + ((y 0).val - 32 * k.val); omega
                       | ⟨1, _⟩ => show (y 1).val = 128 + ((y 1).val - 128); omega), h1 hk]
      exact congrArg G (funext fun a => Fin.ext (by match a with
                       | ⟨0, _⟩ => show 32 * k.val + ((y 0).val - 32 * k.val) = (y 0).val; omega
                       | ⟨1, _⟩ => show 128 + ((y 1).val - 128) = (y 1).val; omega))

/-- A loaded tile is the array's tile. -/
theorem tile_read (m : Memref sig .tc .vmem S1152x256 .f32) (X : BufTy.Contents (Elt F) m.view.ty) (g : Vec F S1152x256 .f32)
    (hX : m.view.read (Elt F) X = g) {off : Fin 2 → ℕ} (k : Fin 36) (b : Fin 2) (e : off = ![32 * k.val, 128 * b.val])
    (inb : ∀ a, off a + S32x128.size a ≤ S1152x256.size a) :
    View.readAt (Elt F) m.view (Rect.unit (s := S1152x256) off S32x128.size inb).toLoadRect X = tileAt g k b := by
  subst e
  funext y
  rw [View.readAt_apply, hX]
  refine congrArg g (funext fun a => Fin.ext ?_)
  match a with
  | ⟨0, _⟩ => show 32 * k.val + 1 * (y 0).val = 32 * k.val + (y 0).val; omega
  | ⟨1, _⟩ => show 128 * b.val + 1 * (y 1).val = 128 * b.val + (y 1).val; omega

/-- Two stores of a row block's scales, the second over the first. -/
theorem two_hu (m : Memref sig .tc .vmem S2x1152x128 .f32) (i : grid0.Coords) (k : Fin k0_t6_loop.trips) (f : BufTy.Contents (Elt F) m.view.ty)
    (W0 W1 : S1x32x128.Idx → Elt F .f32) (g u : Vec F S1152x256 .f32) (hu : Vec F S2x1152x128 .f32) (hk : k.val < 36)
    (hf : m.view.read (Elt F) f = huAll (i 0).val g u hu k.val)
    (h0 : ∀ (r : Fin 32) (l : Fin 128), W0 (ix3 0 r l) = if l.val % 32 = (2 * (i 0).val) % 32 then hSc g u ⟨k.val, hk⟩ 0 (ix2 r l)
      else View.readAt (Elt F) m.view (Rect.unit (s := S2x1152x128) (k0_off35 i k 0#32) S1x32x128.size (k0_off35_inb i k 0)).toLoadRect f (ix3 0 r l))
    (h1 : ∀ (r : Fin 32) (l : Fin 128), W1 (ix3 0 r l) = if l.val % 32 = (2 * (i 0).val + 1) % 32 then hSc g u ⟨k.val, hk⟩ 1 (ix2 r l)
      else View.readAt (Elt F) m.view (Rect.unit (s := S2x1152x128) (k0_off35 i k 1#32) S1x32x128.size (k0_off35_inb i k 1)).toLoadRect
        (m.view.writes (Elt F) m.view.junk [⟨Rect.unit (s := S2x1152x128) (k0_off35 i k 0#32) S1x32x128.size (k0_off35_inb i k 0), W0⟩]) (ix3 0 r l)) :
    m.view.read (Elt F) (m.view.writes (Elt F) f
      [⟨Rect.unit (s := S2x1152x128) (k0_off35 i k 1#32) S1x32x128.size (k0_off35_inb i k 1), W1⟩,
       ⟨Rect.unit (s := S2x1152x128) (k0_off35 i k 0#32) S1x32x128.size (k0_off35_inb i k 0), W0⟩]) = huAll (i 0).val g u hu (k.val + 1) := by
  have hi : (i 0).val < 32 := (i 0).isLt
  funext z
  have hz0 : (z 0).val < 2 := (z 0).isLt
  have hz1 : (z 1).val < 1152 := (z 1).isLt
  have hz2 : (z 2).val < 128 := (z 2).isLt
  have hold : ¬ ((z 0).val = (i 0).val / 16 ∧ 32 * k.val ≤ (z 1).val ∧ (z 1).val < 32 * k.val + 32) →
      m.view.read (Elt F) f z = huAll (i 0).val g u hu (k.val + 1) z := by
    intro hn
    rw [hf]
    unfold huAll
    by_cases h : (z 0).val = (i 0).val / 16 ∧ (z 1).val < 32 * k.val
    · rw [if_pos h, if_pos ⟨h.1, by omega⟩]
    · rw [if_neg h, if_neg (fun h' => by omega)]
  by_cases ha : (z 0).val = (i 0).val / 16
  · by_cases hb : 32 * k.val ≤ (z 1).val ∧ (z 1).val < 32 * k.val + 32
    · obtain ⟨hb1, hb2⟩ := hb
      have hx0 : ∀ a : Fin 3, (z a).val = (![(i 0).val / 16, 32 * k.val, 0] : Fin 3 → ℕ) a
          + ((ix3 (0 : Fin 1) (⟨(z 1).val - 32 * k.val, by omega⟩ : Fin 32) (⟨(z 2).val, hz2⟩ : Fin 128) : S1x32x128.Idx) a).val := fun a => by
        match a with
        | ⟨0, _⟩ => show (z 0).val = (i 0).val / 16 + 0; omega
        | ⟨1, _⟩ => show (z 1).val = 32 * k.val + ((z 1).val - 32 * k.val); omega
        | ⟨2, _⟩ => show (z 2).val = 0 + (z 2).val; omega
      have hidx : ∀ (w : BitVec 32) (inb) (e : k0_off35 i k w = ![(i 0).val / 16, 32 * k.val, 0]),
          (Rect.unit (s := S2x1152x128) (k0_off35 i k w) S1x32x128.size inb).toLoadRect.idx
            (ix3 (0 : Fin 1) (⟨(z 1).val - 32 * k.val, by omega⟩ : Fin 32) (⟨(z 2).val, hz2⟩ : Fin 128)) = z := fun w inb e => by
        funext a; apply Fin.ext
        have h := hx0 a
        have h' : k0_off35 i k w a = (![(i 0).val / 16, 32 * k.val, 0] : Fin 3 → ℕ) a := congrFun e a
        show k0_off35 i k w a + 1 * _ = (z a).val
        rw [h', h, Nat.one_mul]
      rw [View.read_writes_cons_unit_of_mem (Val := Elt F) (size := S1x32x128.size) m.view f _ _ _ z _ (k0_off35_eq1 i k) hx0, h1]
      unfold huAll
      have hand : (z 0).val = (i 0).val / 16 ∧ (z 1).val < 32 * (k.val + 1) := ⟨ha, by omega⟩
      rw [if_pos hand]
      unfold huVal
      have e0 : (⟨k.val, hk⟩ : Fin 36) = ⟨(z 1).val / 32, by omega⟩ := Fin.ext (by dsimp only; omega)
      have e1 : (⟨(z 1).val - 32 * k.val, by omega⟩ : Fin 32) = ⟨(z 1).val % 32, by omega⟩ := Fin.ext (by dsimp only; omega)
      have e2 : (⟨(z 2).val, hz2⟩ : Fin 128) = z 2 := rfl
      by_cases c1 : (z 2).val % 32 = (2 * (i 0).val + 1) % 32
      · simp only [if_pos c1]; rw [e0, e1]; rfl
      · simp only [if_neg c1]; rw [View.readAt_apply, hidx _ _ (k0_off35_eq1 i k),
          View.read_writes_cons_unit_of_mem (Val := Elt F) (size := S1x32x128.size) m.view _ _ _ _ z _ (k0_off35_eq0 i k) hx0, h0]
        by_cases c0 : (z 2).val % 32 = (2 * (i 0).val) % 32
        · simp only [if_pos c0]; rw [e0, e1]; rfl
        · simp only [if_neg c0]; rw [View.readAt_apply, hidx _ _ (k0_off35_eq0 i k), hf]
          unfold huAll
          rw [if_neg (fun h => by omega)]
    · rw [View.read_writes_cons_unit_of_not_mem (Val := Elt F) m.view f _ _ _ z (k0_off35_eq1 i k) 1 (by
          show (z 1).val < 32 * k.val ∨ 32 * k.val + 32 ≤ (z 1).val; omega),
        View.read_writes_cons_unit_of_not_mem (Val := Elt F) m.view f _ _ _ z (k0_off35_eq0 i k) 1 (by
          show (z 1).val < 32 * k.val ∨ 32 * k.val + 32 ≤ (z 1).val; omega)]
      exact hold (fun h => hb h.2)
  · rw [View.read_writes_cons_unit_of_not_mem (Val := Elt F) m.view f _ _ _ z (k0_off35_eq1 i k) 0 (by
        show (z 0).val < (i 0).val / 16 ∨ (i 0).val / 16 + 1 ≤ (z 0).val; omega),
      View.read_writes_cons_unit_of_not_mem (Val := Elt F) m.view f _ _ _ z (k0_off35_eq0 i k) 0 (by
        show (z 0).val < (i 0).val / 16 ∨ (i 0).val / 16 + 1 ≤ (z 0).val; omega)]
    exact hold (fun h => ha h.1)

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole)
variable (X16 : BufTy.Contents (Elt F) a16.view.ty) (X17 : BufTy.Contents (Elt F) a17.view.ty) (f18 : BufTy.Contents (Elt F) a18.view.ty)
variable (g u : Vec F S1152x256 .f32) (h16 : a16.view.read (Elt F) X16 = g) (h17 : a17.view.read (Elt F) X17 = u)

/-- The first half's tile of `h`, as loaded. -/
theorem h_lo (k : Fin k0_t6_loop.trips) (hk : k.val < 36) (h16 : a16.view.read (Elt F) X16 = g) (h17 : a17.view.read (Elt F) X17 = u) :
    gateT (View.readAt (Elt F) a16.view (Rect.unit (s := S1152x256) (k0_off34 k) S32x128.size (k0_off34_inb k)).toLoadRect X16)
      (View.readAt (Elt F) a17.view (Rect.unit (s := S1152x256) (k0_off34 k) S32x128.size (k0_off34_inb k)).toLoadRect X17) = hTile g u ⟨k.val, hk⟩ 0 :=
  congrArg₂ gateT (tile_read a16 X16 g h16 ⟨k.val, hk⟩ 0 (k0_off34_eq k) _) (tile_read a17 X17 u h17 ⟨k.val, hk⟩ 0 (k0_off34_eq k) _)

/-- The second half's tile of `h`, as loaded. -/
theorem h_hi (k : Fin k0_t6_loop.trips) (hk : k.val < 36) (h16 : a16.view.read (Elt F) X16 = g) (h17 : a17.view.read (Elt F) X17 = u) :
    gateT (View.readAt (Elt F) a16.view (Rect.unit (s := S1152x256) (k0_off36 k) S32x128.size (k0_off36_inb k)).toLoadRect X16)
      (View.readAt (Elt F) a17.view (Rect.unit (s := S1152x256) (k0_off36 k) S32x128.size (k0_off36_inb k)).toLoadRect X17) = hTile g u ⟨k.val, hk⟩ 1 :=
  congrArg₂ gateT (tile_read a16 X16 g h16 ⟨k.val, hk⟩ 1 (k0_off36_eq k) _) (tile_read a17 X17 u h17 ⟨k.val, hk⟩ 1 (k0_off36_eq k) _)

/-- A whole array of tiles read inside one tile. -/
theorem at_tile {α : Type} (f : Fin 36 → Fin 2 → S32x128.Idx → α) (k : Fin 36) (b : Fin 2) (r : Fin 32) (l : Fin 128) (p : Fin 1152) (q : Fin 256)
    (hp : p.val = 32 * k.val + r.val) (hq : q.val = 128 * b.val + l.val) :
    f k b (ix2 r l) = f ⟨p.val / 32, by omega⟩ ⟨q.val / 128, by omega⟩ (ix2 ⟨p.val % 32, by omega⟩ ⟨q.val % 128, by omega⟩) := by
  have e1 : k = ⟨p.val / 32, by omega⟩ := Fin.ext (by dsimp only; omega)
  have e2 : b = ⟨q.val / 128, by omega⟩ := Fin.ext (by dsimp only; omega)
  have e3 : r = ⟨p.val % 32, by omega⟩ := Fin.ext (by dsimp only; omega)
  have e4 : l = ⟨q.val % 128, by omega⟩ := Fin.ext (by dsimp only; omega)
  rw [← e1, ← e2, ← e3, ← e4]

include h16 h17 in
theorem trip6_codes (a0 : BitVec 32) (k : Fin k0_t6_loop.trips) (f : BufTy.Contents (Elt F) a8.view.ty)
    (hf : ∀ y : S1152x256.Idx, (y 0).val < 32 * k.val → a8.view.read (Elt F) f y = hCodes g u y) (y : S1152x256.Idx) (hy : (y 0).val < 32 * (k.val + 1)) :
    a8.view.read (Elt F) (a8.view.writes (Elt F) f (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 f18 k).1) y = hCodes g u y := by
  unfold trip6
  dsimp only
  refine two_tiles a8 f k _ _ (hCodes g u) (fun hk r l => ?_) (fun hk r l => ?_) hf y hy
  · exact (congrArg (fun h => codesT h (ix2 r l)) (h_lo a16 a17 X16 X17 g u k hk h16 h17)).trans
      (at_tile (fun a b => codesT (hTile g u a b)) ⟨k.val, hk⟩ 0 r l _ _ rfl (by simp))
  · exact (congrArg (fun h => codesT h (ix2 r l)) (h_hi a16 a17 X16 X17 g u k hk h16 h17)).trans
      (at_tile (fun a b => codesT (hTile g u a b)) ⟨k.val, hk⟩ 1 r l _ _ rfl rfl)

include h16 h17 in
theorem trip6_deq (a0 : BitVec 32) (k : Fin k0_t6_loop.trips) (f : BufTy.Contents (Elt F) a10.view.ty)
    (hf : ∀ y : S1152x256.Idx, (y 0).val < 32 * k.val → a10.view.read (Elt F) f y = hDeq g u y) (y : S1152x256.Idx) (hy : (y 0).val < 32 * (k.val + 1)) :
    a10.view.read (Elt F) (a10.view.writes (Elt F) f (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 f18 k).2.1) y = hDeq g u y := by
  unfold trip6
  dsimp only
  refine two_tiles a10 f k _ _ (hDeq g u) (fun hk r l => ?_) (fun hk r l => ?_) hf y hy
  · exact (congrArg (fun h => deqT h (ix2 r l)) (h_lo a16 a17 X16 X17 g u k hk h16 h17)).trans
      (at_tile (fun a b => deqT (hTile g u a b)) ⟨k.val, hk⟩ 0 r l _ _ rfl (by simp))
  · exact (congrArg (fun h => deqT h (ix2 r l)) (h_hi a16 a17 X16 X17 g u k hk h16 h17)).trans
      (at_tile (fun a b => deqT (hTile g u a b)) ⟨k.val, hk⟩ 1 r l _ _ rfl rfl)

include h16 h17 in
theorem trip6_hu (hu : Vec F S2x1152x128 .f32) (k : Fin k0_t6_loop.trips)
    (hf : a18.view.read (Elt F) f18 = huAll (i 0).val g u hu k.val) :
    a18.view.read (Elt F) (a18.view.writes (Elt F) f18 (trip6 𝒱 c bd i a1 w1 a2 w2 a3 w3 a4 w4 a5 w5 a6 w6 a7 w7 a8 w8 a9 w9 a10 w10 a11 w11 a12 w12 a13 w13 a14 w14 a15 w15 a16 w16 a17 w17 a18 w18 (BitVec.ofNat 32 (i 0).val) X16 X17 f18 k).2.2.1)
      = huAll (i 0).val g u hu (k.val + 1) := by
  have hk : k.val < 36 := Nat.lt_of_lt_of_le k.isLt k0_t6_abs.2.1
  have hi : (i 0).val < 32 := (i 0).isLt
  unfold trip6
  dsimp only
  refine two_hu a18 i k f18 _ _ g u hu hk hf (fun r l => ?_) (fun r l => ?_)
  · have q := fun old => keepH (i 0).val hi 0 g u ⟨k.val, hk⟩ _ (h_lo a16 a17 X16 X17 g u k hk h16 h17) old r l
    exact q _
  · have q := fun old => keepH (i 0).val hi 1 g u ⟨k.val, hk⟩ _ (h_hi a16 a17 X16 X17 g u k hk h16 h17) old r l
    exact q _

end Pieces
end Cert.Up.Gen

end
-- ==== Proof.MachLoop.lean ====
/- The epilogue loop by its invariant, and what its buffers hold after it.

   Here for the kernel at machine floats; `UpLoop` is the same over the reals. -/
module

public import proofs.«01_k».proof.Proof.MachEpi
public import proofs.«01_k».proof.Proof.Gen.Up.Loops

@[expose] public section

set_option maxRecDepth 8192
set_option maxHeartbeats 4000000

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- A trip's pieces in front of the earlier trips'. -/
@[irreducible] def pb6Step (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) (k : ℕ) (prev : List (View.Piece (Elt F) S1152x256 .fp8e4m3) × List (View.Piece (Elt F) S1152x256 .bf16) × List (View.Piece (Elt F) S2x1152x128 .f32)) : List (View.Piece (Elt F) S1152x256 .fp8e4m3) × List (View.Piece (Elt F) S1152x256 .bf16) × List (View.Piece (Elt F) S2x1152x128 .f32) :=
  if h : k < k0_t6_loop.trips then
    ((trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 prev.2.2) ⟨k, h⟩).1 ++ prev.1,
     (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 prev.2.2) ⟨k, h⟩).2.1 ++ prev.2.1,
     (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 prev.2.2) ⟨k, h⟩).2.2.1 ++ prev.2.2)
  else prev

/-- The pieces of the trips before `k`, last first, per buffer. -/
def pb6 (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) : ℕ → List (View.Piece (Elt F) S1152x256 .fp8e4m3) × List (View.Piece (Elt F) S1152x256 .bf16) × List (View.Piece (Elt F) S2x1152x128 .f32)
  | 0 => ([], [], [])
  | k + 1 => pb6Step 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k)

theorem pb6_succ (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) (k : Fin k0_t6_loop.trips) :
    pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 (k.val + 1) =
    ((trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) k).1 ++ (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).1,
     (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) k).2.1 ++ (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.1,
     (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) k).2.2.1 ++ (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) := by
  rw [pb6.eq_2]; unfold pb6Step; exact dif_pos k.isLt

/-- Before trip `k`: the two products as they were, the three written buffers at the earlier trips' pieces. -/
abbrev inv6 (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) (G8 : BufTy.Contents (Elt F) a8.view.ty) (G10 : BufTy.Contents (Elt F) a10.view.ty) (k : ℕ) (_u : PUnit) : sProp 𝕄G :=
  iprop((a16.view.loc (c : Thread nD τ) ↦[a16.view.set]{fullShare} X16) ∗ (a17.view.loc (c : Thread nD τ) ↦[a17.view.set]{fullShare} X17) ∗ (∃ f, (a8.view.loc (c : Thread nD τ) ↦[a8.view.set]{fullShare} f) ∗ ⌜f = a8.view.writes (Elt F) G8 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k).1⌝) ∗ (∃ f, (a10.view.loc (c : Thread nD τ) ↦[a10.view.set]{fullShare} f) ∗ ⌜f = a10.view.writes (Elt F) G10 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k).2.1⌝) ∗ (∃ f, (a18.view.loc (c : Thread nD τ) ↦[a18.view.set]{fullShare} f) ∗ ⌜f = a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k).2.2⌝))

set_option warn.classDefReducibility false in
/-- The loop by that invariant. -/
@[sl_loop] def loopInv_k0_t6 (𝒱 : Variants) (c : Dev nD) (bd : Option 𝒱.V) (E : Set ℕ) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) (G8 : BufTy.Contents (Elt F) a8.view.ty) (G10 : BufTy.Contents (Elt F) a10.view.ty) :
    LoopInvTy_k0_t6 (F := F) Unit ℕ (UR sig nD τ) ℕ 𝒱 c bd E i a1 w1 a2 w2 a3 w3 a4 w4 a5 w5 a6 w6 a7 w7 a8 w8 a9 w9 a10 w10 a11 w11 a12 w12 a13 w13 a14 w14 a15 w15 a16 w16 a17 w17 a18 w18 a0 where
  inv := inv6 (F := F) 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 G8 G10
  step k acc := by
    iintro ⟨H16, H17, ⟨%f8, H8, %h8⟩, ⟨%f10, H10, %h10⟩, ⟨%f18, H18, %h18⟩⟩
    subst h18
    iapply (wp_wand_r Idealize.ShloMosaic.frame (wpE (defs₀ (F := F)) 𝒱 (c : Thread nD τ) bd) E)
    isplitl [H16 H17 H8 H10 H18]
    · iapply ((trip6 (F := F) 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) k).2.2.2 E f8 f10)
      isplitl [H16]; · iexact H16
      isplitl [H17]; · iexact H17
      isplitl [H8]; · iexact H8
      isplitl [H10]; · iexact H10
      iexact H18
    · iintro %_ ⟨H16, H17, H8, H10, H18⟩
      isplitl [H16]; · iexact H16
      isplitl [H17]; · iexact H17
      rw [pb6_succ]
      isplitl [H8]
      · iexists _; isplitl [H8]; · iexact H8
        ipureintro; rw [h8, ← View.writes_append]
      isplitl [H10]
      · iexists _; isplitl [H10]; · iexact H10
        ipureintro; rw [h10, ← View.writes_append]
      iexists _; isplitl [H18]; · iexact H18
      ipureintro; rw [← View.writes_append]

section After

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (X16 : BufTy.Contents (Elt F) a16.view.ty) (X17 : BufTy.Contents (Elt F) a17.view.ty) (G18 : BufTy.Contents (Elt F) a18.view.ty)
  (G8 : BufTy.Contents (Elt F) a8.view.ty) (G10 : BufTy.Contents (Elt F) a10.view.ty)
  (g u : Vec F S1152x256 .f32) (h16 : a16.view.read (Elt F) X16 = g) (h17 : a17.view.read (Elt F) X17 = u)

include h16 h17

/-- After `n` trips the first `32 n` rows are written, and the scales of those rows kept. -/
theorem after6 (hu : Vec F S2x1152x128 .f32) (h18 : a18.view.read (Elt F) G18 = hu) (n : ℕ) (hn : n ≤ k0_t6_loop.trips) :
    (∀ y : S1152x256.Idx, (y 0).val < 32 * n → a8.view.read (Elt F) (a8.view.writes (Elt F) G8 (pb6 𝒱 c bd i a1 w1 a2 w2 a3 w3 a4 w4 a5 w5 a6 w6 a7 w7 a8 w8 a9 w9 a10 w10 a11 w11 a12 w12 a13 w13 a14 w14 a15 w15 a16 w16 a17 w17 a18 w18 (BitVec.ofNat 32 (i 0).val) X16 X17 G18 n).1) y = hCodes g u y)
    ∧ (∀ y : S1152x256.Idx, (y 0).val < 32 * n → a10.view.read (Elt F) (a10.view.writes (Elt F) G10 (pb6 𝒱 c bd i a1 w1 a2 w2 a3 w3 a4 w4 a5 w5 a6 w6 a7 w7 a8 w8 a9 w9 a10 w10 a11 w11 a12 w12 a13 w13 a14 w14 a15 w15 a16 w16 a17 w17 a18 w18 (BitVec.ofNat 32 (i 0).val) X16 X17 G18 n).2.1) y = hDeq g u y)
    ∧ a18.view.read (Elt F) (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 (BitVec.ofNat 32 (i 0).val) X16 X17 G18 n).2.2) = huAll (i 0).val g u hu n := by
  induction n with
  | zero =>
    refine ⟨fun y hy => absurd hy (by omega), fun y hy => absurd hy (by omega), ?_⟩
    refine h18.trans (funext fun z => ?_)
    unfold huAll
    rw [if_neg (fun h => by omega)]
  | succ n ih =>
    obtain ⟨ih8, ih10, ih18⟩ := ih (by omega)
    rw [pb6_succ 𝒱 c bd i a1 w1 a2 w2 a3 w3 a4 w4 a5 w5 a6 w6 a7 w7 a8 w8 a9 w9 a10 w10 a11 w11 a12 w12 a13 w13 a14 w14 a15 w15 a16 w16 a17 w17 a18 w18 _ X16 X17 G18 ⟨n, hn⟩]
    dsimp only
    rw [View.writes_append, View.writes_append, View.writes_append]
    exact ⟨trip6_codes 𝒱 c bd i a1 w1 a2 w2 a3 w3 a4 w4 a5 w5 a6 w6 a7 w7 a8 w8 a9 w9 a10 w10 a11 w11 a12 w12 a13 w13 a14 w14 a15 w15 a16 w16 a17 w17 a18 w18 X16 X17 _ g u h16 h17 _ ⟨n, hn⟩ _ ih8,
      trip6_deq 𝒱 c bd i a1 w1 a2 w2 a3 w3 a4 w4 a5 w5 a6 w6 a7 w7 a8 w8 a9 w9 a10 w10 a11 w11 a12 w12 a13 w13 a14 w14 a15 w15 a16 w16 a17 w17 a18 w18 X16 X17 _ g u h16 h17 _ ⟨n, hn⟩ _ ih10,
      trip6_hu 𝒱 c bd i a1 w1 a2 w2 a3 w3 a4 w4 a5 w5 a6 w6 a7 w7 a8 w8 a9 w9 a10 w10 a11 w11 a12 w12 a13 w13 a14 w14 a15 w15 a16 w16 a17 w17 a18 w18 X16 X17 _ g u h16 h17 hu ⟨n, hn⟩ ih18⟩

end After

/-- The kept scales after step `t`. -/
def huNext (t : ℕ) (g u : Vec F S1152x256 .f32) (hu : Vec F S2x1152x128 .f32) : Vec F S2x1152x128 .f32 := fun z =>
  if (z 0).val = t / 16 then huVal t g u hu z else hu z

theorem huAll_eq (t : ℕ) (g u : Vec F S1152x256 .f32) (hu : Vec F S2x1152x128 .f32) : huAll t g u hu 36 = huNext t g u hu := by
  funext z
  have hz1 : (z 1).val < 1152 := (z 1).isLt
  unfold huAll huNext
  by_cases h : (z 0).val = t / 16
  · rw [if_pos h, if_pos ⟨h, by omega⟩]
  · rw [if_neg h, if_neg (fun h' => h h'.1)]

theorem trips6 : k0_t6_loop.trips = 36 := by decide +kernel

end Cert.Up.Gen

end
-- ==== Proof.MachHs.lean ====
/- The last step packs the kept scales into the scale output.

   Here for the kernel at machine floats; `UpHs` is the same over the reals. -/
module

public import proofs.«01_k».proof.Proof.MachLanes
public import proofs.«01_k».proof.Proof.Dequant
public import proofs.«01_k».proof.Proof.MachOff
public import proofs.«01_k».proof.Proof.Gen.Up.Loops

@[expose] public section

set_option maxRecDepth 8192
set_option maxHeartbeats 4000000

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The packed scales: block `j` of a row is the kept scale on lane `32 (j mod 4) + j / 4`. -/
def hsPack (hu : Vec F S2x1152x128 .f32) : Vec F S1152x256 .f32 := fun y =>
  hu (ix3 ⟨(y 1).val / 128, by have : (y 1).val < 256 := (y 1).isLt; omega⟩ (y 0)
    ⟨32 * ((y 1).val % 128 % 4) + (y 1).val % 128 / 4, by omega⟩)

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (k0_h2 : k0_cond2 i = 1#1) (X18 : BufTy.Contents (Elt F) a18.view.ty)

/-- The tile that trip `k` of the loop over half 0 stores. -/
def pieceH7 (k : Fin k0_t7_loop.trips) : View.Piece (Elt F) S1152x256 .f32 :=
  ⟨Rect.unit (s := S1152x256) (k0_off38 k) S32x128.size (k0_off38_inb i k k0_h2), packT (shapeCast S32x128
    (View.readAt (Elt F) a18.view (Rect.unit (s := S2x1152x128) (k0_off37 k) S1x32x128.size (k0_off37_inb i k k0_h2)).toLoadRect X18) shapeCasts_S1x32x128_S32x128)⟩

theorem tripL7_eq (k : Fin k0_t7_loop.trips) : tripL_k0_t7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 k = [pieceH7 i a18 k0_h2 X18 k] := by
  unfold tripL_k0_t7 trip_k0_t7
  dsimp only
  sl_unfold_words
  rfl

theorem mem_pb7 (n : ℕ) (hn : n ≤ k0_t7_loop.trips) (p : View.Piece (Elt F) S1152x256 .f32) :
    p ∈ pb_k0_t7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 n ↔ ∃ k : Fin k0_t7_loop.trips, k.val < n ∧ p = pieceH7 i a18 k0_h2 X18 k := by
  induction n with
  | zero => simp [pb_k0_t7]
  | succ n ih =>
    have h := pb_k0_t7_succ 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 ⟨n, hn⟩
    dsimp only at h
    rw [h, tripL7_eq, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

theorem pieceH7_eq (hu : Vec F S2x1152x128 .f32) (h18 : a18.view.read (Elt F) X18 = hu) (k : Fin k0_t7_loop.trips) (x : S32x128.Idx) :
    (pieceH7 i a18 k0_h2 X18 k).2 x = hsPack hu ((Rect.unit (s := S1152x256) (k0_off38 k) S32x128.size (k0_off38_inb i k k0_h2)).emb x) := by
  have hk : k.val < 36 := Nat.lt_of_lt_of_le k.isLt k0_t7_abs.2.1
  obtain ⟨r, l, rfl⟩ : ∃ (r : Fin 32) (l : Fin 128), x = ix2 r l := ⟨x 0, x 1, eq_ix2 x⟩
  have e2 : k0_off38 k = ![32 * k.val, 0] := k0_off38_eq k
  have e1 : k0_off37 k = ![0, 32 * k.val, 0] := k0_off37_eq k
  have he : (Rect.unit (s := S1152x256) (k0_off38 k) S32x128.size (k0_off38_inb i k k0_h2)).emb (ix2 r l)
      = (ix2 ⟨32 * k.val + r.val, by omega⟩ ⟨0 + l.val, by omega⟩ : S1152x256.Idx) := by
    funext a; apply Fin.ext
    match a with
    | ⟨0, _⟩ => show k0_off38 k 0 + 1 * r.val = _; rw [e2]; simp
    | ⟨1, _⟩ => show k0_off38 k 1 + 1 * l.val = _; rw [e2]; simp
  rw [he]
  unfold pieceH7
  dsimp only
  refine (packT_apply (F := F) _ r l).trans ?_
  refine (shapeCast_1ab_ab_apply _ _ _ _).trans ?_
  rw [View.readAt_apply, h18]
  unfold hsPack
  refine congrArg hu (funext fun a => Fin.ext ?_)
  match a with
  | ⟨0, _⟩ => show k0_off37 k 0 + 1 * 0 = (0 + l.val) / 128; rw [e1]; simp <;> omega
  | ⟨1, _⟩ => show k0_off37 k 1 + 1 * r.val = 32 * k.val + r.val; rw [e1]; simp
  | ⟨2, _⟩ => show k0_off37 k 2 + 1 * (32 * (l.val % 4) + l.val / 4) = 32 * ((0 + l.val) % 128 % 4) + (0 + l.val) % 128 / 4; rw [e1]; simp <;> omega

/-- The tile that trip `k` of the loop over half 1 stores. -/
def pieceH8 (k : Fin k0_t8_loop.trips) : View.Piece (Elt F) S1152x256 .f32 :=
  ⟨Rect.unit (s := S1152x256) (k0_off40 k) S32x128.size (k0_off40_inb i k k0_h2), packT (shapeCast S32x128
    (View.readAt (Elt F) a18.view (Rect.unit (s := S2x1152x128) (k0_off39 k) S1x32x128.size (k0_off39_inb i k k0_h2)).toLoadRect X18) shapeCasts_S1x32x128_S32x128)⟩

theorem tripL8_eq (k : Fin k0_t8_loop.trips) : tripL_k0_t8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 k = [pieceH8 i a18 k0_h2 X18 k] := by
  unfold tripL_k0_t8 trip_k0_t8
  dsimp only
  sl_unfold_words
  rfl

theorem mem_pb8 (n : ℕ) (hn : n ≤ k0_t8_loop.trips) (p : View.Piece (Elt F) S1152x256 .f32) :
    p ∈ pb_k0_t8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 n ↔ ∃ k : Fin k0_t8_loop.trips, k.val < n ∧ p = pieceH8 i a18 k0_h2 X18 k := by
  induction n with
  | zero => simp [pb_k0_t8]
  | succ n ih =>
    have h := pb_k0_t8_succ 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 ⟨n, hn⟩
    dsimp only at h
    rw [h, tripL8_eq, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

theorem pieceH8_eq (hu : Vec F S2x1152x128 .f32) (h18 : a18.view.read (Elt F) X18 = hu) (k : Fin k0_t8_loop.trips) (x : S32x128.Idx) :
    (pieceH8 i a18 k0_h2 X18 k).2 x = hsPack hu ((Rect.unit (s := S1152x256) (k0_off40 k) S32x128.size (k0_off40_inb i k k0_h2)).emb x) := by
  have hk : k.val < 36 := Nat.lt_of_lt_of_le k.isLt k0_t8_abs.2.1
  obtain ⟨r, l, rfl⟩ : ∃ (r : Fin 32) (l : Fin 128), x = ix2 r l := ⟨x 0, x 1, eq_ix2 x⟩
  have e2 : k0_off40 k = ![32 * k.val, 128] := k0_off40_eq k
  have e1 : k0_off39 k = ![1, 32 * k.val, 0] := k0_off39_eq k
  have he : (Rect.unit (s := S1152x256) (k0_off40 k) S32x128.size (k0_off40_inb i k k0_h2)).emb (ix2 r l)
      = (ix2 ⟨32 * k.val + r.val, by omega⟩ ⟨128 + l.val, by omega⟩ : S1152x256.Idx) := by
    funext a; apply Fin.ext
    match a with
    | ⟨0, _⟩ => show k0_off40 k 0 + 1 * r.val = _; rw [e2]; simp
    | ⟨1, _⟩ => show k0_off40 k 1 + 1 * l.val = _; rw [e2]; simp
  rw [he]
  unfold pieceH8
  dsimp only
  refine (packT_apply (F := F) _ r l).trans ?_
  refine (shapeCast_1ab_ab_apply _ _ _ _).trans ?_
  rw [View.readAt_apply, h18]
  unfold hsPack
  refine congrArg hu (funext fun a => Fin.ext ?_)
  match a with
  | ⟨0, _⟩ => show k0_off39 k 0 + 1 * 0 = (128 + l.val) / 128; rw [e1]; simp <;> omega
  | ⟨1, _⟩ => show k0_off39 k 1 + 1 * r.val = 32 * k.val + r.val; rw [e1]; simp
  | ⟨2, _⟩ => show k0_off39 k 2 + 1 * (32 * (l.val % 4) + l.val / 4) = 32 * ((128 + l.val) % 128 % 4) + (128 + l.val) % 128 / 4; rw [e1]; simp <;> omega

/-- After the two loops the scale output reads the packed scales, whatever it held before. -/
theorem read_hs (hu : Vec F S2x1152x128 .f32) (h18 : a18.view.read (Elt F) X18 = hu) (f : BufTy.Contents (Elt F) a9.view.ty) :
    a9.view.read (Elt F) (a9.view.writes (Elt F) f (pb_k0_t8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 k0_t8_loop.trips ++ pb_k0_t7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 k0_t7_loop.trips)) = hsPack hu := by
  have ht1 : k0_t7_loop.trips = 36 := by decide +kernel
  have ht2 : k0_t8_loop.trips = 36 := by decide +kernel
  funext y
  refine View.read_writes_apply_of_pieces a9.view _ (hsPack hu) _ ?_ y ?_
  · intro p hp x
    rcases List.mem_append.mp hp with hp | hp
    · obtain ⟨k, -, rfl⟩ := (mem_pb8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 _ le_rfl p).mp hp
      exact pieceH8_eq i a18 k0_h2 X18 hu h18 k x
    · obtain ⟨k, -, rfl⟩ := (mem_pb7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 _ le_rfl p).mp hp
      exact pieceH7_eq i a18 k0_h2 X18 hu h18 k x
  · have hy0 : (y 0).val < 1152 := (y 0).isLt
    have hy1 : (y 1).val < 256 := (y 1).isLt
    by_cases hc : (y 1).val < 128
    · refine ⟨pieceH7 i a18 k0_h2 X18 ⟨(y 0).val / 32, by omega⟩, List.mem_append_right _ ((mem_pb7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 _ le_rfl _).mpr ⟨_, by show (y 0).val / 32 < _; omega, rfl⟩), ?_⟩
      show y ∈ (Rect.unit (s := S1152x256) (k0_off38 ⟨(y 0).val / 32, by omega⟩) S32x128.size (k0_off38_inb i _ k0_h2)).set
      rw [Rect.mem_set_unit]; intro a
      rw [k0_off38_eq]
      match a with
      | ⟨0, _⟩ => show 32 * ((y 0).val / 32) ≤ (y 0).val ∧ (y 0).val < 32 * ((y 0).val / 32) + 32; omega
      | ⟨1, _⟩ => show 0 ≤ (y 1).val ∧ (y 1).val < 0 + 128; omega
    · refine ⟨pieceH8 i a18 k0_h2 X18 ⟨(y 0).val / 32, by omega⟩, List.mem_append_left _ ((mem_pb8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 _ le_rfl _).mpr ⟨_, by show (y 0).val / 32 < _; omega, rfl⟩), ?_⟩
      show y ∈ (Rect.unit (s := S1152x256) (k0_off40 ⟨(y 0).val / 32, by omega⟩) S32x128.size (k0_off40_inb i _ k0_h2)).set
      rw [Rect.mem_set_unit]; intro a
      rw [k0_off40_eq]
      match a with
      | ⟨0, _⟩ => show 32 * ((y 0).val / 32) ≤ (y 0).val ∧ (y 0).val < 32 * ((y 0).val / 32) + 32; omega
      | ⟨1, _⟩ => show 128 ≤ (y 1).val ∧ (y 1).val < 128 + 128; omega

end Pieces

end Cert.Up.Gen

end
-- ==== Proof.MachRunMid.lean ====
/- One step of the gate and up projections: what the kernel body leaves in its buffers. A middle step.

   Here for the kernel at machine floats; `UpRunMid` is the same over the reals. -/
module

public import proofs.«01_k».proof.Proof.MachXRead
public import proofs.«01_k».proof.Proof.MachTileG
public import proofs.«01_k».proof.Proof.MachTileU
public import proofs.«01_k».proof.Proof.MachLoop
public import proofs.«01_k».proof.Proof.MachHs
public import Idealize.ShloMosaic.Lib.VecWindow
public import Idealize.ShloMosaic.Lib.Claim
public import proofs.«01_k».proof.Proof.Gen.Up.Frame

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ (UR sig nD τ) ℕ

/-- The gate product of a step. -/
def gOut (xb : Vec F S1152x3072 .bf16) (x1 : Vec F S3072x256 .fp8e4m3) (x3 : Vec F S96x256 .i8) : Vec F S1152x256 .f32 :=
  shapeCast S1152x256 (matmul dot_S1152x3072_S3072x256_S1152x256_1_0_0_1_n_n none xb (wTile x1 x3) (constant S1152x256 .f32 0x00000000#32)) shapeCasts_S1152x256_S1152x256

/-- The up product of a step. -/
def uOut (xb : Vec F S1152x3072 .bf16) (x2 : Vec F S3072x256 .fp8e4m3) (x4 : Vec F S96x256 .i8) : Vec F S1152x256 .f32 := gOut xb x2 x4

theorem hz : (![0, 0] : Fin 2 → Nat) = fun _ => 0 := funext fun a => by fin_cases a <;> rfl

set_option maxRecDepth 65536 in
set_option maxHeartbeats 8000000 in
/-- A middle step. -/
theorem runMid (c : Dev nD) (i : grid0.Coords) (hc1 : ¬ k0_cond1 i = 1#1) (hc2 : ¬ k0_cond2 i = 1#1) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (x0 : Vec F S1152x3072 .bf16) (x1 x2 : Vec F S3072x256 .fp8e4m3) (x3 x4 : Vec F S96x256 .i8) (x5 : Vec F S1152x3072 .fp8e4m3) (x6 : Vec F S1152x96 .f32) (xb : Vec F S1152x3072 .bf16) (x8 : Vec F S1152x256 .f32) (hu : Vec F S2x1152x128 .f32) :
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ owns (c : Thread nD τ) a9 fullShare x8 ∗ (∃ d, owns (c : Thread nD τ) a10 fullShare d) ∗ owns (c : Thread nD τ) a11 fullShare xb ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare hu ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (hCodes (gOut xb x1 x3) (uOut xb x2 x4)) ∗ owns (c : Thread nD τ) a9 fullShare x8 ∗ owns (c : Thread nD τ) a10 fullShare (hDeq (gOut xb x1 x3) (uOut xb x2 x4)) ∗ owns (c : Thread nD τ) a11 fullShare xb ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare (huNext (i 0).val (gOut xb x1 x3) (uOut xb x2 x4) hu)) -∗ K ⟨⟩))
          ⊢ wp frame (wpE (defs₀ (F := F)) Variants.none c none) E (cc0_gate_up i a1 w1 a2 w2 a3 w3 a4 w4 a5 w5 a6 w6 a7 w7 a8 w8 a9 w9 a10 w10 a11 w11 a12 w12 a13 w13 a14 w14 a15 w15 a16 w16 a17 w17 a18 w18) K := by
    intro E K
    simp only [cc0_gate_up_eq_skeleton]; unfold cc0_gate_up_skel
    simp only [k0_part53_eq_skeleton, k0_part54_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := w9.eq_unread hf9; obtain rfl := w11.eq_unread hf11; obtain rfl := w18.eq_unread hf18
    sl_exec
    sl_step
    iapply Hk
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; swap; · iexact H8
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ _ f10 (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).1 y (by have : (y 0).val < 1152 := (y 0).isLt; rw [trips6]; omega))
    isplitl [H9]
    · iexists _; isplitr; · ipureintro; exact w9.read_unread _
      iexact H9
    isplitl [H10]
    · iexists _; isplitr; swap; · iexact H10
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 _ (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).2.1 y (by have : (y 0).val < 1152 := (y 0).isLt; rw [trips6]; omega))
    isplitl [H11]
    · iexists _; isplitr; · ipureintro; exact w11.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _; isplitr; swap; · iexact H18
    ipureintro
    dsimp only; sl_unfold_words
    refine (((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 f10 (gOut xb x1 x3) (uOut xb x2 x4)
      (by
        refine (View.read_writes_full a16.view _ _ _ []).trans ?_
        unfold gOut
        congr 1
        · rw [View.readAt_eq_ld, View.ld_unit_zero hz]; exact w11.read_unread _
        · rw [View.readAt_eq_ld, View.ld_unit_zero hz]
          exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
      (by
        refine (View.read_writes_full a17.view _ _ _ []).trans ?_
        unfold uOut
        congr 1
        · rw [View.readAt_eq_ld, View.ld_unit_zero hz]; exact w11.read_unread _
        · rw [View.readAt_eq_ld, View.ld_unit_zero hz]
          exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
      hu (w18.read_unread _) _ le_rfl).2.2).trans ?_)
    rw [trips6]; exact huAll_eq _ _ _ _

end Cert.Up.Gen

end
-- ==== Proof.MachRunFirst.lean ====
/- One step of the gate and up projections: what the kernel body leaves in its buffers. The first step, which also quantises the activations.

   Here for the kernel at machine floats; `UpRunFirst` is the same over the reals. -/
module

public import proofs.«01_k».proof.Proof.MachRunMid
public import proofs.«01_k».proof.Proof.MachTileG
public import proofs.«01_k».proof.Proof.MachTileU
public import proofs.«01_k».proof.Proof.MachLoop
public import proofs.«01_k».proof.Proof.MachHs
public import Idealize.ShloMosaic.Lib.VecWindow
public import Idealize.ShloMosaic.Lib.Claim
public import proofs.«01_k».proof.Proof.Gen.Up.Frame

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ (UR sig nD τ) ℕ

set_option maxRecDepth 65536 in
set_option maxHeartbeats 8000000 in
/-- The first step. -/
theorem runFirst (c : Dev nD) (i : grid0.Coords) (hc1 : k0_cond1 i = 1#1) (hc2 : ¬ k0_cond2 i = 1#1) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (x0 : Vec F S1152x3072 .bf16) (x1 x2 : Vec F S3072x256 .fp8e4m3) (x3 x4 : Vec F S96x256 .i8) (x8 : Vec F S1152x256 .f32) (hu : Vec F S2x1152x128 .f32) :
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ (∃ d, owns (c : Thread nD τ) a8 fullShare d) ∗ owns (c : Thread nD τ) a9 fullShare x8 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare hu ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (xCodes x0) ∗ owns (c : Thread nD τ) a7 fullShare (xScale x0) ∗ owns (c : Thread nD τ) a8 fullShare (hCodes (gOut (xDeq x0) x1 x3) (uOut (xDeq x0) x2 x4)) ∗ owns (c : Thread nD τ) a9 fullShare x8 ∗ owns (c : Thread nD τ) a10 fullShare (hDeq (gOut (xDeq x0) x1 x3) (uOut (xDeq x0) x2 x4)) ∗ owns (c : Thread nD τ) a11 fullShare (xDeq x0) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare (huNext (i 0).val (gOut (xDeq x0) x1 x3) (uOut (xDeq x0) x2 x4) hu)) -∗ K ⟨⟩))
          ⊢ wp frame (wpE (defs₀ (F := F)) Variants.none c none) E (cc0_gate_up i a1 w1 a2 w2 a3 w3 a4 w4 a5 w5 a6 w6 a7 w7 a8 w8 a9 w9 a10 w10 a11 w11 a12 w12 a13 w13 a14 w14 a15 w15 a16 w16 a17 w17 a18 w18) K := by
    intro E K
    simp only [cc0_gate_up_eq_skeleton]; unfold cc0_gate_up_skel
    simp only [k0_part53_eq_skeleton, k0_part54_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := w1.eq_unread hf1; obtain rfl := w2.eq_unread hf2; obtain rfl := w3.eq_unread hf3; obtain rfl := w4.eq_unread hf4; obtain rfl := w5.eq_unread hf5; obtain rfl := w9.eq_unread hf9; obtain rfl := w18.eq_unread hf18
    sl_exec
    sl_step
    iapply Hk
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; swap; · iexact H6
      ipureintro
      dsimp only; sl_unfold_words
      exact read_codes Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
    isplitl [H7]
    · iexists _; isplitr; swap; · iexact H7
      ipureintro
      dsimp only; sl_unfold_words
      exact read_scale Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
    isplitl [H8]
    · iexists _; isplitr; swap; · iexact H8
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ _ f10 (gOut (xDeq x0) x1 x3) (uOut (xDeq x0) x2 x4)
        (by
          refine (View.read_writes_full a16.view _ _ _ []).trans ?_
          unfold gOut
          congr 1
          · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).1 y (by have : (y 0).val < 1152 := (y 0).isLt; rw [trips6]; omega))
    isplitl [H9]
    · iexists _; isplitr; · ipureintro; exact w9.read_unread _
      iexact H9
    isplitl [H10]
    · iexists _; isplitr; swap; · iexact H10
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 _ (gOut (xDeq x0) x1 x3) (uOut (xDeq x0) x2 x4)
        (by
          refine (View.read_writes_full a16.view _ _ _ []).trans ?_
          unfold gOut
          congr 1
          · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).2.1 y (by have : (y 0).val < 1152 := (y 0).isLt; rw [trips6]; omega))
    isplitl [H11]
    · iexists _; isplitr; swap; · iexact H11
      ipureintro
      dsimp only; sl_unfold_words
      exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _; isplitr; swap; · iexact H18
    ipureintro
    dsimp only; sl_unfold_words
    refine (((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 f10 (gOut (xDeq x0) x1 x3) (uOut (xDeq x0) x2 x4)
      (by
        refine (View.read_writes_full a16.view _ _ _ []).trans ?_
        unfold gOut
        congr 1
        · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
        · rw [View.readAt_eq_ld, View.ld_unit_zero hz]
          exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
      (by
        refine (View.read_writes_full a17.view _ _ _ []).trans ?_
        unfold uOut
        congr 1
        · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
        · rw [View.readAt_eq_ld, View.ld_unit_zero hz]
          exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
      hu (w18.read_unread _) _ le_rfl).2.2).trans ?_)
    rw [trips6]; exact huAll_eq _ _ _ _

end Cert.Up.Gen

end
-- ==== Proof.MachRunLast.lean ====
/- One step of the gate and up projections: what the kernel body leaves in its buffers. The last step, which also packs the kept scales.

   Here for the kernel at machine floats; `UpRunLast` is the same over the reals. -/
module

public import proofs.«01_k».proof.Proof.MachRunMid
public import proofs.«01_k».proof.Proof.MachTileG
public import proofs.«01_k».proof.Proof.MachTileU
public import proofs.«01_k».proof.Proof.MachLoop
public import proofs.«01_k».proof.Proof.MachHs
public import Idealize.ShloMosaic.Lib.VecWindow
public import Idealize.ShloMosaic.Lib.Claim
public import proofs.«01_k».proof.Proof.Gen.Up.Frame

@[expose] public section

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ (UR sig nD τ) ℕ

set_option maxRecDepth 65536 in
set_option maxHeartbeats 8000000 in
/-- The last step. -/
theorem runLast (c : Dev nD) (i : grid0.Coords) (hc1 : ¬ k0_cond1 i = 1#1) (hc2 : k0_cond2 i = 1#1) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (x0 : Vec F S1152x3072 .bf16) (x1 x2 : Vec F S3072x256 .fp8e4m3) (x3 x4 : Vec F S96x256 .i8) (x5 : Vec F S1152x3072 .fp8e4m3) (x6 : Vec F S1152x96 .f32) (xb : Vec F S1152x3072 .bf16) (hu : Vec F S2x1152x128 .f32) :
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d) ∗ (∃ d, owns (c : Thread nD τ) a10 fullShare d) ∗ owns (c : Thread nD τ) a11 fullShare xb ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare hu ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (hCodes (gOut xb x1 x3) (uOut xb x2 x4)) ∗ owns (c : Thread nD τ) a9 fullShare (hsPack (huNext (i 0).val (gOut xb x1 x3) (uOut xb x2 x4) hu)) ∗ owns (c : Thread nD τ) a10 fullShare (hDeq (gOut xb x1 x3) (uOut xb x2 x4)) ∗ owns (c : Thread nD τ) a11 fullShare xb ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare (huNext (i 0).val (gOut xb x1 x3) (uOut xb x2 x4) hu)) -∗ K ⟨⟩))
          ⊢ wp frame (wpE (defs₀ (F := F)) Variants.none c none) E (cc0_gate_up i a1 w1 a2 w2 a3 w3 a4 w4 a5 w5 a6 w6 a7 w7 a8 w8 a9 w9 a10 w10 a11 w11 a12 w12 a13 w13 a14 w14 a15 w15 a16 w16 a17 w17 a18 w18) K := by
    intro E K
    simp only [cc0_gate_up_eq_skeleton]; unfold cc0_gate_up_skel
    simp only [k0_part53_eq_skeleton, k0_part54_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := w11.eq_unread hf11; obtain rfl := w18.eq_unread hf18
    sl_exec
    sl_step
    iapply Hk
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; swap; · iexact H8
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ _ f10 (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).1 y (by have : (y 0).val < 1152 := (y 0).isLt; rw [trips6]; omega))
    isplitl [H9]
    · iexists _; isplitr; swap; · iexact H9
      ipureintro
      dsimp only; sl_unfold_words
      refine read_hs Variants.none c none i a1 w1 a2 w2 a3 w3 a4 w4 a5 w5 a6 w6 a7 w7 a8 w8 a9 w9 a10 w10 a11 w11 a12 w12 a13 w13 a14 w14 a15 w15 a16 w16 a17 w17 a18 w18 hc2 _ _ ?_ _
      refine (((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 f10 (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).2.2).trans ?_)
      rw [trips6]; exact huAll_eq _ _ _ _
    isplitl [H10]
    · iexists _; isplitr; swap; · iexact H10
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 _ (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).2.1 y (by have : (y 0).val < 1152 := (y 0).isLt; rw [trips6]; omega))
    isplitl [H11]
    · iexists _; isplitr; · ipureintro; exact w11.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _; isplitr; swap; · iexact H18
    ipureintro
    dsimp only; sl_unfold_words
    refine (((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 f10 (gOut xb x1 x3) (uOut xb x2 x4)
      (by
        refine (View.read_writes_full a16.view _ _ _ []).trans ?_
        unfold gOut
        congr 1
        · rw [View.readAt_eq_ld, View.ld_unit_zero hz]; exact w11.read_unread _
        · rw [View.readAt_eq_ld, View.ld_unit_zero hz]
          exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
      (by
        refine (View.read_writes_full a17.view _ _ _ []).trans ?_
        unfold uOut
        congr 1
        · rw [View.readAt_eq_ld, View.ld_unit_zero hz]; exact w11.read_unread _
        · rw [View.readAt_eq_ld, View.ld_unit_zero hz]
          exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
      hu (w18.read_unread _) _ le_rfl).2.2).trans ?_)
    rw [trips6]; exact huAll_eq _ _ _ _

end Cert.Up.Gen

end
-- ==== Proof.MachFrame.lean ====
/- The gate and up projections' run over any floats: the buffers named at every step, the body's obligation, and the frame
   with the result arrays at what the thirty-two steps wrote.

   The activations quantised at the first step are kept for the later ones; the scales of each step's two tiles are
   kept on their own lanes until the last step packs them.

   Here for the kernel at machine floats; `UpFrame` is the same over the reals. -/
module

public import proofs.«01_k».proof.Proof.MachRunMid
public import proofs.«01_k».proof.Proof.MachRunFirst
public import proofs.«01_k».proof.Proof.MachRunLast
public import proofs.«01_k».proof.Proof.Gen.Up.Launch
public import proofs.«01_k».proof.Proof.Gen.Up.Points
public import proofs.«01_k».proof.Proof.Gen.Up.Frame

@[expose] public section

set_option maxRecDepth 16384

noncomputable section

namespace Cert.Up.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The steps -/

theorem lt32 (t : Fin cfg0.N) : t.val < 32 := t.isLt

theorem coord0 : ∀ t : Fin cfg0.N, ((grid0.coords t) 0).val = t.val :=
  (by decide +kernel : ∀ t : Fin grid0.N, _)

theorem cond1_iff : ∀ t : Fin cfg0.N, k0_cond1 (grid0.coords t) = 1#1 ↔ t.val = 0 :=
  (by decide +kernel : ∀ t : Fin grid0.N, _)

theorem cond2_iff : ∀ t : Fin cfg0.N, k0_cond2 (grid0.coords t) = 1#1 ↔ t.val = 31 :=
  (by decide +kernel : ∀ t : Fin grid0.N, _)

theorem idle5_iff : ∀ t : Fin cfg0.N, cfg0.idle 5 (cfg0.grid.coords t) = true ↔ t.val ≠ 0 :=
  (by decide +kernel : ∀ t : Fin grid0.N, idle0 5 (grid0.coords t) = true ↔ t.val ≠ 0)

theorem idle6_iff : ∀ t : Fin cfg0.N, cfg0.idle 6 (cfg0.grid.coords t) = true ↔ t.val ≠ 0 :=
  (by decide +kernel : ∀ t : Fin grid0.N, idle0 6 (grid0.coords t) = true ↔ t.val ≠ 0)

theorem idle8_iff : ∀ t : Fin cfg0.N, cfg0.idle 8 (cfg0.grid.coords t) = true ↔ t.val ≠ 31 :=
  (by decide +kernel : ∀ t : Fin grid0.N, idle0 8 (grid0.coords t) = true ↔ t.val ≠ 31)

/-! ## What the buffers hold -/

/-- The activations. -/
def X0 (c : Dev nD) : Vec F S1152x3072 .bf16 := iblk m c 0 (⟨0, by decide⟩ : Fin grid0.N)

/-- The gate product of step `t`. -/
def Gt (c : Dev nD) (t : Fin cfg0.N) : Vec F S1152x256 .f32 := gOut (xDeq (X0 m c)) (iblk m c 1 t) (iblk m c 3 t)

/-- The up product of step `t`. -/
def Ut (c : Dev nD) (t : Fin cfg0.N) : Vec F S1152x256 .f32 := uOut (xDeq (X0 m c)) (iblk m c 2 t) (iblk m c 4 t)

/-- The kept scales hold those of the first `n` steps' tiles. -/
def HuOK (c : Dev nD) (n : ℕ) (hu : Vec F S2x1152x128 .f32) : Prop :=
  ∀ (z : S2x1152x128.Idx) (s : Fin cfg0.N) (b : Fin 2), s.val < n → (z 0).val = s.val / 16 → (z 2).val % 32 = (2 * s.val + b.val) % 32 →
    hu z = hSc (Gt m c s) (Ut m c s) ⟨(z 1).val / 32, by have : (z 1).val < 1152 := (z 1).isLt; omega⟩ b (ix2 ⟨(z 1).val % 32, by omega⟩ (z 2))

/-- A step keeps its own scales and the earlier steps'. -/
theorem HuOK_step (c : Dev nD) (t : Fin cfg0.N) (hu : Vec F S2x1152x128 .f32) (h : HuOK m c t.val hu) :
    HuOK m c (t.val + 1) (huNext t.val (Gt m c t) (Ut m c t) hu) := by
  intro z s b hs hz0 hz2
  have ht := lt32 t
  have hs' := lt32 s
  have hb : b.val < 2 := b.isLt
  unfold huNext huVal
  by_cases hst : s = t
  · subst hst
    rw [if_pos hz0]
    match b, hb with
    | ⟨1, _⟩, _ => rw [if_pos hz2]; rfl
    | ⟨0, _⟩, _ =>
      have h2 : (z 2).val % 32 = (2 * s.val) % 32 := hz2
      rw [if_neg (by omega), if_pos h2]; rfl
  · have hne : s.val ≠ t.val := fun e => hst (Fin.ext e)
    by_cases hz : (z 0).val = t.val / 16
    · rw [if_pos hz, if_neg (by omega), if_neg (by omega)]
      exact h z s b (by omega) hz0 hz2
    · rw [if_neg hz]
      exact h z s b (by omega) hz0 hz2

/-- The packed scales: block `j` of a row holds the scale of that block of `h`. -/
def HS (c : Dev nD) : Vec F S1152x256 .f32 := fun y =>
  hSc (Gt m c ⟨(y 1).val / 8, by have : (y 1).val < 256 := (y 1).isLt; show _ < 32; omega⟩) (Ut m c ⟨(y 1).val / 8, by have : (y 1).val < 256 := (y 1).isLt; show _ < 32; omega⟩)
    ⟨(y 0).val / 32, by have : (y 0).val < 1152 := (y 0).isLt; omega⟩ ⟨(y 1).val / 4 % 2, by omega⟩
    (ix2 ⟨(y 0).val % 32, by omega⟩ ⟨32 * ((y 1).val % 128 % 4) + (y 1).val % 128 / 4, by omega⟩)

theorem pack_mod (n : ℕ) : (32 * (n % 128 % 4) + n % 128 / 4) % 32 = (2 * (n / 8) + n / 4 % 2) % 32 := by
  have h1 : n % 128 / 4 = n / 4 % 32 := by omega
  have h2 : 2 * (n / 8) + n / 4 % 2 = n / 4 := by omega
  rw [h1, h2]; omega

theorem hsPack_eq (c : Dev nD) (hu : Vec F S2x1152x128 .f32) (h : HuOK m c 32 hu) : hsPack hu = HS m c := by
  funext y
  have h1 : (y 1).val < 256 := (y 1).isLt
  unfold hsPack HS
  exact h (ix3 ⟨(y 1).val / 128, by omega⟩ (y 0) ⟨32 * ((y 1).val % 128 % 4) + (y 1).val % 128 / 4, by omega⟩)
    ⟨(y 1).val / 8, by show _ < 32; omega⟩ ⟨(y 1).val / 4 % 2, by omega⟩ (by show (y 1).val / 8 < 32; omega)
    (by show (y 1).val / 128 = (y 1).val / 8 / 16; omega)
    (pack_mod (y 1).val)

/-! ## The buffers of a step -/

abbrev ms0_0 (t : Fin cfg0.N) : Memref sig .tc .vmem S1152x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1152x3072 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1152x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1152x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1152x256 .bf16 := win0_9.stage (cfg0.slots t 9)
abbrev hs0_9 (t : Fin cfg0.N) : (ms0_9 t).IsWhole := hstage0_9 ((cfg0.slots t 9).cast nbuf0_9)
abbrev scM0_0 : Memref sig .tc .vmem S1152x3072 .bf16 := Memref.whole cc0_scratch0
abbrev scM0_1 : Memref sig .tc .vmem S3072x256 .bf16 := Memref.whole cc0_scratch1
abbrev scM0_2 : Memref sig .tc .vmem S3072x256 .bf16 := Memref.whole cc0_scratch2
abbrev scM0_3 : Memref sig .tc .vmem S2x96x128 .i32 := Memref.whole cc0_scratch3
abbrev scM0_4 : Memref sig .tc .vmem S2x96x128 .i32 := Memref.whole cc0_scratch4
abbrev scM0_5 : Memref sig .tc .vmem S1152x256 .f32 := Memref.whole cc0_scratch5
abbrev scM0_6 : Memref sig .tc .vmem S1152x256 .f32 := Memref.whole cc0_scratch6
abbrev scM0_7 : Memref sig .tc .vmem S2x1152x128 .f32 := Memref.whole cc0_scratch7

/-- The scratch buffers at some contents, and the generator register. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- Before step `n`: after the first step the quantised activations are in their buffer, and the scales of the first `n`
    steps are kept. -/
def PhiS (c : Dev nD) (n : ℕ) : sProp 𝕄 :=
  iprop(iprop((∃ d, ⌜0 < n → d = xDeq (X0 m c)⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, ⌜HuOK m c n d⌝ ∗ owns (c : Thread nD τ) scM0_7 fullShare d)) ∗ (∃ r, prngReg c r))

/-- The run's data: each input's buffer at its block; the activations' codes and scales at the first step's; the codes and
    values of `h` step by step; the packed scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => xCodes (X0 m c)
    | ⟨6, _⟩ => xScale (X0 m c)
    | ⟨7, _⟩ => hCodes (Gt m c t) (Ut m c t)
    | ⟨8, _⟩ => HS m c
    | ⟨9, _⟩ => hDeq (Gt m c t) (Ut m c t)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = xCodes (X0 m c) := by dsimp only [dats]
theorem after0_6 (c : Dev nD) (t : Fin cfg0.N) : (dats m 0 c).after 6 t = xScale (X0 m c) := by dsimp only [dats]
theorem after0_7 (c : Dev nD) (t : Fin cfg0.N) : (dats m 0 c).after 7 t = hCodes (Gt m c t) (Ut m c t) := by dsimp only [dats]
theorem after0_8 (c : Dev nD) (t : Fin cfg0.N) : (dats m 0 c).after 8 t = HS m c := by dsimp only [dats]
theorem after0_9 (c : Dev nD) (t : Fin cfg0.N) : (dats m 0 c).after 9 t = hDeq (Gt m c t) (Ut m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the first step left in result 0's buffer is there at every later step. -/
theorem before0_5 (c : Dev nD) (d) : ∀ (n : ℕ) (hn : n < cfg0.N), n ≠ 0 → (dats m 0 c).before 5 ⟨n, hn⟩ d = xCodes (X0 m c) := by
  intro n
  induction n with
  | zero => intro _ h; exact absurd rfl h
  | succ n ih =>
    intro hn _
    have hn' : n < cfg0.N := Nat.lt_of_succ_lt hn
    have hfl : (cfg0.win 5).flush ⟨n, hn'⟩ = false := by
      cases h : (cfg0.win 5).flush ⟨n, hn'⟩ with
      | false => rfl
      | true =>
        have h1 := (flush0_5 ⟨n, hn'⟩).mp h
        have h2 : n + 1 < 32 := hn
        have h3 : n % 32 = 31 := h1
        omega
    rw [(dats m 0 c).before_of_pos 5 ⟨n + 1, hn⟩ (Nat.succ_ne_zero n) rfl d]
    have e : (⟨(⟨n + 1, hn⟩ : Fin cfg0.N).val - 1, Nat.lt_of_le_of_lt (Nat.sub_le _ _) (⟨n + 1, hn⟩ : Fin cfg0.N).isLt⟩ : Fin cfg0.N) = ⟨n, hn'⟩ := Fin.ext (Nat.succ_sub_one n)
    rw [e, hfl, if_neg Bool.false_ne_true]
    unfold Dat.left
    by_cases h0 : n = 0
    · subst h0
      rw [show cfg0.idle 5 (cfg0.grid.coords ⟨0, hn'⟩) = false from by
        cases h : cfg0.idle 5 (cfg0.grid.coords ⟨0, hn'⟩) with
        | false => rfl
        | true => exact absurd rfl ((idle5_iff ⟨0, hn'⟩).mp h)]
      dsimp only
      unfold Dat.kept
      rw [Pipeline.fill_of_clip_none 5 _ (fun a => rfl) d ((dats m 0 c).after 5 _), Window.fill_cut]
      exact after0_5 m c _
    · rw [(idle5_iff ⟨n, hn'⟩).mpr h0]
      exact ih hn' h0

/-- What the first step left in result 1's buffer is there at every later step. -/
theorem before0_6 (c : Dev nD) (d) : ∀ (n : ℕ) (hn : n < cfg0.N), n ≠ 0 → (dats m 0 c).before 6 ⟨n, hn⟩ d = xScale (X0 m c) := by
  intro n
  induction n with
  | zero => intro _ h; exact absurd rfl h
  | succ n ih =>
    intro hn _
    have hn' : n < cfg0.N := Nat.lt_of_succ_lt hn
    have hfl : (cfg0.win 6).flush ⟨n, hn'⟩ = false := by
      cases h : (cfg0.win 6).flush ⟨n, hn'⟩ with
      | false => rfl
      | true =>
        have h1 := (flush0_6 ⟨n, hn'⟩).mp h
        have h2 : n + 1 < 32 := hn
        have h3 : n % 32 = 31 := h1
        omega
    rw [(dats m 0 c).before_of_pos 6 ⟨n + 1, hn⟩ (Nat.succ_ne_zero n) rfl d]
    have e : (⟨(⟨n + 1, hn⟩ : Fin cfg0.N).val - 1, Nat.lt_of_le_of_lt (Nat.sub_le _ _) (⟨n + 1, hn⟩ : Fin cfg0.N).isLt⟩ : Fin cfg0.N) = ⟨n, hn'⟩ := Fin.ext (Nat.succ_sub_one n)
    rw [e, hfl, if_neg Bool.false_ne_true]
    unfold Dat.left
    by_cases h0 : n = 0
    · subst h0
      rw [show cfg0.idle 6 (cfg0.grid.coords ⟨0, hn'⟩) = false from by
        cases h : cfg0.idle 6 (cfg0.grid.coords ⟨0, hn'⟩) with
        | false => rfl
        | true => exact absurd rfl ((idle6_iff ⟨0, hn'⟩).mp h)]
      dsimp only
      unfold Dat.kept
      rw [Pipeline.fill_of_clip_none 6 _ (fun a => rfl) d ((dats m 0 c).after 6 _), Window.fill_cut]
      exact after0_6 m c _
    · rw [(idle6_iff ⟨n, hn'⟩).mpr h0]
      exact ih hn' h0

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ (dats m 0 c).leavesExact 5 t ∗ (dats m 0 c).leavesExact 6 t ∗ owns (c : Thread nD τ) (ms0_7 t) fullShare ((dats m 0 c).after 7 t) ∗ (dats m 0 c).leavesExact 8 t ∗ owns (c : Thread nD τ) (ms0_9 t) fullShare ((dats m 0 c).after 9 t))

theorem leaves_live (c : Dev nD) (w : Fin cfg0.W) (t : Fin cfg0.N) (hi : ¬ cfg0.idle w (cfg0.grid.coords t) = true) :
    (owns (c : Thread nD τ) ((cfg0.win w).stage (cfg0.slots t w)) fullShare ((dats m 0 c).after w t) : sProp 𝕄) ⊢ (dats m 0 c).leavesExact w t := by
  unfold Dat.leavesExact
  rw [Bool.eq_false_of_not_eq_true hi]

theorem leaves_idle (c : Dev nD) (w : Fin cfg0.W) (t : Fin cfg0.N) (d) (hi : cfg0.idle w (cfg0.grid.coords t) = true)
    (hb : (cfg0.win w).flush t = true → (dats m 0 c).before w t d = (dats m 0 c).after w t) :
    (owns (c : Thread nD τ) ((cfg0.win w).stage (cfg0.slots t w)) fullShare ((dats m 0 c).before w t d) : sProp 𝕄) ⊢ (dats m 0 c).leavesExact w t := by
  unfold Dat.leavesExact
  rw [hi]
  cases hf : (cfg0.win w).flush t with
  | false =>
    dsimp only
    iintro H
    iexists _
    iexact H
  | true =>
    dsimp only
    rw [hb hf]

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have ht := lt32 t
  have hco := coord0 t
  simp only [before0_0, before0_1, before0_2, before0_3, before0_4]
  rw [show (dats m 0 c).Φ t.succ = PhiS m c (t.val + 1) from rfl,
    show (dats m 0 c).owesAt () t.succ = (dats m 0 c).owesAt () t.castSucc from rfl,
    after0_0, after0_1, after0_2, after0_3, after0_4, after0_7, after0_9,
    show (dats m 0 c).Φ t.castSucc = PhiS m c t.val from rfl]
  unfold PhiS
  iintro ⟨⟨⟨⟨%xb, %hxb, HS0⟩, HS1, HS2, HS3, HS4, HS5, HS6, ⟨%hu, %hhu, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val = 0
  · have hc1 := (cond1_iff t).mpr h0
    have h31 : t.val ≠ 31 := by omega
    have hc2 : ¬ k0_cond2 (grid0.coords t) = 1#1 := fun h => h31 ((cond2_iff t).mp h)
    have hX : iblk m c 0 t = X0 m c := by rw [show t = ⟨0, by decide⟩ from Fin.ext h0]; rfl
    rw [hX]
    iapply ((runFirst c (grid0.coords t) hc1 hc2 _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) (X0 m c) (iblk m c 1 t) (iblk m c 2 t) (iblk m c 3 t) (iblk m c 4 t) ((dats m 0 c).before 8 t d8) hu) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexists _; iexact H9
    isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]
        · iexists _; isplitr; swap; · iexact HS0
          ipureintro; exact fun _ => rfl
        isplitl [HS1]; · iexact HS1
        isplitl [HS2]; · iexact HS2
        isplitl [HS3]; · iexact HS3
        isplitl [HS4]; · iexact HS4
        isplitl [HS5]; · iexact HS5
        isplitl [HS6]; · iexact HS6
        iexists _; isplitr; swap; · iexact HS7
        ipureintro; rw [hco]; exact HuOK_step m c t hu hhu
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_live m c 5 t (fun h => (idle5_iff t).mp h h0)); rw [after0_5]; iexact H5
    isplitl [H6]; · iapply (leaves_live m c 6 t (fun h => (idle6_iff t).mp h h0)); rw [after0_6]; iexact H6
    isplitl [H7]; · iexact H7
    isplitl [H8]; · iapply (leaves_idle m c 8 t d8 ((idle8_iff t).mpr h31) (fun h => absurd ((flush0_8 t).mp h) (by omega))); iexact H8
    iexact H9
  · have hc1 : ¬ k0_cond1 (grid0.coords t) = 1#1 := fun h => h0 ((cond1_iff t).mp h)
    obtain rfl := hxb (Nat.pos_of_ne_zero h0)
    by_cases h31 : t.val = 31
    · have hc2 := (cond2_iff t).mpr h31
      iapply ((runLast c (grid0.coords t) hc1 hc2 _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) ((dats m 0 c).before 5 t d5) ((dats m 0 c).before 6 t d6) (xDeq (X0 m c)) hu) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]
          · iexists _; isplitr; swap; · iexact HS0
            ipureintro; exact fun _ => rfl
          isplitl [HS1]; · iexact HS1
          isplitl [HS2]; · iexact HS2
          isplitl [HS3]; · iexact HS3
          isplitl [HS4]; · iexact HS4
          isplitl [HS5]; · iexact HS5
          isplitl [HS6]; · iexact HS6
          iexists _; isplitr; swap; · iexact HS7
          ipureintro; rw [hco]; exact HuOK_step m c t hu hhu
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves_idle m c 5 t d5 ((idle5_iff t).mpr h0) (fun _ => (before0_5 m c d5 t.val t.isLt h0).trans (after0_5 m c t).symm)); iexact H5
      isplitl [H6]; · iapply (leaves_idle m c 6 t d6 ((idle6_iff t).mpr h0) (fun _ => (before0_6 m c d6 t.val t.isLt h0).trans (after0_6 m c t).symm)); iexact H6
      isplitl [H7]; · iexact H7
      isplitl [H8]
      · iapply (leaves_live m c 8 t (fun h => (idle8_iff t).mp h h31)); rw [after0_8, ← hsPack_eq m c _ (show HuOK m c 32 (huNext t.val (Gt m c t) (Ut m c t) hu) from (show t.val + 1 = 32 from by omega) ▸ HuOK_step m c t hu hhu)]; rw [hco]; iexact H8
      iexact H9
    · have hc2 : ¬ k0_cond2 (grid0.coords t) = 1#1 := fun h => h31 ((cond2_iff t).mp h)
      iapply ((runMid c (grid0.coords t) hc1 hc2 _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) ((dats m 0 c).before 5 t d5) ((dats m 0 c).before 6 t d6) (xDeq (X0 m c)) ((dats m 0 c).before 8 t d8) hu) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]
          · iexists _; isplitr; swap; · iexact HS0
            ipureintro; exact fun _ => rfl
          isplitl [HS1]; · iexact HS1
          isplitl [HS2]; · iexact HS2
          isplitl [HS3]; · iexact HS3
          isplitl [HS4]; · iexact HS4
          isplitl [HS5]; · iexact HS5
          isplitl [HS6]; · iexact HS6
          iexists _; isplitr; swap; · iexact HS7
          ipureintro; rw [hco]; exact HuOK_step m c t hu hhu
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves_idle m c 5 t d5 ((idle5_iff t).mpr h0) (fun _ => (before0_5 m c d5 t.val t.isLt h0).trans (after0_5 m c t).symm)); iexact H5
      isplitl [H6]; · iapply (leaves_idle m c 6 t d6 ((idle6_iff t).mpr h0) (fun _ => (before0_6 m c d6 t.val t.isLt h0).trans (after0_6 m c t).symm)); iexact H6
      isplitl [H7]; · iexact H7
      isplitl [H8]; · iapply (leaves_idle m c 8 t d8 ((idle8_iff t).mpr h31) (fun h => absurd ((flush0_8 t).mp h) (by omega))); iexact H8
      iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : (Pipeline.ΦA spec0 c : sProp 𝕄) ⊢ PhiS m c 0 := by
  rw [PhiA0_eq]; unfold PhiS
  iintro ⟨⟨⟨%d0, HS0⟩, HS1, HS2, HS3, HS4, HS5, HS6, ⟨%d7, HS7⟩⟩, Hg⟩
  isplitl [HS0 HS1 HS2 HS3 HS4 HS5 HS6 HS7]
  · isplitl [HS0]
    · iexists _; isplitr; swap; · iexact HS0
      ipureintro; exact fun h => absurd h (Nat.lt_irrefl 0)
    isplitl [HS1]; · iexact HS1
    isplitl [HS2]; · iexact HS2
    isplitl [HS3]; · iexact HS3
    isplitl [HS4]; · iexact HS4
    isplitl [HS5]; · iexact HS5
    isplitl [HS6]; · iexact HS6
    iexists _; isplitr; swap; · iexact HS7
    ipureintro; exact fun z s b hs => absurd hs (Nat.not_lt_zero _)
  iexact Hg

theorem hout (c : Dev nD) (n : ℕ) : PhiS m c n ⊢ (Pipeline.ΦA spec0 c : sProp 𝕄) := by
  rw [PhiA0_eq]; unfold PhiS
  iintro ⟨⟨⟨%d0, -, HS0⟩, HS1, HS2, HS3, HS4, HS5, HS6, ⟨%d7, -, HS7⟩⟩, Hg⟩
  isplitl [HS0 HS1 HS2 HS3 HS4 HS5 HS6 HS7]
  · isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HS6]; · iexact HS6
    iexists _; iexact HS7
  iexact Hg

set_option backward.isDefEq.respectTransparency.types false in
set_option maxHeartbeats 800000 in
/-- The run: every array at what the run's data says, and every semaphore counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun c => hin m c) (hout := fun c => hout m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame at any float type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Up.Gen

end
-- ==== Proof.UpQuant.lean ====
/- The block quantiser on one tile of 32 rows and 128 lanes, and the arrays its tiles make up.

   A lane's block is the 32 lanes from the nearest multiple of 32 below it. The quantiser takes the largest power of two
   below each entry over 448, spreads the block's largest over the block, and scales by twice that power. -/
module

public import proofs.«01_k».proof.Proof.Gen.UpIdeal.Skeleton
public import Idealize.ShloMosaic.Lib.WritesUnit
public import Idealize.ShloMosaic.Lib.ValueIdx

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A tile split into its even and its odd rows and put together again. -/
def throughWords (p : FVec F S32x128 .bf16) : FVec F S32x128 .bf16 :=
  interleaveRows S32x128 (rowsOfParity 0 S16x128 p bitcasts_S32x128_w16_S16x128_w32) (rowsOfParity 1 S16x128 p bitcasts_S32x128_w16_S16x128_w32) bitcasts_S32x128_w16_S16x128_w32

/-- Each entry or the one `128 - n` lanes on, whichever is larger: the even rows and the odd rows are turned separately. -/
def turnMax (n : BitVec 32) (p : FVec F S32x128 .bf16) : FVec F S32x128 .bf16 :=
  maximumf (throughWords p) (interleaveRows S32x128 (dynamicRotate 1 n none (rowsOfParity 0 S16x128 p bitcasts_S32x128_w16_S16x128_w32) rotates_S16x128_d1)
    (dynamicRotate 1 n none (rowsOfParity 1 S16x128 p bitcasts_S32x128_w16_S16x128_w32) rotates_S16x128_d1) bitcasts_S32x128_w16_S16x128_w32)

/-- The largest power of two not above each entry over 448. -/
def powT (v : FVec F S32x128 .f32) : FVec F S32x128 .bf16 :=
  truncf .bf16 (exp2 (floor (divf (log (absf (mulf v (broadcast S32x128 (Scalar.ofBits .f32 0x3B124925#32)))))
    (log (broadcast S32x128 (Scalar.ofBits .f32 0x40000000#32)))))) bitsLt_bf16_f32

/-- At a block's first lane the largest of these powers over the block. -/
def maxT (v : FVec F S32x128 .f32) : FVec F S32x128 .f32 :=
  extf .f32 (throughWords (turnMax 112#32 (turnMax 120#32 (turnMax 124#32 (turnMax 126#32 (turnMax 127#32 (powT v))))))) bitsLt_bf16_f32

/-- Each lane's block's first lane. -/
def blockLane : IVec S32x128 32 :=
  have q : IVec S32x128 32 := andi (iota .tc S32x128 32 [1] iota_S32x128_d1_w32) (broadcast S32x128 4294967264#32)
  shapeCast S32x128 (shapeCast S32x128x1 (select (cmpi .slt q (broadcast S32x128 0#32)) (addi q (broadcast S32x128 128#32)) q)
    shapeCasts_S32x128_S32x128x1) shapeCasts_S32x128x1_S32x128

/-- Half of each block's scale, on every lane of the block: the block's largest power of two, or one half where that is zero. -/
def halfT (v : FVec F S32x128 .f32) : FVec F S32x128 .bf16 :=
  have g : FVec F S32x128 .bf16 := truncf .bf16 (dynamicGather 1 (maxT v) blockLane) bitsLt_bf16_f32
  select (cmpf .oeq g (broadcast S32x128 (Scalar.ofBits .bf16 0x0000#16))) (broadcast S32x128 (Scalar.ofBits .bf16 0x3F00#16)) g

/-- Each block's scale. -/
def scaleT (v : FVec F S32x128 .f32) : FVec F S32x128 .bf16 := addf (halfT v) (halfT v)

/-- The codes: each entry over its block's scale, clipped to ±448. -/
def codesT (v : FVec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf v (extf .f32 (divf (broadcast S32x128 (Scalar.ofBits .bf16 0x3F00#16)) (halfT v)) bitsLt_bf16_f32)))) bitsLt_fp8e4m3_f32

/-- The codes times the scale. -/
def deqT (v : FVec F S32x128 .f32) : FVec F S32x128 .bf16 := mulf (extf .bf16 (codesT v) bitsLt_fp8e4m3_bf16) (scaleT v)

/-- The tile of the activations in row block `a` and column block `b`. -/
def xTile (x0 : Vec F S1152x3072 .bf16) (a : Fin 36) (b : Fin 24) : FVec F S32x128 .f32 :=
  extf .f32 (φ := .bf16) (fun y : S32x128.Idx => x0 (ix2 ⟨32 * a.val + (y 0).val, by have : (y 0).val < 32 := (y 0).isLt; omega⟩
    ⟨128 * b.val + (y 1).val, by have : (y 1).val < 128 := (y 1).isLt; omega⟩)) bitsLt_bf16_f32

/-- The activations' codes. -/
def xCodes (x0 : Vec F S1152x3072 .bf16) : Vec F S1152x3072 .fp8e4m3 := fun y =>
  codesT (xTile x0 ⟨(y 0).val / 32, by have : (y 0).val < 1152 := (y 0).isLt; omega⟩ ⟨(y 1).val / 128, by have : (y 1).val < 3072 := (y 1).isLt; omega⟩)
    (ix2 ⟨(y 0).val % 32, by omega⟩ ⟨(y 1).val % 128, by omega⟩)

/-- The quantised activations: codes times scales. -/
def xDeq (x0 : Vec F S1152x3072 .bf16) : Vec F S1152x3072 .bf16 := fun y =>
  deqT (xTile x0 ⟨(y 0).val / 32, by have : (y 0).val < 1152 := (y 0).isLt; omega⟩ ⟨(y 1).val / 128, by have : (y 1).val < 3072 := (y 1).isLt; omega⟩)
    (ix2 ⟨(y 0).val % 32, by omega⟩ ⟨(y 1).val % 128, by omega⟩)

/-- The activations' scales: four blocks to a tile, each read at the block's lane of the tile's own number. -/
def xScale (x0 : Vec F S1152x3072 .bf16) : Vec F S1152x96 .f32 := fun y =>
  extf .f32 (scaleT (xTile x0 ⟨(y 0).val / 32, by have : (y 0).val < 1152 := (y 0).isLt; omega⟩ ⟨(y 1).val / 4, by have : (y 1).val < 96 := (y 1).isLt; omega⟩)) bitsLt_bf16_f32
    (ix2 ⟨(y 0).val % 32, by omega⟩ ⟨32 * ((y 1).val % 4) + (y 1).val / 4, by have : (y 1).val < 96 := (y 1).isLt; omega⟩)

end Cert.UpIdeal.Gen

end
-- ==== Proof.UpX.lean ====
/- What the activation loop stores: codes, quantised activations and scales, tile by tile. -/
module

public import proofs.«01_k».proof.Proof.UpQuant
public import proofs.«01_k».proof.Proof.Dequant
public import proofs.«01_k».proof.Proof.Gen.UpIdeal.Loops

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole)
variable (h1 : k0_cond1 i = 1#1) (X : BufTy.Contents (Elt F) a1.view.ty) (x0 : Vec F S1152x3072 .bf16)

variable (hX : a1.view.read (Elt F) X = x0)

include hX in
/-- A tile loaded at row block `k`, column block `b` is the activations' tile there. -/
theorem xTile_read {off : Fin 2 → ℕ} (k : Fin 36) (b : Fin 24) (e : off = ![32 * k.val, 128 * b.val])
    (inb : ∀ a, off a + S32x128.size a ≤ S1152x3072.size a) :
    extf .f32 (φ := .bf16) (View.readAt (Elt F) a1.view (Rect.unit (s := S1152x3072) off S32x128.size inb).toLoadRect X) bitsLt_bf16_f32
      = xTile x0 k b := by
  unfold xTile
  congr 1
  funext y
  rw [View.readAt_apply, hX]
  congr 1
  funext a; apply Fin.ext
  match a with
  | ⟨0, _⟩ => show off 0 + 1 * (y 0).val = 32 * k.val + (y 0).val; have : off 0 = 32 * k.val := by rw [e]; rfl
              omega
  | ⟨1, _⟩ => show off 1 + 1 * (y 1).val = 128 * b.val + (y 1).val; have : off 1 = 128 * b.val := by rw [e]; rfl
              omega

/-- A stored tile is a restriction of the whole array's tiles. -/
theorem tile_emb {α : Type} (f : Fin 36 → Fin 24 → S32x128.Idx → α) {off : Fin 2 → ℕ} (k : Fin 36) (b : Fin 24)
    (e : off = ![32 * k.val, 128 * b.val]) (inb : ∀ a, off a + S32x128.size a ≤ S1152x3072.size a) (x : S32x128.Idx) :
    f k b x = (fun y : S1152x3072.Idx => f ⟨(y 0).val / 32, by have : (y 0).val < 1152 := (y 0).isLt; omega⟩
      ⟨(y 1).val / 128, by have : (y 1).val < 3072 := (y 1).isLt; omega⟩ (ix2 ⟨(y 0).val % 32, by omega⟩ ⟨(y 1).val % 128, by omega⟩))
        ((Rect.unit (s := S1152x3072) off S32x128.size inb).emb x) := by
  obtain ⟨r, l, rfl⟩ : ∃ (r : Fin 32) (l : Fin 128), x = ix2 r l := ⟨x 0, x 1, eq_ix2 x⟩
  have e0 : ((Rect.unit (s := S1152x3072) off S32x128.size inb).emb (ix2 r l) 0).val = 32 * k.val + r.val := by
    show off 0 + 1 * r.val = _; rw [e]; simp
  have e1 : ((Rect.unit (s := S1152x3072) off S32x128.size inb).emb (ix2 r l) 1).val = 128 * b.val + l.val := by
    show off 1 + 1 * l.val = _; rw [e]; simp
  dsimp only
  have h0 : k = ⟨((Rect.unit (s := S1152x3072) off S32x128.size inb).emb (ix2 r l) 0).val / 32, by omega⟩ := by
    apply Fin.ext; show k.val = _ / 32; rw [e0]; omega
  have h1 : b = ⟨((Rect.unit (s := S1152x3072) off S32x128.size inb).emb (ix2 r l) 1).val / 128, by omega⟩ := by
    apply Fin.ext; show b.val = _ / 128; rw [e1]; omega
  refine (congrArg (fun k => f k b (ix2 r l)) h0).trans ((congrArg (fun b => f _ b (ix2 r l)) h1).trans (congrArg (f _ _) ?_))
  · funext a; apply Fin.ext
    match a with
    | ⟨0, _⟩ => show r.val = _ % 32; rw [e0]; omega
    | ⟨1, _⟩ => show l.val = _ % 128; rw [e1]; omega

include hX in
theorem codes_at {off : Fin 2 → ℕ} (k : Fin 36) (b : Fin 24) (e : off = ![32 * k.val, 128 * b.val])
    (inb : ∀ a, off a + S32x128.size a ≤ S1152x3072.size a) (x : S32x128.Idx) :
    codesT (extf .f32 (φ := .bf16) (View.readAt (Elt F) a1.view (Rect.unit (s := S1152x3072) off S32x128.size inb).toLoadRect X) bitsLt_bf16_f32) x
      = xCodes x0 ((Rect.unit (s := S1152x3072) off S32x128.size inb).emb x) := by
  rw [xTile_read a1 X x0 hX k b e inb]
  exact tile_emb (fun a b => codesT (xTile x0 a b)) k b e inb x

include hX in
theorem deq_at {off : Fin 2 → ℕ} (k : Fin 36) (b : Fin 24) (e : off = ![32 * k.val, 128 * b.val])
    (inb : ∀ a, off a + S32x128.size a ≤ S1152x3072.size a) (x : S32x128.Idx) :
    deqT (extf .f32 (φ := .bf16) (View.readAt (Elt F) a1.view (Rect.unit (s := S1152x3072) off S32x128.size inb).toLoadRect X) bitsLt_bf16_f32) x
      = xDeq x0 ((Rect.unit (s := S1152x3072) off S32x128.size inb).emb x) := by
  rw [xTile_read a1 X x0 hX k b e inb]
  exact tile_emb (fun a b => deqT (xTile x0 a b)) k b e inb x

include hX in
/-- The same through a reshape to its own shape. -/
theorem deq_at' {off : Fin 2 → ℕ} (k : Fin 36) (b : Fin 24) (e : off = ![32 * k.val, 128 * b.val])
    (inb : ∀ a, off a + S32x128.size a ≤ S1152x3072.size a) (x : S32x128.Idx) :
    shapeCast S32x128 (deqT (extf .f32 (φ := .bf16) (View.readAt (Elt F) a1.view (Rect.unit (s := S1152x3072) off S32x128.size inb).toLoadRect X) bitsLt_bf16_f32)) shapeCasts_S32x128_S32x128 x
      = xDeq x0 ((Rect.unit (s := S1152x3072) off S32x128.size inb).emb x) := by
  rw [shapeCast_self]
  exact deq_at a1 X x0 hX k b e inb x

include hX in
theorem trip1_codes (k : Fin k0_t1_loop.trips) : ∀ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).1,
    ∀ x, p.2 x = xCodes x0 (p.1.emb x) := by
  have hk : k.val < 36 := Nat.lt_of_lt_of_le k.isLt k0_t1_abs.2.1
  unfold tripL_k0_t1 trip_k0_t1
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, fun _ h => absurd h List.not_mem_nil⟩
  · first | exact fun x => codes_at a1 X x0 hX ⟨k.val, hk⟩ 23 (k0_off24_eq k) (k0_off24_inb i k h1) x
  · first | exact fun x => codes_at a1 X x0 hX ⟨k.val, hk⟩ 22 (k0_off23_eq k) (k0_off23_inb i k h1) x
  · first | exact fun x => codes_at a1 X x0 hX ⟨k.val, hk⟩ 21 (k0_off22_eq k) (k0_off22_inb i k h1) x
  · first | exact fun x => codes_at a1 X x0 hX ⟨k.val, hk⟩ 20 (k0_off21_eq k) (k0_off21_inb i k h1) x
  · first | exact fun x => codes_at a1 X x0 hX ⟨k.val, hk⟩ 19 (k0_off20_eq k) (k0_off20_inb i k h1) x
  · first | exact fun x => codes_at a1 X x0 hX ⟨k.val, hk⟩ 18 (k0_off19_eq k) (k0_off19_inb i k h1) x
  · first | exact fun x => codes_at a1 X x0 hX ⟨k.val, hk⟩ 17 (k0_off18_eq k) (k0_off18_inb i k h1) x
  · first | exact fun x => codes_at a1 X x0 hX ⟨k.val, hk⟩ 16 (k0_off17_eq k) (k0_off17_inb i k h1) x
  · first | exact fun x => codes_at a1 X x0 hX ⟨k.val, hk⟩ 15 (k0_off16_eq k) (k0_off16_inb i k h1) x
  · first | exact fun x => codes_at a1 X x0 hX ⟨k.val, hk⟩ 14 (k0_off15_eq k) (k0_off15_inb i k h1) x
  · first | exact fun x => codes_at a1 X x0 hX ⟨k.val, hk⟩ 13 (k0_off14_eq k) (k0_off14_inb i k h1) x
  · first | exact fun x => codes_at a1 X x0 hX ⟨k.val, hk⟩ 12 (k0_off13_eq k) (k0_off13_inb i k h1) x
  · first | exact fun x => codes_at a1 X x0 hX ⟨k.val, hk⟩ 11 (k0_off12_eq k) (k0_off12_inb i k h1) x
  · first | exact fun x => codes_at a1 X x0 hX ⟨k.val, hk⟩ 10 (k0_off11_eq k) (k0_off11_inb i k h1) x
  · first | exact fun x => codes_at a1 X x0 hX ⟨k.val, hk⟩ 9 (k0_off10_eq k) (k0_off10_inb i k h1) x
  · first | exact fun x => codes_at a1 X x0 hX ⟨k.val, hk⟩ 8 (k0_off9_eq k) (k0_off9_inb i k h1) x
  · first | exact fun x => codes_at a1 X x0 hX ⟨k.val, hk⟩ 7 (k0_off8_eq k) (k0_off8_inb i k h1) x
  · first | exact fun x => codes_at a1 X x0 hX ⟨k.val, hk⟩ 6 (k0_off7_eq k) (k0_off7_inb i k h1) x
  · first | exact fun x => codes_at a1 X x0 hX ⟨k.val, hk⟩ 5 (k0_off6_eq k) (k0_off6_inb i k h1) x
  · first | exact fun x => codes_at a1 X x0 hX ⟨k.val, hk⟩ 4 (k0_off5_eq k) (k0_off5_inb i k h1) x
  · first | exact fun x => codes_at a1 X x0 hX ⟨k.val, hk⟩ 3 (k0_off4_eq k) (k0_off4_inb i k h1) x
  · first | exact fun x => codes_at a1 X x0 hX ⟨k.val, hk⟩ 2 (k0_off3_eq k) (k0_off3_inb i k h1) x
  · first | exact fun x => codes_at a1 X x0 hX ⟨k.val, hk⟩ 1 (k0_off2_eq k) (k0_off2_inb i k h1) x
  · first | exact fun x => codes_at a1 X x0 hX ⟨k.val, hk⟩ 0 (k0_off1_eq k) (k0_off1_inb i k h1) x

include hX in
theorem trip1_deq (k : Fin k0_t1_loop.trips) : ∀ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.2,
    ∀ x, p.2 x = xDeq x0 (p.1.emb x) := by
  have hk : k.val < 36 := Nat.lt_of_lt_of_le k.isLt k0_t1_abs.2.1
  unfold tripL_k0_t1 trip_k0_t1
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, fun _ h => absurd h List.not_mem_nil⟩
  · first | exact fun x => deq_at a1 X x0 hX ⟨k.val, hk⟩ 23 (k0_off24_eq k) (k0_off24_inb i k h1) x | exact fun x => deq_at' a1 X x0 hX ⟨k.val, hk⟩ 23 (k0_off24_eq k) (k0_off24_inb i k h1) x
  · first | exact fun x => deq_at a1 X x0 hX ⟨k.val, hk⟩ 22 (k0_off23_eq k) (k0_off23_inb i k h1) x | exact fun x => deq_at' a1 X x0 hX ⟨k.val, hk⟩ 22 (k0_off23_eq k) (k0_off23_inb i k h1) x
  · first | exact fun x => deq_at a1 X x0 hX ⟨k.val, hk⟩ 21 (k0_off22_eq k) (k0_off22_inb i k h1) x | exact fun x => deq_at' a1 X x0 hX ⟨k.val, hk⟩ 21 (k0_off22_eq k) (k0_off22_inb i k h1) x
  · first | exact fun x => deq_at a1 X x0 hX ⟨k.val, hk⟩ 20 (k0_off21_eq k) (k0_off21_inb i k h1) x | exact fun x => deq_at' a1 X x0 hX ⟨k.val, hk⟩ 20 (k0_off21_eq k) (k0_off21_inb i k h1) x
  · first | exact fun x => deq_at a1 X x0 hX ⟨k.val, hk⟩ 19 (k0_off20_eq k) (k0_off20_inb i k h1) x | exact fun x => deq_at' a1 X x0 hX ⟨k.val, hk⟩ 19 (k0_off20_eq k) (k0_off20_inb i k h1) x
  · first | exact fun x => deq_at a1 X x0 hX ⟨k.val, hk⟩ 18 (k0_off19_eq k) (k0_off19_inb i k h1) x | exact fun x => deq_at' a1 X x0 hX ⟨k.val, hk⟩ 18 (k0_off19_eq k) (k0_off19_inb i k h1) x
  · first | exact fun x => deq_at a1 X x0 hX ⟨k.val, hk⟩ 17 (k0_off18_eq k) (k0_off18_inb i k h1) x | exact fun x => deq_at' a1 X x0 hX ⟨k.val, hk⟩ 17 (k0_off18_eq k) (k0_off18_inb i k h1) x
  · first | exact fun x => deq_at a1 X x0 hX ⟨k.val, hk⟩ 16 (k0_off17_eq k) (k0_off17_inb i k h1) x | exact fun x => deq_at' a1 X x0 hX ⟨k.val, hk⟩ 16 (k0_off17_eq k) (k0_off17_inb i k h1) x
  · first | exact fun x => deq_at a1 X x0 hX ⟨k.val, hk⟩ 15 (k0_off16_eq k) (k0_off16_inb i k h1) x | exact fun x => deq_at' a1 X x0 hX ⟨k.val, hk⟩ 15 (k0_off16_eq k) (k0_off16_inb i k h1) x
  · first | exact fun x => deq_at a1 X x0 hX ⟨k.val, hk⟩ 14 (k0_off15_eq k) (k0_off15_inb i k h1) x | exact fun x => deq_at' a1 X x0 hX ⟨k.val, hk⟩ 14 (k0_off15_eq k) (k0_off15_inb i k h1) x
  · first | exact fun x => deq_at a1 X x0 hX ⟨k.val, hk⟩ 13 (k0_off14_eq k) (k0_off14_inb i k h1) x | exact fun x => deq_at' a1 X x0 hX ⟨k.val, hk⟩ 13 (k0_off14_eq k) (k0_off14_inb i k h1) x
  · first | exact fun x => deq_at a1 X x0 hX ⟨k.val, hk⟩ 12 (k0_off13_eq k) (k0_off13_inb i k h1) x | exact fun x => deq_at' a1 X x0 hX ⟨k.val, hk⟩ 12 (k0_off13_eq k) (k0_off13_inb i k h1) x
  · first | exact fun x => deq_at a1 X x0 hX ⟨k.val, hk⟩ 11 (k0_off12_eq k) (k0_off12_inb i k h1) x | exact fun x => deq_at' a1 X x0 hX ⟨k.val, hk⟩ 11 (k0_off12_eq k) (k0_off12_inb i k h1) x
  · first | exact fun x => deq_at a1 X x0 hX ⟨k.val, hk⟩ 10 (k0_off11_eq k) (k0_off11_inb i k h1) x | exact fun x => deq_at' a1 X x0 hX ⟨k.val, hk⟩ 10 (k0_off11_eq k) (k0_off11_inb i k h1) x
  · first | exact fun x => deq_at a1 X x0 hX ⟨k.val, hk⟩ 9 (k0_off10_eq k) (k0_off10_inb i k h1) x | exact fun x => deq_at' a1 X x0 hX ⟨k.val, hk⟩ 9 (k0_off10_eq k) (k0_off10_inb i k h1) x
  · first | exact fun x => deq_at a1 X x0 hX ⟨k.val, hk⟩ 8 (k0_off9_eq k) (k0_off9_inb i k h1) x | exact fun x => deq_at' a1 X x0 hX ⟨k.val, hk⟩ 8 (k0_off9_eq k) (k0_off9_inb i k h1) x
  · first | exact fun x => deq_at a1 X x0 hX ⟨k.val, hk⟩ 7 (k0_off8_eq k) (k0_off8_inb i k h1) x | exact fun x => deq_at' a1 X x0 hX ⟨k.val, hk⟩ 7 (k0_off8_eq k) (k0_off8_inb i k h1) x
  · first | exact fun x => deq_at a1 X x0 hX ⟨k.val, hk⟩ 6 (k0_off7_eq k) (k0_off7_inb i k h1) x | exact fun x => deq_at' a1 X x0 hX ⟨k.val, hk⟩ 6 (k0_off7_eq k) (k0_off7_inb i k h1) x
  · first | exact fun x => deq_at a1 X x0 hX ⟨k.val, hk⟩ 5 (k0_off6_eq k) (k0_off6_inb i k h1) x | exact fun x => deq_at' a1 X x0 hX ⟨k.val, hk⟩ 5 (k0_off6_eq k) (k0_off6_inb i k h1) x
  · first | exact fun x => deq_at a1 X x0 hX ⟨k.val, hk⟩ 4 (k0_off5_eq k) (k0_off5_inb i k h1) x | exact fun x => deq_at' a1 X x0 hX ⟨k.val, hk⟩ 4 (k0_off5_eq k) (k0_off5_inb i k h1) x
  · first | exact fun x => deq_at a1 X x0 hX ⟨k.val, hk⟩ 3 (k0_off4_eq k) (k0_off4_inb i k h1) x | exact fun x => deq_at' a1 X x0 hX ⟨k.val, hk⟩ 3 (k0_off4_eq k) (k0_off4_inb i k h1) x
  · first | exact fun x => deq_at a1 X x0 hX ⟨k.val, hk⟩ 2 (k0_off3_eq k) (k0_off3_inb i k h1) x | exact fun x => deq_at' a1 X x0 hX ⟨k.val, hk⟩ 2 (k0_off3_eq k) (k0_off3_inb i k h1) x
  · first | exact fun x => deq_at a1 X x0 hX ⟨k.val, hk⟩ 1 (k0_off2_eq k) (k0_off2_inb i k h1) x | exact fun x => deq_at' a1 X x0 hX ⟨k.val, hk⟩ 1 (k0_off2_eq k) (k0_off2_inb i k h1) x
  · first | exact fun x => deq_at a1 X x0 hX ⟨k.val, hk⟩ 0 (k0_off1_eq k) (k0_off1_inb i k h1) x | exact fun x => deq_at' a1 X x0 hX ⟨k.val, hk⟩ 0 (k0_off1_eq k) (k0_off1_inb i k h1) x

end Pieces
end Cert.UpIdeal.Gen

end
-- ==== Proof.UpLanes.lean ====
/- The lanes of a tile: which tile of a row each keeps a scale for, and where a packed column reads. -/
module

public import proofs.«01_k».proof.Proof.Gen.UpIdeal.Skeleton
public import Idealize.ShloMosaic.Lib.WritesUnit
public import Idealize.ShloMosaic.Lib.ValueIdx

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Each lane's number within its block. -/
def laneMod : IVec S32x128 32 :=
  have n : BitVec 32 := Scalar.select (Scalar.cmpi .eq 32#32 0#32) 1#32 32#32
  have q : IVec S32x128 32 := remsi (iota .tc S32x128 32 [1] iota_S32x128_d1_w32) (broadcast S32x128 n)
  select (andi (xori (cmpi .slt q (broadcast S32x128 0#32)) (broadcastTo S32x128 (broadcast S32x128 (Scalar.cmpi .slt n 0#32)) broadcasts_S32x128_S32x128))
    (cmpi .ne q (broadcast S32x128 0#32))) (addi q (broadcast S32x128 n)) q

/-- The scales of a row of tiles, tile `n`'s kept on the lanes numbered `n` in their blocks. -/
def accTo (S : ℕ → FVec F S32x128 .bf16) : ℕ → FVec F S32x128 .f32
  | 0 => broadcast S32x128 (Scalar.ofBits .f32 0x00000000#32)
  | n + 1 => select (cmpi .eq laneMod (broadcast S32x128 (BitVec.ofNat 32 n))) (extf .f32 (S n) bitsLt_bf16_f32) (accTo S n)

theorem laneMod_apply : ∀ (r : Fin 32) (l : Fin 128), laneMod (ix2 r l) = BitVec.ofNat 32 (l.val % 32) := by decide +kernel

theorem cmpi_eq_one {w : ℕ} (x y : BitVec w) : IntOp.cmpi .eq x y = 1#1 ↔ x = y := by
  simp only [IntOp.cmpi]
  by_cases h : x = y
  · simp [h]
  · rw [beq_false_of_ne h]; exact ⟨fun h' => absurd h' (by decide), fun h' => absurd h' h⟩

/-- What is kept on a lane after `n` tiles. -/
theorem accTo_apply (S : ℕ → FVec F S32x128 .bf16) (n : ℕ) (hn : n ≤ 32) (r : Fin 32) (l : Fin 128) (h : l.val % 32 < n) :
    accTo S n (ix2 r l) = extf .f32 (S (l.val % 32)) bitsLt_bf16_f32 (ix2 r l) := by
  induction n with
  | zero => omega
  | succ n ih =>
    show (if (IntOp.cmpi .eq (laneMod (ix2 r l)) (BitVec.ofNat 32 n)) = 1#1 then _ else _) = _
    rw [laneMod_apply]
    by_cases e : l.val % 32 = n
    · rw [e, if_pos ((cmpi_eq_one _ _).2 rfl)]
    · rw [if_neg (fun hc => e ?_), ih (by omega) (by omega)]
      have := congrArg BitVec.toNat ((cmpi_eq_one _ _).1 hc)
      simp only [BitVec.toNat_ofNat] at this
      omega

/-- The lane a packed column reads: column `j` is block `j % 4` of tile `j / 4`. -/
def packIdx : IVec S32x128 32 :=
  have i0 : IVec S32x128 32 := iota .tc S32x128 32 [1] iota_S32x128_d1_w32
  have n : BitVec 32 := Scalar.select (Scalar.cmpi .eq 4#32 0#32) 1#32 4#32
  have q : IVec S32x128 32 := remsi i0 (broadcast S32x128 n)
  have m : IVec S32x128 32 := select (andi (xori (cmpi .slt q (broadcast S32x128 0#32))
    (broadcastTo S32x128 (broadcast S32x128 (Scalar.cmpi .slt n 0#32)) broadcasts_S32x128_S32x128)) (cmpi .ne q (broadcast S32x128 0#32)))
    (addi q (broadcast S32x128 n)) q
  have d : IVec S32x128 32 := divsi i0 (broadcast S32x128 4#32)
  have g : IVec S32x128 32 := subi (extui 32 (cmpi .sgt i0 (broadcast S32x128 0#32)) natLt_1_32) (extui 32 (cmpi .slt i0 (broadcast S32x128 0#32)) natLt_1_32)
  have b : BitVec 32 := Scalar.subi (Scalar.extui (Scalar.cmpi .sgt 4#32 0#32)) (Scalar.extui (Scalar.cmpi .slt 4#32 0#32))
  have d' : IVec S32x128 32 := select (andi (cmpi .ne g (broadcast S32x128 b)) (cmpi .ne (remsi i0 (broadcast S32x128 4#32)) (broadcast S32x128 0#32)))
    (subi d (broadcast S32x128 1#32)) d
  have p : IVec S32x128 32 := addi (muli (broadcast S32x128 32#32) m) d'
  shapeCast S32x128 (shapeCast S32x128x1 (select (cmpi .slt p (broadcast S32x128 0#32)) (addi p (broadcast S32x128 128#32)) p)
    shapeCasts_S32x128_S32x128x1) shapeCasts_S32x128x1_S32x128

/-- A tile with its lanes packed. -/
def packT (acc : FVec F S32x128 .f32) : FVec F S32x128 .f32 := dynamicGather 1 acc packIdx

theorem packIdx_apply : ∀ (r : Fin 32) (l : Fin 128), packIdx (ix2 r l) = BitVec.ofNat 32 (32 * (l.val % 4) + l.val / 4) := by
  decide +kernel

/-- The packed scales of a row of tiles. -/
theorem pack_apply (acc : FVec F S32x128 .f32) (r : Fin 32) (j : Fin 96) :
    extractStridedSlice S32x96 ![0, 0] (packT acc) slices_S32x128_o0_0_S32x96 (ix2 r j) = acc (ix2 r ⟨32 * (j.val % 4) + j.val / 4, by omega⟩) := by
  show acc _ = _
  refine congrArg acc (funext fun b => Fin.ext ?_)
  match b with
  | ⟨0, _⟩ => show 0 + r.val = r.val; omega
  | ⟨1, _⟩ =>
    show (packIdx _).toNat % 128 = 32 * (j.val % 4) + j.val / 4
    have e := packIdx_apply ⟨0 + r.val, by omega⟩ ⟨0 + j.val, by omega⟩
    rw [eq_ix2 (n0 := 32) (n1 := 128) (fun a : Fin 2 => _)]
    refine (congrArg (fun i : BitVec 32 => i.toNat % 128) e).trans ?_
    simp only [BitVec.toNat_ofNat, Nat.zero_add]; omega

/-- All 128 packed lanes. -/
theorem packT_apply (acc : FVec F S32x128 .f32) (r : Fin 32) (l : Fin 128) :
    packT acc (ix2 r l) = acc (ix2 r ⟨32 * (l.val % 4) + l.val / 4, by omega⟩) := by
  show acc _ = _
  refine congrArg acc (funext fun b => Fin.ext ?_)
  match b with
  | ⟨0, _⟩ => rfl
  | ⟨1, _⟩ =>
    show (packIdx (ix2 r l)).toNat % 128 = 32 * (l.val % 4) + l.val / 4
    refine (congrArg (fun i : BitVec 32 => i.toNat % 128) (packIdx_apply r l)).trans ?_
    simp only [BitVec.toNat_ofNat]; omega

end Cert.UpIdeal.Gen

end
-- ==== Proof.UpXRead.lean ====
/- What the activation loop leaves: the codes, the scales and the quantised activations of the whole array. -/
module

public import proofs.«01_k».proof.Proof.UpX
public import proofs.«01_k».proof.Proof.UpLanes
public import proofs.«01_k».proof.Proof.Dequant
public import proofs.«01_k».proof.Proof.Gen.UpIdeal.Loops

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole)
variable (h1 : k0_cond1 i = 1#1) (X : BufTy.Contents (Elt F) a1.view.ty) (x0 : Vec F S1152x3072 .bf16)

variable (hX : a1.view.read (Elt F) X = x0)

/-- A tile loaded from the activations. -/
abbrev loadX {off : Fin 2 → ℕ} (inb : ∀ a, off a + S32x128.size a ≤ S1152x3072.size a) : FVec F S32x128 .f32 :=
  extf .f32 (φ := .bf16) (View.readAt (Elt F) a1.view (Rect.unit (s := S1152x3072) off S32x128.size inb).toLoadRect X) bitsLt_bf16_f32

/-- The scales of the row of tiles that trip `k` loads. -/
def rowScales (k : Fin k0_t1_loop.trips) : ℕ → FVec F S32x128 .bf16
  | 0 => scaleT (loadX a1 X (k0_off1_inb i k h1))
  | 1 => scaleT (loadX a1 X (k0_off2_inb i k h1))
  | 2 => scaleT (loadX a1 X (k0_off3_inb i k h1))
  | 3 => scaleT (loadX a1 X (k0_off4_inb i k h1))
  | 4 => scaleT (loadX a1 X (k0_off5_inb i k h1))
  | 5 => scaleT (loadX a1 X (k0_off6_inb i k h1))
  | 6 => scaleT (loadX a1 X (k0_off7_inb i k h1))
  | 7 => scaleT (loadX a1 X (k0_off8_inb i k h1))
  | 8 => scaleT (loadX a1 X (k0_off9_inb i k h1))
  | 9 => scaleT (loadX a1 X (k0_off10_inb i k h1))
  | 10 => scaleT (loadX a1 X (k0_off11_inb i k h1))
  | 11 => scaleT (loadX a1 X (k0_off12_inb i k h1))
  | 12 => scaleT (loadX a1 X (k0_off13_inb i k h1))
  | 13 => scaleT (loadX a1 X (k0_off14_inb i k h1))
  | 14 => scaleT (loadX a1 X (k0_off15_inb i k h1))
  | 15 => scaleT (loadX a1 X (k0_off16_inb i k h1))
  | 16 => scaleT (loadX a1 X (k0_off17_inb i k h1))
  | 17 => scaleT (loadX a1 X (k0_off18_inb i k h1))
  | 18 => scaleT (loadX a1 X (k0_off19_inb i k h1))
  | 19 => scaleT (loadX a1 X (k0_off20_inb i k h1))
  | 20 => scaleT (loadX a1 X (k0_off21_inb i k h1))
  | 21 => scaleT (loadX a1 X (k0_off22_inb i k h1))
  | 22 => scaleT (loadX a1 X (k0_off23_inb i k h1))
  | 23 => scaleT (loadX a1 X (k0_off24_inb i k h1))
  | _ + 24 => scaleT (loadX a1 X (k0_off1_inb i k h1))

include hX in
theorem rowScales_eq (k : Fin k0_t1_loop.trips) (k' : Fin 36) (hk : k'.val = k.val) (n : ℕ) (hn : n < 24) :
    rowScales i a1 h1 X k n = scaleT (xTile x0 k' ⟨n, hn⟩) := by
  obtain ⟨k', hk'⟩ := k'
  dsimp only at hk
  subst hk
  match n, hn with
  | 0, _ => exact congrArg scaleT (xTile_read a1 X x0 hX ⟨k.val, hk'⟩ 0 (k0_off1_eq k) (k0_off1_inb i k h1))
  | 1, _ => exact congrArg scaleT (xTile_read a1 X x0 hX ⟨k.val, hk'⟩ 1 (k0_off2_eq k) (k0_off2_inb i k h1))
  | 2, _ => exact congrArg scaleT (xTile_read a1 X x0 hX ⟨k.val, hk'⟩ 2 (k0_off3_eq k) (k0_off3_inb i k h1))
  | 3, _ => exact congrArg scaleT (xTile_read a1 X x0 hX ⟨k.val, hk'⟩ 3 (k0_off4_eq k) (k0_off4_inb i k h1))
  | 4, _ => exact congrArg scaleT (xTile_read a1 X x0 hX ⟨k.val, hk'⟩ 4 (k0_off5_eq k) (k0_off5_inb i k h1))
  | 5, _ => exact congrArg scaleT (xTile_read a1 X x0 hX ⟨k.val, hk'⟩ 5 (k0_off6_eq k) (k0_off6_inb i k h1))
  | 6, _ => exact congrArg scaleT (xTile_read a1 X x0 hX ⟨k.val, hk'⟩ 6 (k0_off7_eq k) (k0_off7_inb i k h1))
  | 7, _ => exact congrArg scaleT (xTile_read a1 X x0 hX ⟨k.val, hk'⟩ 7 (k0_off8_eq k) (k0_off8_inb i k h1))
  | 8, _ => exact congrArg scaleT (xTile_read a1 X x0 hX ⟨k.val, hk'⟩ 8 (k0_off9_eq k) (k0_off9_inb i k h1))
  | 9, _ => exact congrArg scaleT (xTile_read a1 X x0 hX ⟨k.val, hk'⟩ 9 (k0_off10_eq k) (k0_off10_inb i k h1))
  | 10, _ => exact congrArg scaleT (xTile_read a1 X x0 hX ⟨k.val, hk'⟩ 10 (k0_off11_eq k) (k0_off11_inb i k h1))
  | 11, _ => exact congrArg scaleT (xTile_read a1 X x0 hX ⟨k.val, hk'⟩ 11 (k0_off12_eq k) (k0_off12_inb i k h1))
  | 12, _ => exact congrArg scaleT (xTile_read a1 X x0 hX ⟨k.val, hk'⟩ 12 (k0_off13_eq k) (k0_off13_inb i k h1))
  | 13, _ => exact congrArg scaleT (xTile_read a1 X x0 hX ⟨k.val, hk'⟩ 13 (k0_off14_eq k) (k0_off14_inb i k h1))
  | 14, _ => exact congrArg scaleT (xTile_read a1 X x0 hX ⟨k.val, hk'⟩ 14 (k0_off15_eq k) (k0_off15_inb i k h1))
  | 15, _ => exact congrArg scaleT (xTile_read a1 X x0 hX ⟨k.val, hk'⟩ 15 (k0_off16_eq k) (k0_off16_inb i k h1))
  | 16, _ => exact congrArg scaleT (xTile_read a1 X x0 hX ⟨k.val, hk'⟩ 16 (k0_off17_eq k) (k0_off17_inb i k h1))
  | 17, _ => exact congrArg scaleT (xTile_read a1 X x0 hX ⟨k.val, hk'⟩ 17 (k0_off18_eq k) (k0_off18_inb i k h1))
  | 18, _ => exact congrArg scaleT (xTile_read a1 X x0 hX ⟨k.val, hk'⟩ 18 (k0_off19_eq k) (k0_off19_inb i k h1))
  | 19, _ => exact congrArg scaleT (xTile_read a1 X x0 hX ⟨k.val, hk'⟩ 19 (k0_off20_eq k) (k0_off20_inb i k h1))
  | 20, _ => exact congrArg scaleT (xTile_read a1 X x0 hX ⟨k.val, hk'⟩ 20 (k0_off21_eq k) (k0_off21_inb i k h1))
  | 21, _ => exact congrArg scaleT (xTile_read a1 X x0 hX ⟨k.val, hk'⟩ 21 (k0_off22_eq k) (k0_off22_inb i k h1))
  | 22, _ => exact congrArg scaleT (xTile_read a1 X x0 hX ⟨k.val, hk'⟩ 22 (k0_off23_eq k) (k0_off23_inb i k h1))
  | 23, _ => exact congrArg scaleT (xTile_read a1 X x0 hX ⟨k.val, hk'⟩ 23 (k0_off24_eq k) (k0_off24_inb i k h1))
  | n + 24, hn => exact absurd hn (by omega)

theorem lane_mod {j : ℕ} (h : j < 96) : (32 * (j % 4) + j / 4) % 32 = j / 4 := by
  rw [Nat.mul_add_mod]; exact Nat.mod_eq_of_lt (by omega)

/-- The activations' scales at row `32 k + r`, column `j`. -/
theorem xScale_at (y : S1152x96.Idx) (k : Fin 36) (r : Fin 32) (j : Fin 96) (e0 : (y 0).val = 32 * k.val + r.val) (e1 : (y 1).val = j.val) :
    extf .f32 (scaleT (xTile x0 k ⟨j.val / 4, by omega⟩)) bitsLt_bf16_f32 (ix2 r ⟨32 * (j.val % 4) + j.val / 4, by omega⟩)
      = xScale x0 y := by
  have hr : (ix2 r (⟨32 * (j.val % 4) + j.val / 4, by omega⟩ : Fin 128) : S32x128.Idx)
      = ix2 ⟨(y 0).val % 32, by omega⟩ ⟨32 * ((y 1).val % 4) + (y 1).val / 4, by omega⟩ := by
    congr 1
    · apply Fin.ext; dsimp only; omega
    · apply Fin.ext; dsimp only; omega
  unfold xScale
  rw [← hr]
  have h0 : k = ⟨(y 0).val / 32, by omega⟩ := by apply Fin.ext; dsimp only; omega
  have h1' : (⟨j.val / 4, by omega⟩ : Fin 24) = ⟨(y 1).val / 4, by omega⟩ := by apply Fin.ext; dsimp only; omega
  exact congrArg (fun t => extf .f32 (scaleT t) bitsLt_bf16_f32 _) (congrArg₂ (xTile x0) h0 h1')

include hX in
/-- The packed scales of a row of tiles are a restriction of the activations' scales. -/
theorem scale_at (k : Fin k0_t1_loop.trips) (x : S32x96.Idx) :
    extractStridedSlice S32x96 ![0, 0] (packT (accTo (rowScales i a1 h1 X k) 24)) slices_S32x128_o0_0_S32x96 x
      = xScale x0 ((Rect.unit (s := S1152x96) (k0_off25 k) S32x96.size (k0_off25_inb i k h1)).emb x) := by
  have hk : k.val < 36 := Nat.lt_of_lt_of_le k.isLt k0_t1_abs.2.1
  obtain ⟨r, j, rfl⟩ : ∃ (r : Fin 32) (j : Fin 96), x = ix2 r j := ⟨x 0, x 1, eq_ix2 x⟩
  have e : k0_off25 k = ![32 * k.val, 0] := k0_off25_eq k
  have e0 : ((Rect.unit (s := S1152x96) (k0_off25 k) S32x96.size (k0_off25_inb i k h1)).emb (ix2 r j) 0).val = 32 * k.val + r.val := by
    show k0_off25 k 0 + 1 * r.val = _; rw [e]; simp
  have e1 : ((Rect.unit (s := S1152x96) (k0_off25 k) S32x96.size (k0_off25_inb i k h1)).emb (ix2 r j) 1).val = j.val := by
    show k0_off25 k 1 + 1 * j.val = _; rw [e]; simp
  rw [pack_apply, accTo_apply _ 24 (by omega) r _ (by rw [lane_mod j.isLt]; omega), lane_mod j.isLt]
  rw [rowScales_eq i a1 h1 X x0 hX k ⟨k.val, hk⟩ rfl _ (by omega)]
  exact xScale_at x0 _ ⟨k.val, hk⟩ r j e0 e1

include hX in
theorem trip1_scale (k : Fin k0_t1_loop.trips) : ∀ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.1,
    ∀ x, p.2 x = xScale x0 (p.1.emb x) := by
  unfold tripL_k0_t1 trip_k0_t1
  dsimp only
  simp only [List.forall_mem_cons]
  refine ⟨?_, fun _ h => absurd h List.not_mem_nil⟩
  exact fun x => scale_at i a1 h1 X x0 hX k x

include hX in
/-- Every stored piece restricts the whole array. -/
theorem pb1_codes (n : ℕ) (hn : n ≤ k0_t1_loop.trips) (p : View.Piece (Elt F) S1152x3072 .fp8e4m3)
    (hp : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).1) : ∀ x, p.2 x = xCodes x0 (p.1.emb x) := by
  induction n with
  | zero => exact absurd hp List.not_mem_nil
  | succ n ih =>
    have h := congrArg (fun q => q.1) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append] at hp
    rcases hp with hp | hp
    · exact trip1_codes 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX ⟨n, hn⟩ p hp
    · exact ih (by omega) hp

/-- The pieces of trip `k` are among those of the first `n`. -/
theorem pb1_mem_codes (n : ℕ) (hn : n ≤ k0_t1_loop.trips) (k : Fin k0_t1_loop.trips) (hk : k.val < n) (p : View.Piece (Elt F) S1152x3072 .fp8e4m3)
    (hp : p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).1) : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).1 := by
  induction n with
  | zero => omega
  | succ n ih =>
    have h := congrArg (fun q => q.1) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append]
    rcases Nat.lt_succ_iff_lt_or_eq.mp hk with h' | h'
    · exact .inr (ih (by omega) h')
    · subst h'; exact .inl hp

include hX in
/-- Every stored piece restricts the whole array. -/
theorem pb1_scale (n : ℕ) (hn : n ≤ k0_t1_loop.trips) (p : View.Piece (Elt F) S1152x96 .f32)
    (hp : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).2.1) : ∀ x, p.2 x = xScale x0 (p.1.emb x) := by
  induction n with
  | zero => exact absurd hp List.not_mem_nil
  | succ n ih =>
    have h := congrArg (fun q => q.2.1) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append] at hp
    rcases hp with hp | hp
    · exact trip1_scale 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX ⟨n, hn⟩ p hp
    · exact ih (by omega) hp

/-- The pieces of trip `k` are among those of the first `n`. -/
theorem pb1_mem_scale (n : ℕ) (hn : n ≤ k0_t1_loop.trips) (k : Fin k0_t1_loop.trips) (hk : k.val < n) (p : View.Piece (Elt F) S1152x96 .f32)
    (hp : p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.1) : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).2.1 := by
  induction n with
  | zero => omega
  | succ n ih =>
    have h := congrArg (fun q => q.2.1) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append]
    rcases Nat.lt_succ_iff_lt_or_eq.mp hk with h' | h'
    · exact .inr (ih (by omega) h')
    · subst h'; exact .inl hp

include hX in
/-- Every stored piece restricts the whole array. -/
theorem pb1_deq (n : ℕ) (hn : n ≤ k0_t1_loop.trips) (p : View.Piece (Elt F) S1152x3072 .bf16)
    (hp : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).2.2) : ∀ x, p.2 x = xDeq x0 (p.1.emb x) := by
  induction n with
  | zero => exact absurd hp List.not_mem_nil
  | succ n ih =>
    have h := congrArg (fun q => q.2.2) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append] at hp
    rcases hp with hp | hp
    · exact trip1_deq 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX ⟨n, hn⟩ p hp
    · exact ih (by omega) hp

/-- The pieces of trip `k` are among those of the first `n`. -/
theorem pb1_mem_deq (n : ℕ) (hn : n ≤ k0_t1_loop.trips) (k : Fin k0_t1_loop.trips) (hk : k.val < n) (p : View.Piece (Elt F) S1152x3072 .bf16)
    (hp : p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.2) : p ∈ (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X n).2.2 := by
  induction n with
  | zero => omega
  | succ n ih =>
    have h := congrArg (fun q => q.2.2) (pb_k0_t1_succ 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨n, hn⟩)
    dsimp only at h
    rw [h, List.mem_append]
    rcases Nat.lt_succ_iff_lt_or_eq.mp hk with h' | h'
    · exact .inr (ih (by omega) h')
    · subst h'; exact .inl hp

theorem mem_off {n : ℕ} (off : Fin 2 → ℕ) (k b m : ℕ) (e : off = ![32 * k, b])
    (inb : ∀ a, off a + (⟨2, ![32, m]⟩ : Shape).size a ≤ (⟨2, ![1152, n]⟩ : Shape).size a) (y : (⟨2, ![1152, n]⟩ : Shape).Idx)
    (_hy : (y 0).val < 1152) (h0 : (y 0).val / 32 = k) (h1 : b ≤ (y 1).val) (h2 : (y 1).val < b + m) :
    y ∈ (Rect.unit (s := ⟨2, ![1152, n]⟩) off (⟨2, ![32, m]⟩ : Shape).size inb).set := by
  subst e
  rw [Rect.mem_set_unit]; intro a
  match a with
  | ⟨0, _⟩ => show 32 * k ≤ (y 0).val ∧ (y 0).val < 32 * k + 32; omega
  | ⟨1, _⟩ => show b ≤ (y 1).val ∧ (y 1).val < b + m; omega

/-- Trip `k` stores every element of its rows. -/
theorem trip1_cover_codes (k : Fin k0_t1_loop.trips) (y : S1152x3072.Idx) (hy : (y 0).val / 32 = k.val) :
    ∃ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).1, y ∈ p.1.set := by
  have hy0 : (y 0).val < 1152 := (y 0).isLt
  unfold tripL_k0_t1 trip_k0_t1
  dsimp only
  have hy1 : (y 1).val < 3072 := (y 1).isLt
  have hb : (y 1).val / 128 < 24 := by omega
  generalize hq : (y 1).val / 128 = q at hb
  match q, hb, hq with
  | 0, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))), mem_off _ k.val (0) 128 (k0_off1_eq k) (k0_off1_inb i k h1) y hy0 hy (by omega) (by omega)⟩
  | 1, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))), mem_off _ k.val (128) 128 (k0_off2_eq k) (k0_off2_inb i k h1) y hy0 hy (by omega) (by omega)⟩
  | 2, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))), mem_off _ k.val (256) 128 (k0_off3_eq k) (k0_off3_inb i k h1) y hy0 hy (by omega) (by omega)⟩
  | 3, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))), mem_off _ k.val (384) 128 (k0_off4_eq k) (k0_off4_inb i k h1) y hy0 hy (by omega) (by omega)⟩
  | 4, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))), mem_off _ k.val (512) 128 (k0_off5_eq k) (k0_off5_inb i k h1) y hy0 hy (by omega) (by omega)⟩
  | 5, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))), mem_off _ k.val (640) 128 (k0_off6_eq k) (k0_off6_inb i k h1) y hy0 hy (by omega) (by omega)⟩
  | 6, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))), mem_off _ k.val (768) 128 (k0_off7_eq k) (k0_off7_inb i k h1) y hy0 hy (by omega) (by omega)⟩
  | 7, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))), mem_off _ k.val (896) 128 (k0_off8_eq k) (k0_off8_inb i k h1) y hy0 hy (by omega) (by omega)⟩
  | 8, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))), mem_off _ k.val (1024) 128 (k0_off9_eq k) (k0_off9_inb i k h1) y hy0 hy (by omega) (by omega)⟩
  | 9, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))), mem_off _ k.val (1152) 128 (k0_off10_eq k) (k0_off10_inb i k h1) y hy0 hy (by omega) (by omega)⟩
  | 10, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), mem_off _ k.val (1280) 128 (k0_off11_eq k) (k0_off11_inb i k h1) y hy0 hy (by omega) (by omega)⟩
  | 11, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), mem_off _ k.val (1408) 128 (k0_off12_eq k) (k0_off12_inb i k h1) y hy0 hy (by omega) (by omega)⟩
  | 12, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), mem_off _ k.val (1536) 128 (k0_off13_eq k) (k0_off13_inb i k h1) y hy0 hy (by omega) (by omega)⟩
  | 13, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), mem_off _ k.val (1664) 128 (k0_off14_eq k) (k0_off14_inb i k h1) y hy0 hy (by omega) (by omega)⟩
  | 14, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), mem_off _ k.val (1792) 128 (k0_off15_eq k) (k0_off15_inb i k h1) y hy0 hy (by omega) (by omega)⟩
  | 15, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), mem_off _ k.val (1920) 128 (k0_off16_eq k) (k0_off16_inb i k h1) y hy0 hy (by omega) (by omega)⟩
  | 16, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), mem_off _ k.val (2048) 128 (k0_off17_eq k) (k0_off17_inb i k h1) y hy0 hy (by omega) (by omega)⟩
  | 17, _, hq => exact ⟨_, List.mem_cons_of_mem _ (List.mem_cons_of_mem _ (List.mem_cons_of_mem _ (List.mem_cons_of_mem _ (List.mem_cons_of_mem _ (List.mem_cons_of_mem _ (List.mem_cons_self ..)))))), mem_off _ k.val (2176) 128 (k0_off18_eq k) (k0_off18_inb i k h1) y hy0 hy (by omega) (by omega)⟩
  | 18, _, hq => exact ⟨_, List.mem_cons_of_mem _ (List.mem_cons_of_mem _ (List.mem_cons_of_mem _ (List.mem_cons_of_mem _ (List.mem_cons_of_mem _ (List.mem_cons_self ..))))), mem_off _ k.val (2304) 128 (k0_off19_eq k) (k0_off19_inb i k h1) y hy0 hy (by omega) (by omega)⟩
  | 19, _, hq => exact ⟨_, List.mem_cons_of_mem _ (List.mem_cons_of_mem _ (List.mem_cons_of_mem _ (List.mem_cons_of_mem _ (List.mem_cons_self ..)))), mem_off _ k.val (2432) 128 (k0_off20_eq k) (k0_off20_inb i k h1) y hy0 hy (by omega) (by omega)⟩
  | 20, _, hq => exact ⟨_, List.mem_cons_of_mem _ (List.mem_cons_of_mem _ (List.mem_cons_of_mem _ (List.mem_cons_self ..))), mem_off _ k.val (2560) 128 (k0_off21_eq k) (k0_off21_inb i k h1) y hy0 hy (by omega) (by omega)⟩
  | 21, _, hq => exact ⟨_, List.mem_cons_of_mem _ (List.mem_cons_of_mem _ (List.mem_cons_self ..)), mem_off _ k.val (2688) 128 (k0_off22_eq k) (k0_off22_inb i k h1) y hy0 hy (by omega) (by omega)⟩
  | 22, _, hq => exact ⟨_, List.mem_cons_of_mem _ (List.mem_cons_self ..), mem_off _ k.val (2816) 128 (k0_off23_eq k) (k0_off23_inb i k h1) y hy0 hy (by omega) (by omega)⟩
  | 23, _, hq => exact ⟨_, List.mem_cons_self .., mem_off _ k.val (2944) 128 (k0_off24_eq k) (k0_off24_inb i k h1) y hy0 hy (by omega) (by omega)⟩
  | n + 24, hb, _ => exact absurd hb (by omega)

include hX in
theorem read_codes (f : BufTy.Contents (Elt F) a6.view.ty) :
    a6.view.read (Elt F) (a6.view.writes (Elt F) f (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k0_t1_loop.trips).1) = xCodes x0 := by
  have ht : k0_t1_loop.trips = 36 := by decide +kernel
  funext y
  refine View.read_writes_apply_of_pieces (Val := Elt F) a6.view _ (xCodes x0) _
    (fun p hp => pb1_codes 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX _ le_rfl p hp) y ?_
  have hy0 : (y 0).val < 1152 := (y 0).isLt
  obtain ⟨p, hp, hy⟩ := trip1_cover_codes 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨(y 0).val / 32, by omega⟩ y rfl
  exact ⟨p, pb1_mem_codes 𝒱 c bd i a1 w1 a2 w2 a3 w3 a4 w4 a5 w5 a6 w6 a7 w7 a8 w8 a9 w9 a10 w10 a11 w11 a12 w12 a13 w13 a14 w14 a15 w15 a16 w16 a17 w17 a18 w18 h1 X _ le_rfl _ (by dsimp only; omega) p hp, hy⟩

/-- Trip `k` stores every element of its rows. -/
theorem trip1_cover_scale (k : Fin k0_t1_loop.trips) (y : S1152x96.Idx) (hy : (y 0).val / 32 = k.val) :
    ∃ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.1, y ∈ p.1.set := by
  have hy0 : (y 0).val < 1152 := (y 0).isLt
  unfold tripL_k0_t1 trip_k0_t1
  dsimp only
  refine ⟨_, List.mem_cons_self .., ?_⟩
  have hy1 : (y 1).val < 96 := (y 1).isLt
  exact mem_off _ k.val 0 96 (k0_off25_eq k) (k0_off25_inb i k h1) y hy0 hy (by omega) (by omega)

include hX in
theorem read_scale (f : BufTy.Contents (Elt F) a7.view.ty) :
    a7.view.read (Elt F) (a7.view.writes (Elt F) f (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k0_t1_loop.trips).2.1) = xScale x0 := by
  have ht : k0_t1_loop.trips = 36 := by decide +kernel
  funext y
  refine View.read_writes_apply_of_pieces (Val := Elt F) a7.view _ (xScale x0) _
    (fun p hp => pb1_scale 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX _ le_rfl p hp) y ?_
  have hy0 : (y 0).val < 1152 := (y 0).isLt
  obtain ⟨p, hp, hy⟩ := trip1_cover_scale 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨(y 0).val / 32, by omega⟩ y rfl
  exact ⟨p, pb1_mem_scale 𝒱 c bd i a1 w1 a2 w2 a3 w3 a4 w4 a5 w5 a6 w6 a7 w7 a8 w8 a9 w9 a10 w10 a11 w11 a12 w12 a13 w13 a14 w14 a15 w15 a16 w16 a17 w17 a18 w18 h1 X _ le_rfl _ (by dsimp only; omega) p hp, hy⟩

/-- Trip `k` stores every element of its rows. -/
theorem trip1_cover_deq (k : Fin k0_t1_loop.trips) (y : S1152x3072.Idx) (hy : (y 0).val / 32 = k.val) :
    ∃ p ∈ (tripL_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k).2.2, y ∈ p.1.set := by
  have hy0 : (y 0).val < 1152 := (y 0).isLt
  unfold tripL_k0_t1 trip_k0_t1
  dsimp only
  have hy1 : (y 1).val < 3072 := (y 1).isLt
  have hb : (y 1).val / 128 < 24 := by omega
  generalize hq : (y 1).val / 128 = q at hb
  match q, hb, hq with
  | 0, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))), mem_off _ k.val (0) 128 (k0_off1_eq k) (k0_off1_inb i k h1) y hy0 hy (by omega) (by omega)⟩
  | 1, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))), mem_off _ k.val (128) 128 (k0_off2_eq k) (k0_off2_inb i k h1) y hy0 hy (by omega) (by omega)⟩
  | 2, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))), mem_off _ k.val (256) 128 (k0_off3_eq k) (k0_off3_inb i k h1) y hy0 hy (by omega) (by omega)⟩
  | 3, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))), mem_off _ k.val (384) 128 (k0_off4_eq k) (k0_off4_inb i k h1) y hy0 hy (by omega) (by omega)⟩
  | 4, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))), mem_off _ k.val (512) 128 (k0_off5_eq k) (k0_off5_inb i k h1) y hy0 hy (by omega) (by omega)⟩
  | 5, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))), mem_off _ k.val (640) 128 (k0_off6_eq k) (k0_off6_inb i k h1) y hy0 hy (by omega) (by omega)⟩
  | 6, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))), mem_off _ k.val (768) 128 (k0_off7_eq k) (k0_off7_inb i k h1) y hy0 hy (by omega) (by omega)⟩
  | 7, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))), mem_off _ k.val (896) 128 (k0_off8_eq k) (k0_off8_inb i k h1) y hy0 hy (by omega) (by omega)⟩
  | 8, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))), mem_off _ k.val (1024) 128 (k0_off9_eq k) (k0_off9_inb i k h1) y hy0 hy (by omega) (by omega)⟩
  | 9, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))), mem_off _ k.val (1152) 128 (k0_off10_eq k) (k0_off10_inb i k h1) y hy0 hy (by omega) (by omega)⟩
  | 10, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), mem_off _ k.val (1280) 128 (k0_off11_eq k) (k0_off11_inb i k h1) y hy0 hy (by omega) (by omega)⟩
  | 11, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), mem_off _ k.val (1408) 128 (k0_off12_eq k) (k0_off12_inb i k h1) y hy0 hy (by omega) (by omega)⟩
  | 12, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), mem_off _ k.val (1536) 128 (k0_off13_eq k) (k0_off13_inb i k h1) y hy0 hy (by omega) (by omega)⟩
  | 13, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), mem_off _ k.val (1664) 128 (k0_off14_eq k) (k0_off14_inb i k h1) y hy0 hy (by omega) (by omega)⟩
  | 14, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), mem_off _ k.val (1792) 128 (k0_off15_eq k) (k0_off15_inb i k h1) y hy0 hy (by omega) (by omega)⟩
  | 15, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), mem_off _ k.val (1920) 128 (k0_off16_eq k) (k0_off16_inb i k h1) y hy0 hy (by omega) (by omega)⟩
  | 16, _, hq => exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), mem_off _ k.val (2048) 128 (k0_off17_eq k) (k0_off17_inb i k h1) y hy0 hy (by omega) (by omega)⟩
  | 17, _, hq => exact ⟨_, List.mem_cons_of_mem _ (List.mem_cons_of_mem _ (List.mem_cons_of_mem _ (List.mem_cons_of_mem _ (List.mem_cons_of_mem _ (List.mem_cons_of_mem _ (List.mem_cons_self ..)))))), mem_off _ k.val (2176) 128 (k0_off18_eq k) (k0_off18_inb i k h1) y hy0 hy (by omega) (by omega)⟩
  | 18, _, hq => exact ⟨_, List.mem_cons_of_mem _ (List.mem_cons_of_mem _ (List.mem_cons_of_mem _ (List.mem_cons_of_mem _ (List.mem_cons_of_mem _ (List.mem_cons_self ..))))), mem_off _ k.val (2304) 128 (k0_off19_eq k) (k0_off19_inb i k h1) y hy0 hy (by omega) (by omega)⟩
  | 19, _, hq => exact ⟨_, List.mem_cons_of_mem _ (List.mem_cons_of_mem _ (List.mem_cons_of_mem _ (List.mem_cons_of_mem _ (List.mem_cons_self ..)))), mem_off _ k.val (2432) 128 (k0_off20_eq k) (k0_off20_inb i k h1) y hy0 hy (by omega) (by omega)⟩
  | 20, _, hq => exact ⟨_, List.mem_cons_of_mem _ (List.mem_cons_of_mem _ (List.mem_cons_of_mem _ (List.mem_cons_self ..))), mem_off _ k.val (2560) 128 (k0_off21_eq k) (k0_off21_inb i k h1) y hy0 hy (by omega) (by omega)⟩
  | 21, _, hq => exact ⟨_, List.mem_cons_of_mem _ (List.mem_cons_of_mem _ (List.mem_cons_self ..)), mem_off _ k.val (2688) 128 (k0_off22_eq k) (k0_off22_inb i k h1) y hy0 hy (by omega) (by omega)⟩
  | 22, _, hq => exact ⟨_, List.mem_cons_of_mem _ (List.mem_cons_self ..), mem_off _ k.val (2816) 128 (k0_off23_eq k) (k0_off23_inb i k h1) y hy0 hy (by omega) (by omega)⟩
  | 23, _, hq => exact ⟨_, List.mem_cons_self .., mem_off _ k.val (2944) 128 (k0_off24_eq k) (k0_off24_inb i k h1) y hy0 hy (by omega) (by omega)⟩
  | n + 24, hb, _ => exact absurd hb (by omega)

include hX in
theorem read_deq (f : BufTy.Contents (Elt F) a11.view.ty) :
    a11.view.read (Elt F) (a11.view.writes (Elt F) f (pb_k0_t1 𝒱 c bd i a1 w1 a2 w2 a3 w3 a4 w4 a5 w5 a6 w6 a7 w7 a8 w8 a9 w9 a10 w10 a11 w11 a12 w12 a13 w13 a14 w14 a15 w15 a16 w16 a17 w17 a18 w18 h1 X k0_t1_loop.trips).2.2) = xDeq x0 := by
  have ht : k0_t1_loop.trips = 36 := by decide +kernel
  funext y
  refine View.read_writes_apply_of_pieces (Val := Elt F) a11.view _ (xDeq x0) _
    (fun p hp => pb1_deq 𝒱 c bd i a1 w1 a2 w2 a3 w3 a4 w4 a5 w5 a6 w6 a7 w7 a8 w8 a9 w9 a10 w10 a11 w11 a12 w12 a13 w13 a14 w14 a15 w15 a16 w16 a17 w17 a18 w18 h1 X x0 hX _ le_rfl p hp) y ?_
  have hy0 : (y 0).val < 1152 := (y 0).isLt
  obtain ⟨p, hp, hy⟩ := trip1_cover_deq 𝒱 c bd i a1 w1 a2 w2 a3 w3 a4 w4 a5 w5 a6 w6 a7 w7 a8 w8 a9 w9 a10 w10 a11 w11 a12 w12 a13 w13 a14 w14 a15 w15 a16 w16 a17 w17 a18 w18 h1 X ⟨(y 0).val / 32, by omega⟩ y rfl
  exact ⟨p, pb1_mem_deq 𝒱 c bd i a1 w1 a2 w2 a3 w3 a4 w4 a5 w5 a6 w6 a7 w7 a8 w8 a9 w9 a10 w10 a11 w11 a12 w12 a13 w13 a14 w14 a15 w15 a16 w16 a17 w17 a18 w18 h1 X _ le_rfl _ (by dsimp only; omega) p hp, hy⟩

end Pieces
end Cert.UpIdeal.Gen

end
-- ==== Proof.UpWeights.lean ====
/- The weights' scale words, and the dequantised weights of one grid step. -/
module

public import proofs.«01_k».proof.Proof.Dequant
public import proofs.«01_k».proof.Proof.Gen.UpIdeal.Skeleton
public import Idealize.ShloMosaic.Lib.WritesUnit

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The words a block of scale bytes is stored as: each byte in the exponent fields of both halves. -/
def wordsT (s : Vec F S96x128 .i8) : IVec S1x96x128 32 :=
  have x : IVec S96x128 32 := extui 32 s natLt_8_32
  shapeCast S1x96x128 (ori (shli x (broadcast S96x128 7#32)) (shli x (broadcast S96x128 23#32))) shapeCasts_S96x128_S1x96x128

/-- A tile of the dequantised weights: the codes times the floats whose bits are the scale words. -/
def mulT (s : Vec F S1x1x128 .i32) (w : Vec F S32x128 .fp8e4m3) : FVec F S32x128 .bf16 :=
  shapeCast S32x128 (mulf (extf .bf16 w bitsLt_fp8e4m3_bf16) (bitcastToFloat .bf16 (bitcast S32x128 16
    (broadcastTo S16x128 (shapeCast S1x128 (shapeCast S1x128 s shapeCasts_S1x1x128_S1x128) shapeCasts_S1x128_S1x128) broadcasts_S1x128_S16x128)
    bitcasts_S16x128_w32_S32x128_w16))) shapeCasts_S32x128_S32x128

/-- The weight tile: each code times its scale, the scale shared by 32 rows of a column. -/
def wTile (x1 : Vec F S3072x256 .fp8e4m3) (x2 : Vec F S96x256 .i8) : Vec F S3072x256 .bf16 :=
  fun y => Cert.Dequant.weight (x1 y) (x2 (ix2 ⟨(y 0).val / 32, by have : (y 0).val < 3072 := (y 0).isLt; omega⟩ (y 1)))

/-- The word buffer after the two stores of scale words. -/
theorem read_wordsG (a3 : Memref sig .tc .vmem S96x256 .i8) (a6 : Memref sig .tc .vmem S2x96x128 .i32)
    (X_arg3 : BufTy.Contents (Elt F) a3.view.ty) (x2 : Vec F S96x256 .i8) (h3 : a3.view.read (Elt F) X_arg3 = x2)
    (f : BufTy.Contents (Elt F) a6.view.ty) (i1 i0 j1 j0) (a : Fin 2) (r : Fin 96) (l : Fin 128) :
    a6.view.read (Elt F) (a6.view.writes (Elt F) f
      [⟨Rect.unit (s := S2x96x128) ![1, 0, 0] S1x96x128.size i1, wordsT (View.readAt (Elt F) a3.view (Rect.unit (s := S96x256) ![0, 128] S96x128.size j1).toLoadRect X_arg3)⟩,
       ⟨Rect.unit (s := S2x96x128) ![0, 0, 0] S1x96x128.size i0, wordsT (View.readAt (Elt F) a3.view (Rect.unit (s := S96x256) ![0, 0] S96x128.size j0).toLoadRect X_arg3)⟩]) (ix3 a r l)
      = Cert.Dequant.scalePair (x2 (ix2 r ⟨128 * a.val + l.val, by omega⟩)) := by
  refine View.read_writes_apply_of_pieces (Val := Elt F) a6.view _ (fun z : S2x96x128.Idx => Cert.Dequant.scalePair (x2 (ix2 (z 1)
    ⟨128 * (z 0).val + (z 2).val, by have : (z 0).val < 2 := (z 0).isLt; have : (z 2).val < 128 := (z 2).isLt; omega⟩))) _ ?_ (ix3 a r l) ?_
  · intro p hp x
    simp only [List.mem_cons, List.not_mem_nil, or_false] at hp
    rcases hp with rfl | rfl
    · obtain ⟨u, r, l, rfl⟩ : ∃ (u : Fin 1) (r : Fin 96) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 128 + 1 * l.val = 128 * (1 + 1 * u.val) + (0 + 1 * l.val); omega
    · obtain ⟨u, r, l, rfl⟩ : ∃ (u : Fin 1) (r : Fin 96) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 0 + 1 * l.val = 128 * (0 + 1 * u.val) + (0 + 1 * l.val); omega
  · match a with
    | ⟨0, _⟩ =>
      refine ⟨_, List.mem_cons_of_mem _ (List.mem_cons_self ..), ?_⟩
      dsimp only; rw [Rect.mem_set_unit]; intro b
      match b with
      | ⟨0, _⟩ => show 0 ≤ 0 ∧ 0 < 0 + 1; omega
      | ⟨1, _⟩ => show 0 ≤ r.val ∧ r.val < 0 + 96; omega
      | ⟨2, _⟩ => show 0 ≤ l.val ∧ l.val < 0 + 128; omega
    | ⟨1, _⟩ =>
      refine ⟨_, List.mem_cons_self .., ?_⟩
      dsimp only; rw [Rect.mem_set_unit]; intro b
      match b with
      | ⟨0, _⟩ => show 1 ≤ 1 ∧ 1 < 1 + 1; omega
      | ⟨1, _⟩ => show 0 ≤ r.val ∧ r.val < 0 + 96; omega
      | ⟨2, _⟩ => show 0 ≤ l.val ∧ l.val < 0 + 128; omega

/-- The word buffer after the two stores of scale words. -/
theorem read_wordsU (a3 : Memref sig .tc .vmem S96x256 .i8) (a6 : Memref sig .tc .vmem S2x96x128 .i32)
    (X_arg3 : BufTy.Contents (Elt F) a3.view.ty) (x2 : Vec F S96x256 .i8) (h3 : a3.view.read (Elt F) X_arg3 = x2)
    (f : BufTy.Contents (Elt F) a6.view.ty) (i1 i0 j1 j0) (a : Fin 2) (r : Fin 96) (l : Fin 128) :
    a6.view.read (Elt F) (a6.view.writes (Elt F) f
      [⟨Rect.unit (s := S2x96x128) ![1, 0, 0] S1x96x128.size i1, wordsT (View.readAt (Elt F) a3.view (Rect.unit (s := S96x256) ![0, 128] S96x128.size j1).toLoadRect X_arg3)⟩,
       ⟨Rect.unit (s := S2x96x128) ![0, 0, 0] S1x96x128.size i0, wordsT (View.readAt (Elt F) a3.view (Rect.unit (s := S96x256) ![0, 0] S96x128.size j0).toLoadRect X_arg3)⟩]) (ix3 a r l)
      = Cert.Dequant.scalePair (x2 (ix2 r ⟨128 * a.val + l.val, by omega⟩)) := by
  refine View.read_writes_apply_of_pieces (Val := Elt F) a6.view _ (fun z : S2x96x128.Idx => Cert.Dequant.scalePair (x2 (ix2 (z 1)
    ⟨128 * (z 0).val + (z 2).val, by have : (z 0).val < 2 := (z 0).isLt; have : (z 2).val < 128 := (z 2).isLt; omega⟩))) _ ?_ (ix3 a r l) ?_
  · intro p hp x
    simp only [List.mem_cons, List.not_mem_nil, or_false] at hp
    rcases hp with rfl | rfl
    · obtain ⟨u, r, l, rfl⟩ : ∃ (u : Fin 1) (r : Fin 96) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 128 + 1 * l.val = 128 * (1 + 1 * u.val) + (0 + 1 * l.val); omega
    · obtain ⟨u, r, l, rfl⟩ : ∃ (u : Fin 1) (r : Fin 96) (l : Fin 128), x = ix3 u r l := ⟨x 0, x 1, x 2, eq_ix3 x⟩
      refine (Cert.Dequant.words_at _ _ _ u r l).trans ?_
      rw [View.readAt_apply, h3]
      congr 2
      funext a; apply Fin.ext
      match a with
      | ⟨0, _⟩ => rfl
      | ⟨1, _⟩ => show 0 + 1 * l.val = 128 * (0 + 1 * u.val) + (0 + 1 * l.val); omega
  · match a with
    | ⟨0, _⟩ =>
      refine ⟨_, List.mem_cons_of_mem _ (List.mem_cons_self ..), ?_⟩
      dsimp only; rw [Rect.mem_set_unit]; intro b
      match b with
      | ⟨0, _⟩ => show 0 ≤ 0 ∧ 0 < 0 + 1; omega
      | ⟨1, _⟩ => show 0 ≤ r.val ∧ r.val < 0 + 96; omega
      | ⟨2, _⟩ => show 0 ≤ l.val ∧ l.val < 0 + 128; omega
    | ⟨1, _⟩ =>
      refine ⟨_, List.mem_cons_self .., ?_⟩
      dsimp only; rw [Rect.mem_set_unit]; intro b
      match b with
      | ⟨0, _⟩ => show 1 ≤ 1 ∧ 1 < 1 + 1; omega
      | ⟨1, _⟩ => show 0 ≤ r.val ∧ r.val < 0 + 96; omega
      | ⟨2, _⟩ => show 0 ≤ l.val ∧ l.val < 0 + 128; omega

end Cert.UpIdeal.Gen

end
-- ==== Proof.UpTileG.lean ====
/- The gate projection's dequantised weights: what the two loops over its halves leave in their buffer. -/
module

public import proofs.«01_k».proof.Proof.UpWeights
public import proofs.«01_k».proof.Proof.Gen.UpIdeal.Loops
public import Idealize.ShloMosaic.Lib.WritesUnit

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (v32 : IVec S1x96x128 32) (X_arg2 : BufTy.Contents (Elt F) a2.view.ty) (X_arg14 : BufTy.Contents (Elt F) a14.view.ty)

/-- The tile that trip `k` of the first loop stores. -/
def piece1G (k : Fin k0_t2_loop.trips) : View.Piece (Elt F) S3072x256 .bf16 :=
  ⟨Rect.unit (s := S3072x256) (k0_off27 k) S32x128.size (k0_off27_inb k), mulT
    (View.readAt (Elt F) a14.view (Rect.unit (s := S2x96x128) (k0_off26 k) S1x1x128.size (k0_off26_inb k)).toLoadRect X_arg14)
    (View.readAt (Elt F) a2.view (Rect.unit (s := S3072x256) (k0_off27 k) S32x128.size (k0_off27_inb k)).toLoadRect X_arg2)⟩

/-- The tile that trip `k` of the second loop stores. -/
def piece2G (k : Fin k0_t3_loop.trips) : View.Piece (Elt F) S3072x256 .bf16 :=
  ⟨Rect.unit (s := S3072x256) (k0_off29 k) S32x128.size (k0_off29_inb k), mulT
    (View.readAt (Elt F) a14.view (Rect.unit (s := S2x96x128) (k0_off28 k) S1x1x128.size (k0_off28_inb k)).toLoadRect X_arg14)
    (View.readAt (Elt F) a2.view (Rect.unit (s := S3072x256) (k0_off29 k) S32x128.size (k0_off29_inb k)).toLoadRect X_arg2)⟩

theorem tripL1_eqG (k : Fin k0_t2_loop.trips) :
    tripL_k0_t2 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 k
      = [piece1G a2 a14 X_arg2 X_arg14 k] := by
  unfold tripL_k0_t2 trip_k0_t2
  dsimp only
  sl_unfold_words
  rfl

theorem tripL2_eqG (k : Fin k0_t3_loop.trips) :
    tripL_k0_t3 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 k
      = [piece2G a2 a14 X_arg2 X_arg14 k] := by
  unfold tripL_k0_t3 trip_k0_t3
  dsimp only
  sl_unfold_words
  rfl

/-- The pieces of the first `n` trips are the trips' tiles. -/
theorem mem_pb1G (n : ℕ) (hn : n ≤ k0_t2_loop.trips) (p : View.Piece (Elt F) S3072x256 .bf16) :
    p ∈ pb_k0_t2 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 n
      ↔ ∃ k : Fin k0_t2_loop.trips, k.val < n ∧ p = piece1G a2 a14 X_arg2 X_arg14 k := by
  induction n with
  | zero => simp [pb_k0_t2]
  | succ n ih =>
    have h := pb_k0_t2_succ 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 ⟨n, hn⟩
    dsimp only at h
    rw [h, tripL1_eqG, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

theorem mem_pb2G (n : ℕ) (hn : n ≤ k0_t3_loop.trips) (p : View.Piece (Elt F) S3072x256 .bf16) :
    p ∈ pb_k0_t3 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 n
      ↔ ∃ k : Fin k0_t3_loop.trips, k.val < n ∧ p = piece2G a2 a14 X_arg2 X_arg14 k := by
  induction n with
  | zero => simp [pb_k0_t3]
  | succ n ih =>
    have h := pb_k0_t3_succ 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 ⟨n, hn⟩
    dsimp only at h
    rw [h, tripL2_eqG, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

/-- Each tile is a restriction of `wTile`, provided the word buffer holds the scale words. -/
theorem piece1_eqG (x1 : Vec F S3072x256 .fp8e4m3) (x2 : Vec F S96x256 .i8) (h2 : a2.view.read (Elt F) X_arg2 = x1)
    (h6 : ∀ (a : Fin 2) (r : Fin 96) (l : Fin 128), a14.view.read (Elt F) X_arg14 (ix3 a r l)
      = Cert.Dequant.scalePair (x2 (ix2 r ⟨128 * a.val + l.val, by omega⟩)))
    (k : Fin k0_t2_loop.trips) (x : S32x128.Idx) :
    (piece1G a2 a14 X_arg2 X_arg14 k).2 x = wTile x1 x2 ((Rect.unit (s := S3072x256) (k0_off27 k) S32x128.size (k0_off27_inb k)).emb x) := by
  have hk : k.val < 96 := Nat.lt_of_lt_of_le k.isLt k0_t2_abs.2.1
  obtain ⟨r, l, rfl⟩ : ∃ (r : Fin 32) (l : Fin 128), x = ix2 r l := ⟨x 0, x 1, eq_ix2 x⟩
  have e2 : k0_off27 k = ![32 * k.val, 0] := k0_off27_eq k
  have e1 : k0_off26 k = ![0, k.val, 0] := k0_off26_eq k
  have he : (Rect.unit (s := S3072x256) (k0_off27 k) S32x128.size (k0_off27_inb k)).emb (ix2 r l)
      = (ix2 ⟨32 * k.val + r.val, by omega⟩ ⟨l.val, by omega⟩ : S3072x256.Idx) := by
    funext a; apply Fin.ext
    match a with
    | ⟨0, _⟩ => show k0_off27 k 0 + 1 * r.val = _; rw [e2]; simp
    | ⟨1, _⟩ => show k0_off27 k 1 + 1 * l.val = _; rw [e2]; simp
  refine (Cert.Dequant.tile_at _ _ _ _ _ _ _ _ r l (x2 (ix2 ⟨k.val, hk⟩ ⟨l.val, by omega⟩)) ?_).trans ?_
  · rw [View.readAt_apply, show (Rect.unit (s := S2x96x128) (k0_off26 k) S1x1x128.size (k0_off26_inb k)).toLoadRect.idx (ix3 0 0 l) = (ix3 0 ⟨k.val, hk⟩ l : S2x96x128.Idx) from ?_, h6]
    · simp
    · funext a; apply Fin.ext
      match a with
      | ⟨0, _⟩ => show k0_off26 k 0 + 1 * 0 = _; rw [e1]; rfl
      | ⟨1, _⟩ => show k0_off26 k 1 + 1 * 0 = _; rw [e1]; rfl
      | ⟨2, _⟩ => show k0_off26 k 2 + 1 * l.val = _; rw [e1]; simp
  · rw [he]
    unfold wTile
    congr 1
    · rw [View.readAt_apply, h2]; exact congrArg x1 he
    · congr 1; congr 1; apply Fin.ext; show k.val = (32 * k.val + r.val) / 32; omega

theorem piece2_eqG (x1 : Vec F S3072x256 .fp8e4m3) (x2 : Vec F S96x256 .i8) (h2 : a2.view.read (Elt F) X_arg2 = x1)
    (h6 : ∀ (a : Fin 2) (r : Fin 96) (l : Fin 128), a14.view.read (Elt F) X_arg14 (ix3 a r l)
      = Cert.Dequant.scalePair (x2 (ix2 r ⟨128 * a.val + l.val, by omega⟩)))
    (k : Fin k0_t3_loop.trips) (x : S32x128.Idx) :
    (piece2G a2 a14 X_arg2 X_arg14 k).2 x = wTile x1 x2 ((Rect.unit (s := S3072x256) (k0_off29 k) S32x128.size (k0_off29_inb k)).emb x) := by
  have hk : k.val < 96 := Nat.lt_of_lt_of_le k.isLt k0_t3_abs.2.1
  obtain ⟨r, l, rfl⟩ : ∃ (r : Fin 32) (l : Fin 128), x = ix2 r l := ⟨x 0, x 1, eq_ix2 x⟩
  have e2 : k0_off29 k = ![32 * k.val, 128] := k0_off29_eq k
  have e1 : k0_off28 k = ![1, k.val, 0] := k0_off28_eq k
  have he : (Rect.unit (s := S3072x256) (k0_off29 k) S32x128.size (k0_off29_inb k)).emb (ix2 r l)
      = (ix2 ⟨32 * k.val + r.val, by omega⟩ ⟨128 + l.val, by omega⟩ : S3072x256.Idx) := by
    funext a; apply Fin.ext
    match a with
    | ⟨0, _⟩ => show k0_off29 k 0 + 1 * r.val = _; rw [e2]; simp
    | ⟨1, _⟩ => show k0_off29 k 1 + 1 * l.val = _; rw [e2]; simp
  refine (Cert.Dequant.tile_at _ _ _ _ _ _ _ _ r l (x2 (ix2 ⟨k.val, hk⟩ ⟨128 + l.val, by omega⟩)) ?_).trans ?_
  · rw [View.readAt_apply, show (Rect.unit (s := S2x96x128) (k0_off28 k) S1x1x128.size (k0_off28_inb k)).toLoadRect.idx (ix3 0 0 l) = (ix3 1 ⟨k.val, hk⟩ l : S2x96x128.Idx) from ?_, h6]
    · simp
    · funext a; apply Fin.ext
      match a with
      | ⟨0, _⟩ => show k0_off28 k 0 + 1 * 0 = _; rw [e1]; rfl
      | ⟨1, _⟩ => show k0_off28 k 1 + 1 * 0 = _; rw [e1]; rfl
      | ⟨2, _⟩ => show k0_off28 k 2 + 1 * l.val = _; rw [e1]; simp
  · rw [he]
    unfold wTile
    congr 1
    · rw [View.readAt_apply, h2]; exact congrArg x1 he
    · congr 1; congr 1; apply Fin.ext; show k.val = (32 * k.val + r.val) / 32; omega

/-- After the two loops the weight buffer reads `wTile`, whatever it held before. -/
theorem read_piecesG (x1 : Vec F S3072x256 .fp8e4m3) (x2 : Vec F S96x256 .i8) (h2 : a2.view.read (Elt F) X_arg2 = x1)
    (h6 : ∀ (a : Fin 2) (r : Fin 96) (l : Fin 128), a14.view.read (Elt F) X_arg14 (ix3 a r l)
      = Cert.Dequant.scalePair (x2 (ix2 r ⟨128 * a.val + l.val, by omega⟩)))
    (f : BufTy.Contents (Elt F) a12.view.ty) :
    a12.view.read (Elt F) (a12.view.writes (Elt F) f
      (pb_k0_t3 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 k0_t3_loop.trips
        ++ pb_k0_t2 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 k0_t2_loop.trips))
      = wTile x1 x2 := by
  have ht1 : k0_t2_loop.trips = 96 := by decide +kernel
  have ht2 : k0_t3_loop.trips = 96 := by decide +kernel
  funext y
  refine View.read_writes_apply_of_pieces a12.view _ (wTile x1 x2) _ ?_ y ?_
  · intro p hp x
    rcases List.mem_append.mp hp with hp | hp
    · obtain ⟨k, -, rfl⟩ := (mem_pb2G 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 _ le_rfl p).mp hp
      exact piece2_eqG a2 a14 X_arg2 X_arg14 x1 x2 h2 h6 k x
    · obtain ⟨k, -, rfl⟩ := (mem_pb1G 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 _ le_rfl p).mp hp
      exact piece1_eqG a2 a14 X_arg2 X_arg14 x1 x2 h2 h6 k x
  · have hy0 : (y 0).val < 3072 := (y 0).isLt
    have hy1 : (y 1).val < 256 := (y 1).isLt
    by_cases hc : (y 1).val < 128
    · refine ⟨piece1G a2 a14 X_arg2 X_arg14 ⟨(y 0).val / 32, by omega⟩, List.mem_append_right _ ((mem_pb1G 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 _ le_rfl _).mpr ⟨_, by show (y 0).val / 32 < _; omega, rfl⟩), ?_⟩
      show y ∈ (Rect.unit (s := S3072x256) (k0_off27 ⟨(y 0).val / 32, by omega⟩) S32x128.size (k0_off27_inb _)).set
      rw [Rect.mem_set_unit]; intro a
      rw [k0_off27_eq]
      match a with
      | ⟨0, _⟩ => show 32 * ((y 0).val / 32) ≤ (y 0).val ∧ (y 0).val < 32 * ((y 0).val / 32) + 32; omega
      | ⟨1, _⟩ => show 0 ≤ (y 1).val ∧ (y 1).val < 0 + 128; omega
    · refine ⟨piece2G a2 a14 X_arg2 X_arg14 ⟨(y 0).val / 32, by omega⟩, List.mem_append_left _ ((mem_pb2G 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg2 X_arg14 _ le_rfl _).mpr ⟨_, by show (y 0).val / 32 < _; omega, rfl⟩), ?_⟩
      show y ∈ (Rect.unit (s := S3072x256) (k0_off29 ⟨(y 0).val / 32, by omega⟩) S32x128.size (k0_off29_inb _)).set
      rw [Rect.mem_set_unit]; intro a
      rw [k0_off29_eq]
      match a with
      | ⟨0, _⟩ => show 32 * ((y 0).val / 32) ≤ (y 0).val ∧ (y 0).val < 32 * ((y 0).val / 32) + 32; omega
      | ⟨1, _⟩ => show 128 ≤ (y 1).val ∧ (y 1).val < 128 + 128; omega

end Pieces

end Cert.UpIdeal.Gen

end
-- ==== Proof.UpTileU.lean ====
/- The up projection's dequantised weights: what the two loops over its halves leave in their buffer. -/
module

public import proofs.«01_k».proof.Proof.UpWeights
public import proofs.«01_k».proof.Proof.Gen.UpIdeal.Loops
public import Idealize.ShloMosaic.Lib.WritesUnit

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (v32 : IVec S1x96x128 32) (X_arg3 : BufTy.Contents (Elt F) a3.view.ty) (X_arg15 : BufTy.Contents (Elt F) a15.view.ty)

/-- The tile that trip `k` of the first loop stores. -/
def piece1U (k : Fin k0_t4_loop.trips) : View.Piece (Elt F) S3072x256 .bf16 :=
  ⟨Rect.unit (s := S3072x256) (k0_off31 k) S32x128.size (k0_off31_inb k), mulT
    (View.readAt (Elt F) a15.view (Rect.unit (s := S2x96x128) (k0_off30 k) S1x1x128.size (k0_off30_inb k)).toLoadRect X_arg15)
    (View.readAt (Elt F) a3.view (Rect.unit (s := S3072x256) (k0_off31 k) S32x128.size (k0_off31_inb k)).toLoadRect X_arg3)⟩

/-- The tile that trip `k` of the second loop stores. -/
def piece2U (k : Fin k0_t5_loop.trips) : View.Piece (Elt F) S3072x256 .bf16 :=
  ⟨Rect.unit (s := S3072x256) (k0_off33 k) S32x128.size (k0_off33_inb k), mulT
    (View.readAt (Elt F) a15.view (Rect.unit (s := S2x96x128) (k0_off32 k) S1x1x128.size (k0_off32_inb k)).toLoadRect X_arg15)
    (View.readAt (Elt F) a3.view (Rect.unit (s := S3072x256) (k0_off33 k) S32x128.size (k0_off33_inb k)).toLoadRect X_arg3)⟩

theorem tripL1_eqU (k : Fin k0_t4_loop.trips) :
    tripL_k0_t4 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 k
      = [piece1U a3 a15 X_arg3 X_arg15 k] := by
  unfold tripL_k0_t4 trip_k0_t4
  dsimp only
  sl_unfold_words
  rfl

theorem tripL2_eqU (k : Fin k0_t5_loop.trips) :
    tripL_k0_t5 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 k
      = [piece2U a3 a15 X_arg3 X_arg15 k] := by
  unfold tripL_k0_t5 trip_k0_t5
  dsimp only
  sl_unfold_words
  rfl

/-- The pieces of the first `n` trips are the trips' tiles. -/
theorem mem_pb1U (n : ℕ) (hn : n ≤ k0_t4_loop.trips) (p : View.Piece (Elt F) S3072x256 .bf16) :
    p ∈ pb_k0_t4 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 n
      ↔ ∃ k : Fin k0_t4_loop.trips, k.val < n ∧ p = piece1U a3 a15 X_arg3 X_arg15 k := by
  induction n with
  | zero => simp [pb_k0_t4]
  | succ n ih =>
    have h := pb_k0_t4_succ 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 ⟨n, hn⟩
    dsimp only at h
    rw [h, tripL1_eqU, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

theorem mem_pb2U (n : ℕ) (hn : n ≤ k0_t5_loop.trips) (p : View.Piece (Elt F) S3072x256 .bf16) :
    p ∈ pb_k0_t5 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 n
      ↔ ∃ k : Fin k0_t5_loop.trips, k.val < n ∧ p = piece2U a3 a15 X_arg3 X_arg15 k := by
  induction n with
  | zero => simp [pb_k0_t5]
  | succ n ih =>
    have h := pb_k0_t5_succ 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 ⟨n, hn⟩
    dsimp only at h
    rw [h, tripL2_eqU, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

/-- Each tile is a restriction of `wTile`, provided the word buffer holds the scale words. -/
theorem piece1_eqU (x1 : Vec F S3072x256 .fp8e4m3) (x2 : Vec F S96x256 .i8) (h2 : a3.view.read (Elt F) X_arg3 = x1)
    (h6 : ∀ (a : Fin 2) (r : Fin 96) (l : Fin 128), a15.view.read (Elt F) X_arg15 (ix3 a r l)
      = Cert.Dequant.scalePair (x2 (ix2 r ⟨128 * a.val + l.val, by omega⟩)))
    (k : Fin k0_t4_loop.trips) (x : S32x128.Idx) :
    (piece1U a3 a15 X_arg3 X_arg15 k).2 x = wTile x1 x2 ((Rect.unit (s := S3072x256) (k0_off31 k) S32x128.size (k0_off31_inb k)).emb x) := by
  have hk : k.val < 96 := Nat.lt_of_lt_of_le k.isLt k0_t4_abs.2.1
  obtain ⟨r, l, rfl⟩ : ∃ (r : Fin 32) (l : Fin 128), x = ix2 r l := ⟨x 0, x 1, eq_ix2 x⟩
  have e2 : k0_off31 k = ![32 * k.val, 0] := k0_off31_eq k
  have e1 : k0_off30 k = ![0, k.val, 0] := k0_off30_eq k
  have he : (Rect.unit (s := S3072x256) (k0_off31 k) S32x128.size (k0_off31_inb k)).emb (ix2 r l)
      = (ix2 ⟨32 * k.val + r.val, by omega⟩ ⟨l.val, by omega⟩ : S3072x256.Idx) := by
    funext a; apply Fin.ext
    match a with
    | ⟨0, _⟩ => show k0_off31 k 0 + 1 * r.val = _; rw [e2]; simp
    | ⟨1, _⟩ => show k0_off31 k 1 + 1 * l.val = _; rw [e2]; simp
  refine (Cert.Dequant.tile_at _ _ _ _ _ _ _ _ r l (x2 (ix2 ⟨k.val, hk⟩ ⟨l.val, by omega⟩)) ?_).trans ?_
  · rw [View.readAt_apply, show (Rect.unit (s := S2x96x128) (k0_off30 k) S1x1x128.size (k0_off30_inb k)).toLoadRect.idx (ix3 0 0 l) = (ix3 0 ⟨k.val, hk⟩ l : S2x96x128.Idx) from ?_, h6]
    · simp
    · funext a; apply Fin.ext
      match a with
      | ⟨0, _⟩ => show k0_off30 k 0 + 1 * 0 = _; rw [e1]; rfl
      | ⟨1, _⟩ => show k0_off30 k 1 + 1 * 0 = _; rw [e1]; rfl
      | ⟨2, _⟩ => show k0_off30 k 2 + 1 * l.val = _; rw [e1]; simp
  · rw [he]
    unfold wTile
    congr 1
    · rw [View.readAt_apply, h2]; exact congrArg x1 he
    · congr 1; congr 1; apply Fin.ext; show k.val = (32 * k.val + r.val) / 32; omega

theorem piece2_eqU (x1 : Vec F S3072x256 .fp8e4m3) (x2 : Vec F S96x256 .i8) (h2 : a3.view.read (Elt F) X_arg3 = x1)
    (h6 : ∀ (a : Fin 2) (r : Fin 96) (l : Fin 128), a15.view.read (Elt F) X_arg15 (ix3 a r l)
      = Cert.Dequant.scalePair (x2 (ix2 r ⟨128 * a.val + l.val, by omega⟩)))
    (k : Fin k0_t5_loop.trips) (x : S32x128.Idx) :
    (piece2U a3 a15 X_arg3 X_arg15 k).2 x = wTile x1 x2 ((Rect.unit (s := S3072x256) (k0_off33 k) S32x128.size (k0_off33_inb k)).emb x) := by
  have hk : k.val < 96 := Nat.lt_of_lt_of_le k.isLt k0_t5_abs.2.1
  obtain ⟨r, l, rfl⟩ : ∃ (r : Fin 32) (l : Fin 128), x = ix2 r l := ⟨x 0, x 1, eq_ix2 x⟩
  have e2 : k0_off33 k = ![32 * k.val, 128] := k0_off33_eq k
  have e1 : k0_off32 k = ![1, k.val, 0] := k0_off32_eq k
  have he : (Rect.unit (s := S3072x256) (k0_off33 k) S32x128.size (k0_off33_inb k)).emb (ix2 r l)
      = (ix2 ⟨32 * k.val + r.val, by omega⟩ ⟨128 + l.val, by omega⟩ : S3072x256.Idx) := by
    funext a; apply Fin.ext
    match a with
    | ⟨0, _⟩ => show k0_off33 k 0 + 1 * r.val = _; rw [e2]; simp
    | ⟨1, _⟩ => show k0_off33 k 1 + 1 * l.val = _; rw [e2]; simp
  refine (Cert.Dequant.tile_at _ _ _ _ _ _ _ _ r l (x2 (ix2 ⟨k.val, hk⟩ ⟨128 + l.val, by omega⟩)) ?_).trans ?_
  · rw [View.readAt_apply, show (Rect.unit (s := S2x96x128) (k0_off32 k) S1x1x128.size (k0_off32_inb k)).toLoadRect.idx (ix3 0 0 l) = (ix3 1 ⟨k.val, hk⟩ l : S2x96x128.Idx) from ?_, h6]
    · simp
    · funext a; apply Fin.ext
      match a with
      | ⟨0, _⟩ => show k0_off32 k 0 + 1 * 0 = _; rw [e1]; rfl
      | ⟨1, _⟩ => show k0_off32 k 1 + 1 * 0 = _; rw [e1]; rfl
      | ⟨2, _⟩ => show k0_off32 k 2 + 1 * l.val = _; rw [e1]; simp
  · rw [he]
    unfold wTile
    congr 1
    · rw [View.readAt_apply, h2]; exact congrArg x1 he
    · congr 1; congr 1; apply Fin.ext; show k.val = (32 * k.val + r.val) / 32; omega

/-- After the two loops the weight buffer reads `wTile`, whatever it held before. -/
theorem read_piecesU (x1 : Vec F S3072x256 .fp8e4m3) (x2 : Vec F S96x256 .i8) (h2 : a3.view.read (Elt F) X_arg3 = x1)
    (h6 : ∀ (a : Fin 2) (r : Fin 96) (l : Fin 128), a15.view.read (Elt F) X_arg15 (ix3 a r l)
      = Cert.Dequant.scalePair (x2 (ix2 r ⟨128 * a.val + l.val, by omega⟩)))
    (f : BufTy.Contents (Elt F) a13.view.ty) :
    a13.view.read (Elt F) (a13.view.writes (Elt F) f
      (pb_k0_t5 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 k0_t5_loop.trips
        ++ pb_k0_t4 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 k0_t4_loop.trips))
      = wTile x1 x2 := by
  have ht1 : k0_t4_loop.trips = 96 := by decide +kernel
  have ht2 : k0_t5_loop.trips = 96 := by decide +kernel
  funext y
  refine View.read_writes_apply_of_pieces a13.view _ (wTile x1 x2) _ ?_ y ?_
  · intro p hp x
    rcases List.mem_append.mp hp with hp | hp
    · obtain ⟨k, -, rfl⟩ := (mem_pb2U 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 _ le_rfl p).mp hp
      exact piece2_eqU a3 a15 X_arg3 X_arg15 x1 x2 h2 h6 k x
    · obtain ⟨k, -, rfl⟩ := (mem_pb1U 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 _ le_rfl p).mp hp
      exact piece1_eqU a3 a15 X_arg3 X_arg15 x1 x2 h2 h6 k x
  · have hy0 : (y 0).val < 3072 := (y 0).isLt
    have hy1 : (y 1).val < 256 := (y 1).isLt
    by_cases hc : (y 1).val < 128
    · refine ⟨piece1U a3 a15 X_arg3 X_arg15 ⟨(y 0).val / 32, by omega⟩, List.mem_append_right _ ((mem_pb1U 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 _ le_rfl _).mpr ⟨_, by show (y 0).val / 32 < _; omega, rfl⟩), ?_⟩
      show y ∈ (Rect.unit (s := S3072x256) (k0_off31 ⟨(y 0).val / 32, by omega⟩) S32x128.size (k0_off31_inb _)).set
      rw [Rect.mem_set_unit]; intro a
      rw [k0_off31_eq]
      match a with
      | ⟨0, _⟩ => show 32 * ((y 0).val / 32) ≤ (y 0).val ∧ (y 0).val < 32 * ((y 0).val / 32) + 32; omega
      | ⟨1, _⟩ => show 0 ≤ (y 1).val ∧ (y 1).val < 0 + 128; omega
    · refine ⟨piece2U a3 a15 X_arg3 X_arg15 ⟨(y 0).val / 32, by omega⟩, List.mem_append_left _ ((mem_pb2U 𝒱 c bd i a1 w1 a2 w2 a3 w3 a4 w4 a5 w5 a6 w6 a7 w7 a8 w8 a9 w9 a10 w10 a11 w11 a12 w12 a13 w13 a14 w14 a15 w15 a16 w16 a17 w17 a18 w18 v32 X_arg3 X_arg15 _ le_rfl _).mpr ⟨_, by show (y 0).val / 32 < _; omega, rfl⟩), ?_⟩
      show y ∈ (Rect.unit (s := S3072x256) (k0_off33 ⟨(y 0).val / 32, by omega⟩) S32x128.size (k0_off33_inb _)).set
      rw [Rect.mem_set_unit]; intro a
      rw [k0_off33_eq]
      match a with
      | ⟨0, _⟩ => show 32 * ((y 0).val / 32) ≤ (y 0).val ∧ (y 0).val < 32 * ((y 0).val / 32) + 32; omega
      | ⟨1, _⟩ => show 128 ≤ (y 1).val ∧ (y 1).val < 128 + 128; omega

end Pieces

end Cert.UpIdeal.Gen

end
-- ==== Proof.UpOff.lean ====
/- Where the epilogue keeps a row block's scales: the half of the steps, the rows, and lane 0. -/
module

public import proofs.«01_k».proof.Proof.Gen.UpIdeal.Skeleton
@[expose] public section
namespace Cert.UpIdeal.Gen
open Idealize.ShloMosaic
theorem k0_off35_eq0 : ∀ (i : grid0.Coords) (k : Fin k0_t6_loop.trips), k0_off35 i k 0#32 = ![(i 0).val / 16, 32 * k.val, 0] := by decide +kernel
theorem k0_off35_eq1 : ∀ (i : grid0.Coords) (k : Fin k0_t6_loop.trips), k0_off35 i k 1#32 = ![(i 0).val / 16, 32 * k.val, 0] := by decide +kernel
end Cert.UpIdeal.Gen
end
-- ==== Proof.UpTrip.lean ====
/- One trip of the epilogue loop: 32 rows of the gated activations quantised, stored, and their scales kept. -/
module

public import proofs.«01_k».proof.Proof.UpLanes
public import proofs.«01_k».proof.Proof.UpQuant
public import proofs.«01_k».proof.Proof.UpOff
public import proofs.«01_k».proof.Proof.Dequant
public import proofs.«01_k».proof.Proof.Gen.UpIdeal.Loops

@[expose] public section

set_option maxRecDepth 8192
set_option maxHeartbeats 4000000

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

instance (i : grid0.Coords) (k : Fin k0_t6_loop.trips) : ClosedOff (k0_off35 i k 0#32) := ⟨_, k0_off35_eq0 i k⟩
instance (i : grid0.Coords) (k : Fin k0_t6_loop.trips) : ClosedOff (k0_off35 i k 1#32) := ⟨_, k0_off35_eq1 i k⟩

/-- What one trip stores through the three buffers it writes, from what the trip reads. -/
@[irreducible] def trip6 (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32)
    (X16 : BufTy.Contents (Elt F) a16.view.ty) (X17 : BufTy.Contents (Elt F) a17.view.ty) (f18 : BufTy.Contents (Elt F) a18.view.ty) (k : Fin k0_t6_loop.trips) :
    Σ' (L8 : List (View.Piece (Elt F) S1152x256 .fp8e4m3)) (L10 : List (View.Piece (Elt F) S1152x256 .bf16)),
      { L18 : List (View.Piece (Elt F) S2x1152x128 .f32) // ∀ (E : Set ℕ) (f8 : BufTy.Contents (Elt F) a8.view.ty) (f10 : BufTy.Contents (Elt F) a10.view.ty),
        (iprop((a16.view.loc (c : Thread nD τ) ↦[a16.view.set]{fullShare} X16) ∗ (a17.view.loc (c : Thread nD τ) ↦[a17.view.set]{fullShare} X17) ∗ (a8.view.loc (c : Thread nD τ) ↦[a8.view.set]{fullShare} f8) ∗ (a10.view.loc (c : Thread nD τ) ↦[a10.view.set]{fullShare} f10) ∗ (a18.view.loc (c : Thread nD τ) ↦[a18.view.set]{fullShare} f18)) : sProp 𝕄G)
        ⊢ wp frame (wpE (defs₀ (F := F)) 𝒱 (c : Thread nD τ) bd) E (k0_t6_body (F := F) i a1 w1 a2 w2 a3 w3 a4 w4 a5 w5 a6 w6 a7 w7 a8 w8 a9 w9 a10 w10 a11 w11 a12 w12 a13 w13 a14 w14 a15 w15 a16 w16 a17 w17 a18 w18 a0 k PUnit.unit)
          (fun _ => iprop((a16.view.loc (c : Thread nD τ) ↦[a16.view.set]{fullShare} X16) ∗ (a17.view.loc (c : Thread nD τ) ↦[a17.view.set]{fullShare} X17) ∗ (a8.view.loc (c : Thread nD τ) ↦[a8.view.set]{fullShare} (a8.view.writes (Elt F) f8 L8)) ∗ (a10.view.loc (c : Thread nD τ) ↦[a10.view.set]{fullShare} (a10.view.writes (Elt F) f10 L10)) ∗ (a18.view.loc (c : Thread nD τ) ↦[a18.view.set]{fullShare} (a18.view.writes (Elt F) f18 L18)))) } := by
  have hk : k.val < 36 := Nat.lt_of_lt_of_le k.isLt k0_t6_abs.2.1
  have hi : (i 0).val < 32 := (i 0).isLt
  refine ⟨?_, ?_, ?_, fun E f8 f10 => ?run⟩
  case run =>
    unfold k0_t6_body
    iintro ⟨H16, H17, H8, H10, H18⟩
    sl_exec
    sl_step
    sl_close

end Cert.UpIdeal.Gen

end
-- ==== Proof.UpEpi.lean ====
/- The gated activations: their tiles, the quantised array the epilogue leaves, and the scales it keeps. -/
module

public import proofs.«01_k».proof.Proof.UpTrip

@[expose] public section

set_option maxRecDepth 8192
set_option maxHeartbeats 4000000

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The tile of an array in row block `a`, column half `b`. -/
def tileAt (g : Vec F S1152x256 .f32) (a : Fin 36) (b : Fin 2) : Vec F S32x128 .f32 := fun y =>
  g (ix2 ⟨32 * a.val + (y 0).val, by have : (y 0).val < 32 := (y 0).isLt; omega⟩
    ⟨128 * b.val + (y 1).val, by have : (y 1).val < 128 := (y 1).isLt; omega⟩)

/-- The gate times its logistic times the up projection. -/
def gateT (g u : Vec F S32x128 .f32) : FVec F S32x128 .f32 :=
  mulf (mulf g (divf (broadcast S32x128 (Scalar.ofBits .f32 0x3F800000#32)) (addf (broadcast S32x128 (Scalar.ofBits .f32 0x3F800000#32))
    (exp (subf (broadcast S32x128 (Scalar.ofBits .f32 0x00000000#32)) g))))) u

/-- The gated activations' tile. -/
def hTile (g u : Vec F S1152x256 .f32) (a : Fin 36) (b : Fin 2) : FVec F S32x128 .f32 := gateT (tileAt g a b) (tileAt u a b)

/-- The gated activations' codes. -/
def hCodes (g u : Vec F S1152x256 .f32) : Vec F S1152x256 .fp8e4m3 := fun y =>
  codesT (hTile g u ⟨(y 0).val / 32, by have : (y 0).val < 1152 := (y 0).isLt; omega⟩ ⟨(y 1).val / 128, by have : (y 1).val < 256 := (y 1).isLt; omega⟩)
    (ix2 ⟨(y 0).val % 32, by omega⟩ ⟨(y 1).val % 128, by omega⟩)

/-- The quantised gated activations: codes times scales. -/
def hDeq (g u : Vec F S1152x256 .f32) : Vec F S1152x256 .bf16 := fun y =>
  deqT (hTile g u ⟨(y 0).val / 32, by have : (y 0).val < 1152 := (y 0).isLt; omega⟩ ⟨(y 1).val / 128, by have : (y 1).val < 256 := (y 1).isLt; omega⟩)
    (ix2 ⟨(y 0).val % 32, by omega⟩ ⟨(y 1).val % 128, by omega⟩)

/-- A tile's scales. -/
def hSc (g u : Vec F S1152x256 .f32) (a : Fin 36) (b : Fin 2) : FVec F S32x128 .f32 := extf .f32 (scaleT (hTile g u a b)) bitsLt_bf16_f32

/-- The kept scales after a row block of step `t`: the lanes numbered by the step's two tiles take those tiles' scales. -/
def huVal (t : ℕ) (g u : Vec F S1152x256 .f32) (hu : Vec F S2x1152x128 .f32) : Vec F S2x1152x128 .f32 := fun z =>
  if (z 2).val % 32 = (2 * t + 1) % 32 then
    hSc g u ⟨(z 1).val / 32, by have : (z 1).val < 1152 := (z 1).isLt; omega⟩ 1 (ix2 ⟨(z 1).val % 32, by omega⟩ (z 2))
  else if (z 2).val % 32 = (2 * t) % 32 then
    hSc g u ⟨(z 1).val / 32, by have : (z 1).val < 1152 := (z 1).isLt; omega⟩ 0 (ix2 ⟨(z 1).val % 32, by omega⟩ (z 2))
  else hu z

/-- The kept scales after `n` row blocks of step `t`. -/
def huAll (t : ℕ) (g u : Vec F S1152x256 .f32) (hu : Vec F S2x1152x128 .f32) (n : ℕ) : Vec F S2x1152x128 .f32 := fun z =>
  if (z 0).val = t / 16 ∧ (z 1).val < 32 * n then huVal t g u hu z else hu z

/-- The lane number, within a block, of tile `b` of step `t`. -/
def stepLane (t b : BitVec 32) : BitVec 32 :=
  have n : BitVec 32 := Scalar.select (Scalar.cmpi .eq 32#32 0#32) 1#32 32#32
  have q : BitVec 32 := Scalar.remsi (Scalar.addi (Scalar.muli t 2#32) b) n
  Scalar.select (Scalar.andi (Scalar.xori (Scalar.cmpi .slt q 0#32) (Scalar.cmpi .slt n 0#32)) (Scalar.cmpi .ne q 0#32)) (Scalar.addi q n) q

/-- A tile's scales kept on the lanes numbered `n` in their blocks. -/
def keepT (n : BitVec 32) (s : FVec F S32x128 .bf16) (old : Vec F S1x32x128 .f32) : FVec F S1x32x128 .f32 :=
  shapeCast S1x32x128 (select (cmpi .eq laneMod (broadcast S32x128 n)) (extf .f32 s bitsLt_bf16_f32) (shapeCast S32x128 old shapeCasts_S1x32x128_S32x128))
    shapeCasts_S32x128_S1x32x128

/-- Which lanes a tile's scales are kept on. -/
theorem keepT_apply (t : Fin 32) (b : Fin 2) (s : FVec F S32x128 .bf16) (old : Vec F S1x32x128 .f32) (r : Fin 32) (l : Fin 128) :
    keepT (stepLane (BitVec.ofNat 32 t.val) (BitVec.ofNat 32 b.val)) s old (ix3 0 r l)
      = if l.val % 32 = (2 * t.val + b.val) % 32 then extf .f32 s bitsLt_bf16_f32 (ix2 r l) else old (ix3 0 r l) := by
  have hW : ∀ (t : Fin 32) (b : Fin 2), stepLane (BitVec.ofNat 32 t.val) (BitVec.ofNat 32 b.val) = BitVec.ofNat 32 ((2 * t.val + b.val) % 32) := by decide +kernel
  unfold keepT
  rw [hW t b, shapeCast_ab_1ab_apply]
  show (if IntOp.cmpi .eq (laneMod (ix2 r l)) (BitVec.ofNat 32 ((2 * t.val + b.val) % 32)) = 1#1 then extf .f32 s bitsLt_bf16_f32 (ix2 r l) else _) = _
  rw [laneMod_apply]
  by_cases e : l.val % 32 = (2 * t.val + b.val) % 32
  · rw [if_pos e, e, if_pos ((cmpi_eq_one _ _).2 rfl)]
  · rw [if_neg e, if_neg]
    · exact shapeCast_1ab_ab_apply _ _ _ _
    · intro hc
      have := congrArg BitVec.toNat ((cmpi_eq_one _ _).1 hc)
      simp only [BitVec.toNat_ofNat] at this
      omega

/-- The same of the scales of a tile of the gated activations. -/
theorem keepH (t : ℕ) (ht : t < 32) (b : Fin 2) (g u : Vec F S1152x256 .f32) (a : Fin 36) (h : FVec F S32x128 .f32) (e : h = hTile g u a b)
    (old : Vec F S1x32x128 .f32) (r : Fin 32) (l : Fin 128) :
    keepT (stepLane (BitVec.ofNat 32 t) (BitVec.ofNat 32 b.val)) (scaleT h) old (ix3 0 r l)
      = if l.val % 32 = (2 * t + b.val) % 32 then hSc g u a b (ix2 r l) else old (ix3 0 r l) := by
  subst e
  exact keepT_apply ⟨t, ht⟩ b _ old r l

/-- Two stored tiles extend the rows already right by 32. -/
theorem two_tiles {e : EltTy} (m : Memref sig .tc .vmem S1152x256 e) (f : BufTy.Contents (Elt F) m.view.ty) (k : Fin k0_t6_loop.trips)
    (P0 P1 : S32x128.Idx → Elt F e) (G : S1152x256.Idx → Elt F e)
    (h0 : ∀ (hk : k.val < 36) (r : Fin 32) (l : Fin 128), P0 (ix2 r l) = G (ix2 ⟨32 * k.val + r.val, by omega⟩ ⟨l.val, by omega⟩))
    (h1 : ∀ (hk : k.val < 36) (r : Fin 32) (l : Fin 128), P1 (ix2 r l) = G (ix2 ⟨32 * k.val + r.val, by omega⟩ ⟨128 + l.val, by omega⟩))
    (hf : ∀ y : S1152x256.Idx, (y 0).val < 32 * k.val → m.view.read (Elt F) f y = G y) (y : S1152x256.Idx) (hy : (y 0).val < 32 * (k.val + 1)) :
    m.view.read (Elt F) (m.view.writes (Elt F) f
      [⟨Rect.unit (s := S1152x256) (k0_off36 k) S32x128.size (k0_off36_inb k), P1⟩,
       ⟨Rect.unit (s := S1152x256) (k0_off34 k) S32x128.size (k0_off34_inb k), P0⟩]) y = G y := by
  have hk : k.val < 36 := Nat.lt_of_lt_of_le k.isLt k0_t6_abs.2.1
  have hy1 : (y 1).val < 256 := (y 1).isLt
  by_cases hlo : (y 0).val < 32 * k.val
  · rw [View.read_writes_cons_unit_of_not_mem (Val := Elt F) m.view f _ _ _ y (k0_off36_eq k) 0 (.inl hlo),
      View.read_writes_cons_unit_of_not_mem (Val := Elt F) m.view f _ _ _ y (k0_off34_eq k) 0 (.inl hlo)]
    exact hf y hlo
  · by_cases hc : (y 1).val < 128
    · rw [View.read_writes_cons_unit_of_not_mem (Val := Elt F) m.view f _ _ _ y (k0_off36_eq k) 1 (.inl hc),
        View.read_writes_cons_unit_of_mem (Val := Elt F) (size := S32x128.size) m.view f _ _ _ y (ix2 (⟨(y 0).val - 32 * k.val, by omega⟩ : Fin 32) (⟨(y 1).val, hc⟩ : Fin 128)) (k0_off34_eq k)
          (fun a => by match a with
                       | ⟨0, _⟩ => show (y 0).val = 32 * k.val + ((y 0).val - 32 * k.val); omega
                       | ⟨1, _⟩ => show (y 1).val = 0 + (y 1).val; omega), h0 hk]
      exact congrArg G (funext fun a => Fin.ext (by match a with
                       | ⟨0, _⟩ => show 32 * k.val + ((y 0).val - 32 * k.val) = (y 0).val; omega
                       | ⟨1, _⟩ => rfl))
    · rw [View.read_writes_cons_unit_of_mem (Val := Elt F) (size := S32x128.size) m.view f _ _ _ y (ix2 (⟨(y 0).val - 32 * k.val, by omega⟩ : Fin 32) (⟨(y 1).val - 128, by omega⟩ : Fin 128)) (k0_off36_eq k)
          (fun a => by match a with
                       | ⟨0, _⟩ => show (y 0).val = 32 * k.val + ((y 0).val - 32 * k.val); omega
                       | ⟨1, _⟩ => show (y 1).val = 128 + ((y 1).val - 128); omega), h1 hk]
      exact congrArg G (funext fun a => Fin.ext (by match a with
                       | ⟨0, _⟩ => show 32 * k.val + ((y 0).val - 32 * k.val) = (y 0).val; omega
                       | ⟨1, _⟩ => show 128 + ((y 1).val - 128) = (y 1).val; omega))

/-- A loaded tile is the array's tile. -/
theorem tile_read (m : Memref sig .tc .vmem S1152x256 .f32) (X : BufTy.Contents (Elt F) m.view.ty) (g : Vec F S1152x256 .f32)
    (hX : m.view.read (Elt F) X = g) {off : Fin 2 → ℕ} (k : Fin 36) (b : Fin 2) (e : off = ![32 * k.val, 128 * b.val])
    (inb : ∀ a, off a + S32x128.size a ≤ S1152x256.size a) :
    View.readAt (Elt F) m.view (Rect.unit (s := S1152x256) off S32x128.size inb).toLoadRect X = tileAt g k b := by
  subst e
  funext y
  rw [View.readAt_apply, hX]
  refine congrArg g (funext fun a => Fin.ext ?_)
  match a with
  | ⟨0, _⟩ => show 32 * k.val + 1 * (y 0).val = 32 * k.val + (y 0).val; omega
  | ⟨1, _⟩ => show 128 * b.val + 1 * (y 1).val = 128 * b.val + (y 1).val; omega

/-- Two stores of a row block's scales, the second over the first. -/
theorem two_hu (m : Memref sig .tc .vmem S2x1152x128 .f32) (i : grid0.Coords) (k : Fin k0_t6_loop.trips) (f : BufTy.Contents (Elt F) m.view.ty)
    (W0 W1 : S1x32x128.Idx → Elt F .f32) (g u : Vec F S1152x256 .f32) (hu : Vec F S2x1152x128 .f32) (hk : k.val < 36)
    (hf : m.view.read (Elt F) f = huAll (i 0).val g u hu k.val)
    (h0 : ∀ (r : Fin 32) (l : Fin 128), W0 (ix3 0 r l) = if l.val % 32 = (2 * (i 0).val) % 32 then hSc g u ⟨k.val, hk⟩ 0 (ix2 r l)
      else View.readAt (Elt F) m.view (Rect.unit (s := S2x1152x128) (k0_off35 i k 0#32) S1x32x128.size (k0_off35_inb i k 0)).toLoadRect f (ix3 0 r l))
    (h1 : ∀ (r : Fin 32) (l : Fin 128), W1 (ix3 0 r l) = if l.val % 32 = (2 * (i 0).val + 1) % 32 then hSc g u ⟨k.val, hk⟩ 1 (ix2 r l)
      else View.readAt (Elt F) m.view (Rect.unit (s := S2x1152x128) (k0_off35 i k 1#32) S1x32x128.size (k0_off35_inb i k 1)).toLoadRect
        (m.view.writes (Elt F) m.view.junk [⟨Rect.unit (s := S2x1152x128) (k0_off35 i k 0#32) S1x32x128.size (k0_off35_inb i k 0), W0⟩]) (ix3 0 r l)) :
    m.view.read (Elt F) (m.view.writes (Elt F) f
      [⟨Rect.unit (s := S2x1152x128) (k0_off35 i k 1#32) S1x32x128.size (k0_off35_inb i k 1), W1⟩,
       ⟨Rect.unit (s := S2x1152x128) (k0_off35 i k 0#32) S1x32x128.size (k0_off35_inb i k 0), W0⟩]) = huAll (i 0).val g u hu (k.val + 1) := by
  have hi : (i 0).val < 32 := (i 0).isLt
  funext z
  have hz0 : (z 0).val < 2 := (z 0).isLt
  have hz1 : (z 1).val < 1152 := (z 1).isLt
  have hz2 : (z 2).val < 128 := (z 2).isLt
  have hold : ¬ ((z 0).val = (i 0).val / 16 ∧ 32 * k.val ≤ (z 1).val ∧ (z 1).val < 32 * k.val + 32) →
      m.view.read (Elt F) f z = huAll (i 0).val g u hu (k.val + 1) z := by
    intro hn
    rw [hf]
    unfold huAll
    by_cases h : (z 0).val = (i 0).val / 16 ∧ (z 1).val < 32 * k.val
    · rw [if_pos h, if_pos ⟨h.1, by omega⟩]
    · rw [if_neg h, if_neg (fun h' => by omega)]
  by_cases ha : (z 0).val = (i 0).val / 16
  · by_cases hb : 32 * k.val ≤ (z 1).val ∧ (z 1).val < 32 * k.val + 32
    · obtain ⟨hb1, hb2⟩ := hb
      have hx0 : ∀ a : Fin 3, (z a).val = (![(i 0).val / 16, 32 * k.val, 0] : Fin 3 → ℕ) a
          + ((ix3 (0 : Fin 1) (⟨(z 1).val - 32 * k.val, by omega⟩ : Fin 32) (⟨(z 2).val, hz2⟩ : Fin 128) : S1x32x128.Idx) a).val := fun a => by
        match a with
        | ⟨0, _⟩ => show (z 0).val = (i 0).val / 16 + 0; omega
        | ⟨1, _⟩ => show (z 1).val = 32 * k.val + ((z 1).val - 32 * k.val); omega
        | ⟨2, _⟩ => show (z 2).val = 0 + (z 2).val; omega
      have hidx : ∀ (w : BitVec 32) (inb) (e : k0_off35 i k w = ![(i 0).val / 16, 32 * k.val, 0]),
          (Rect.unit (s := S2x1152x128) (k0_off35 i k w) S1x32x128.size inb).toLoadRect.idx
            (ix3 (0 : Fin 1) (⟨(z 1).val - 32 * k.val, by omega⟩ : Fin 32) (⟨(z 2).val, hz2⟩ : Fin 128)) = z := fun w inb e => by
        funext a; apply Fin.ext
        have h := hx0 a
        have h' : k0_off35 i k w a = (![(i 0).val / 16, 32 * k.val, 0] : Fin 3 → ℕ) a := congrFun e a
        show k0_off35 i k w a + 1 * _ = (z a).val
        rw [h', h, Nat.one_mul]
      rw [View.read_writes_cons_unit_of_mem (Val := Elt F) (size := S1x32x128.size) m.view f _ _ _ z _ (k0_off35_eq1 i k) hx0, h1]
      unfold huAll
      have hand : (z 0).val = (i 0).val / 16 ∧ (z 1).val < 32 * (k.val + 1) := ⟨ha, by omega⟩
      rw [if_pos hand]
      unfold huVal
      have e0 : (⟨k.val, hk⟩ : Fin 36) = ⟨(z 1).val / 32, by omega⟩ := Fin.ext (by dsimp only; omega)
      have e1 : (⟨(z 1).val - 32 * k.val, by omega⟩ : Fin 32) = ⟨(z 1).val % 32, by omega⟩ := Fin.ext (by dsimp only; omega)
      have e2 : (⟨(z 2).val, hz2⟩ : Fin 128) = z 2 := rfl
      by_cases c1 : (z 2).val % 32 = (2 * (i 0).val + 1) % 32
      · simp only [if_pos c1]; rw [e0, e1]; rfl
      · simp only [if_neg c1]; rw [View.readAt_apply, hidx _ _ (k0_off35_eq1 i k),
          View.read_writes_cons_unit_of_mem (Val := Elt F) (size := S1x32x128.size) m.view _ _ _ _ z _ (k0_off35_eq0 i k) hx0, h0]
        by_cases c0 : (z 2).val % 32 = (2 * (i 0).val) % 32
        · simp only [if_pos c0]; rw [e0, e1]; rfl
        · simp only [if_neg c0]; rw [View.readAt_apply, hidx _ _ (k0_off35_eq0 i k), hf]
          unfold huAll
          rw [if_neg (fun h => by omega)]
    · rw [View.read_writes_cons_unit_of_not_mem (Val := Elt F) m.view f _ _ _ z (k0_off35_eq1 i k) 1 (by
          show (z 1).val < 32 * k.val ∨ 32 * k.val + 32 ≤ (z 1).val; omega),
        View.read_writes_cons_unit_of_not_mem (Val := Elt F) m.view f _ _ _ z (k0_off35_eq0 i k) 1 (by
          show (z 1).val < 32 * k.val ∨ 32 * k.val + 32 ≤ (z 1).val; omega)]
      exact hold (fun h => hb h.2)
  · rw [View.read_writes_cons_unit_of_not_mem (Val := Elt F) m.view f _ _ _ z (k0_off35_eq1 i k) 0 (by
        show (z 0).val < (i 0).val / 16 ∨ (i 0).val / 16 + 1 ≤ (z 0).val; omega),
      View.read_writes_cons_unit_of_not_mem (Val := Elt F) m.view f _ _ _ z (k0_off35_eq0 i k) 0 (by
        show (z 0).val < (i 0).val / 16 ∨ (i 0).val / 16 + 1 ≤ (z 0).val; omega)]
    exact hold (fun h => ha h.1)

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole)
variable (X16 : BufTy.Contents (Elt F) a16.view.ty) (X17 : BufTy.Contents (Elt F) a17.view.ty) (f18 : BufTy.Contents (Elt F) a18.view.ty)
variable (g u : Vec F S1152x256 .f32) (h16 : a16.view.read (Elt F) X16 = g) (h17 : a17.view.read (Elt F) X17 = u)

/-- The first half's tile of `h`, as loaded. -/
theorem h_lo (k : Fin k0_t6_loop.trips) (hk : k.val < 36) (h16 : a16.view.read (Elt F) X16 = g) (h17 : a17.view.read (Elt F) X17 = u) :
    gateT (View.readAt (Elt F) a16.view (Rect.unit (s := S1152x256) (k0_off34 k) S32x128.size (k0_off34_inb k)).toLoadRect X16)
      (View.readAt (Elt F) a17.view (Rect.unit (s := S1152x256) (k0_off34 k) S32x128.size (k0_off34_inb k)).toLoadRect X17) = hTile g u ⟨k.val, hk⟩ 0 :=
  congrArg₂ gateT (tile_read a16 X16 g h16 ⟨k.val, hk⟩ 0 (k0_off34_eq k) _) (tile_read a17 X17 u h17 ⟨k.val, hk⟩ 0 (k0_off34_eq k) _)

/-- The second half's tile of `h`, as loaded. -/
theorem h_hi (k : Fin k0_t6_loop.trips) (hk : k.val < 36) (h16 : a16.view.read (Elt F) X16 = g) (h17 : a17.view.read (Elt F) X17 = u) :
    gateT (View.readAt (Elt F) a16.view (Rect.unit (s := S1152x256) (k0_off36 k) S32x128.size (k0_off36_inb k)).toLoadRect X16)
      (View.readAt (Elt F) a17.view (Rect.unit (s := S1152x256) (k0_off36 k) S32x128.size (k0_off36_inb k)).toLoadRect X17) = hTile g u ⟨k.val, hk⟩ 1 :=
  congrArg₂ gateT (tile_read a16 X16 g h16 ⟨k.val, hk⟩ 1 (k0_off36_eq k) _) (tile_read a17 X17 u h17 ⟨k.val, hk⟩ 1 (k0_off36_eq k) _)

/-- A whole array of tiles read inside one tile. -/
theorem at_tile {α : Type} (f : Fin 36 → Fin 2 → S32x128.Idx → α) (k : Fin 36) (b : Fin 2) (r : Fin 32) (l : Fin 128) (p : Fin 1152) (q : Fin 256)
    (hp : p.val = 32 * k.val + r.val) (hq : q.val = 128 * b.val + l.val) :
    f k b (ix2 r l) = f ⟨p.val / 32, by omega⟩ ⟨q.val / 128, by omega⟩ (ix2 ⟨p.val % 32, by omega⟩ ⟨q.val % 128, by omega⟩) := by
  have e1 : k = ⟨p.val / 32, by omega⟩ := Fin.ext (by dsimp only; omega)
  have e2 : b = ⟨q.val / 128, by omega⟩ := Fin.ext (by dsimp only; omega)
  have e3 : r = ⟨p.val % 32, by omega⟩ := Fin.ext (by dsimp only; omega)
  have e4 : l = ⟨q.val % 128, by omega⟩ := Fin.ext (by dsimp only; omega)
  rw [← e1, ← e2, ← e3, ← e4]

include h16 h17 in
theorem trip6_codes (a0 : BitVec 32) (k : Fin k0_t6_loop.trips) (f : BufTy.Contents (Elt F) a8.view.ty)
    (hf : ∀ y : S1152x256.Idx, (y 0).val < 32 * k.val → a8.view.read (Elt F) f y = hCodes g u y) (y : S1152x256.Idx) (hy : (y 0).val < 32 * (k.val + 1)) :
    a8.view.read (Elt F) (a8.view.writes (Elt F) f (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 f18 k).1) y = hCodes g u y := by
  unfold trip6
  dsimp only
  refine two_tiles a8 f k _ _ (hCodes g u) (fun hk r l => ?_) (fun hk r l => ?_) hf y hy
  · exact (congrArg (fun h => codesT h (ix2 r l)) (h_lo a16 a17 X16 X17 g u k hk h16 h17)).trans
      (at_tile (fun a b => codesT (hTile g u a b)) ⟨k.val, hk⟩ 0 r l _ _ rfl (by simp))
  · exact (congrArg (fun h => codesT h (ix2 r l)) (h_hi a16 a17 X16 X17 g u k hk h16 h17)).trans
      (at_tile (fun a b => codesT (hTile g u a b)) ⟨k.val, hk⟩ 1 r l _ _ rfl rfl)

include h16 h17 in
theorem trip6_deq (a0 : BitVec 32) (k : Fin k0_t6_loop.trips) (f : BufTy.Contents (Elt F) a10.view.ty)
    (hf : ∀ y : S1152x256.Idx, (y 0).val < 32 * k.val → a10.view.read (Elt F) f y = hDeq g u y) (y : S1152x256.Idx) (hy : (y 0).val < 32 * (k.val + 1)) :
    a10.view.read (Elt F) (a10.view.writes (Elt F) f (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 f18 k).2.1) y = hDeq g u y := by
  unfold trip6
  dsimp only
  refine two_tiles a10 f k _ _ (hDeq g u) (fun hk r l => ?_) (fun hk r l => ?_) hf y hy
  · exact (congrArg (fun h => deqT h (ix2 r l)) (h_lo a16 a17 X16 X17 g u k hk h16 h17)).trans
      (at_tile (fun a b => deqT (hTile g u a b)) ⟨k.val, hk⟩ 0 r l _ _ rfl (by simp))
  · exact (congrArg (fun h => deqT h (ix2 r l)) (h_hi a16 a17 X16 X17 g u k hk h16 h17)).trans
      (at_tile (fun a b => deqT (hTile g u a b)) ⟨k.val, hk⟩ 1 r l _ _ rfl rfl)

include h16 h17 in
theorem trip6_hu (hu : Vec F S2x1152x128 .f32) (k : Fin k0_t6_loop.trips)
    (hf : a18.view.read (Elt F) f18 = huAll (i 0).val g u hu k.val) :
    a18.view.read (Elt F) (a18.view.writes (Elt F) f18 (trip6 𝒱 c bd i a1 w1 a2 w2 a3 w3 a4 w4 a5 w5 a6 w6 a7 w7 a8 w8 a9 w9 a10 w10 a11 w11 a12 w12 a13 w13 a14 w14 a15 w15 a16 w16 a17 w17 a18 w18 (BitVec.ofNat 32 (i 0).val) X16 X17 f18 k).2.2.1)
      = huAll (i 0).val g u hu (k.val + 1) := by
  have hk : k.val < 36 := Nat.lt_of_lt_of_le k.isLt k0_t6_abs.2.1
  have hi : (i 0).val < 32 := (i 0).isLt
  unfold trip6
  dsimp only
  refine two_hu a18 i k f18 _ _ g u hu hk hf (fun r l => ?_) (fun r l => ?_)
  · have q := fun old => keepH (i 0).val hi 0 g u ⟨k.val, hk⟩ _ (h_lo a16 a17 X16 X17 g u k hk h16 h17) old r l
    exact q _
  · have q := fun old => keepH (i 0).val hi 1 g u ⟨k.val, hk⟩ _ (h_hi a16 a17 X16 X17 g u k hk h16 h17) old r l
    exact q _

end Pieces
end Cert.UpIdeal.Gen

end
-- ==== Proof.UpLoop.lean ====
/- The epilogue loop by its invariant, and what its buffers hold after it. -/
module

public import proofs.«01_k».proof.Proof.UpEpi
public import proofs.«01_k».proof.Proof.Gen.UpIdeal.Loops

@[expose] public section

set_option maxRecDepth 8192
set_option maxHeartbeats 4000000

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A trip's pieces in front of the earlier trips'. -/
@[irreducible] def pb6Step (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) (k : ℕ) (prev : List (View.Piece (Elt F) S1152x256 .fp8e4m3) × List (View.Piece (Elt F) S1152x256 .bf16) × List (View.Piece (Elt F) S2x1152x128 .f32)) : List (View.Piece (Elt F) S1152x256 .fp8e4m3) × List (View.Piece (Elt F) S1152x256 .bf16) × List (View.Piece (Elt F) S2x1152x128 .f32) :=
  if h : k < k0_t6_loop.trips then
    ((trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 prev.2.2) ⟨k, h⟩).1 ++ prev.1,
     (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 prev.2.2) ⟨k, h⟩).2.1 ++ prev.2.1,
     (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 prev.2.2) ⟨k, h⟩).2.2.1 ++ prev.2.2)
  else prev

/-- The pieces of the trips before `k`, last first, per buffer. -/
def pb6 (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) : ℕ → List (View.Piece (Elt F) S1152x256 .fp8e4m3) × List (View.Piece (Elt F) S1152x256 .bf16) × List (View.Piece (Elt F) S2x1152x128 .f32)
  | 0 => ([], [], [])
  | k + 1 => pb6Step 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k)

theorem pb6_succ (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) (k : Fin k0_t6_loop.trips) :
    pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 (k.val + 1) =
    ((trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) k).1 ++ (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).1,
     (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) k).2.1 ++ (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.1,
     (trip6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) k).2.2.1 ++ (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) := by
  rw [pb6.eq_2]; unfold pb6Step; exact dif_pos k.isLt

/-- Before trip `k`: the two products as they were, the three written buffers at the earlier trips' pieces. -/
abbrev inv6 (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) (G8 : BufTy.Contents (Elt F) a8.view.ty) (G10 : BufTy.Contents (Elt F) a10.view.ty) (k : ℕ) (_u : PUnit) : sProp 𝕄G :=
  iprop((a16.view.loc (c : Thread nD τ) ↦[a16.view.set]{fullShare} X16) ∗ (a17.view.loc (c : Thread nD τ) ↦[a17.view.set]{fullShare} X17) ∗ (∃ f, (a8.view.loc (c : Thread nD τ) ↦[a8.view.set]{fullShare} f) ∗ ⌜f = a8.view.writes (Elt F) G8 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k).1⌝) ∗ (∃ f, (a10.view.loc (c : Thread nD τ) ↦[a10.view.set]{fullShare} f) ∗ ⌜f = a10.view.writes (Elt F) G10 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k).2.1⌝) ∗ (∃ f, (a18.view.loc (c : Thread nD τ) ↦[a18.view.set]{fullShare} f) ∗ ⌜f = a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k).2.2⌝))

set_option warn.classDefReducibility false in
/-- The loop by that invariant. -/
@[sl_loop] def loopInv_k0_t6 (𝒱 : Variants) (c : Dev nD) (bd : Option 𝒱.V) (E : Set ℕ) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (a0 : BitVec 32) (X16 : BufTy.Contents (Elt F) a16.view.ty) (X17 : BufTy.Contents (Elt F) a17.view.ty) (G18 : BufTy.Contents (Elt F) a18.view.ty) (G8 : BufTy.Contents (Elt F) a8.view.ty) (G10 : BufTy.Contents (Elt F) a10.view.ty) :
    LoopInvTy_k0_t6 (F := F) Unit ℕ (UR sig nD τ) ℕ 𝒱 c bd E i a1 w1 a2 w2 a3 w3 a4 w4 a5 w5 a6 w6 a7 w7 a8 w8 a9 w9 a10 w10 a11 w11 a12 w12 a13 w13 a14 w14 a15 w15 a16 w16 a17 w17 a18 w18 a0 where
  inv := inv6 (F := F) 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 G8 G10
  step k acc := by
    iintro ⟨H16, H17, ⟨%f8, H8, %h8⟩, ⟨%f10, H10, %h10⟩, ⟨%f18, H18, %h18⟩⟩
    subst h18
    iapply (wp_wand_r Idealize.ShloMosaic.frame (wpE (defs₀ (F := F)) 𝒱 (c : Thread nD τ) bd) E)
    isplitl [H16 H17 H8 H10 H18]
    · iapply ((trip6 (F := F) 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 a0 X16 X17 G18 k.val).2.2) k).2.2.2 E f8 f10)
      isplitl [H16]; · iexact H16
      isplitl [H17]; · iexact H17
      isplitl [H8]; · iexact H8
      isplitl [H10]; · iexact H10
      iexact H18
    · iintro %_ ⟨H16, H17, H8, H10, H18⟩
      isplitl [H16]; · iexact H16
      isplitl [H17]; · iexact H17
      rw [pb6_succ]
      isplitl [H8]
      · iexists _; isplitl [H8]; · iexact H8
        ipureintro; rw [h8, ← View.writes_append]
      isplitl [H10]
      · iexists _; isplitl [H10]; · iexact H10
        ipureintro; rw [h10, ← View.writes_append]
      iexists _; isplitl [H18]; · iexact H18
      ipureintro; rw [← View.writes_append]

section After

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (X16 : BufTy.Contents (Elt F) a16.view.ty) (X17 : BufTy.Contents (Elt F) a17.view.ty) (G18 : BufTy.Contents (Elt F) a18.view.ty)
  (G8 : BufTy.Contents (Elt F) a8.view.ty) (G10 : BufTy.Contents (Elt F) a10.view.ty)
  (g u : Vec F S1152x256 .f32) (h16 : a16.view.read (Elt F) X16 = g) (h17 : a17.view.read (Elt F) X17 = u)

include h16 h17

/-- After `n` trips the first `32 n` rows are written, and the scales of those rows kept. -/
theorem after6 (hu : Vec F S2x1152x128 .f32) (h18 : a18.view.read (Elt F) G18 = hu) (n : ℕ) (hn : n ≤ k0_t6_loop.trips) :
    (∀ y : S1152x256.Idx, (y 0).val < 32 * n → a8.view.read (Elt F) (a8.view.writes (Elt F) G8 (pb6 𝒱 c bd i a1 w1 a2 w2 a3 w3 a4 w4 a5 w5 a6 w6 a7 w7 a8 w8 a9 w9 a10 w10 a11 w11 a12 w12 a13 w13 a14 w14 a15 w15 a16 w16 a17 w17 a18 w18 (BitVec.ofNat 32 (i 0).val) X16 X17 G18 n).1) y = hCodes g u y)
    ∧ (∀ y : S1152x256.Idx, (y 0).val < 32 * n → a10.view.read (Elt F) (a10.view.writes (Elt F) G10 (pb6 𝒱 c bd i a1 w1 a2 w2 a3 w3 a4 w4 a5 w5 a6 w6 a7 w7 a8 w8 a9 w9 a10 w10 a11 w11 a12 w12 a13 w13 a14 w14 a15 w15 a16 w16 a17 w17 a18 w18 (BitVec.ofNat 32 (i 0).val) X16 X17 G18 n).2.1) y = hDeq g u y)
    ∧ a18.view.read (Elt F) (a18.view.writes (Elt F) G18 (pb6 𝒱 c bd i a1 w1 a2 w2 a3 w3 a4 w4 a5 w5 a6 w6 a7 w7 a8 w8 a9 w9 a10 w10 a11 w11 a12 w12 a13 w13 a14 w14 a15 w15 a16 w16 a17 w17 a18 w18 (BitVec.ofNat 32 (i 0).val) X16 X17 G18 n).2.2) = huAll (i 0).val g u hu n := by
  induction n with
  | zero =>
    refine ⟨fun y hy => absurd hy (by omega), fun y hy => absurd hy (by omega), ?_⟩
    refine h18.trans (funext fun z => ?_)
    unfold huAll
    rw [if_neg (fun h => by omega)]
  | succ n ih =>
    obtain ⟨ih8, ih10, ih18⟩ := ih (by omega)
    rw [pb6_succ 𝒱 c bd i a1 w1 a2 w2 a3 w3 a4 w4 a5 w5 a6 w6 a7 w7 a8 w8 a9 w9 a10 w10 a11 w11 a12 w12 a13 w13 a14 w14 a15 w15 a16 w16 a17 w17 a18 w18 _ X16 X17 G18 ⟨n, hn⟩]
    dsimp only
    rw [View.writes_append, View.writes_append, View.writes_append]
    exact ⟨trip6_codes 𝒱 c bd i a1 w1 a2 w2 a3 w3 a4 w4 a5 w5 a6 w6 a7 w7 a8 w8 a9 w9 a10 w10 a11 w11 a12 w12 a13 w13 a14 w14 a15 w15 a16 w16 a17 w17 a18 w18 X16 X17 _ g u h16 h17 _ ⟨n, hn⟩ _ ih8,
      trip6_deq 𝒱 c bd i a1 w1 a2 w2 a3 w3 a4 w4 a5 w5 a6 w6 a7 w7 a8 w8 a9 w9 a10 w10 a11 w11 a12 w12 a13 w13 a14 w14 a15 w15 a16 w16 a17 w17 a18 w18 X16 X17 _ g u h16 h17 _ ⟨n, hn⟩ _ ih10,
      trip6_hu 𝒱 c bd i a1 w1 a2 w2 a3 w3 a4 w4 a5 w5 a6 w6 a7 w7 a8 w8 a9 w9 a10 w10 a11 w11 a12 w12 a13 w13 a14 w14 a15 w15 a16 w16 a17 w17 a18 w18 X16 X17 _ g u h16 h17 hu ⟨n, hn⟩ ih18⟩

end After

/-- The kept scales after step `t`. -/
def huNext (t : ℕ) (g u : Vec F S1152x256 .f32) (hu : Vec F S2x1152x128 .f32) : Vec F S2x1152x128 .f32 := fun z =>
  if (z 0).val = t / 16 then huVal t g u hu z else hu z

theorem huAll_eq (t : ℕ) (g u : Vec F S1152x256 .f32) (hu : Vec F S2x1152x128 .f32) : huAll t g u hu 36 = huNext t g u hu := by
  funext z
  have hz1 : (z 1).val < 1152 := (z 1).isLt
  unfold huAll huNext
  by_cases h : (z 0).val = t / 16
  · rw [if_pos h, if_pos ⟨h, by omega⟩]
  · rw [if_neg h, if_neg (fun h' => h h'.1)]

theorem trips6 : k0_t6_loop.trips = 36 := by decide +kernel

end Cert.UpIdeal.Gen

end
-- ==== Proof.UpHs.lean ====
/- The last step packs the kept scales into the scale output. -/
module

public import proofs.«01_k».proof.Proof.UpLanes
public import proofs.«01_k».proof.Proof.Dequant
public import proofs.«01_k».proof.Proof.UpOff
public import proofs.«01_k».proof.Proof.Gen.UpIdeal.Loops

@[expose] public section

set_option maxRecDepth 8192
set_option maxHeartbeats 4000000

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The packed scales: block `j` of a row is the kept scale on lane `32 (j mod 4) + j / 4`. -/
def hsPack (hu : Vec F S2x1152x128 .f32) : Vec F S1152x256 .f32 := fun y =>
  hu (ix3 ⟨(y 1).val / 128, by have : (y 1).val < 256 := (y 1).isLt; omega⟩ (y 0)
    ⟨32 * ((y 1).val % 128 % 4) + (y 1).val % 128 / 4, by omega⟩)

section Pieces

variable (𝒱 : Variants) (c : Dev nD) (bd : Option 𝒱.V) (i : grid0.Coords) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (k0_h2 : k0_cond2 i = 1#1) (X18 : BufTy.Contents (Elt F) a18.view.ty)

/-- The tile that trip `k` of the loop over half 0 stores. -/
def pieceH7 (k : Fin k0_t7_loop.trips) : View.Piece (Elt F) S1152x256 .f32 :=
  ⟨Rect.unit (s := S1152x256) (k0_off38 k) S32x128.size (k0_off38_inb i k k0_h2), packT (shapeCast S32x128
    (View.readAt (Elt F) a18.view (Rect.unit (s := S2x1152x128) (k0_off37 k) S1x32x128.size (k0_off37_inb i k k0_h2)).toLoadRect X18) shapeCasts_S1x32x128_S32x128)⟩

theorem tripL7_eq (k : Fin k0_t7_loop.trips) : tripL_k0_t7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 k = [pieceH7 i a18 k0_h2 X18 k] := by
  unfold tripL_k0_t7 trip_k0_t7
  dsimp only
  sl_unfold_words
  rfl

theorem mem_pb7 (n : ℕ) (hn : n ≤ k0_t7_loop.trips) (p : View.Piece (Elt F) S1152x256 .f32) :
    p ∈ pb_k0_t7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 n ↔ ∃ k : Fin k0_t7_loop.trips, k.val < n ∧ p = pieceH7 i a18 k0_h2 X18 k := by
  induction n with
  | zero => simp [pb_k0_t7]
  | succ n ih =>
    have h := pb_k0_t7_succ 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 ⟨n, hn⟩
    dsimp only at h
    rw [h, tripL7_eq, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

theorem pieceH7_eq (hu : Vec F S2x1152x128 .f32) (h18 : a18.view.read (Elt F) X18 = hu) (k : Fin k0_t7_loop.trips) (x : S32x128.Idx) :
    (pieceH7 i a18 k0_h2 X18 k).2 x = hsPack hu ((Rect.unit (s := S1152x256) (k0_off38 k) S32x128.size (k0_off38_inb i k k0_h2)).emb x) := by
  have hk : k.val < 36 := Nat.lt_of_lt_of_le k.isLt k0_t7_abs.2.1
  obtain ⟨r, l, rfl⟩ : ∃ (r : Fin 32) (l : Fin 128), x = ix2 r l := ⟨x 0, x 1, eq_ix2 x⟩
  have e2 : k0_off38 k = ![32 * k.val, 0] := k0_off38_eq k
  have e1 : k0_off37 k = ![0, 32 * k.val, 0] := k0_off37_eq k
  have he : (Rect.unit (s := S1152x256) (k0_off38 k) S32x128.size (k0_off38_inb i k k0_h2)).emb (ix2 r l)
      = (ix2 ⟨32 * k.val + r.val, by omega⟩ ⟨0 + l.val, by omega⟩ : S1152x256.Idx) := by
    funext a; apply Fin.ext
    match a with
    | ⟨0, _⟩ => show k0_off38 k 0 + 1 * r.val = _; rw [e2]; simp
    | ⟨1, _⟩ => show k0_off38 k 1 + 1 * l.val = _; rw [e2]; simp
  rw [he]
  unfold pieceH7
  dsimp only
  refine (packT_apply (F := F) _ r l).trans ?_
  refine (shapeCast_1ab_ab_apply _ _ _ _).trans ?_
  rw [View.readAt_apply, h18]
  unfold hsPack
  refine congrArg hu (funext fun a => Fin.ext ?_)
  match a with
  | ⟨0, _⟩ => show k0_off37 k 0 + 1 * 0 = (0 + l.val) / 128; rw [e1]; simp <;> omega
  | ⟨1, _⟩ => show k0_off37 k 1 + 1 * r.val = 32 * k.val + r.val; rw [e1]; simp
  | ⟨2, _⟩ => show k0_off37 k 2 + 1 * (32 * (l.val % 4) + l.val / 4) = 32 * ((0 + l.val) % 128 % 4) + (0 + l.val) % 128 / 4; rw [e1]; simp <;> omega

/-- The tile that trip `k` of the loop over half 1 stores. -/
def pieceH8 (k : Fin k0_t8_loop.trips) : View.Piece (Elt F) S1152x256 .f32 :=
  ⟨Rect.unit (s := S1152x256) (k0_off40 k) S32x128.size (k0_off40_inb i k k0_h2), packT (shapeCast S32x128
    (View.readAt (Elt F) a18.view (Rect.unit (s := S2x1152x128) (k0_off39 k) S1x32x128.size (k0_off39_inb i k k0_h2)).toLoadRect X18) shapeCasts_S1x32x128_S32x128)⟩

theorem tripL8_eq (k : Fin k0_t8_loop.trips) : tripL_k0_t8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 k = [pieceH8 i a18 k0_h2 X18 k] := by
  unfold tripL_k0_t8 trip_k0_t8
  dsimp only
  sl_unfold_words
  rfl

theorem mem_pb8 (n : ℕ) (hn : n ≤ k0_t8_loop.trips) (p : View.Piece (Elt F) S1152x256 .f32) :
    p ∈ pb_k0_t8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 n ↔ ∃ k : Fin k0_t8_loop.trips, k.val < n ∧ p = pieceH8 i a18 k0_h2 X18 k := by
  induction n with
  | zero => simp [pb_k0_t8]
  | succ n ih =>
    have h := pb_k0_t8_succ 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 ⟨n, hn⟩
    dsimp only at h
    rw [h, tripL8_eq, List.mem_append, ih (by omega), List.mem_singleton]
    constructor
    · rintro (rfl | ⟨k, hk, rfl⟩)
      · exact ⟨⟨n, hn⟩, by simp, rfl⟩
      · exact ⟨k, by omega, rfl⟩
    · rintro ⟨k, hk, rfl⟩
      rcases Nat.lt_succ_iff_lt_or_eq.mp hk with h | h
      · exact .inr ⟨k, h, rfl⟩
      · exact .inl (by congr; exact Fin.ext h)

theorem pieceH8_eq (hu : Vec F S2x1152x128 .f32) (h18 : a18.view.read (Elt F) X18 = hu) (k : Fin k0_t8_loop.trips) (x : S32x128.Idx) :
    (pieceH8 i a18 k0_h2 X18 k).2 x = hsPack hu ((Rect.unit (s := S1152x256) (k0_off40 k) S32x128.size (k0_off40_inb i k k0_h2)).emb x) := by
  have hk : k.val < 36 := Nat.lt_of_lt_of_le k.isLt k0_t8_abs.2.1
  obtain ⟨r, l, rfl⟩ : ∃ (r : Fin 32) (l : Fin 128), x = ix2 r l := ⟨x 0, x 1, eq_ix2 x⟩
  have e2 : k0_off40 k = ![32 * k.val, 128] := k0_off40_eq k
  have e1 : k0_off39 k = ![1, 32 * k.val, 0] := k0_off39_eq k
  have he : (Rect.unit (s := S1152x256) (k0_off40 k) S32x128.size (k0_off40_inb i k k0_h2)).emb (ix2 r l)
      = (ix2 ⟨32 * k.val + r.val, by omega⟩ ⟨128 + l.val, by omega⟩ : S1152x256.Idx) := by
    funext a; apply Fin.ext
    match a with
    | ⟨0, _⟩ => show k0_off40 k 0 + 1 * r.val = _; rw [e2]; simp
    | ⟨1, _⟩ => show k0_off40 k 1 + 1 * l.val = _; rw [e2]; simp
  rw [he]
  unfold pieceH8
  dsimp only
  refine (packT_apply (F := F) _ r l).trans ?_
  refine (shapeCast_1ab_ab_apply _ _ _ _).trans ?_
  rw [View.readAt_apply, h18]
  unfold hsPack
  refine congrArg hu (funext fun a => Fin.ext ?_)
  match a with
  | ⟨0, _⟩ => show k0_off39 k 0 + 1 * 0 = (128 + l.val) / 128; rw [e1]; simp <;> omega
  | ⟨1, _⟩ => show k0_off39 k 1 + 1 * r.val = 32 * k.val + r.val; rw [e1]; simp
  | ⟨2, _⟩ => show k0_off39 k 2 + 1 * (32 * (l.val % 4) + l.val / 4) = 32 * ((128 + l.val) % 128 % 4) + (128 + l.val) % 128 / 4; rw [e1]; simp <;> omega

/-- After the two loops the scale output reads the packed scales, whatever it held before. -/
theorem read_hs (hu : Vec F S2x1152x128 .f32) (h18 : a18.view.read (Elt F) X18 = hu) (f : BufTy.Contents (Elt F) a9.view.ty) :
    a9.view.read (Elt F) (a9.view.writes (Elt F) f (pb_k0_t8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 k0_t8_loop.trips ++ pb_k0_t7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 k0_t7_loop.trips)) = hsPack hu := by
  have ht1 : k0_t7_loop.trips = 36 := by decide +kernel
  have ht2 : k0_t8_loop.trips = 36 := by decide +kernel
  funext y
  refine View.read_writes_apply_of_pieces a9.view _ (hsPack hu) _ ?_ y ?_
  · intro p hp x
    rcases List.mem_append.mp hp with hp | hp
    · obtain ⟨k, -, rfl⟩ := (mem_pb8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 _ le_rfl p).mp hp
      exact pieceH8_eq i a18 k0_h2 X18 hu h18 k x
    · obtain ⟨k, -, rfl⟩ := (mem_pb7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 _ le_rfl p).mp hp
      exact pieceH7_eq i a18 k0_h2 X18 hu h18 k x
  · have hy0 : (y 0).val < 1152 := (y 0).isLt
    have hy1 : (y 1).val < 256 := (y 1).isLt
    by_cases hc : (y 1).val < 128
    · refine ⟨pieceH7 i a18 k0_h2 X18 ⟨(y 0).val / 32, by omega⟩, List.mem_append_right _ ((mem_pb7 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 _ le_rfl _).mpr ⟨_, by show (y 0).val / 32 < _; omega, rfl⟩), ?_⟩
      show y ∈ (Rect.unit (s := S1152x256) (k0_off38 ⟨(y 0).val / 32, by omega⟩) S32x128.size (k0_off38_inb i _ k0_h2)).set
      rw [Rect.mem_set_unit]; intro a
      rw [k0_off38_eq]
      match a with
      | ⟨0, _⟩ => show 32 * ((y 0).val / 32) ≤ (y 0).val ∧ (y 0).val < 32 * ((y 0).val / 32) + 32; omega
      | ⟨1, _⟩ => show 0 ≤ (y 1).val ∧ (y 1).val < 0 + 128; omega
    · refine ⟨pieceH8 i a18 k0_h2 X18 ⟨(y 0).val / 32, by omega⟩, List.mem_append_left _ ((mem_pb8 𝒱 c bd i a1 w1 a2 w2 a3 w3 a4 w4 a5 w5 a6 w6 a7 w7 a8 w8 a9 w9 a10 w10 a11 w11 a12 w12 a13 w13 a14 w14 a15 w15 a16 w16 a17 w17 a18 w18 k0_h2 X18 _ le_rfl _).mpr ⟨_, by show (y 0).val / 32 < _; omega, rfl⟩), ?_⟩
      show y ∈ (Rect.unit (s := S1152x256) (k0_off40 ⟨(y 0).val / 32, by omega⟩) S32x128.size (k0_off40_inb i _ k0_h2)).set
      rw [Rect.mem_set_unit]; intro a
      rw [k0_off40_eq]
      match a with
      | ⟨0, _⟩ => show 32 * ((y 0).val / 32) ≤ (y 0).val ∧ (y 0).val < 32 * ((y 0).val / 32) + 32; omega
      | ⟨1, _⟩ => show 128 ≤ (y 1).val ∧ (y 1).val < 128 + 128; omega

end Pieces

end Cert.UpIdeal.Gen

end
-- ==== Proof.UpRunMid.lean ====
/- One step of the gate and up projections: what the kernel body leaves in its buffers. A middle step. -/
module

public import proofs.«01_k».proof.Proof.UpXRead
public import proofs.«01_k».proof.Proof.UpTileG
public import proofs.«01_k».proof.Proof.UpTileU
public import proofs.«01_k».proof.Proof.UpLoop
public import proofs.«01_k».proof.Proof.UpHs
public import Idealize.ShloMosaic.Lib.VecWindow
public import Idealize.ShloMosaic.Lib.Claim
public import proofs.«01_k».proof.Proof.Gen.UpIdeal.Frame

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- The gate product of a step. -/
def gOut (xb : Vec F S1152x3072 .bf16) (x1 : Vec F S3072x256 .fp8e4m3) (x3 : Vec F S96x256 .i8) : Vec F S1152x256 .f32 :=
  shapeCast S1152x256 (matmul dot_S1152x3072_S3072x256_S1152x256_1_0_0_1_n_n none xb (wTile x1 x3) (constant S1152x256 .f32 0x00000000#32)) shapeCasts_S1152x256_S1152x256

/-- The up product of a step. -/
def uOut (xb : Vec F S1152x3072 .bf16) (x2 : Vec F S3072x256 .fp8e4m3) (x4 : Vec F S96x256 .i8) : Vec F S1152x256 .f32 := gOut xb x2 x4

theorem hz : (![0, 0] : Fin 2 → Nat) = fun _ => 0 := funext fun a => by fin_cases a <;> rfl

set_option maxRecDepth 65536 in
set_option maxHeartbeats 8000000 in
/-- A middle step. -/
theorem runMid (c : Dev nD) (i : grid0.Coords) (hc1 : ¬ k0_cond1 i = 1#1) (hc2 : ¬ k0_cond2 i = 1#1) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (x0 : Vec F S1152x3072 .bf16) (x1 x2 : Vec F S3072x256 .fp8e4m3) (x3 x4 : Vec F S96x256 .i8) (x5 : Vec F S1152x3072 .fp8e4m3) (x6 : Vec F S1152x96 .f32) (xb : Vec F S1152x3072 .bf16) (x8 : Vec F S1152x256 .f32) (hu : Vec F S2x1152x128 .f32) :
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ owns (c : Thread nD τ) a9 fullShare x8 ∗ (∃ d, owns (c : Thread nD τ) a10 fullShare d) ∗ owns (c : Thread nD τ) a11 fullShare xb ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare hu ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (hCodes (gOut xb x1 x3) (uOut xb x2 x4)) ∗ owns (c : Thread nD τ) a9 fullShare x8 ∗ owns (c : Thread nD τ) a10 fullShare (hDeq (gOut xb x1 x3) (uOut xb x2 x4)) ∗ owns (c : Thread nD τ) a11 fullShare xb ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare (huNext (i 0).val (gOut xb x1 x3) (uOut xb x2 x4) hu)) -∗ K ⟨⟩))
          ⊢ wp frame (wpE (defs₀ (F := F)) Variants.none c none) E (cc0_gate_up i a1 w1 a2 w2 a3 w3 a4 w4 a5 w5 a6 w6 a7 w7 a8 w8 a9 w9 a10 w10 a11 w11 a12 w12 a13 w13 a14 w14 a15 w15 a16 w16 a17 w17 a18 w18) K := by
    intro E K
    simp only [cc0_gate_up_eq_skeleton]; unfold cc0_gate_up_skel
    simp only [k0_part53_eq_skeleton, k0_part54_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := w9.eq_unread hf9; obtain rfl := w11.eq_unread hf11; obtain rfl := w18.eq_unread hf18
    sl_exec
    sl_step
    iapply Hk
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; swap; · iexact H8
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ _ f10 (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).1 y (by have : (y 0).val < 1152 := (y 0).isLt; rw [trips6]; omega))
    isplitl [H9]
    · iexists _; isplitr; · ipureintro; exact w9.read_unread _
      iexact H9
    isplitl [H10]
    · iexists _; isplitr; swap; · iexact H10
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 _ (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).2.1 y (by have : (y 0).val < 1152 := (y 0).isLt; rw [trips6]; omega))
    isplitl [H11]
    · iexists _; isplitr; · ipureintro; exact w11.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _; isplitr; swap; · iexact H18
    ipureintro
    dsimp only; sl_unfold_words
    refine (((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 f10 (gOut xb x1 x3) (uOut xb x2 x4)
      (by
        refine (View.read_writes_full a16.view _ _ _ []).trans ?_
        unfold gOut
        congr 1
        · rw [View.readAt_eq_ld, View.ld_unit_zero hz]; exact w11.read_unread _
        · rw [View.readAt_eq_ld, View.ld_unit_zero hz]
          exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
      (by
        refine (View.read_writes_full a17.view _ _ _ []).trans ?_
        unfold uOut
        congr 1
        · rw [View.readAt_eq_ld, View.ld_unit_zero hz]; exact w11.read_unread _
        · rw [View.readAt_eq_ld, View.ld_unit_zero hz]
          exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
      hu (w18.read_unread _) _ le_rfl).2.2).trans ?_)
    rw [trips6]; exact huAll_eq _ _ _ _

end Cert.UpIdeal.Gen

end
-- ==== Proof.UpRunFirst.lean ====
/- One step of the gate and up projections: what the kernel body leaves in its buffers. The first step, which also quantises the activations. -/
module

public import proofs.«01_k».proof.Proof.UpRunMid
public import proofs.«01_k».proof.Proof.UpTileG
public import proofs.«01_k».proof.Proof.UpTileU
public import proofs.«01_k».proof.Proof.UpLoop
public import proofs.«01_k».proof.Proof.UpHs
public import Idealize.ShloMosaic.Lib.VecWindow
public import Idealize.ShloMosaic.Lib.Claim
public import proofs.«01_k».proof.Proof.Gen.UpIdeal.Frame

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option maxRecDepth 65536 in
set_option maxHeartbeats 8000000 in
/-- The first step. -/
theorem runFirst (c : Dev nD) (i : grid0.Coords) (hc1 : k0_cond1 i = 1#1) (hc2 : ¬ k0_cond2 i = 1#1) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (x0 : Vec F S1152x3072 .bf16) (x1 x2 : Vec F S3072x256 .fp8e4m3) (x3 x4 : Vec F S96x256 .i8) (x8 : Vec F S1152x256 .f32) (hu : Vec F S2x1152x128 .f32) :
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ (∃ d, owns (c : Thread nD τ) a8 fullShare d) ∗ owns (c : Thread nD τ) a9 fullShare x8 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare hu ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (xCodes x0) ∗ owns (c : Thread nD τ) a7 fullShare (xScale x0) ∗ owns (c : Thread nD τ) a8 fullShare (hCodes (gOut (xDeq x0) x1 x3) (uOut (xDeq x0) x2 x4)) ∗ owns (c : Thread nD τ) a9 fullShare x8 ∗ owns (c : Thread nD τ) a10 fullShare (hDeq (gOut (xDeq x0) x1 x3) (uOut (xDeq x0) x2 x4)) ∗ owns (c : Thread nD τ) a11 fullShare (xDeq x0) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare (huNext (i 0).val (gOut (xDeq x0) x1 x3) (uOut (xDeq x0) x2 x4) hu)) -∗ K ⟨⟩))
          ⊢ wp frame (wpE (defs₀ (F := F)) Variants.none c none) E (cc0_gate_up i a1 w1 a2 w2 a3 w3 a4 w4 a5 w5 a6 w6 a7 w7 a8 w8 a9 w9 a10 w10 a11 w11 a12 w12 a13 w13 a14 w14 a15 w15 a16 w16 a17 w17 a18 w18) K := by
    intro E K
    simp only [cc0_gate_up_eq_skeleton]; unfold cc0_gate_up_skel
    simp only [k0_part53_eq_skeleton, k0_part54_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := w1.eq_unread hf1; obtain rfl := w2.eq_unread hf2; obtain rfl := w3.eq_unread hf3; obtain rfl := w4.eq_unread hf4; obtain rfl := w5.eq_unread hf5; obtain rfl := w9.eq_unread hf9; obtain rfl := w18.eq_unread hf18
    sl_exec
    sl_step
    iapply Hk
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; swap; · iexact H6
      ipureintro
      dsimp only; sl_unfold_words
      exact read_codes Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
    isplitl [H7]
    · iexists _; isplitr; swap; · iexact H7
      ipureintro
      dsimp only; sl_unfold_words
      exact read_scale Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
    isplitl [H8]
    · iexists _; isplitr; swap; · iexact H8
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ _ f10 (gOut (xDeq x0) x1 x3) (uOut (xDeq x0) x2 x4)
        (by
          refine (View.read_writes_full a16.view _ _ _ []).trans ?_
          unfold gOut
          congr 1
          · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).1 y (by have : (y 0).val < 1152 := (y 0).isLt; rw [trips6]; omega))
    isplitl [H9]
    · iexists _; isplitr; · ipureintro; exact w9.read_unread _
      iexact H9
    isplitl [H10]
    · iexists _; isplitr; swap; · iexact H10
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 _ (gOut (xDeq x0) x1 x3) (uOut (xDeq x0) x2 x4)
        (by
          refine (View.read_writes_full a16.view _ _ _ []).trans ?_
          unfold gOut
          congr 1
          · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).2.1 y (by have : (y 0).val < 1152 := (y 0).isLt; rw [trips6]; omega))
    isplitl [H11]
    · iexists _; isplitr; swap; · iexact H11
      ipureintro
      dsimp only; sl_unfold_words
      exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _; isplitr; swap; · iexact H18
    ipureintro
    dsimp only; sl_unfold_words
    refine (((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 f10 (gOut (xDeq x0) x1 x3) (uOut (xDeq x0) x2 x4)
      (by
        refine (View.read_writes_full a16.view _ _ _ []).trans ?_
        unfold gOut
        congr 1
        · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
        · rw [View.readAt_eq_ld, View.ld_unit_zero hz]
          exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
      (by
        refine (View.read_writes_full a17.view _ _ _ []).trans ?_
        unfold uOut
        congr 1
        · rw [View.readAt_eq_ld, View.ld_unit_zero hz]; exact read_deq Variants.none c none i a1 w1 a2 w2 a3 w3 a4 w4 a5 w5 a6 w6 a7 w7 a8 w8 a9 w9 a10 w10 a11 w11 a12 w12 a13 w13 a14 w14 a15 w15 a16 w16 a17 w17 a18 w18 hc1 _ x0 (w1.read_unread _) _
        · rw [View.readAt_eq_ld, View.ld_unit_zero hz]
          exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
      hu (w18.read_unread _) _ le_rfl).2.2).trans ?_)
    rw [trips6]; exact huAll_eq _ _ _ _

end Cert.UpIdeal.Gen

end
-- ==== Proof.UpRunLast.lean ====
/- One step of the gate and up projections: what the kernel body leaves in its buffers. The last step, which also packs the kept scales. -/
module

public import proofs.«01_k».proof.Proof.UpRunMid
public import proofs.«01_k».proof.Proof.UpTileG
public import proofs.«01_k».proof.Proof.UpTileU
public import proofs.«01_k».proof.Proof.UpLoop
public import proofs.«01_k».proof.Proof.UpHs
public import Idealize.ShloMosaic.Lib.VecWindow
public import Idealize.ShloMosaic.Lib.Claim
public import proofs.«01_k».proof.Proof.Gen.UpIdeal.Frame

@[expose] public section

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option maxRecDepth 65536 in
set_option maxHeartbeats 8000000 in
/-- The last step. -/
theorem runLast (c : Dev nD) (i : grid0.Coords) (hc1 : ¬ k0_cond1 i = 1#1) (hc2 : k0_cond2 i = 1#1) (a1 : Memref sig .tc .vmem S1152x3072 .bf16) (w1 : a1.IsWhole) (a2 : Memref sig .tc .vmem S3072x256 .fp8e4m3) (w2 : a2.IsWhole) (a3 : Memref sig .tc .vmem S3072x256 .fp8e4m3) (w3 : a3.IsWhole) (a4 : Memref sig .tc .vmem S96x256 .i8) (w4 : a4.IsWhole) (a5 : Memref sig .tc .vmem S96x256 .i8) (w5 : a5.IsWhole) (a6 : Memref sig .tc .vmem S1152x3072 .fp8e4m3) (w6 : a6.IsWhole) (a7 : Memref sig .tc .vmem S1152x96 .f32) (w7 : a7.IsWhole) (a8 : Memref sig .tc .vmem S1152x256 .fp8e4m3) (w8 : a8.IsWhole) (a9 : Memref sig .tc .vmem S1152x256 .f32) (w9 : a9.IsWhole) (a10 : Memref sig .tc .vmem S1152x256 .bf16) (w10 : a10.IsWhole) (a11 : Memref sig .tc .vmem S1152x3072 .bf16) (w11 : a11.IsWhole) (a12 : Memref sig .tc .vmem S3072x256 .bf16) (w12 : a12.IsWhole) (a13 : Memref sig .tc .vmem S3072x256 .bf16) (w13 : a13.IsWhole) (a14 : Memref sig .tc .vmem S2x96x128 .i32) (w14 : a14.IsWhole) (a15 : Memref sig .tc .vmem S2x96x128 .i32) (w15 : a15.IsWhole) (a16 : Memref sig .tc .vmem S1152x256 .f32) (w16 : a16.IsWhole) (a17 : Memref sig .tc .vmem S1152x256 .f32) (w17 : a17.IsWhole) (a18 : Memref sig .tc .vmem S2x1152x128 .f32) (w18 : a18.IsWhole) (x0 : Vec F S1152x3072 .bf16) (x1 x2 : Vec F S3072x256 .fp8e4m3) (x3 x4 : Vec F S96x256 .i8) (x5 : Vec F S1152x3072 .fp8e4m3) (x6 : Vec F S1152x96 .f32) (xb : Vec F S1152x3072 .bf16) (hu : Vec F S2x1152x128 .f32) :
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d) ∗ (∃ d, owns (c : Thread nD τ) a10 fullShare d) ∗ owns (c : Thread nD τ) a11 fullShare xb ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare hu ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (hCodes (gOut xb x1 x3) (uOut xb x2 x4)) ∗ owns (c : Thread nD τ) a9 fullShare (hsPack (huNext (i 0).val (gOut xb x1 x3) (uOut xb x2 x4) hu)) ∗ owns (c : Thread nD τ) a10 fullShare (hDeq (gOut xb x1 x3) (uOut xb x2 x4)) ∗ owns (c : Thread nD τ) a11 fullShare xb ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ owns (c : Thread nD τ) a18 fullShare (huNext (i 0).val (gOut xb x1 x3) (uOut xb x2 x4) hu)) -∗ K ⟨⟩))
          ⊢ wp frame (wpE (defs₀ (F := F)) Variants.none c none) E (cc0_gate_up i a1 w1 a2 w2 a3 w3 a4 w4 a5 w5 a6 w6 a7 w7 a8 w8 a9 w9 a10 w10 a11 w11 a12 w12 a13 w13 a14 w14 a15 w15 a16 w16 a17 w17 a18 w18) K := by
    intro E K
    simp only [cc0_gate_up_eq_skeleton]; unfold cc0_gate_up_skel
    simp only [k0_part53_eq_skeleton, k0_part54_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := w11.eq_unread hf11; obtain rfl := w18.eq_unread hf18
    sl_exec
    sl_step
    iapply Hk
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; swap; · iexact H8
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ _ f10 (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).1 y (by have : (y 0).val < 1152 := (y 0).isLt; rw [trips6]; omega))
    isplitl [H9]
    · iexists _; isplitr; swap; · iexact H9
      ipureintro
      dsimp only; sl_unfold_words
      refine read_hs Variants.none c none i a1 w1 a2 w2 a3 w3 a4 w4 a5 w5 a6 w6 a7 w7 a8 w8 a9 w9 a10 w10 a11 w11 a12 w12 a13 w13 a14 w14 a15 w15 a16 w16 a17 w17 a18 w18 hc2 _ _ ?_ _
      refine (((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 f10 (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).2.2).trans ?_)
      rw [trips6]; exact huAll_eq _ _ _ _
    isplitl [H10]
    · iexists _; isplitr; swap; · iexact H10
      ipureintro
      dsimp only; sl_unfold_words
      refine funext fun y => ((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 _ (gOut xb x1 x3) (uOut xb x2 x4)
        (by
          refine (View.read_writes_full a16.view _ _ _ []).trans ?_
          unfold gOut
          congr 1
          · rw [View.readAt_eq_ld, View.ld_unit_zero hz]; exact w11.read_unread _
          · rw [View.readAt_eq_ld, View.ld_unit_zero hz]
            exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
        (by
          refine (View.read_writes_full a17.view _ _ _ []).trans ?_
          unfold uOut
          congr 1
          · rw [View.readAt_eq_ld, View.ld_unit_zero hz]; exact w11.read_unread _
          · rw [View.readAt_eq_ld, View.ld_unit_zero hz]
            exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
        hu (w18.read_unread _) _ le_rfl).2.1 y (by have : (y 0).val < 1152 := (y 0).isLt; rw [trips6]; omega))
    isplitl [H11]
    · iexists _; isplitr; · ipureintro; exact w11.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _; isplitr; swap; · iexact H18
    ipureintro
    dsimp only; sl_unfold_words
    refine (((after6 Variants.none c none i a1 w1 a2 w2 a3 w3 a4 w4 a5 w5 a6 w6 a7 w7 a8 w8 a9 w9 a10 w10 a11 w11 a12 w12 a13 w13 a14 w14 a15 w15 a16 w16 a17 w17 a18 w18 _ _ _ f8 f10 (gOut xb x1 x3) (uOut xb x2 x4)
      (by
        refine (View.read_writes_full a16.view _ _ _ []).trans ?_
        unfold gOut
        congr 1
        · rw [View.readAt_eq_ld, View.ld_unit_zero hz]; exact w11.read_unread _
        · rw [View.readAt_eq_ld, View.ld_unit_zero hz]
          exact read_piecesG Variants.none c none i a1 w1 a2 w2 a3 w3 a4 w4 a5 w5 a6 w6 a7 w7 a8 w8 a9 w9 a10 w10 a11 w11 a12 w12 a13 w13 a14 w14 a15 w15 a16 w16 a17 w17 a18 w18 _ _ _ x1 x3 (w2.read_unread _) (read_wordsG a4 a14 _ x3 (w4.read_unread _) _ _ _ _ _) _)
      (by
        refine (View.read_writes_full a17.view _ _ _ []).trans ?_
        unfold uOut
        congr 1
        · rw [View.readAt_eq_ld, View.ld_unit_zero hz]; exact w11.read_unread _
        · rw [View.readAt_eq_ld, View.ld_unit_zero hz]
          exact read_piecesU Variants.none c none i a1 w1 a2 w2 a3 w3 a4 w4 a5 w5 a6 w6 a7 w7 a8 w8 a9 w9 a10 w10 a11 w11 a12 w12 a13 w13 a14 w14 a15 w15 a16 w16 a17 w17 a18 w18 _ _ _ x2 x4 (w3.read_unread _) (read_wordsU a5 a15 _ x4 (w5.read_unread _) _ _ _ _ _) _)
      hu (w18.read_unread _) _ le_rfl).2.2).trans ?_)
    rw [trips6]; exact huAll_eq _ _ _ _

end Cert.UpIdeal.Gen

end
-- ==== Proof.UpFrame.lean ====
/- The gate and up projections' run over any floats: the buffers named at every step, the body's obligation, and the frame
   with the result arrays at what the thirty-two steps wrote.

   The activations quantised at the first step are kept for the later ones; the scales of each step's two tiles are
   kept on their own lanes until the last step packs them. -/
module

public import proofs.«01_k».proof.Proof.UpRunMid
public import proofs.«01_k».proof.Proof.UpRunFirst
public import proofs.«01_k».proof.Proof.UpRunLast
public import proofs.«01_k».proof.Proof.Gen.UpIdeal.Launch
public import proofs.«01_k».proof.Proof.Gen.UpIdeal.Points
public import proofs.«01_k».proof.Proof.Gen.UpIdeal.Frame

@[expose] public section

set_option maxRecDepth 16384

noncomputable section

namespace Cert.UpIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The steps -/

theorem lt32 (t : Fin cfg0.N) : t.val < 32 := t.isLt

theorem coord0 : ∀ t : Fin cfg0.N, ((grid0.coords t) 0).val = t.val :=
  (by decide +kernel : ∀ t : Fin grid0.N, _)

theorem cond1_iff : ∀ t : Fin cfg0.N, k0_cond1 (grid0.coords t) = 1#1 ↔ t.val = 0 :=
  (by decide +kernel : ∀ t : Fin grid0.N, _)

theorem cond2_iff : ∀ t : Fin cfg0.N, k0_cond2 (grid0.coords t) = 1#1 ↔ t.val = 31 :=
  (by decide +kernel : ∀ t : Fin grid0.N, _)

theorem idle5_iff : ∀ t : Fin cfg0.N, cfg0.idle 5 (cfg0.grid.coords t) = true ↔ t.val ≠ 0 :=
  (by decide +kernel : ∀ t : Fin grid0.N, idle0 5 (grid0.coords t) = true ↔ t.val ≠ 0)

theorem idle6_iff : ∀ t : Fin cfg0.N, cfg0.idle 6 (cfg0.grid.coords t) = true ↔ t.val ≠ 0 :=
  (by decide +kernel : ∀ t : Fin grid0.N, idle0 6 (grid0.coords t) = true ↔ t.val ≠ 0)

theorem idle8_iff : ∀ t : Fin cfg0.N, cfg0.idle 8 (cfg0.grid.coords t) = true ↔ t.val ≠ 31 :=
  (by decide +kernel : ∀ t : Fin grid0.N, idle0 8 (grid0.coords t) = true ↔ t.val ≠ 31)

/-! ## What the buffers hold -/

/-- The activations. -/
def X0 (c : Dev nD) : Vec F S1152x3072 .bf16 := iblk m c 0 (⟨0, by decide⟩ : Fin grid0.N)

/-- The gate product of step `t`. -/
def Gt (c : Dev nD) (t : Fin cfg0.N) : Vec F S1152x256 .f32 := gOut (xDeq (X0 m c)) (iblk m c 1 t) (iblk m c 3 t)

/-- The up product of step `t`. -/
def Ut (c : Dev nD) (t : Fin cfg0.N) : Vec F S1152x256 .f32 := uOut (xDeq (X0 m c)) (iblk m c 2 t) (iblk m c 4 t)

/-- The kept scales hold those of the first `n` steps' tiles. -/
def HuOK (c : Dev nD) (n : ℕ) (hu : Vec F S2x1152x128 .f32) : Prop :=
  ∀ (z : S2x1152x128.Idx) (s : Fin cfg0.N) (b : Fin 2), s.val < n → (z 0).val = s.val / 16 → (z 2).val % 32 = (2 * s.val + b.val) % 32 →
    hu z = hSc (Gt m c s) (Ut m c s) ⟨(z 1).val / 32, by have : (z 1).val < 1152 := (z 1).isLt; omega⟩ b (ix2 ⟨(z 1).val % 32, by omega⟩ (z 2))

/-- A step keeps its own scales and the earlier steps'. -/
theorem HuOK_step (c : Dev nD) (t : Fin cfg0.N) (hu : Vec F S2x1152x128 .f32) (h : HuOK m c t.val hu) :
    HuOK m c (t.val + 1) (huNext t.val (Gt m c t) (Ut m c t) hu) := by
  intro z s b hs hz0 hz2
  have ht := lt32 t
  have hs' := lt32 s
  have hb : b.val < 2 := b.isLt
  unfold huNext huVal
  by_cases hst : s = t
  · subst hst
    rw [if_pos hz0]
    match b, hb with
    | ⟨1, _⟩, _ => rw [if_pos hz2]; rfl
    | ⟨0, _⟩, _ =>
      have h2 : (z 2).val % 32 = (2 * s.val) % 32 := hz2
      rw [if_neg (by omega), if_pos h2]; rfl
  · have hne : s.val ≠ t.val := fun e => hst (Fin.ext e)
    by_cases hz : (z 0).val = t.val / 16
    · rw [if_pos hz, if_neg (by omega), if_neg (by omega)]
      exact h z s b (by omega) hz0 hz2
    · rw [if_neg hz]
      exact h z s b (by omega) hz0 hz2

/-- The packed scales: block `j` of a row holds the scale of that block of `h`. -/
def HS (c : Dev nD) : Vec F S1152x256 .f32 := fun y =>
  hSc (Gt m c ⟨(y 1).val / 8, by have : (y 1).val < 256 := (y 1).isLt; show _ < 32; omega⟩) (Ut m c ⟨(y 1).val / 8, by have : (y 1).val < 256 := (y 1).isLt; show _ < 32; omega⟩)
    ⟨(y 0).val / 32, by have : (y 0).val < 1152 := (y 0).isLt; omega⟩ ⟨(y 1).val / 4 % 2, by omega⟩
    (ix2 ⟨(y 0).val % 32, by omega⟩ ⟨32 * ((y 1).val % 128 % 4) + (y 1).val % 128 / 4, by omega⟩)

theorem pack_mod (n : ℕ) : (32 * (n % 128 % 4) + n % 128 / 4) % 32 = (2 * (n / 8) + n / 4 % 2) % 32 := by
  have h1 : n % 128 / 4 = n / 4 % 32 := by omega
  have h2 : 2 * (n / 8) + n / 4 % 2 = n / 4 := by omega
  rw [h1, h2]; omega

theorem hsPack_eq (c : Dev nD) (hu : Vec F S2x1152x128 .f32) (h : HuOK m c 32 hu) : hsPack hu = HS m c := by
  funext y
  have h1 : (y 1).val < 256 := (y 1).isLt
  unfold hsPack HS
  exact h (ix3 ⟨(y 1).val / 128, by omega⟩ (y 0) ⟨32 * ((y 1).val % 128 % 4) + (y 1).val % 128 / 4, by omega⟩)
    ⟨(y 1).val / 8, by show _ < 32; omega⟩ ⟨(y 1).val / 4 % 2, by omega⟩ (by show (y 1).val / 8 < 32; omega)
    (by show (y 1).val / 128 = (y 1).val / 8 / 16; omega)
    (pack_mod (y 1).val)

/-! ## The buffers of a step -/

abbrev ms0_0 (t : Fin cfg0.N) : Memref sig .tc .vmem S1152x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1152x3072 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1152x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1152x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1152x256 .bf16 := win0_9.stage (cfg0.slots t 9)
abbrev hs0_9 (t : Fin cfg0.N) : (ms0_9 t).IsWhole := hstage0_9 ((cfg0.slots t 9).cast nbuf0_9)
abbrev scM0_0 : Memref sig .tc .vmem S1152x3072 .bf16 := Memref.whole cc0_scratch0
abbrev scM0_1 : Memref sig .tc .vmem S3072x256 .bf16 := Memref.whole cc0_scratch1
abbrev scM0_2 : Memref sig .tc .vmem S3072x256 .bf16 := Memref.whole cc0_scratch2
abbrev scM0_3 : Memref sig .tc .vmem S2x96x128 .i32 := Memref.whole cc0_scratch3
abbrev scM0_4 : Memref sig .tc .vmem S2x96x128 .i32 := Memref.whole cc0_scratch4
abbrev scM0_5 : Memref sig .tc .vmem S1152x256 .f32 := Memref.whole cc0_scratch5
abbrev scM0_6 : Memref sig .tc .vmem S1152x256 .f32 := Memref.whole cc0_scratch6
abbrev scM0_7 : Memref sig .tc .vmem S2x1152x128 .f32 := Memref.whole cc0_scratch7

/-- The scratch buffers at some contents, and the generator register. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- Before step `n`: after the first step the quantised activations are in their buffer, and the scales of the first `n`
    steps are kept. -/
def PhiS (c : Dev nD) (n : ℕ) : sProp 𝕄 :=
  iprop(iprop((∃ d, ⌜0 < n → d = xDeq (X0 m c)⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, ⌜HuOK m c n d⌝ ∗ owns (c : Thread nD τ) scM0_7 fullShare d)) ∗ (∃ r, prngReg c r))

/-- The run's data: each input's buffer at its block; the activations' codes and scales at the first step's; the codes and
    values of `h` step by step; the packed scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => xCodes (X0 m c)
    | ⟨6, _⟩ => xScale (X0 m c)
    | ⟨7, _⟩ => hCodes (Gt m c t) (Ut m c t)
    | ⟨8, _⟩ => HS m c
    | ⟨9, _⟩ => hDeq (Gt m c t) (Ut m c t)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = xCodes (X0 m c) := by dsimp only [dats]
theorem after0_6 (c : Dev nD) (t : Fin cfg0.N) : (dats m 0 c).after 6 t = xScale (X0 m c) := by dsimp only [dats]
theorem after0_7 (c : Dev nD) (t : Fin cfg0.N) : (dats m 0 c).after 7 t = hCodes (Gt m c t) (Ut m c t) := by dsimp only [dats]
theorem after0_8 (c : Dev nD) (t : Fin cfg0.N) : (dats m 0 c).after 8 t = HS m c := by dsimp only [dats]
theorem after0_9 (c : Dev nD) (t : Fin cfg0.N) : (dats m 0 c).after 9 t = hDeq (Gt m c t) (Ut m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the first step left in result 0's buffer is there at every later step. -/
theorem before0_5 (c : Dev nD) (d) : ∀ (n : ℕ) (hn : n < cfg0.N), n ≠ 0 → (dats m 0 c).before 5 ⟨n, hn⟩ d = xCodes (X0 m c) := by
  intro n
  induction n with
  | zero => intro _ h; exact absurd rfl h
  | succ n ih =>
    intro hn _
    have hn' : n < cfg0.N := Nat.lt_of_succ_lt hn
    have hfl : (cfg0.win 5).flush ⟨n, hn'⟩ = false := by
      cases h : (cfg0.win 5).flush ⟨n, hn'⟩ with
      | false => rfl
      | true =>
        have h1 := (flush0_5 ⟨n, hn'⟩).mp h
        have h2 : n + 1 < 32 := hn
        have h3 : n % 32 = 31 := h1
        omega
    rw [(dats m 0 c).before_of_pos 5 ⟨n + 1, hn⟩ (Nat.succ_ne_zero n) rfl d]
    have e : (⟨(⟨n + 1, hn⟩ : Fin cfg0.N).val - 1, Nat.lt_of_le_of_lt (Nat.sub_le _ _) (⟨n + 1, hn⟩ : Fin cfg0.N).isLt⟩ : Fin cfg0.N) = ⟨n, hn'⟩ := Fin.ext (Nat.succ_sub_one n)
    rw [e, hfl, if_neg Bool.false_ne_true]
    unfold Dat.left
    by_cases h0 : n = 0
    · subst h0
      rw [show cfg0.idle 5 (cfg0.grid.coords ⟨0, hn'⟩) = false from by
        cases h : cfg0.idle 5 (cfg0.grid.coords ⟨0, hn'⟩) with
        | false => rfl
        | true => exact absurd rfl ((idle5_iff ⟨0, hn'⟩).mp h)]
      dsimp only
      unfold Dat.kept
      rw [Pipeline.fill_of_clip_none 5 _ (fun a => rfl) d ((dats m 0 c).after 5 _), Window.fill_cut]
      exact after0_5 m c _
    · rw [(idle5_iff ⟨n, hn'⟩).mpr h0]
      exact ih hn' h0

/-- What the first step left in result 1's buffer is there at every later step. -/
theorem before0_6 (c : Dev nD) (d) : ∀ (n : ℕ) (hn : n < cfg0.N), n ≠ 0 → (dats m 0 c).before 6 ⟨n, hn⟩ d = xScale (X0 m c) := by
  intro n
  induction n with
  | zero => intro _ h; exact absurd rfl h
  | succ n ih =>
    intro hn _
    have hn' : n < cfg0.N := Nat.lt_of_succ_lt hn
    have hfl : (cfg0.win 6).flush ⟨n, hn'⟩ = false := by
      cases h : (cfg0.win 6).flush ⟨n, hn'⟩ with
      | false => rfl
      | true =>
        have h1 := (flush0_6 ⟨n, hn'⟩).mp h
        have h2 : n + 1 < 32 := hn
        have h3 : n % 32 = 31 := h1
        omega
    rw [(dats m 0 c).before_of_pos 6 ⟨n + 1, hn⟩ (Nat.succ_ne_zero n) rfl d]
    have e : (⟨(⟨n + 1, hn⟩ : Fin cfg0.N).val - 1, Nat.lt_of_le_of_lt (Nat.sub_le _ _) (⟨n + 1, hn⟩ : Fin cfg0.N).isLt⟩ : Fin cfg0.N) = ⟨n, hn'⟩ := Fin.ext (Nat.succ_sub_one n)
    rw [e, hfl, if_neg Bool.false_ne_true]
    unfold Dat.left
    by_cases h0 : n = 0
    · subst h0
      rw [show cfg0.idle 6 (cfg0.grid.coords ⟨0, hn'⟩) = false from by
        cases h : cfg0.idle 6 (cfg0.grid.coords ⟨0, hn'⟩) with
        | false => rfl
        | true => exact absurd rfl ((idle6_iff ⟨0, hn'⟩).mp h)]
      dsimp only
      unfold Dat.kept
      rw [Pipeline.fill_of_clip_none 6 _ (fun a => rfl) d ((dats m 0 c).after 6 _), Window.fill_cut]
      exact after0_6 m c _
    · rw [(idle6_iff ⟨n, hn'⟩).mpr h0]
      exact ih hn' h0

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ (dats m 0 c).leavesExact 5 t ∗ (dats m 0 c).leavesExact 6 t ∗ owns (c : Thread nD τ) (ms0_7 t) fullShare ((dats m 0 c).after 7 t) ∗ (dats m 0 c).leavesExact 8 t ∗ owns (c : Thread nD τ) (ms0_9 t) fullShare ((dats m 0 c).after 9 t))

theorem leaves_live (c : Dev nD) (w : Fin cfg0.W) (t : Fin cfg0.N) (hi : ¬ cfg0.idle w (cfg0.grid.coords t) = true) :
    (owns (c : Thread nD τ) ((cfg0.win w).stage (cfg0.slots t w)) fullShare ((dats m 0 c).after w t) : sProp 𝕄) ⊢ (dats m 0 c).leavesExact w t := by
  unfold Dat.leavesExact
  rw [Bool.eq_false_of_not_eq_true hi]

theorem leaves_idle (c : Dev nD) (w : Fin cfg0.W) (t : Fin cfg0.N) (d) (hi : cfg0.idle w (cfg0.grid.coords t) = true)
    (hb : (cfg0.win w).flush t = true → (dats m 0 c).before w t d = (dats m 0 c).after w t) :
    (owns (c : Thread nD τ) ((cfg0.win w).stage (cfg0.slots t w)) fullShare ((dats m 0 c).before w t d) : sProp 𝕄) ⊢ (dats m 0 c).leavesExact w t := by
  unfold Dat.leavesExact
  rw [hi]
  cases hf : (cfg0.win w).flush t with
  | false =>
    dsimp only
    iintro H
    iexists _
    iexact H
  | true =>
    dsimp only
    rw [hb hf]

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have ht := lt32 t
  have hco := coord0 t
  simp only [before0_0, before0_1, before0_2, before0_3, before0_4]
  rw [show (dats m 0 c).Φ t.succ = PhiS m c (t.val + 1) from rfl,
    show (dats m 0 c).owesAt () t.succ = (dats m 0 c).owesAt () t.castSucc from rfl,
    after0_0, after0_1, after0_2, after0_3, after0_4, after0_7, after0_9,
    show (dats m 0 c).Φ t.castSucc = PhiS m c t.val from rfl]
  unfold PhiS
  iintro ⟨⟨⟨⟨%xb, %hxb, HS0⟩, HS1, HS2, HS3, HS4, HS5, HS6, ⟨%hu, %hhu, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val = 0
  · have hc1 := (cond1_iff t).mpr h0
    have h31 : t.val ≠ 31 := by omega
    have hc2 : ¬ k0_cond2 (grid0.coords t) = 1#1 := fun h => h31 ((cond2_iff t).mp h)
    have hX : iblk m c 0 t = X0 m c := by rw [show t = ⟨0, by decide⟩ from Fin.ext h0]; rfl
    rw [hX]
    iapply ((runFirst c (grid0.coords t) hc1 hc2 _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) (X0 m c) (iblk m c 1 t) (iblk m c 2 t) (iblk m c 3 t) (iblk m c 4 t) ((dats m 0 c).before 8 t d8) hu) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexists _; iexact H9
    isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]
        · iexists _; isplitr; swap; · iexact HS0
          ipureintro; exact fun _ => rfl
        isplitl [HS1]; · iexact HS1
        isplitl [HS2]; · iexact HS2
        isplitl [HS3]; · iexact HS3
        isplitl [HS4]; · iexact HS4
        isplitl [HS5]; · iexact HS5
        isplitl [HS6]; · iexact HS6
        iexists _; isplitr; swap; · iexact HS7
        ipureintro; rw [hco]; exact HuOK_step m c t hu hhu
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_live m c 5 t (fun h => (idle5_iff t).mp h h0)); rw [after0_5]; iexact H5
    isplitl [H6]; · iapply (leaves_live m c 6 t (fun h => (idle6_iff t).mp h h0)); rw [after0_6]; iexact H6
    isplitl [H7]; · iexact H7
    isplitl [H8]; · iapply (leaves_idle m c 8 t d8 ((idle8_iff t).mpr h31) (fun h => absurd ((flush0_8 t).mp h) (by omega))); iexact H8
    iexact H9
  · have hc1 : ¬ k0_cond1 (grid0.coords t) = 1#1 := fun h => h0 ((cond1_iff t).mp h)
    obtain rfl := hxb (Nat.pos_of_ne_zero h0)
    by_cases h31 : t.val = 31
    · have hc2 := (cond2_iff t).mpr h31
      iapply ((runLast c (grid0.coords t) hc1 hc2 _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) ((dats m 0 c).before 5 t d5) ((dats m 0 c).before 6 t d6) (xDeq (X0 m c)) hu) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]
          · iexists _; isplitr; swap; · iexact HS0
            ipureintro; exact fun _ => rfl
          isplitl [HS1]; · iexact HS1
          isplitl [HS2]; · iexact HS2
          isplitl [HS3]; · iexact HS3
          isplitl [HS4]; · iexact HS4
          isplitl [HS5]; · iexact HS5
          isplitl [HS6]; · iexact HS6
          iexists _; isplitr; swap; · iexact HS7
          ipureintro; rw [hco]; exact HuOK_step m c t hu hhu
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves_idle m c 5 t d5 ((idle5_iff t).mpr h0) (fun _ => (before0_5 m c d5 t.val t.isLt h0).trans (after0_5 m c t).symm)); iexact H5
      isplitl [H6]; · iapply (leaves_idle m c 6 t d6 ((idle6_iff t).mpr h0) (fun _ => (before0_6 m c d6 t.val t.isLt h0).trans (after0_6 m c t).symm)); iexact H6
      isplitl [H7]; · iexact H7
      isplitl [H8]
      · iapply (leaves_live m c 8 t (fun h => (idle8_iff t).mp h h31)); rw [after0_8, ← hsPack_eq m c _ (show HuOK m c 32 (huNext t.val (Gt m c t) (Ut m c t) hu) from (show t.val + 1 = 32 from by omega) ▸ HuOK_step m c t hu hhu)]; rw [hco]; iexact H8
      iexact H9
    · have hc2 : ¬ k0_cond2 (grid0.coords t) = 1#1 := fun h => h31 ((cond2_iff t).mp h)
      iapply ((runMid c (grid0.coords t) hc1 hc2 _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) ((dats m 0 c).before 5 t d5) ((dats m 0 c).before 6 t d6) (xDeq (X0 m c)) ((dats m 0 c).before 8 t d8) hu) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]
          · iexists _; isplitr; swap; · iexact HS0
            ipureintro; exact fun _ => rfl
          isplitl [HS1]; · iexact HS1
          isplitl [HS2]; · iexact HS2
          isplitl [HS3]; · iexact HS3
          isplitl [HS4]; · iexact HS4
          isplitl [HS5]; · iexact HS5
          isplitl [HS6]; · iexact HS6
          iexists _; isplitr; swap; · iexact HS7
          ipureintro; rw [hco]; exact HuOK_step m c t hu hhu
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves_idle m c 5 t d5 ((idle5_iff t).mpr h0) (fun _ => (before0_5 m c d5 t.val t.isLt h0).trans (after0_5 m c t).symm)); iexact H5
      isplitl [H6]; · iapply (leaves_idle m c 6 t d6 ((idle6_iff t).mpr h0) (fun _ => (before0_6 m c d6 t.val t.isLt h0).trans (after0_6 m c t).symm)); iexact H6
      isplitl [H7]; · iexact H7
      isplitl [H8]; · iapply (leaves_idle m c 8 t d8 ((idle8_iff t).mpr h31) (fun h => absurd ((flush0_8 t).mp h) (by omega))); iexact H8
      iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : (Pipeline.ΦA spec0 c : sProp 𝕄) ⊢ PhiS m c 0 := by
  rw [PhiA0_eq]; unfold PhiS
  iintro ⟨⟨⟨%d0, HS0⟩, HS1, HS2, HS3, HS4, HS5, HS6, ⟨%d7, HS7⟩⟩, Hg⟩
  isplitl [HS0 HS1 HS2 HS3 HS4 HS5 HS6 HS7]
  · isplitl [HS0]
    · iexists _; isplitr; swap; · iexact HS0
      ipureintro; exact fun h => absurd h (Nat.lt_irrefl 0)
    isplitl [HS1]; · iexact HS1
    isplitl [HS2]; · iexact HS2
    isplitl [HS3]; · iexact HS3
    isplitl [HS4]; · iexact HS4
    isplitl [HS5]; · iexact HS5
    isplitl [HS6]; · iexact HS6
    iexists _; isplitr; swap; · iexact HS7
    ipureintro; exact fun z s b hs => absurd hs (Nat.not_lt_zero _)
  iexact Hg

theorem hout (c : Dev nD) (n : ℕ) : PhiS m c n ⊢ (Pipeline.ΦA spec0 c : sProp 𝕄) := by
  rw [PhiA0_eq]; unfold PhiS
  iintro ⟨⟨⟨%d0, -, HS0⟩, HS1, HS2, HS3, HS4, HS5, HS6, ⟨%d7, -, HS7⟩⟩, Hg⟩
  isplitl [HS0 HS1 HS2 HS3 HS4 HS5 HS6 HS7]
  · isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HS6]; · iexact HS6
    iexists _; iexact HS7
  iexact Hg

set_option backward.isDefEq.respectTransparency.types false in
set_option maxHeartbeats 800000 in
/-- The run: every array at what the run's data says, and every semaphore counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun c => hin m c) (hout := fun c => hout m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame at any float type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.UpIdeal.Gen

end
-- ==== Proof.UpNum.lean ====
/- The block quantiser's numbers over the extended reals.

   From a block's largest magnitude `a`, one reading takes `p`, the largest power of two not above `a / 448`, or one half when
   that is zero, and scales by `p + p` and by `1/2 / p`. The other takes the exponent `e` of the scale, zero when `a` is, and
   scales by two to `e` and to `-e`. They agree at every magnitude, the infinite one included. -/
module

public import Idealize.ShloMosaic.PureOps.Ideal

@[expose] public section

noncomputable section

namespace Cert.UpNum

open Idealize.ShloMosaic

/-- The reciprocal of 448, rounded to 32 bits. -/
def cst : EReal := Ideal.ofBits .f32 0x3B124925#32

/-- The exponent of the largest power of two not above `y`. -/
def lg (y : EReal) : EReal := Ideal.liftRound Int.floor (Ideal.div (Ideal.log y) (Ideal.log (Ideal.ofBits .f32 0x40000000#32)))

/-- The largest power of two not above `a / 448`. -/
def pw (a : EReal) : EReal := Ideal.exp2 (lg (a * cst))

/-- Half the scale of a block whose largest magnitude is `a`. -/
def half (a : EReal) : EReal := if pw a = 0 then Ideal.ofBits .bf16 0x3F00#16 else pw a

/-- The exponent of the scale of a block whose largest magnitude is `a`. -/
def expo (a : EReal) : EReal := if a = 0 then 0 else lg (a * cst) + 1

/-- The scale. -/
def scale (a : EReal) : EReal := Ideal.exp2 (expo a)

/-- The code of `v` in a block whose largest magnitude is `a`. -/
def code (a v : EReal) : EReal := min (Ideal.ofBits .f32 0x43E00000#32) (max (Ideal.ofBits .f32 0xC3E00000#32) (v * Ideal.exp2 (0 - expo a)))

/-- The magnitude. -/
def mag (v : EReal) : EReal := max v (-v)

theorem cst_real : ∃ c : ℝ, 0 < c ∧ cst = (c : EReal) := by
  refine ⟨2 ^ (-9 : ℤ) * (1 + 1198373 / 8388608), by positivity, ?_⟩
  unfold cst
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

theorem half_eq : Ideal.ofBits .bf16 0x3F00#16 = ((1 / 2 : ℝ) : EReal) := by
  simp [Ideal.ofBits, Ideal.ieee, -EReal.coe_mul]; try norm_num

theorem log_two : Ideal.log (Ideal.ofBits .f32 0x40000000#32) = ((Real.log 2 : ℝ) : EReal) := by
  rw [two_eq, Ideal.log_coe, if_neg (by norm_num)]

theorem log_two_pos : 0 < Real.log 2 := Real.log_pos (by norm_num)

theorem div_log_two (x : EReal) : Ideal.div x (Ideal.log (Ideal.ofBits .f32 0x40000000#32)) = x * (((Real.log 2)⁻¹ : ℝ) : EReal) := by
  rw [log_two]
  unfold Ideal.div
  rw [if_neg (by intro h; exact absurd (EReal.coe_eq_zero.mp h) log_two_pos.ne'), EReal.coe_inv]

theorem mag_mul (v : EReal) : mag (v * cst) = mag v * cst := by
  obtain ⟨c, hc, e⟩ := cst_real
  rw [e]
  unfold mag
  induction v using EReal.rec with
  | bot => rw [EReal.bot_mul_coe_of_pos hc, EReal.neg_bot, max_eq_right bot_le, EReal.top_mul_coe_of_pos hc]
  | top => rw [EReal.top_mul_coe_of_pos hc, EReal.neg_top, max_eq_left bot_le, EReal.top_mul_coe_of_pos hc]
  | coe r =>
    have hM : ∀ a b : ℝ, ((max a b : ℝ) : EReal) = max (a : EReal) (b : EReal) := fun a b => EReal.coe_strictMono.monotone.map_max
    rw [← EReal.coe_mul, ← EReal.coe_neg, ← EReal.coe_neg, ← hM, ← hM, ← EReal.coe_mul, max_mul_of_nonneg _ _ hc.le, neg_mul]

theorem mag_nonneg (v : EReal) : 0 ≤ mag v := by
  unfold mag
  rcases le_total 0 v with h | h
  · exact le_max_of_le_left h
  · exact le_max_of_le_right (by rwa [EReal.le_neg, neg_zero])

theorem lg_top : lg ⊤ = ⊤ := by
  unfold lg
  rw [div_log_two, Ideal.log_top, EReal.top_mul_coe_of_pos (inv_pos.mpr log_two_pos)]
  rfl

theorem lg_zero : lg 0 = ⊥ := by
  unfold lg
  rw [div_log_two, show Ideal.log 0 = ⊥ from by rw [← EReal.coe_zero, Ideal.log_coe, if_pos le_rfl], EReal.bot_mul_coe_of_pos (inv_pos.mpr log_two_pos)]
  rfl

theorem lg_coe (r : ℝ) (h : 0 < r) : lg (r : EReal) = (((⌊Real.log r * (Real.log 2)⁻¹⌋ : ℤ) : ℝ) : EReal) := by
  unfold lg
  rw [div_log_two, Ideal.log_coe, if_neg (not_le.mpr h), ← EReal.coe_mul]
  rfl

theorem lg_nonpos (r : ℝ) (h : r ≤ 0) : lg (r : EReal) = ⊥ := by
  unfold lg
  rw [div_log_two, Ideal.log_coe, if_pos h, EReal.bot_mul_coe_of_pos (inv_pos.mpr log_two_pos)]
  rfl

theorem lg_mono : Monotone lg := by
  intro x y hxy
  induction x using EReal.rec with
  | bot =>
    have : lg ⊥ = ⊥ := by
      unfold lg
      rw [div_log_two, Ideal.log_bot, EReal.bot_mul_coe_of_pos (inv_pos.mpr log_two_pos)]
      rfl
    rw [this]; exact bot_le
  | top => rw [top_le_iff.mp hxy]
  | coe r =>
    induction y using EReal.rec with
    | bot => exact absurd hxy (by simp)
    | top => rw [lg_top]; exact le_top
    | coe s =>
      have hrs : r ≤ s := EReal.coe_le_coe_iff.mp hxy
      by_cases hr : 0 < r
      · rw [lg_coe r hr, lg_coe s (lt_of_lt_of_le hr hrs), EReal.coe_le_coe_iff, Int.cast_le]
        exact Int.floor_mono (mul_le_mul_of_nonneg_right (Real.log_le_log hr hrs) (inv_pos.mpr log_two_pos).le)
      · rw [lg_nonpos r (not_lt.mp hr)]; exact bot_le

theorem exp2_mono : Monotone Ideal.exp2 := by
  intro x y hxy
  induction x using EReal.rec with
  | bot =>
    rw [Ideal.exp2_bot]
    induction y using EReal.rec with
    | bot => rw [Ideal.exp2_bot]
    | top => rw [Ideal.exp2_top]; exact le_top
    | coe s => rw [Ideal.exp2_coe]; exact EReal.coe_nonneg.mpr (Real.rpow_nonneg (by norm_num) s)
  | top => rw [top_le_iff.mp hxy]
  | coe r =>
    induction y using EReal.rec with
    | bot => exact absurd hxy (by simp)
    | top => rw [Ideal.exp2_top]; exact le_top
    | coe s =>
      rw [Ideal.exp2_coe, Ideal.exp2_coe, EReal.coe_le_coe_iff]
      exact Real.rpow_le_rpow_of_exponent_le (by norm_num) (EReal.coe_le_coe_iff.mp hxy)

theorem pw_mono : Monotone pw := by
  intro a b hab
  obtain ⟨c, hc, e⟩ := cst_real
  unfold pw
  refine exp2_mono (lg_mono ?_)
  rw [e]
  exact mul_le_mul_of_nonneg_right hab (EReal.coe_nonneg.mpr hc.le)

/-- The three kinds of a magnitude. -/
theorem cases_mag (a : EReal) (h : 0 ≤ a) :
    (a = 0 ∧ pw a = 0 ∧ expo a = 0) ∨ (a = ⊤ ∧ pw a = ⊤ ∧ expo a = ⊤)
      ∨ ∃ n : ℝ, pw a = ((Real.rpow 2 n : ℝ) : EReal) ∧ expo a = ((n + 1 : ℝ) : EReal) := by
  obtain ⟨c, hc, e⟩ := cst_real
  induction a using EReal.rec with
  | bot => exact absurd h (by simp)
  | top =>
    right; left
    refine ⟨rfl, ?_, ?_⟩
    · unfold pw; rw [e, EReal.top_mul_coe_of_pos hc, lg_top, Ideal.exp2_top]
    · unfold expo; rw [if_neg (by simp), e, EReal.top_mul_coe_of_pos hc, lg_top]; rfl
  | coe r =>
    have hr : 0 ≤ r := EReal.coe_nonneg.mp h
    rcases hr.eq_or_lt with h0 | h0
    · left
      subst h0
      refine ⟨rfl, ?_, ?_⟩
      · unfold pw; rw [EReal.coe_zero, zero_mul, lg_zero, Ideal.exp2_bot]
      · unfold expo; rw [EReal.coe_zero, if_pos rfl]
    · right; right
      refine ⟨((⌊Real.log (r * c) * (Real.log 2)⁻¹⌋ : ℤ) : ℝ), ?_, ?_⟩
      · unfold pw; rw [e, ← EReal.coe_mul, lg_coe _ (mul_pos h0 hc), Ideal.exp2_coe]
      · unfold expo
        rw [if_neg (fun hh => h0.ne' (EReal.coe_eq_zero.mp hh)), e, ← EReal.coe_mul, lg_coe _ (mul_pos h0 hc), EReal.coe_add, EReal.coe_one]

/-- Twice the half scale is the scale. -/
theorem half_add (a : EReal) (h : 0 ≤ a) : half a + half a = scale a := by
  unfold half scale
  rcases cases_mag a h with ⟨_, hp, he⟩ | ⟨_, hp, he⟩ | ⟨n, hp, he⟩
  · rw [if_pos hp, he, half_eq, ← EReal.coe_add, ← EReal.coe_zero, Ideal.exp2_coe]
    congr 1
    show (1 / 2 : ℝ) + 1 / 2 = (2 : ℝ) ^ (0 : ℝ)
    rw [Real.rpow_zero]; norm_num
  · rw [hp, he, if_neg (by simp), Ideal.exp2_top]; rfl
  · have hpos : 0 < Real.rpow 2 n := Real.rpow_pos_of_pos (by norm_num) n
    rw [hp, he, if_neg (fun hh => hpos.ne' (EReal.coe_eq_zero.mp hh)), Ideal.exp2_coe, ← EReal.coe_add]
    congr 1
    show (2 : ℝ) ^ n + (2 : ℝ) ^ n = (2 : ℝ) ^ (n + 1)
    rw [Real.rpow_add (by norm_num), Real.rpow_one]; ring

/-- One half over the half scale is the scale's reciprocal. -/
theorem inv_half (a : EReal) (h : 0 ≤ a) : Ideal.div (Ideal.ofBits .bf16 0x3F00#16) (half a) = Ideal.exp2 (0 - expo a) := by
  unfold half
  rcases cases_mag a h with ⟨_, hp, he⟩ | ⟨_, hp, he⟩ | ⟨n, hp, he⟩
  · rw [if_pos hp, he, half_eq, sub_zero, ← EReal.coe_zero, Ideal.exp2_coe]
    unfold Ideal.div
    rw [if_neg (fun hh => by have := EReal.coe_eq_zero.mp hh; norm_num at this), ← EReal.coe_inv, ← EReal.coe_mul]
    congr 1
    show (1 / 2 : ℝ) * (1 / 2)⁻¹ = (2 : ℝ) ^ (0 : ℝ)
    rw [Real.rpow_zero]; norm_num
  · rw [hp, he, if_neg (by simp), half_eq, zero_sub, EReal.neg_top, Ideal.exp2_bot]
    unfold Ideal.div
    rw [if_neg (by simp), EReal.inv_top, mul_zero]
  · have hpos : 0 < Real.rpow 2 n := Real.rpow_pos_of_pos (by norm_num) n
    have hne : ((Real.rpow 2 n : ℝ) : EReal) ≠ 0 := fun hh => hpos.ne' (EReal.coe_eq_zero.mp hh)
    rw [hp, he, if_neg hne, half_eq, zero_sub, ← EReal.coe_neg, Ideal.exp2_coe]
    unfold Ideal.div
    rw [if_neg hne, ← EReal.coe_inv, ← EReal.coe_mul]
    congr 1
    show (1 / 2 : ℝ) * ((2 : ℝ) ^ n)⁻¹ = (2 : ℝ) ^ (-(n + 1))
    rw [neg_add, Real.rpow_add (by norm_num), Real.rpow_neg (by norm_num) n, Real.rpow_neg (by norm_num) 1, Real.rpow_one]; ring

/-- A choice by comparison with the zero word. -/
theorem sel_zero (x z a b : EReal) (hz : z = 0) : (if Ideal.cmp .oeq x z = 1#1 then a else b) = if x = 0 then a else b := by
  subst hz
  unfold Ideal.cmp
  by_cases h : x = 0 <;> simp [h]

/-- A monotone function of a nonempty supremum is the supremum of its values. -/
theorem sup_map {ι : Type} (s : Finset ι) (hs : s.Nonempty) (g : EReal → EReal) (hg : Monotone g) (f : ι → EReal) :
    s.sup (fun i => g (f i)) = g (s.sup f) := by
  obtain ⟨i, hi, hm⟩ := Finset.exists_mem_eq_sup s hs f
  refine le_antisymm (Finset.sup_le fun j hj => hg (Finset.le_sup hj)) ?_
  rw [hm]
  exact Finset.le_sup (f := fun i => g (f i)) hi

/-- The supremum of `a + b` consecutive values. -/
theorem sup_range_add (f : ℕ → EReal) (a b : ℕ) :
    (Finset.range (a + b)).sup f = max ((Finset.range a).sup f) ((Finset.range b).sup fun k => f (a + k)) := by
  induction b with
  | zero => simp
  | succ b ih =>
    rw [← Nat.add_assoc, Finset.range_add_one, Finset.sup_insert, ih, Finset.range_add_one, Finset.sup_insert]
    exact max_left_comm _ _ _

/-- The fold of `max` from the least element is the supremum. -/
theorem fold_max {ι : Type} (s : Finset ι) (f : ι → EReal) : s.fold max ⊥ f = s.sup f := rfl

theorem sup_fin (n : ℕ) (f : ℕ → EReal) : (Finset.univ : Finset (Fin n)).sup (fun k => f k.val) = (Finset.range n).sup f := by
  refine le_antisymm (Finset.sup_le fun k _ => Finset.le_sup (Finset.mem_range.mpr k.isLt)) ?_
  refine Finset.sup_le fun k hk => ?_
  exact Finset.le_sup (f := fun k : Fin n => f k.val) (Finset.mem_univ (⟨k, Finset.mem_range.mp hk⟩ : Fin n))

end Cert.UpNum

end
-- ==== Proof.UpTileNum.lean ====
/- The kernel's quantiser of one tile over the extended reals.

   Five rotations by 1, 2, 4, 8 and 16 lanes leave at every lane the largest of 32 consecutive ones, and the gather takes
   the one at the block's first lane: the largest over the block. -/
module

public import proofs.«01_k».proof.Proof.UpQuant
public import proofs.«01_k».proof.Proof.UpNum
public import Idealize.ShloMosaic.PureOps.Ideal
public import Idealize.ShloMosaic.Lib.Bf16Pair
public import Idealize.ShloMosaic.Lib.KernelVsHost

@[expose] public section

noncomputable section

namespace Cert.UpIdeal.Value

open Cert.UpIdeal Cert.UpIdeal.Gen Cert.UpNum
open Idealize.ShloMosaic Idealize.ShloMosaic.TcCoe Idealize.ShloMosaic.ValueIdx
open Idealize.SL Idealize.SL.Sem

theorem rotates_S32x128_d1 : S32x128.Rotates 1 none := by decide

/-- Row `r` of a tile, its lanes taken around the end. -/
def lane (v : FVec Ideal S32x128 .f32) (r : Fin 32) (l : ℕ) : EReal := v (ix2 r ⟨l % 128, Nat.mod_lt _ (by norm_num)⟩)

/-- The largest magnitude of block `g` of row `r`. -/
def blkT (v : FVec Ideal S32x128 .f32) (r : Fin 32) (g : ℕ) : EReal := (Finset.range 32).sup fun k => mag (lane v r (32 * g + k))

theorem rot_apply (n : BitVec 32) (k : ℕ) (h0 : 0 < k) (hk : k < 128) (hn : n.toNat = 128 - k) (x : FVec Ideal S32x128 .bf16) (r : Fin 32) (l : ℕ) :
    dynamicRotate 1 n none x rotates_S32x128_d1 (ix2 r ⟨l % 128, Nat.mod_lt _ (by norm_num)⟩) = x (ix2 r ⟨(l + k) % 128, Nat.mod_lt _ (by norm_num)⟩) := by
  refine Idealize.ShloMosaic.dynamicRotate_apply (1 : Fin 2) n x rotates_S32x128_d1 _ _ fun b => ?_
  match b with
  | ⟨0, _⟩ => rfl
  | ⟨1, _⟩ => show (l + k) % 128 = (l % 128 + 128 - n.toNat % 128) % 128; rw [hn]; omega

theorem rot_step (n : BitVec 32) (k : ℕ) (h0 : 0 < k) (hk : k < 128) (hn : n.toNat = 128 - k) (p : FVec Ideal S32x128 .bf16) (r : Fin 32)
    (f : ℕ → EReal) (hp : ∀ l : ℕ, p (ix2 r ⟨l % 128, Nat.mod_lt _ (by norm_num)⟩) = (Finset.range k).sup fun i => f (l + i)) (l : ℕ) :
    maximumf p (dynamicRotate 1 n none p rotates_S32x128_d1) (ix2 r ⟨l % 128, Nat.mod_lt _ (by norm_num)⟩) = (Finset.range (k + k)).sup fun i => f (l + i) := by
  show max (p _) (dynamicRotate 1 n none p rotates_S32x128_d1 _) = _
  rw [rot_apply n k h0 hk hn p r l, hp l, hp (l + k), sup_range_add]
  simp only [Nat.add_assoc]

/-- Turning the even rows or the odd rows is turning the tile. -/
theorem rot_rows (q : Fin 2) (n : BitVec 32) (p : FVec Ideal S32x128 .bf16) :
    dynamicRotate 1 n none (rowsOfParity q S16x128 p bitcasts_S32x128_w16_S16x128_w32) rotates_S16x128_d1
      = rowsOfParity q S16x128 (dynamicRotate 1 n none p rotates_S32x128_d1) bitcasts_S32x128_w16_S16x128_w32 := by
  funext j
  refine congrArg p (funext fun a => ?_)
  match a with
  | ⟨0, _⟩ => rfl
  | ⟨1, _⟩ => rfl

theorem throughWords_eq (p : FVec Ideal S32x128 .bf16) : throughWords p = p := interleaveRows_rowsOfParity _ p

theorem turnMax_eq (n : BitVec 32) (p : FVec Ideal S32x128 .bf16) : turnMax n p = maximumf p (dynamicRotate 1 n none p rotates_S32x128_d1) := by
  unfold turnMax
  rw [throughWords_eq, rot_rows, rot_rows, interleaveRows_rowsOfParity]

/-- At every lane the largest power of two over the 32 lanes from it on. -/
theorem maxT_apply (v : FVec Ideal S32x128 .f32) (r : Fin 32) (l : ℕ) :
    maxT v (ix2 r ⟨l % 128, Nat.mod_lt _ (by norm_num)⟩) = (Finset.range 32).sup fun i => pw (mag (lane v r (l + i))) := by
  have h1 : ∀ l : ℕ, powT v (ix2 r ⟨l % 128, Nat.mod_lt _ (by norm_num)⟩)
      = (Finset.range 1).sup fun i => pw (mag (lane v r (l + i))) := by
    intro l
    rw [Finset.range_one, Finset.sup_singleton, Nat.add_zero]
    unfold pw
    rw [← mag_mul]
    rfl
  have h2 := rot_step 127#32 1 (by norm_num) (by norm_num) rfl _ r (fun l => pw (mag (lane v r l))) h1
  have h4 := rot_step 126#32 2 (by norm_num) (by norm_num) rfl _ r (fun l => pw (mag (lane v r l))) h2
  have h8 := rot_step 124#32 4 (by norm_num) (by norm_num) rfl _ r (fun l => pw (mag (lane v r l))) h4
  have h16 := rot_step 120#32 8 (by norm_num) (by norm_num) rfl _ r (fun l => pw (mag (lane v r l))) h8
  show throughWords _ _ = _
  rw [throughWords_eq, turnMax_eq, turnMax_eq, turnMax_eq, turnMax_eq, turnMax_eq]
  exact rot_step 112#32 16 (by norm_num) (by norm_num) rfl _ r (fun l => pw (mag (lane v r l))) h16 l

/-- At a block's first lane, that of the block's largest magnitude. -/
theorem maxT_first (v : FVec Ideal S32x128 .f32) (r : Fin 32) (g : ℕ) :
    maxT v (ix2 r ⟨(32 * g) % 128, Nat.mod_lt _ (by norm_num)⟩) = pw (blkT v r g) :=
  (maxT_apply v r (32 * g)).trans (sup_map _ (Finset.nonempty_range_iff.mpr (by norm_num)) pw pw_mono _)

/-- The lane the gather reads: the block's first. -/
theorem first_lane : ∀ (r : Fin 32) (l : Fin 128),
    (blockLane (ix2 r l)).toNat
      = 32 * (l.val / 32) := by decide +kernel

theorem halfT_apply (v : FVec Ideal S32x128 .f32) (r : Fin 32) (l : Fin 128) : halfT v (ix2 r l) = half (blkT v r (l.val / 32)) := by
  have hg : dynamicGather 1 (maxT v) blockLane (ix2 r l)
      = pw (blkT v r (l.val / 32)) := by
    refine Eq.trans ?_ (maxT_first v r (l.val / 32))
    refine congrArg (maxT v) (funext fun b => Fin.ext ?_)
    match b with
    | ⟨0, _⟩ => rfl
    | ⟨1, _⟩ => exact congrArg (· % 128) (first_lane r l)
  refine (sel_zero _ (Ideal.ofBits .bf16 0x0000#16) (Ideal.ofBits .bf16 0x3F00#16) _ (by simp [Ideal.ofBits, Ideal.ieee])).trans ?_
  unfold half
  rw [← hg]
  rfl

theorem blkT_nonneg (v : FVec Ideal S32x128 .f32) (r : Fin 32) (g : ℕ) : 0 ≤ blkT v r g :=
  (mag_nonneg _).trans (Finset.le_sup (f := fun k => mag (lane v r (32 * g + k))) (Finset.mem_range.mpr (show 0 < 32 by norm_num)))

theorem scaleT_apply (v : FVec Ideal S32x128 .f32) (r : Fin 32) (l : Fin 128) : scaleT v (ix2 r l) = scale (blkT v r (l.val / 32)) := by
  show (halfT v (ix2 r l) + halfT v (ix2 r l) : EReal) = _
  rw [halfT_apply, half_add _ (blkT_nonneg v r _)]

theorem codesT_apply (v : FVec Ideal S32x128 .f32) (r : Fin 32) (l : Fin 128) : codesT v (ix2 r l) = code (blkT v r (l.val / 32)) (v (ix2 r l)) := by
  show min (Ideal.ofBits .f32 0x43E00000#32) (max (Ideal.ofBits .f32 0xC3E00000#32) (v (ix2 r l) * Ideal.div (Ideal.ofBits .bf16 0x3F00#16) (halfT v (ix2 r l)))) = _
  rw [halfT_apply, inv_half _ (blkT_nonneg v r _)]
  rfl

theorem deqT_apply (v : FVec Ideal S32x128 .f32) (r : Fin 32) (l : Fin 128) :
    deqT v (ix2 r l) = code (blkT v r (l.val / 32)) (v (ix2 r l)) * scale (blkT v r (l.val / 32)) := by
  show (codesT v (ix2 r l) * scaleT v (ix2 r l) : EReal) = _
  rw [codesT_apply, scaleT_apply]

end Cert.UpIdeal.Value

end
-- ==== Proof.UpSpec.lean ====
/- The block quantiser on whole arrays, and the gated activations, over the extended reals.

   A block is 32 consecutive entries of a row from a multiple of 32 on. -/
module

public import proofs.«01_k».proof.Proof.UpNum
public import proofs.«01_k».proof.Proof.Dequant
public import Idealize.ShloMosaic.PureOps.Ideal
public import Idealize.ShloMosaic.Lib.ValueIdx

@[expose] public section

noncomputable section

namespace Cert.UpSpec

open Cert.UpNum
open Idealize.ShloMosaic Idealize.ShloMosaic.TcCoe Idealize.ShloMosaic.ValueIdx
open scoped BigOperators

/-- Entry `k` of row `r`, zero past the row's end. -/
def entry {R N : ℕ} (x : (⟨2, ![R, N]⟩ : Shape).Idx → EReal) (r : Fin R) (k : ℕ) : EReal := if h : k < N then x (ix2 r ⟨k, h⟩) else 0

/-- The largest magnitude of block `q` of row `r`. -/
def blk {R N : ℕ} (x : (⟨2, ![R, N]⟩ : Shape).Idx → EReal) (r : Fin R) (q : ℕ) : EReal := (Finset.range 32).sup fun k => mag (entry x r (32 * q + k))

/-- The codes. -/
def qCodes {R N : ℕ} (x : (⟨2, ![R, N]⟩ : Shape).Idx → EReal) : (⟨2, ![R, N]⟩ : Shape).Idx → EReal := fun y => code (blk x (y 0) ((y 1).val / 32)) (x y)

/-- The scales of the blocks. -/
def qScale {R N : ℕ} (n : ℕ) (x : (⟨2, ![R, N]⟩ : Shape).Idx → EReal) : (⟨2, ![R, n]⟩ : Shape).Idx → EReal := fun y => scale (blk x (y 0) (y 1).val)

/-- The codes times their scales. -/
def qDeq {R N : ℕ} (x : (⟨2, ![R, N]⟩ : Shape).Idx → EReal) : (⟨2, ![R, N]⟩ : Shape).Idx → EReal := fun y => qCodes x y * scale (blk x (y 0) ((y 1).val / 32))

/-- Column `c` of the product of quantised activations and dequantised weights. -/
def proj (x : (⟨2, ![1152, 3072]⟩ : Shape).Idx → EReal) (w : (⟨2, ![3072, 16384]⟩ : Shape).Idx → EReal) (s : (⟨2, ![96, 16384]⟩ : Shape).Idx → BitVec 8)
    (r : Fin 1152) (c : Fin 16384) : EReal :=
  ∑ k : Fin 3072, (x (ix2 r k) * Cert.Dequant.weight (F := Ideal) (w (ix2 k c)) (s (ix2 ⟨k.val / 32, by omega⟩ c)) : EReal)

/-- The gated activations: the gate times its logistic times the up projection, whose columns are the second half. -/
def gated (x : (⟨2, ![1152, 3072]⟩ : Shape).Idx → EReal) (w : (⟨2, ![3072, 16384]⟩ : Shape).Idx → EReal) (s : (⟨2, ![96, 16384]⟩ : Shape).Idx → BitVec 8) :
    (⟨2, ![1152, 8192]⟩ : Shape).Idx → EReal := fun y =>
  proj x w s (y 0) ⟨(y 1).val, by have : (y 1).val < 8192 := (y 1).isLt; omega⟩
    * Ideal.logistic (proj x w s (y 0) ⟨(y 1).val, by have : (y 1).val < 8192 := (y 1).isLt; omega⟩)
    * proj x w s (y 0) ⟨8192 + (y 1).val, by have : (y 1).val < 8192 := (y 1).isLt; omega⟩

end Cert.UpSpec

end
-- ==== Proof.UpTileSpec.lean ====
/- The kernel's tiles are tiles of the whole arrays' quantiser. -/
module

public import proofs.«01_k».proof.Proof.UpTileNum
public import proofs.«01_k».proof.Proof.UpSpec
public import proofs.«01_k».proof.Proof.UpEpi

@[expose] public section

noncomputable section

namespace Cert.UpIdeal.Value

open Cert.UpIdeal Cert.UpIdeal.Gen Cert.UpNum Cert.UpSpec
open Idealize.ShloMosaic Idealize.ShloMosaic.TcCoe Idealize.ShloMosaic.ValueIdx
open Idealize.SL Idealize.SL.Sem

/-- The tile `v` is the array `x` from row `32 a` and column `128 b` on. -/
def TileOf {N : ℕ} (v : FVec Ideal S32x128 .f32) (x : (⟨2, ![1152, N]⟩ : Shape).Idx → EReal) (a b : ℕ) : Prop :=
  ∀ (r : Fin 32) (l : Fin 128) (R : Fin 1152) (L : Fin N), R.val = 32 * a + r.val → L.val = 128 * b + l.val → v (ix2 r l) = x (ix2 R L)

theorem blkT_eq {N : ℕ} (v : FVec Ideal S32x128 .f32) (x : (⟨2, ![1152, N]⟩ : Shape).Idx → EReal) (a b : ℕ) (hv : TileOf v x a b)
    (hb : 128 * b + 128 ≤ N) (r : Fin 32) (g : ℕ) (hg : g < 4) (R : Fin 1152) (hR : R.val = 32 * a + r.val) :
    blkT v r g = blk x R (4 * b + g) := by
  unfold blkT blk
  refine Finset.sup_congr rfl fun k hk => congrArg mag ?_
  have hk' : k < 32 := Finset.mem_range.mp hk
  unfold lane entry
  rw [dif_pos (show 32 * (4 * b + g) + k < N by omega)]
  exact hv r _ R _ hR (by show 32 * (4 * b + g) + k = 128 * b + (32 * g + k) % 128; omega)

theorem codesT_eq {N : ℕ} (v : FVec Ideal S32x128 .f32) (x : (⟨2, ![1152, N]⟩ : Shape).Idx → EReal) (a b : ℕ) (hv : TileOf v x a b)
    (hb : 128 * b + 128 ≤ N) (r : Fin 32) (l : Fin 128) (R : Fin 1152) (L : Fin N) (hR : R.val = 32 * a + r.val) (hL : L.val = 128 * b + l.val) :
    codesT v (ix2 r l) = qCodes x (ix2 R L) := by
  have hl := l.isLt
  rw [codesT_apply, blkT_eq v x a b hv hb r _ (by omega) R hR, hv r l R L hR hL]
  unfold qCodes
  rw [show 4 * b + l.val / 32 = L.val / 32 by omega]
  rfl

theorem scaleT_eq {N : ℕ} (n : ℕ) (v : FVec Ideal S32x128 .f32) (x : (⟨2, ![1152, N]⟩ : Shape).Idx → EReal) (a b : ℕ) (hv : TileOf v x a b)
    (hb : 128 * b + 128 ≤ N) (r : Fin 32) (l : Fin 128) (R : Fin 1152) (L : Fin n) (hR : R.val = 32 * a + r.val) (hL : L.val = 4 * b + l.val / 32) :
    scaleT v (ix2 r l) = qScale n x (ix2 R L) := by
  have hl := l.isLt
  rw [scaleT_apply, blkT_eq v x a b hv hb r _ (by omega) R hR]
  unfold qScale
  rw [← hL]
  rfl

theorem deqT_eq {N : ℕ} (v : FVec Ideal S32x128 .f32) (x : (⟨2, ![1152, N]⟩ : Shape).Idx → EReal) (a b : ℕ) (hv : TileOf v x a b)
    (hb : 128 * b + 128 ≤ N) (r : Fin 32) (l : Fin 128) (R : Fin 1152) (L : Fin N) (hR : R.val = 32 * a + r.val) (hL : L.val = 128 * b + l.val) :
    deqT v (ix2 r l) = qDeq x (ix2 R L) := by
  have hl := l.isLt
  rw [deqT_apply, blkT_eq v x a b hv hb r _ (by omega) R hR, hv r l R L hR hL]
  unfold qDeq qCodes
  rw [show 4 * b + l.val / 32 = L.val / 32 by omega]
  rfl

/-! ## The activations -/

theorem xTile_of (x0 : Vec Ideal S1152x3072 .bf16) (a : Fin 36) (b : Fin 24) : TileOf (N := 3072) (xTile x0 a b) x0 a.val b.val := by
  intro r l R L hR hL
  refine congrArg x0 (funext fun d => Fin.ext ?_)
  match d with
  | ⟨0, _⟩ => exact hR.symm
  | ⟨1, _⟩ => exact hL.symm

theorem xCodes_eq (x0 : Vec Ideal S1152x3072 .bf16) : xCodes x0 = qCodes (R := 1152) (N := 3072) x0 := by
  funext y
  obtain ⟨R, L, rfl⟩ : ∃ (R : Fin 1152) (L : Fin 3072), y = (ix2 R L : S1152x3072.Idx) := ⟨y 0, y 1, eq_ix2 y⟩
  exact codesT_eq (N := 3072) _ x0 (R.val / 32) (L.val / 128) (xTile_of x0 ⟨R.val / 32, by omega⟩ ⟨L.val / 128, by omega⟩) (by omega)
    ⟨R.val % 32, by omega⟩ ⟨L.val % 128, by omega⟩ R L (by show R.val = 32 * (R.val / 32) + R.val % 32; omega) (by show L.val = 128 * (L.val / 128) + L.val % 128; omega)

theorem xDeq_eq (x0 : Vec Ideal S1152x3072 .bf16) : xDeq x0 = qDeq (R := 1152) (N := 3072) x0 := by
  funext y
  obtain ⟨R, L, rfl⟩ : ∃ (R : Fin 1152) (L : Fin 3072), y = (ix2 R L : S1152x3072.Idx) := ⟨y 0, y 1, eq_ix2 y⟩
  exact deqT_eq (N := 3072) _ x0 (R.val / 32) (L.val / 128) (xTile_of x0 ⟨R.val / 32, by omega⟩ ⟨L.val / 128, by omega⟩) (by omega)
    ⟨R.val % 32, by omega⟩ ⟨L.val % 128, by omega⟩ R L (by show R.val = 32 * (R.val / 32) + R.val % 32; omega) (by show L.val = 128 * (L.val / 128) + L.val % 128; omega)

theorem xScale_eq (x0 : Vec Ideal S1152x3072 .bf16) : xScale x0 = qScale (R := 1152) (N := 3072) 96 x0 := by
  funext y
  obtain ⟨R, L, rfl⟩ : ∃ (R : Fin 1152) (L : Fin 96), y = (ix2 R L : S1152x96.Idx) := ⟨y 0, y 1, eq_ix2 y⟩
  exact scaleT_eq (N := 3072) 96 _ x0 (R.val / 32) (L.val / 4) (xTile_of x0 ⟨R.val / 32, by omega⟩ ⟨L.val / 4, by omega⟩) (by omega)
    ⟨R.val % 32, by omega⟩ ⟨32 * (L.val % 4) + L.val / 4, by omega⟩ R L (by show R.val = 32 * (R.val / 32) + R.val % 32; omega)
    (by show L.val = 4 * (L.val / 4) + (32 * (L.val % 4) + L.val / 4) / 32; omega)

end Cert.UpIdeal.Value

end
-- ==== Proof.UpTiles.lean ====
/- The gate and up products, the gated activations and their quantised blocks, over the extended reals. -/
module

public import proofs.«01_k».proof.Proof.UpFrame
public import proofs.«01_k».proof.Proof.UpTileSpec
public import Idealize.ShloMosaic.PureOps.Ideal
public import Idealize.ShloMosaic.Lib.MatmulPlain

@[expose] public section

noncomputable section

namespace Cert.UpIdeal.Value

open Cert.UpIdeal Cert.UpIdeal.Gen Cert.UpNum Cert.UpSpec
open Idealize.ShloMosaic Idealize.ShloMosaic.TcCoe Idealize.ShloMosaic.ValueIdx
open Idealize.SL Idealize.SL.Sem
open scoped BigOperators

/-- A step's product, at an index. -/
theorem gOut_apply (x : Vec Ideal S1152x3072 .bf16) (w : Vec Ideal S3072x256 .fp8e4m3) (s : Vec Ideal S96x256 .i8) (r : Fin 1152) (c : Fin 256) :
    gOut x w s (ix2 r c) = ∑ k : Fin 3072, (x (ix2 r k) * Cert.Dequant.weight (F := Ideal) (w (ix2 k c)) (s (ix2 ⟨k.val / 32, by omega⟩ c)) : EReal) := by
  unfold gOut
  rw [shapeCast_self]
  refine (Ideal.matmul_plain_apply (φ₁ := .bf16) (φ₂ := .bf16) (M := 1152) (K := 3072) (N := 256) none x (wTile w s) _ r c).trans ?_
  rw [show constant (F := Ideal) S1152x256 .f32 0x00000000#32 (ix2 r c) = (0 : EReal) from by
    show Ideal.ofBits .f32 0x00000000#32 = 0
    simp [Ideal.ofBits, Ideal.ieee], zero_add]
  rfl

theorem uOut_apply (x : Vec Ideal S1152x3072 .bf16) (w : Vec Ideal S3072x256 .fp8e4m3) (s : Vec Ideal S96x256 .i8) (r : Fin 1152) (c : Fin 256) :
    uOut x w s (ix2 r c) = ∑ k : Fin 3072, (x (ix2 r k) * Cert.Dequant.weight (F := Ideal) (w (ix2 k c)) (s (ix2 ⟨k.val / 32, by omega⟩ c)) : EReal) :=
  gOut_apply x w s r c

/-- The gated tile, at an index. -/
theorem hTile_apply (g u : Vec Ideal S1152x256 .f32) (a : Fin 36) (b : Fin 2) (r : Fin 32) (l : Fin 128) :
    hTile g u a b (ix2 r l) = (tileAt g a b (ix2 r l) * Ideal.logistic (tileAt g a b (ix2 r l)) * tileAt u a b (ix2 r l) : EReal) := by
  have e0 : Ideal.ofBits .f32 0x00000000#32 = 0 := by simp [Ideal.ofBits, Ideal.ieee]
  have e1 : Ideal.ofBits .f32 0x3F800000#32 = 1 := by
    simp [Ideal.ofBits, Ideal.ieee, -EReal.coe_mul]; norm_num
  show (tileAt g a b (ix2 r l) * Ideal.div (Ideal.ofBits .f32 0x3F800000#32)
    (Ideal.ofBits .f32 0x3F800000#32 + Ideal.exp (Ideal.ofBits .f32 0x00000000#32 - tileAt g a b (ix2 r l))) * tileAt u a b (ix2 r l) : EReal) = _
  rw [e0, e1, zero_sub]
  rfl

/-- When a step's gated products are the columns of `x` from `256 t` on, its tiles are tiles of `x`. -/
theorem hTile_of (g u : Vec Ideal S1152x256 .f32) (t : ℕ) (x : (⟨2, ![1152, 8192]⟩ : Shape).Idx → EReal)
    (h : ∀ (R : Fin 1152) (j : Fin 256) (L : Fin 8192), L.val = 256 * t + j.val → (g (ix2 R j) * Ideal.logistic (g (ix2 R j)) * u (ix2 R j) : EReal) = x (ix2 R L))
    (a : Fin 36) (b : Fin 2) : TileOf (N := 8192) (hTile g u a b) x a.val (2 * t + b.val) := by
  intro r l R L hR hL
  have ht : ∀ z : Vec Ideal S1152x256 .f32, tileAt z a b (ix2 r l) = z (ix2 R ⟨128 * b.val + l.val, by omega⟩) := fun z => by
    refine congrArg z (funext fun d => Fin.ext ?_)
    match d with
    | ⟨0, _⟩ => exact hR.symm
    | ⟨1, _⟩ => rfl
  rw [hTile_apply, ht g, ht u]
  exact h R ⟨128 * b.val + l.val, by omega⟩ L (by show L.val = 256 * t + (128 * b.val + l.val); omega)

variable (g u : Vec Ideal S1152x256 .f32) (t : ℕ) (ht : t < 32) (x : (⟨2, ![1152, 8192]⟩ : Shape).Idx → EReal)
  (h : ∀ (R : Fin 1152) (j : Fin 256) (L : Fin 8192), L.val = 256 * t + j.val → (g (ix2 R j) * Ideal.logistic (g (ix2 R j)) * u (ix2 R j) : EReal) = x (ix2 R L))

include ht h

theorem hCodes_apply (R : Fin 1152) (j : Fin 256) (L : Fin 8192) (hL : L.val = 256 * t + j.val) : hCodes g u (ix2 R j) = qCodes x (ix2 R L) :=
  codesT_eq (N := 8192) _ x (R.val / 32) (2 * t + j.val / 128) (hTile_of g u t x h ⟨R.val / 32, by omega⟩ ⟨j.val / 128, by omega⟩) (by omega)
    ⟨R.val % 32, by omega⟩ ⟨j.val % 128, by omega⟩ R L (by show R.val = 32 * (R.val / 32) + R.val % 32; omega)
    (by show L.val = 128 * (2 * t + j.val / 128) + j.val % 128; omega)

theorem hDeq_apply (R : Fin 1152) (j : Fin 256) (L : Fin 8192) (hL : L.val = 256 * t + j.val) : hDeq g u (ix2 R j) = qDeq x (ix2 R L) :=
  deqT_eq (N := 8192) _ x (R.val / 32) (2 * t + j.val / 128) (hTile_of g u t x h ⟨R.val / 32, by omega⟩ ⟨j.val / 128, by omega⟩) (by omega)
    ⟨R.val % 32, by omega⟩ ⟨j.val % 128, by omega⟩ R L (by show R.val = 32 * (R.val / 32) + R.val % 32; omega)
    (by show L.val = 128 * (2 * t + j.val / 128) + j.val % 128; omega)

theorem hSc_apply (a : Fin 36) (b : Fin 2) (r : Fin 32) (l : Fin 128) (R : Fin 1152) (L : Fin 256) (hR : R.val = 32 * a.val + r.val)
    (hL : L.val = 4 * (2 * t + b.val) + l.val / 32) : hSc g u a b (ix2 r l) = qScale 256 x (ix2 R L) :=
  scaleT_eq (N := 8192) 256 _ x a.val (2 * t + b.val) (hTile_of g u t x h a b) (by omega) r l R L hR hL

end Cert.UpIdeal.Value

end
-- ==== Proof.UpValue.lean ====
/- The gate and up projection's five results over the extended reals, as functions of its arguments.

   With X the activations, the results are the codes and scales of X, and the codes, scales and values of the quantised
   gated activations; the gated activations are those of quantised X times the dequantised weights. The thirty-two steps
   each write a block of 256 columns of the gated activations' codes and values; the other three arrays are written whole
   at the end. -/
module

public import proofs.«01_k».proof.Proof.UpTiles
public import Idealize.ShloMosaic.Lib.Pipeline.Value

@[expose] public section

noncomputable section

namespace Cert.UpIdeal.Value

open Cert.UpIdeal Cert.UpIdeal.Gen Cert.UpNum Cert.UpSpec
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-! ## The blocks of a step -/

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val :=
  (by decide +kernel : ∀ t : Fin grid0.N, _)
theorem index2 : ∀ t : Fin cfg0.N, win0_2.index t (0 : Fin 2) = 0 ∧ win0_2.index t (1 : Fin 2) = 32 + t.val :=
  (by decide +kernel : ∀ t : Fin grid0.N, _)
theorem index3 : ∀ t : Fin cfg0.N, win0_3.index t (0 : Fin 2) = 0 ∧ win0_3.index t (1 : Fin 2) = t.val :=
  (by decide +kernel : ∀ t : Fin grid0.N, _)
theorem index4 : ∀ t : Fin cfg0.N, win0_4.index t (0 : Fin 2) = 0 ∧ win0_4.index t (1 : Fin 2) = 32 + t.val :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = t.val :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = t.val :=
  (by decide +kernel : ∀ t : Fin grid0.N, _)

theorem iblk0_eq (c : Dev nD) (t : Fin cfg0.N) : iblk m c 0 t = V m c main_arg0 := by
  obtain ⟨e0, e1⟩ := index0 t
  funext j
  refine congrArg (V m c main_arg0) (funext fun a => Fin.ext ?_)
  match a with
  | ⟨0, _⟩ => show win0_0.index t (0 : Fin 2) * 1152 + 1 * (j 0).val = (j 0).val; omega
  | ⟨1, _⟩ => show win0_0.index t (1 : Fin 2) * 3072 + 1 * (j 1).val = (j 1).val; omega

theorem X0_eq (c : Dev nD) : X0 m c = V m c main_arg0 := iblk0_eq m c _

theorem iblk1_apply (c : Dev nD) (t : Fin cfg0.N) (k : Fin 3072) (j : Fin 256) :
    iblk m c 1 t (ix2 k j) = V m c main_arg1 (ix2 k ⟨256 * t.val + j.val, by have := lt32 t; omega⟩) := by
  obtain ⟨e0, e1⟩ := index1 t
  refine congrArg (V m c main_arg1) (funext fun a => Fin.ext ?_)
  match a with
  | ⟨0, _⟩ => show win0_1.index t (0 : Fin 2) * 3072 + 1 * k.val = k.val; omega
  | ⟨1, _⟩ => show win0_1.index t (1 : Fin 2) * 256 + 1 * j.val = 256 * t.val + j.val; omega

theorem iblk2_apply (c : Dev nD) (t : Fin cfg0.N) (k : Fin 3072) (j : Fin 256) :
    iblk m c 2 t (ix2 k j) = V m c main_arg1 (ix2 k ⟨8192 + (256 * t.val + j.val), by have := lt32 t; omega⟩) := by
  obtain ⟨e0, e1⟩ := index2 t
  refine congrArg (V m c main_arg1) (funext fun a => Fin.ext ?_)
  match a with
  | ⟨0, _⟩ => show win0_2.index t (0 : Fin 2) * 3072 + 1 * k.val = k.val; omega
  | ⟨1, _⟩ => show win0_2.index t (1 : Fin 2) * 256 + 1 * j.val = 8192 + (256 * t.val + j.val); omega

theorem iblk3_apply (c : Dev nD) (t : Fin cfg0.N) (k : Fin 96) (j : Fin 256) :
    iblk m c 3 t (ix2 k j) = V m c main_arg2 (ix2 k ⟨256 * t.val + j.val, by have := lt32 t; omega⟩) := by
  obtain ⟨e0, e1⟩ := index3 t
  refine congrArg (V m c main_arg2) (funext fun a => Fin.ext ?_)
  match a with
  | ⟨0, _⟩ => show win0_3.index t (0 : Fin 2) * 96 + 1 * k.val = k.val; omega
  | ⟨1, _⟩ => show win0_3.index t (1 : Fin 2) * 256 + 1 * j.val = 256 * t.val + j.val; omega

theorem iblk4_apply (c : Dev nD) (t : Fin cfg0.N) (k : Fin 96) (j : Fin 256) :
    iblk m c 4 t (ix2 k j) = V m c main_arg2 (ix2 k ⟨8192 + (256 * t.val + j.val), by have := lt32 t; omega⟩) := by
  obtain ⟨e0, e1⟩ := index4 t
  refine congrArg (V m c main_arg2) (funext fun a => Fin.ext ?_)
  match a with
  | ⟨0, _⟩ => show win0_4.index t (0 : Fin 2) * 96 + 1 * k.val = k.val; omega
  | ⟨1, _⟩ => show win0_4.index t (1 : Fin 2) * 256 + 1 * j.val = 8192 + (256 * t.val + j.val); omega

/-! ## A step's products -/

/-- The gated activations of the arguments. -/
def hOf (c : Dev nD) : (⟨2, ![1152, 8192]⟩ : Shape).Idx → EReal := gated (qDeq (R := 1152) (N := 3072) (V m c main_arg0)) (V m c main_arg1) (V m c main_arg2)

theorem Gt_apply (c : Dev nD) (t : Fin cfg0.N) (r : Fin 1152) (j : Fin 256) (L : Fin 16384) (hL : L.val = 256 * t.val + j.val) :
    Gt m c t (ix2 r j) = proj (qDeq (R := 1152) (N := 3072) (V m c main_arg0)) (V m c main_arg1) (V m c main_arg2) r L := by
  have hb : 256 * t.val + j.val < 16384 := by have := lt32 t; have := j.isLt; omega
  rw [show L = ⟨256 * t.val + j.val, hb⟩ from Fin.ext hL]
  unfold Gt
  refine (gOut_apply (xDeq (X0 m c)) (iblk m c 1 t) (iblk m c 3 t) r j).trans ?_
  unfold proj
  rw [xDeq_eq, X0_eq]
  refine Finset.sum_congr rfl fun k _ => ?_
  rw [iblk1_apply, iblk3_apply]

theorem Ut_apply (c : Dev nD) (t : Fin cfg0.N) (r : Fin 1152) (j : Fin 256) (L : Fin 16384) (hL : L.val = 8192 + (256 * t.val + j.val)) :
    Ut m c t (ix2 r j) = proj (qDeq (R := 1152) (N := 3072) (V m c main_arg0)) (V m c main_arg1) (V m c main_arg2) r L := by
  have hb : 8192 + (256 * t.val + j.val) < 16384 := by have := lt32 t; have := j.isLt; omega
  rw [show L = ⟨8192 + (256 * t.val + j.val), hb⟩ from Fin.ext hL]
  unfold Ut
  refine (uOut_apply (xDeq (X0 m c)) (iblk m c 2 t) (iblk m c 4 t) r j).trans ?_
  unfold proj
  rw [xDeq_eq, X0_eq]
  refine Finset.sum_congr rfl fun k _ => ?_
  rw [iblk2_apply, iblk4_apply]

theorem step_gated (c : Dev nD) (t : Fin cfg0.N) (R : Fin 1152) (j : Fin 256) (L : Fin 8192) (hL : L.val = 256 * t.val + j.val) :
    (Gt m c t (ix2 R j) * Ideal.logistic (Gt m c t (ix2 R j)) * Ut m c t (ix2 R j) : EReal) = hOf m c (ix2 R L) := by
  rw [Gt_apply m c t R j ⟨L.val, by omega⟩ hL, Ut_apply m c t R j ⟨8192 + L.val, by omega⟩ (by show 8192 + L.val = _; omega)]
  unfold hOf gated
  rfl

theorem HS_eq (c : Dev nD) : HS m c = qScale (R := 1152) (N := 8192) 256 (hOf m c) := by
  funext y
  obtain ⟨R, L, rfl⟩ : ∃ (R : Fin 1152) (L : Fin 256), y = (ix2 R L : S1152x256.Idx) := ⟨y 0, y 1, eq_ix2 y⟩
  exact hSc_apply _ _ (L.val / 8) (by omega) (hOf m c) (fun R j L' hL => step_gated m c ⟨L.val / 8, by show _ < 32; omega⟩ R j L' hL)
    ⟨R.val / 32, by omega⟩ ⟨L.val / 4 % 2, by omega⟩ ⟨R.val % 32, by omega⟩ ⟨32 * (L.val % 128 % 4) + L.val % 128 / 4, by omega⟩ R L
    (by show R.val = 32 * (R.val / 32) + R.val % 32; omega)
    (by show L.val = 4 * (2 * (L.val / 8) + L.val / 4 % 2) + (32 * (L.val % 128 % 4) + L.val % 128 / 4) / 32; omega)

/-! ## The activations' codes -/

theorem emb5 (t : Fin cfg0.N) (j : S1152x3072.Idx) : ((cfg0.win 5).blk t).view.emb j = j := by
  obtain ⟨e0, e1⟩ := index5 t
  funext a; apply Fin.ext
  match a with
  | ⟨0, _⟩ => show win0_5.index t (0 : Fin 2) * 1152 + 1 * (j 0).val = (j 0).val; omega
  | ⟨1, _⟩ => show win0_5.index t (1 : Fin 2) * 3072 + 1 * (j 1).val = (j 1).val; omega

theorem cut5 (t : Fin cfg0.N) (X : Vec Ideal S1152x3072 .fp8e4m3) :
    (cfg0.win 5).cut (grid0.coords t) X = ((cfg0.win 5).blk t).view.read (Elt Ideal) X := by
  funext j
  show X j = X (((cfg0.win 5).blk t).view.emb j)
  rw [emb5]

theorem flushed5 (c : Dev nD) (t : Fin cfg0.N) :
    (dats m 0 c).flushed 5 t = ((cfg0.win 5).blk t).view.read (Elt Ideal) (qCodes (R := 1152) (N := 3072) (V m c main_arg0) : Vec Ideal S1152x3072 .fp8e4m3) := by
  show (cfg0.win 5).cut (grid0.coords t) ((dats m 0 c).after 5 t) = _
  rw [after0_5, xCodes_eq, X0_eq]
  exact cut5 t _

theorem covered5 (i : S1152x3072.Idx) : ∃ t : Fin cfg0.N, (cfg0.win 5).flush t = true ∧ i ∈ ((cfg0.win 5).blk t).view.set :=
  ⟨(⟨31, by decide⟩ : Fin cfg0.N), (flush0_5 _).mpr rfl, by have h := ((cfg0.win 5).blk (⟨31, by decide⟩ : Fin cfg0.N)).view.emb_mem_set i; rwa [emb5] at h⟩

theorem final5 (c : Dev nD) : (dats m 0 c).arrAt 5 cfg0.N = (qCodes (R := 1152) (N := 3072) (V m c main_arg0) : Vec Ideal S1152x3072 .fp8e4m3) :=
  (dats m 0 c).arrAt_eq_of_cover 5 (qCodes (R := 1152) (N := 3072) (V m c main_arg0) : Vec Ideal S1152x3072 .fp8e4m3) (fun t _ => flushed5 m c t) covered5

/-! ## The activations' scales -/

theorem emb6 (t : Fin cfg0.N) (j : S1152x96.Idx) : ((cfg0.win 6).blk t).view.emb j = j := by
  obtain ⟨e0, e1⟩ := index6 t
  funext a; apply Fin.ext
  match a with
  | ⟨0, _⟩ => show win0_6.index t (0 : Fin 2) * 1152 + 1 * (j 0).val = (j 0).val; omega
  | ⟨1, _⟩ => show win0_6.index t (1 : Fin 2) * 96 + 1 * (j 1).val = (j 1).val; omega

theorem cut6 (t : Fin cfg0.N) (X : Vec Ideal S1152x96 .f32) :
    (cfg0.win 6).cut (grid0.coords t) X = ((cfg0.win 6).blk t).view.read (Elt Ideal) X := by
  funext j
  show X j = X (((cfg0.win 6).blk t).view.emb j)
  rw [emb6]

theorem flushed6 (c : Dev nD) (t : Fin cfg0.N) :
    (dats m 0 c).flushed 6 t = ((cfg0.win 6).blk t).view.read (Elt Ideal) (qScale (R := 1152) (N := 3072) 96 (V m c main_arg0) : Vec Ideal S1152x96 .f32) := by
  show (cfg0.win 6).cut (grid0.coords t) ((dats m 0 c).after 6 t) = _
  rw [after0_6, xScale_eq, X0_eq]
  exact cut6 t _

theorem covered6 (i : S1152x96.Idx) : ∃ t : Fin cfg0.N, (cfg0.win 6).flush t = true ∧ i ∈ ((cfg0.win 6).blk t).view.set :=
  ⟨(⟨31, by decide⟩ : Fin cfg0.N), (flush0_6 _).mpr rfl, by have h := ((cfg0.win 6).blk (⟨31, by decide⟩ : Fin cfg0.N)).view.emb_mem_set i; rwa [emb6] at h⟩

theorem final6 (c : Dev nD) : (dats m 0 c).arrAt 6 cfg0.N = (qScale (R := 1152) (N := 3072) 96 (V m c main_arg0) : Vec Ideal S1152x96 .f32) :=
  (dats m 0 c).arrAt_eq_of_cover 6 (qScale (R := 1152) (N := 3072) 96 (V m c main_arg0) : Vec Ideal S1152x96 .f32) (fun t _ => flushed6 m c t) covered6

/-! ## The gated activations' scales -/

theorem emb8 (t : Fin cfg0.N) (j : S1152x256.Idx) : ((cfg0.win 8).blk t).view.emb j = j := by
  obtain ⟨e0, e1⟩ := index8 t
  funext a; apply Fin.ext
  match a with
  | ⟨0, _⟩ => show win0_8.index t (0 : Fin 2) * 1152 + 1 * (j 0).val = (j 0).val; omega
  | ⟨1, _⟩ => show win0_8.index t (1 : Fin 2) * 256 + 1 * (j 1).val = (j 1).val; omega

theorem cut8 (t : Fin cfg0.N) (X : Vec Ideal S1152x256 .f32) :
    (cfg0.win 8).cut (grid0.coords t) X = ((cfg0.win 8).blk t).view.read (Elt Ideal) X := by
  funext j
  show X j = X (((cfg0.win 8).blk t).view.emb j)
  rw [emb8]

theorem flushed8 (c : Dev nD) (t : Fin cfg0.N) :
    (dats m 0 c).flushed 8 t = ((cfg0.win 8).blk t).view.read (Elt Ideal) (qScale (R := 1152) (N := 8192) 256 (hOf m c) : Vec Ideal S1152x256 .f32) := by
  show (cfg0.win 8).cut (grid0.coords t) ((dats m 0 c).after 8 t) = _
  rw [after0_8, HS_eq]
  exact cut8 t _

theorem covered8 (i : S1152x256.Idx) : ∃ t : Fin cfg0.N, (cfg0.win 8).flush t = true ∧ i ∈ ((cfg0.win 8).blk t).view.set :=
  ⟨(⟨31, by decide⟩ : Fin cfg0.N), (flush0_8 _).mpr rfl, by have h := ((cfg0.win 8).blk (⟨31, by decide⟩ : Fin cfg0.N)).view.emb_mem_set i; rwa [emb8] at h⟩

theorem final8 (c : Dev nD) : (dats m 0 c).arrAt 8 cfg0.N = (qScale (R := 1152) (N := 8192) 256 (hOf m c) : Vec Ideal S1152x256 .f32) :=
  (dats m 0 c).arrAt_eq_of_cover 8 (qScale (R := 1152) (N := 8192) 256 (hOf m c) : Vec Ideal S1152x256 .f32) (fun t _ => flushed8 m c t) covered8

/-! ## The gated activations' codes -/

theorem emb7 (t : Fin cfg0.N) (r : Fin 1152) (j : Fin 256) :
    ((cfg0.win 7).blk t).view.emb (ix2 r j : S1152x256.Idx) = (ix2 r ⟨256 * t.val + j.val, by have := lt32 t; omega⟩ : S1152x8192.Idx) := by
  obtain ⟨e0, e1⟩ := index7 t
  funext a; apply Fin.ext
  match a with
  | ⟨0, _⟩ => show win0_7.index t (0 : Fin 2) * 1152 + 1 * r.val = r.val; omega
  | ⟨1, _⟩ => show win0_7.index t (1 : Fin 2) * 256 + 1 * j.val = 256 * t.val + j.val; omega

theorem read7 (G : Vec Ideal S1152x8192 .fp8e4m3) (t : Fin cfg0.N) (r : Fin 1152) (j : Fin 256) :
    ((cfg0.win 7).blk t).view.read (Elt Ideal) G (ix2 r j : S1152x256.Idx)
      = G (ix2 r ⟨256 * t.val + j.val, by have := lt32 t; omega⟩ : S1152x8192.Idx) :=
  congrArg G (emb7 t r j)

theorem flushed7 (c : Dev nD) (t : Fin cfg0.N) :
    (dats m 0 c).flushed 7 t = ((cfg0.win 7).blk t).view.read (Elt Ideal) (qCodes (R := 1152) (N := 8192) (hOf m c) : Vec Ideal S1152x8192 .fp8e4m3) := by
  show (cfg0.win 7).cut (grid0.coords t) ((dats m 0 c).after 7 t) = _
  rw [after0_7]
  funext j
  obtain ⟨r, l, rfl⟩ : ∃ (r : Fin 1152) (l : Fin 256), j = (ix2 r l : S1152x256.Idx) := ⟨j 0, j 1, eq_ix2 j⟩
  refine Eq.trans ?_ (read7 (qCodes (R := 1152) (N := 8192) (hOf m c) : Vec Ideal S1152x8192 .fp8e4m3) t r l).symm
  exact hCodes_apply (Gt m c t) (Ut m c t) t.val (lt32 t) (hOf m c) (step_gated m c t) r l ⟨256 * t.val + l.val, by have := lt32 t; omega⟩ rfl

theorem covered7 (i : S1152x8192.Idx) : ∃ t : Fin cfg0.N, (cfg0.win 7).flush t = true ∧ i ∈ ((cfg0.win 7).blk t).view.set := by
  have h1 : (i 1).val < 8192 := (i 1).isLt
  have h0 : (i 0).val < 1152 := (i 0).isLt
  have ht : (i 1).val / 256 < cfg0.N := by show _ < 32; omega
  have e : (ix2 ⟨(i 0).val, h0⟩ ⟨256 * ((i 1).val / 256) + (i 1).val % 256, by omega⟩ : S1152x8192.Idx) = i := by
    funext a; apply Fin.ext
    match a with
    | ⟨0, _⟩ => rfl
    | ⟨1, _⟩ => show 256 * ((i 1).val / 256) + (i 1).val % 256 = (i 1).val; omega
  have h := ((cfg0.win 7).blk ⟨(i 1).val / 256, ht⟩).view.emb_mem_set (ix2 ⟨(i 0).val, h0⟩ ⟨(i 1).val % 256, by omega⟩ : S1152x256.Idx)
  rw [show ((cfg0.win 7).blk ⟨(i 1).val / 256, ht⟩).view.emb (ix2 ⟨(i 0).val, h0⟩ ⟨(i 1).val % 256, by omega⟩ : S1152x256.Idx) = i from
    (emb7 ⟨(i 1).val / 256, ht⟩ ⟨(i 0).val, h0⟩ ⟨(i 1).val % 256, by omega⟩).trans e] at h
  exact ⟨⟨(i 1).val / 256, ht⟩, flush0_7 _, h⟩

theorem final7 (c : Dev nD) : (dats m 0 c).arrAt 7 cfg0.N = (qCodes (R := 1152) (N := 8192) (hOf m c) : Vec Ideal S1152x8192 .fp8e4m3) :=
  (dats m 0 c).arrAt_eq_of_cover 7 (qCodes (R := 1152) (N := 8192) (hOf m c) : Vec Ideal S1152x8192 .fp8e4m3) (fun t _ => flushed7 m c t) covered7

/-! ## The quantised gated activations -/

theorem emb9 (t : Fin cfg0.N) (r : Fin 1152) (j : Fin 256) :
    ((cfg0.win 9).blk t).view.emb (ix2 r j : S1152x256.Idx) = (ix2 r ⟨256 * t.val + j.val, by have := lt32 t; omega⟩ : S1152x8192.Idx) := by
  obtain ⟨e0, e1⟩ := index9 t
  funext a; apply Fin.ext
  match a with
  | ⟨0, _⟩ => show win0_9.index t (0 : Fin 2) * 1152 + 1 * r.val = r.val; omega
  | ⟨1, _⟩ => show win0_9.index t (1 : Fin 2) * 256 + 1 * j.val = 256 * t.val + j.val; omega

theorem read9 (G : Vec Ideal S1152x8192 .bf16) (t : Fin cfg0.N) (r : Fin 1152) (j : Fin 256) :
    ((cfg0.win 9).blk t).view.read (Elt Ideal) G (ix2 r j : S1152x256.Idx)
      = G (ix2 r ⟨256 * t.val + j.val, by have := lt32 t; omega⟩ : S1152x8192.Idx) :=
  congrArg G (emb9 t r j)

theorem flushed9 (c : Dev nD) (t : Fin cfg0.N) :
    (dats m 0 c).flushed 9 t = ((cfg0.win 9).blk t).view.read (Elt Ideal) (qDeq (R := 1152) (N := 8192) (hOf m c) : Vec Ideal S1152x8192 .bf16) := by
  show (cfg0.win 9).cut (grid0.coords t) ((dats m 0 c).after 9 t) = _
  rw [after0_9]
  funext j
  obtain ⟨r, l, rfl⟩ : ∃ (r : Fin 1152) (l : Fin 256), j = (ix2 r l : S1152x256.Idx) := ⟨j 0, j 1, eq_ix2 j⟩
  refine Eq.trans ?_ (read9 (qDeq (R := 1152) (N := 8192) (hOf m c) : Vec Ideal S1152x8192 .bf16) t r l).symm
  exact hDeq_apply (Gt m c t) (Ut m c t) t.val (lt32 t) (hOf m c) (step_gated m c t) r l ⟨256 * t.val + l.val, by have := lt32 t; omega⟩ rfl

theorem covered9 (i : S1152x8192.Idx) : ∃ t : Fin cfg0.N, (cfg0.win 9).flush t = true ∧ i ∈ ((cfg0.win 9).blk t).view.set := by
  have h1 : (i 1).val < 8192 := (i 1).isLt
  have h0 : (i 0).val < 1152 := (i 0).isLt
  have ht : (i 1).val / 256 < cfg0.N := by show _ < 32; omega
  have e : (ix2 ⟨(i 0).val, h0⟩ ⟨256 * ((i 1).val / 256) + (i 1).val % 256, by omega⟩ : S1152x8192.Idx) = i := by
    funext a; apply Fin.ext
    match a with
    | ⟨0, _⟩ => rfl
    | ⟨1, _⟩ => show 256 * ((i 1).val / 256) + (i 1).val % 256 = (i 1).val; omega
  have h := ((cfg0.win 9).blk ⟨(i 1).val / 256, ht⟩).view.emb_mem_set (ix2 ⟨(i 0).val, h0⟩ ⟨(i 1).val % 256, by omega⟩ : S1152x256.Idx)
  rw [show ((cfg0.win 9).blk ⟨(i 1).val / 256, ht⟩).view.emb (ix2 ⟨(i 0).val, h0⟩ ⟨(i 1).val % 256, by omega⟩ : S1152x256.Idx) = i from
    (emb9 ⟨(i 1).val / 256, ht⟩ ⟨(i 0).val, h0⟩ ⟨(i 1).val % 256, by omega⟩).trans e] at h
  exact ⟨⟨(i 1).val / 256, ht⟩, flush0_9 _, h⟩

theorem final9 (c : Dev nD) : (dats m 0 c).arrAt 9 cfg0.N = (qDeq (R := 1152) (N := 8192) (hOf m c) : Vec Ideal S1152x8192 .bf16) :=
  (dats m 0 c).arrAt_eq_of_cover 9 (qDeq (R := 1152) (N := 8192) (hOf m c) : Vec Ideal S1152x8192 .bf16) (fun t _ => flushed9 m c t) covered9

/-! ## The run -/

/-- The run: each result at its function of the arguments, the arguments unchanged. -/
theorem run : θ_run defs (onTc (τ := τ) (main (F := Ideal))) ⟨m, fun _ => 0, ρ⟩ fun r => ∀ c : Dev nD,
      r.2.mem ((c : Thread nD τ).loc main_v0_0) = (qCodes (R := 1152) (N := 3072) (V m c main_arg0) : Vec Ideal S1152x3072 .fp8e4m3)
      ∧ r.2.mem ((c : Thread nD τ).loc main_v0_1) = (qScale (R := 1152) (N := 3072) 96 (V m c main_arg0) : Vec Ideal S1152x96 .f32)
      ∧ r.2.mem ((c : Thread nD τ).loc main_v0_2) = (qCodes (R := 1152) (N := 8192) (hOf m c) : Vec Ideal S1152x8192 .fp8e4m3)
      ∧ r.2.mem ((c : Thread nD τ).loc main_v0_3) = (qScale (R := 1152) (N := 8192) 256 (hOf m c) : Vec Ideal S1152x256 .f32)
      ∧ r.2.mem ((c : Thread nD τ).loc main_v0_4) = (qDeq (R := 1152) (N := 8192) (hOf m c) : Vec Ideal S1152x8192 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 5).trans (final5 m c), ((h c).1 6).trans (final6 m c), ((h c).1 7).trans (final7 m c),
      ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩)
    (run_main m ρ)

end Cert.UpIdeal.Value

end
-- ==== Proof.UpRefValue.lean ====
/- The reference's five results over the extended reals, as functions of its arguments.

   It runs once over whole arrays, so each result array is what the body computes from the argument arrays. -/
module

public import proofs.«01_k».proof.Proof.Gen.UpRefIdeal.Frame
public import Idealize.ShloMosaic.Lib.Pipeline.Value

@[expose] public section

noncomputable section

namespace Cert.UpRefIdeal.Whole

open Cert.UpRefIdeal Cert.UpRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## Every block is its whole array -/

theorem idx_zero0 : ∀ t : Fin cfg0.N, win0_0.index t (0 : Fin 2) = 0 ∧ win0_0.index t (1 : Fin 2) = 0 :=
  (by decide +kernel : ∀ t : Fin grid0.N, _)

theorem emb0 (t : Fin cfg0.N) (j : S1152x3072.Idx) : ((cfg0.win 0).blk t).view.emb j = j := by
  obtain ⟨e0, e1⟩ := idx_zero0 t
  funext a; apply Fin.ext
  match a with
  | ⟨0, _⟩ => show win0_0.index t (0 : Fin 2) * 1152 + 1 * (j 0).val = (j 0).val; omega
  | ⟨1, _⟩ => show win0_0.index t (1 : Fin 2) * 3072 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)

theorem emb1 (t : Fin cfg0.N) (j : S3072x16384.Idx) : ((cfg0.win 1).blk t).view.emb j = j := by
  obtain ⟨e0, e1⟩ := idx_zero1 t
  funext a; apply Fin.ext
  match a with
  | ⟨0, _⟩ => show win0_1.index t (0 : Fin 2) * 3072 + 1 * (j 0).val = (j 0).val; omega
  | ⟨1, _⟩ => show win0_1.index t (1 : Fin 2) * 16384 + 1 * (j 1).val = (j 1).val; omega

theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S96x16384.Idx) : ((cfg0.win 2).blk t).view.emb j = j := by
  obtain ⟨e0, e1⟩ := idx_zero2 t
  funext a; apply Fin.ext
  match a with
  | ⟨0, _⟩ => show win0_2.index t (0 : Fin 2) * 96 + 1 * (j 0).val = (j 0).val; omega
  | ⟨1, _⟩ => show win0_2.index t (1 : Fin 2) * 16384 + 1 * (j 1).val = (j 1).val; omega

theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 2) = 0 ∧ win0_3.index t (1 : Fin 2) = 0 :=
  (by decide +kernel : ∀ t : Fin grid0.N, _)

theorem emb3 (t : Fin cfg0.N) (j : S1152x3072.Idx) : ((cfg0.win 3).blk t).view.emb j = j := by
  obtain ⟨e0, e1⟩ := idx_zero3 t
  funext a; apply Fin.ext
  match a with
  | ⟨0, _⟩ => show win0_3.index t (0 : Fin 2) * 1152 + 1 * (j 0).val = (j 0).val; omega
  | ⟨1, _⟩ => show win0_3.index t (1 : Fin 2) * 3072 + 1 * (j 1).val = (j 1).val; omega

theorem cut3_eq (t : Fin cfg0.N) (X : Vec F S1152x3072 .fp8e4m3) :
    (cfg0.win 3).cut (grid0.coords t) X = ((cfg0.win 3).blk t).view.read (Elt F) X := by
  funext j
  show X j = X (((cfg0.win 3).blk t).view.emb j)
  rw [emb3]

theorem idx_zero4 : ∀ t : Fin cfg0.N, win0_4.index t (0 : Fin 2) = 0 ∧ win0_4.index t (1 : Fin 2) = 0 :=
  (by decide +kernel : ∀ t : Fin grid0.N, _)

theorem emb4 (t : Fin cfg0.N) (j : S1152x96.Idx) : ((cfg0.win 4).blk t).view.emb j = j := by
  obtain ⟨e0, e1⟩ := idx_zero4 t
  funext a; apply Fin.ext
  match a with
  | ⟨0, _⟩ => show win0_4.index t (0 : Fin 2) * 1152 + 1 * (j 0).val = (j 0).val; omega
  | ⟨1, _⟩ => show win0_4.index t (1 : Fin 2) * 96 + 1 * (j 1).val = (j 1).val; omega

theorem cut4_eq (t : Fin cfg0.N) (X : Vec F S1152x96 .f32) :
    (cfg0.win 4).cut (grid0.coords t) X = ((cfg0.win 4).blk t).view.read (Elt F) X := by
  funext j
  show X j = X (((cfg0.win 4).blk t).view.emb j)
  rw [emb4]

theorem idx_zero5 : ∀ t : Fin cfg0.N, win0_5.index t (0 : Fin 2) = 0 ∧ win0_5.index t (1 : Fin 2) = 0 :=
  (by decide +kernel : ∀ t : Fin grid0.N, _)

theorem emb5 (t : Fin cfg0.N) (j : S1152x8192.Idx) : ((cfg0.win 5).blk t).view.emb j = j := by
  obtain ⟨e0, e1⟩ := idx_zero5 t
  funext a; apply Fin.ext
  match a with
  | ⟨0, _⟩ => show win0_5.index t (0 : Fin 2) * 1152 + 1 * (j 0).val = (j 0).val; omega
  | ⟨1, _⟩ => show win0_5.index t (1 : Fin 2) * 8192 + 1 * (j 1).val = (j 1).val; omega

theorem cut5_eq (t : Fin cfg0.N) (X : Vec F S1152x8192 .fp8e4m3) :
    (cfg0.win 5).cut (grid0.coords t) X = ((cfg0.win 5).blk t).view.read (Elt F) X := by
  funext j
  show X j = X (((cfg0.win 5).blk t).view.emb j)
  rw [emb5]

theorem idx_zero6 : ∀ t : Fin cfg0.N, win0_6.index t (0 : Fin 2) = 0 ∧ win0_6.index t (1 : Fin 2) = 0 :=
  (by decide +kernel : ∀ t : Fin grid0.N, _)

theorem emb6 (t : Fin cfg0.N) (j : S1152x256.Idx) : ((cfg0.win 6).blk t).view.emb j = j := by
  obtain ⟨e0, e1⟩ := idx_zero6 t
  funext a; apply Fin.ext
  match a with
  | ⟨0, _⟩ => show win0_6.index t (0 : Fin 2) * 1152 + 1 * (j 0).val = (j 0).val; omega
  | ⟨1, _⟩ => show win0_6.index t (1 : Fin 2) * 256 + 1 * (j 1).val = (j 1).val; omega

theorem cut6_eq (t : Fin cfg0.N) (X : Vec F S1152x256 .f32) :
    (cfg0.win 6).cut (grid0.coords t) X = ((cfg0.win 6).blk t).view.read (Elt F) X := by
  funext j
  show X j = X (((cfg0.win 6).blk t).view.emb j)
  rw [emb6]

theorem idx_zero7 : ∀ t : Fin cfg0.N, win0_7.index t (0 : Fin 2) = 0 ∧ win0_7.index t (1 : Fin 2) = 0 :=
  (by decide +kernel : ∀ t : Fin grid0.N, _)

theorem emb7 (t : Fin cfg0.N) (j : S1152x8192.Idx) : ((cfg0.win 7).blk t).view.emb j = j := by
  obtain ⟨e0, e1⟩ := idx_zero7 t
  funext a; apply Fin.ext
  match a with
  | ⟨0, _⟩ => show win0_7.index t (0 : Fin 2) * 1152 + 1 * (j 0).val = (j 0).val; omega
  | ⟨1, _⟩ => show win0_7.index t (1 : Fin 2) * 8192 + 1 * (j 1).val = (j 1).val; omega

theorem cut7_eq (t : Fin cfg0.N) (X : Vec F S1152x8192 .bf16) :
    (cfg0.win 7).cut (grid0.coords t) X = ((cfg0.win 7).blk t).view.read (Elt F) X := by
  funext j
  show X j = X (((cfg0.win 7).blk t).view.emb j)
  rw [emb7]

/-! ## Result 0 -/

/-- The activations' codes. -/
abbrev G3 (a0 : Vec F S1152x3072 .bf16) (a1 : Vec F S3072x16384 .fp8e4m3) (a2 : Vec F S96x16384 .i8) : Vec F S1152x3072 .fp8e4m3 :=
  k0_pay4 a0

theorem out3_eq (a0 : Vec F S1152x3072 .bf16) (a1 : Vec F S3072x16384 .fp8e4m3) (a2 : Vec F S96x16384 .i8) : out0_3 (F := F) a0 a1 a2 = G3 a0 a1 a2 := by
  unfold out0_3
  rw [View.canon_unit_zero hz, View.ld_unit_zero (S := S1152x3072) hz _ a0]

theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

theorem covered3 (i : S1152x3072.Idx) : ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ## Result 1 -/

/-- The activations' scales. -/
abbrev G4 (a0 : Vec F S1152x3072 .bf16) (a1 : Vec F S3072x16384 .fp8e4m3) (a2 : Vec F S96x16384 .i8) : Vec F S1152x96 .f32 :=
  k0_pay5 a0

theorem out4_eq (a0 : Vec F S1152x3072 .bf16) (a1 : Vec F S3072x16384 .fp8e4m3) (a2 : Vec F S96x16384 .i8) : out0_4 (F := F) a0 a1 a2 = G4 a0 a1 a2 := by
  unfold out0_4
  rw [View.canon_unit_zero hz, View.ld_unit_zero (S := S1152x3072) hz _ a0]

theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

theorem covered4 (i : S1152x96.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ## Result 2 -/

/-- The gated activations' codes. -/
abbrev G5 (a0 : Vec F S1152x3072 .bf16) (a1 : Vec F S3072x16384 .fp8e4m3) (a2 : Vec F S96x16384 .i8) : Vec F S1152x8192 .fp8e4m3 :=
  k0_pay11 (k0_pay6 a0) a1 (k0_pay7 a2) k0_pay8

theorem out5_eq (a0 : Vec F S1152x3072 .bf16) (a1 : Vec F S3072x16384 .fp8e4m3) (a2 : Vec F S96x16384 .i8) : out0_5 (F := F) a0 a1 a2 = G5 a0 a1 a2 := by
  unfold out0_5 k0_pay16 k0_pay15 k0_pay14 k0_pay13
  rw [View.canon_unit_zero hz, View.ld_unit_zero (S := S1152x3072) hz _ a0, View.ld_unit_zero (S := S3072x16384) hz _ a1, View.ld_unit_zero (S := S96x16384) hz _ a2]

theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

theorem covered5 (i : S1152x8192.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## Result 3 -/

/-- The gated activations' scales. -/
abbrev G6 (a0 : Vec F S1152x3072 .bf16) (a1 : Vec F S3072x16384 .fp8e4m3) (a2 : Vec F S96x16384 .i8) : Vec F S1152x256 .f32 :=
  k0_pay12 (k0_pay6 a0) a1 (k0_pay7 a2) k0_pay8

theorem out6_eq (a0 : Vec F S1152x3072 .bf16) (a1 : Vec F S3072x16384 .fp8e4m3) (a2 : Vec F S96x16384 .i8) : out0_6 (F := F) a0 a1 a2 = G6 a0 a1 a2 := by
  unfold out0_6 k0_pay17 k0_pay15 k0_pay14 k0_pay13
  rw [View.canon_unit_zero hz, View.ld_unit_zero (S := S1152x3072) hz _ a0, View.ld_unit_zero (S := S3072x16384) hz _ a1, View.ld_unit_zero (S := S96x16384) hz _ a2]

theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

theorem covered6 (i : S1152x256.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ## Result 4 -/

/-- The quantised gated activations. -/
abbrev G7 (a0 : Vec F S1152x3072 .bf16) (a1 : Vec F S3072x16384 .fp8e4m3) (a2 : Vec F S96x16384 .i8) : Vec F S1152x8192 .bf16 :=
  k0_pay1 (k0_pay11 (k0_pay6 a0) a1 (k0_pay7 a2) k0_pay8) (k0_pay12 (k0_pay6 a0) a1 (k0_pay7 a2) k0_pay8)

theorem out7_eq (a0 : Vec F S1152x3072 .bf16) (a1 : Vec F S3072x16384 .fp8e4m3) (a2 : Vec F S96x16384 .i8) : out0_7 (F := F) a0 a1 a2 = G7 a0 a1 a2 := by
  unfold out0_7 k0_pay17 k0_pay16 k0_pay15 k0_pay14 k0_pay13
  rw [View.canon_unit_zero hz, View.ld_unit_zero (S := S1152x3072) hz _ a0, View.ld_unit_zero (S := S3072x16384) hz _ a1, View.ld_unit_zero (S := S96x16384) hz _ a2]

theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

theorem covered7 (i : S1152x8192.Idx) : ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-- The run: each result at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
      ((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.UpRefIdeal.Whole

end
-- ==== Proof.UpRefQuant.lean ====
/- The reference's quantiser, written over blocks as a third axis, is the whole arrays' quantiser. -/
module

public import proofs.«01_k».proof.Proof.UpSpec
public import Idealize.ShloMosaic.PureOps.Ideal.Laws

@[expose] public section

noncomputable section

namespace Cert.UpRefQuant

open Cert.UpNum Cert.UpSpec
open Idealize.ShloMosaic Idealize.ShloMosaic.TcCoe Idealize.ShloMosaic.ValueIdx

variable {n N : ℕ}

/-- The exponent of each block's scale. -/
def expoV (y : FVec Ideal ⟨3, ![1152, n, 32]⟩ .f32) (h : (⟨3, ![1152, n, 32]⟩ : Shape).Reduces [2] ⟨2, ![1152, n]⟩) : FVec Ideal ⟨2, ![1152, n]⟩ .f32 :=
  have m : FVec Ideal ⟨2, ![1152, n]⟩ .f32 := multiReduction .maximumf [2] ⟨2, ![1152, n]⟩ (absf y) 0xFF800000#32 h (.inl rfl) rfl
  select (cmpf .oeq m (broadcast ⟨2, ![1152, n]⟩ (Scalar.ofBits .f32 0x00000000#32))) (broadcast ⟨2, ![1152, n]⟩ (Scalar.ofBits .f32 0x00000000#32))
    (addf (floor (divf (log (mulf m (broadcast ⟨2, ![1152, n]⟩ (Scalar.ofBits .f32 0x3B124925#32)))) (log (broadcast ⟨2, ![1152, n]⟩ (Scalar.ofBits .f32 0x40000000#32)))))
      (broadcast ⟨2, ![1152, n]⟩ (Scalar.ofBits .f32 0x3F800000#32)))

theorem expoV_apply (y : FVec Ideal ⟨3, ![1152, n, 32]⟩ .f32) (h : (⟨3, ![1152, n, 32]⟩ : Shape).Reduces [2] ⟨2, ![1152, n]⟩) (r : Fin 1152) (b : Fin n) :
    expoV y h (ix2 r b) = expo ((Finset.univ : Finset (Fin 32)).sup fun k => mag (y (ix3 r b k))) := by
  have hm : multiReduction .maximumf [2] ⟨2, ![1152, n]⟩ (absf y) 0xFF800000#32 h (.inl rfl) rfl (ix2 r b)
      = (Finset.univ : Finset (Fin 32)).sup fun k => mag (y (ix3 r b k)) := by
    refine (Ideal.multiReduction_maximumf_single (absf y) 0xFF800000#32 h (.inl rfl) rfl (ix2 r b)).trans ?_
    rw [show (FloatOps.ofBits .f32 0xFF800000#32 : Ideal .f32) = (⊥ : EReal) from by
      show Ideal.ofBits .f32 0xFF800000#32 = ⊥
      simp [Ideal.ofBits, Ideal.ieee]]
    refine (fold_max _ _).trans ?_
    refine Finset.sup_congr rfl fun k _ => ?_
    show mag (y (h.lift (ix2 r b) k)) = _
    refine congrArg (fun i => mag (y i)) (funext fun d => Fin.ext ?_)
    match d with
    | ⟨0, _⟩ => rfl
    | ⟨1, _⟩ => rfl
    | ⟨2, _⟩ => rfl
  unfold expo lg cst
  rw [← hm]
  refine (sel_zero _ (Ideal.ofBits .f32 0x00000000#32) (Ideal.ofBits .f32 0x00000000#32) _ (by simp [Ideal.ofBits, Ideal.ieee])).trans ?_
  rw [show Ideal.ofBits .f32 0x00000000#32 = (0 : EReal) by simp [Ideal.ofBits, Ideal.ieee]]
  refine if_congr Iff.rfl rfl ?_
  show (_ + Ideal.ofBits .f32 0x3F800000#32 : EReal) = _
  rw [show Ideal.ofBits .f32 0x3F800000#32 = (1 : EReal) by simp [Ideal.ofBits, Ideal.ieee, -EReal.coe_mul]; try norm_num]
  rfl

/-- A block's entries, laid along the third axis. -/
theorem blocked_apply (x : FVec Ideal ⟨2, ![1152, N]⟩ .f32) (hN : N = n * 32) (h : (⟨2, ![1152, N]⟩ : Shape).ShapeCasts ⟨3, ![1152, n, 32]⟩) (r : Fin 1152) (b : Fin n) (k : Fin 32) :
    shapeCast ⟨3, ![1152, n, 32]⟩ x h (ix3 r b k) = x (ix2 r ⟨32 * b.val + k.val, by have := b.isLt; have := k.isLt; omega⟩) :=
  shapeCast_apply _ h (ix3 r b k) (ix2 r ⟨32 * b.val + k.val, by have := b.isLt; have := k.isLt; omega⟩) (by
    rw [Shape.rowMajor_val_three, Shape.rowMajor_val_two]
    show r.val * N + (32 * b.val + k.val) = (r.val * n + b.val) * 32 + k.val
    rw [hN]; ring)

theorem unblocked_apply {α : Type} (y : (⟨3, ![1152, n, 32]⟩ : Shape).Idx → α) (hN : N = n * 32) (h : (⟨3, ![1152, n, 32]⟩ : Shape).ShapeCasts ⟨2, ![1152, N]⟩) (r : Fin 1152) (c : Fin N) :
    shapeCast ⟨2, ![1152, N]⟩ y h (ix2 r c) = y (ix3 r ⟨c.val / 32, by have := c.isLt; omega⟩ ⟨c.val % 32, by omega⟩) :=
  shapeCast_apply _ h (ix2 r c) (ix3 r ⟨c.val / 32, by have := c.isLt; omega⟩ ⟨c.val % 32, by omega⟩) (by
    rw [Shape.rowMajor_val_three, Shape.rowMajor_val_two]
    show (r.val * n + c.val / 32) * 32 + c.val % 32 = r.val * N + c.val
    have e : r.val * N = r.val * n * 32 := by rw [Nat.mul_assoc]; exact congrArg (r.val * ·) hN
    rw [e]
    generalize r.val * n = p
    omega)

/-- A value of each block, spread over the block. -/
theorem spread_apply {α : Type} (s : (⟨2, ![1152, n]⟩ : Shape).Idx → α) (h1 : (⟨2, ![1152, n]⟩ : Shape).ShapeCasts ⟨3, ![1152, n, 1]⟩)
    (h2 : (⟨3, ![1152, n, 1]⟩ : Shape).Broadcasts ⟨3, ![1152, n, 32]⟩) (r : Fin 1152) (b : Fin n) (k : Fin 32) :
    broadcastTo ⟨3, ![1152, n, 32]⟩ (shapeCast ⟨3, ![1152, n, 1]⟩ s h1) h2 (ix3 r b k) = s (ix2 r b) := by
  rw [broadcastTo_apply _ h2 (ix3 r b k) (ix3 r b (0 : Fin 1)) (fun x => by
    match x with
    | ⟨0, _⟩ => rfl
    | ⟨1, _⟩ => show b.val = if n = 1 then 0 else b.val; have := b.isLt; split <;> omega
    | ⟨2, _⟩ => rfl)]
  exact shapeCast_apply _ h1 (ix3 r b (0 : Fin 1)) (ix2 r b) (by
    rw [Shape.rowMajor_val_three, Shape.rowMajor_val_two]
    show r.val * n + b.val = (r.val * n + b.val) * 1 + 0
    omega)

/-- The exponent, of the array laid out in blocks. -/
theorem expoV_eq (x : FVec Ideal ⟨2, ![1152, N]⟩ .f32) (hN : N = n * 32) (h0 : (⟨2, ![1152, N]⟩ : Shape).ShapeCasts ⟨3, ![1152, n, 32]⟩)
    (h : (⟨3, ![1152, n, 32]⟩ : Shape).Reduces [2] ⟨2, ![1152, n]⟩) (r : Fin 1152) (b : Fin n) :
    expoV (shapeCast ⟨3, ![1152, n, 32]⟩ x h0) h (ix2 r b) = expo (blk x r b.val) := by
  rw [expoV_apply]
  unfold blk
  refine congrArg expo ?_
  rw [← sup_fin]
  refine Finset.sup_congr rfl fun k _ => congrArg mag ?_
  unfold entry
  rw [blocked_apply x hN h0 r b k, dif_pos]

/-- The codes. -/
def codesV (y : FVec Ideal ⟨3, ![1152, n, 32]⟩ .f32) (e : FVec Ideal ⟨2, ![1152, n]⟩ .f32) (h1 : (⟨2, ![1152, n]⟩ : Shape).ShapeCasts ⟨3, ![1152, n, 1]⟩)
    (h2 : (⟨3, ![1152, n, 1]⟩ : Shape).Broadcasts ⟨3, ![1152, n, 32]⟩) (h3 : (⟨3, ![1152, n, 32]⟩ : Shape).ShapeCasts ⟨2, ![1152, N]⟩) : FVec Ideal ⟨2, ![1152, N]⟩ .fp8e4m3 :=
  shapeCast ⟨2, ![1152, N]⟩ (truncf .fp8e4m3 (minimumf (broadcast ⟨3, ![1152, n, 32]⟩ (Scalar.ofBits .f32 0x43E00000#32)) (maximumf (broadcast ⟨3, ![1152, n, 32]⟩ (Scalar.ofBits .f32 0xC3E00000#32))
    (mulf y (broadcastTo ⟨3, ![1152, n, 32]⟩ (shapeCast ⟨3, ![1152, n, 1]⟩ (exp2 (subf (broadcast ⟨2, ![1152, n]⟩ (Scalar.ofBits .f32 0x00000000#32)) e)) h1) h2)))) (by decide)) h3

theorem codesV_eq (x : FVec Ideal ⟨2, ![1152, N]⟩ .f32) (hN : N = n * 32) (h0 : (⟨2, ![1152, N]⟩ : Shape).ShapeCasts ⟨3, ![1152, n, 32]⟩)
    (h : (⟨3, ![1152, n, 32]⟩ : Shape).Reduces [2] ⟨2, ![1152, n]⟩) (h1 : (⟨2, ![1152, n]⟩ : Shape).ShapeCasts ⟨3, ![1152, n, 1]⟩)
    (h2 : (⟨3, ![1152, n, 1]⟩ : Shape).Broadcasts ⟨3, ![1152, n, 32]⟩) (h3 : (⟨3, ![1152, n, 32]⟩ : Shape).ShapeCasts ⟨2, ![1152, N]⟩) :
    codesV (shapeCast ⟨3, ![1152, n, 32]⟩ x h0) (expoV (shapeCast ⟨3, ![1152, n, 32]⟩ x h0) h) h1 h2 h3 = qCodes (R := 1152) (N := N) x := by
  funext z
  obtain ⟨r, c, rfl⟩ : ∃ (r : Fin 1152) (c : Fin N), z = ix2 r c := ⟨z 0, z 1, eq_ix2 z⟩
  have hc := c.isLt
  unfold codesV
  rw [unblocked_apply _ hN h3 r c]
  show min (Ideal.ofBits .f32 0x43E00000#32) (max (Ideal.ofBits .f32 0xC3E00000#32)
    (shapeCast ⟨3, ![1152, n, 32]⟩ x h0 (ix3 r ⟨c.val / 32, by omega⟩ ⟨c.val % 32, by omega⟩)
      * broadcastTo ⟨3, ![1152, n, 32]⟩ _ h2 (ix3 r ⟨c.val / 32, by omega⟩ ⟨c.val % 32, by omega⟩) : EReal)) = _
  rw [spread_apply _ h1 h2, blocked_apply x hN h0]
  show min _ (max _ (_ * Ideal.exp2 (Ideal.ofBits .f32 0x00000000#32 - expoV (shapeCast ⟨3, ![1152, n, 32]⟩ x h0) h (ix2 r ⟨c.val / 32, by omega⟩)))) = _
  rw [expoV_eq x hN h0 h, show Ideal.ofBits .f32 0x00000000#32 = (0 : EReal) by simp [Ideal.ofBits, Ideal.ieee]]
  unfold qCodes code
  rw [show (⟨32 * (c.val / 32) + c.val % 32, by omega⟩ : Fin N) = c from Fin.ext (Nat.div_add_mod c.val 32)]
  rfl

/-- The scales. -/
theorem scaleV_eq (x : FVec Ideal ⟨2, ![1152, N]⟩ .f32) (hN : N = n * 32) (h0 : (⟨2, ![1152, N]⟩ : Shape).ShapeCasts ⟨3, ![1152, n, 32]⟩)
    (h : (⟨3, ![1152, n, 32]⟩ : Shape).Reduces [2] ⟨2, ![1152, n]⟩) :
    exp2 (expoV (shapeCast ⟨3, ![1152, n, 32]⟩ x h0) h) = qScale (R := 1152) (N := N) n x := by
  funext z
  obtain ⟨r, b, rfl⟩ : ∃ (r : Fin 1152) (b : Fin n), z = ix2 r b := ⟨z 0, z 1, eq_ix2 z⟩
  show Ideal.exp2 (expoV (shapeCast ⟨3, ![1152, n, 32]⟩ x h0) h (ix2 r b)) = _
  rw [expoV_eq x hN h0 h]
  rfl

/-- Codes times their blocks' scales. -/
def deqV (q : FVec Ideal ⟨2, ![1152, N]⟩ .fp8e4m3) (s : FVec Ideal ⟨2, ![1152, n]⟩ .f32) (h0 : (⟨2, ![1152, N]⟩ : Shape).ShapeCasts ⟨3, ![1152, n, 32]⟩)
    (h1 : (⟨2, ![1152, n]⟩ : Shape).ShapeCasts ⟨3, ![1152, n, 1]⟩) (h1' : (⟨3, ![1152, n, 1]⟩ : Shape).ShapeCasts ⟨3, ![1152, n, 1]⟩)
    (h2 : (⟨3, ![1152, n, 1]⟩ : Shape).Broadcasts ⟨3, ![1152, n, 32]⟩) (h3 : (⟨3, ![1152, n, 32]⟩ : Shape).ShapeCasts ⟨2, ![1152, N]⟩) : FVec Ideal ⟨2, ![1152, N]⟩ .bf16 :=
  shapeCast ⟨2, ![1152, N]⟩ (mulf (shapeCast ⟨3, ![1152, n, 32]⟩ (extf .bf16 q (by decide)) h0)
    (broadcastTo ⟨3, ![1152, n, 32]⟩ (shapeCast ⟨3, ![1152, n, 1]⟩ (shapeCast ⟨3, ![1152, n, 1]⟩ (truncf .bf16 s (by decide)) h1) h1') h2)) h3

theorem deqV_eq (x : (⟨2, ![1152, N]⟩ : Shape).Idx → EReal) (hN : N = n * 32) (h0 : (⟨2, ![1152, N]⟩ : Shape).ShapeCasts ⟨3, ![1152, n, 32]⟩)
    (h1 : (⟨2, ![1152, n]⟩ : Shape).ShapeCasts ⟨3, ![1152, n, 1]⟩) (h1' : (⟨3, ![1152, n, 1]⟩ : Shape).ShapeCasts ⟨3, ![1152, n, 1]⟩)
    (h2 : (⟨3, ![1152, n, 1]⟩ : Shape).Broadcasts ⟨3, ![1152, n, 32]⟩) (h3 : (⟨3, ![1152, n, 32]⟩ : Shape).ShapeCasts ⟨2, ![1152, N]⟩) :
    deqV (qCodes x) (qScale n x) h0 h1 h1' h2 h3 = qDeq x := by
  funext z
  obtain ⟨r, c, rfl⟩ : ∃ (r : Fin 1152) (c : Fin N), z = ix2 r c := ⟨z 0, z 1, eq_ix2 z⟩
  have hc := c.isLt
  unfold deqV
  rw [unblocked_apply _ hN h3 r c]
  show (shapeCast ⟨3, ![1152, n, 32]⟩ _ h0 (ix3 r ⟨c.val / 32, by omega⟩ ⟨c.val % 32, by omega⟩)
      * broadcastTo ⟨3, ![1152, n, 32]⟩ _ h2 (ix3 r ⟨c.val / 32, by omega⟩ ⟨c.val % 32, by omega⟩) : EReal) = _
  rw [shapeCast_self, spread_apply _ h1 h2]
  refine (congrArg (· * _) (blocked_apply (n := n) (N := N) (qCodes x) hN h0 r ⟨c.val / 32, by omega⟩ ⟨c.val % 32, by omega⟩)).trans ?_
  rw [show (⟨32 * (c.val / 32) + c.val % 32, by omega⟩ : Fin N) = c from Fin.ext (Nat.div_add_mod c.val 32)]
  rfl

end Cert.UpRefQuant

end
-- ==== Proof.UpRefSpec.lean ====
/- The reference's results are the whole arrays' quantiser of the activations and of the gated activations. -/
module

public import proofs.«01_k».proof.Proof.UpRefQuant
public import proofs.«01_k».proof.Proof.DownAlgebra
public import proofs.«01_k».proof.Proof.Gen.UpRefIdeal.Skeleton
public import Idealize.ShloMosaic.Lib.MatmulPlain

@[expose] public section

noncomputable section

namespace Cert.UpRefSpec

open Cert.UpNum Cert.UpSpec Cert.UpRefQuant
open Cert.UpRefIdeal Cert.UpRefIdeal.Gen
open Idealize.ShloMosaic Idealize.ShloMosaic.TcCoe Idealize.ShloMosaic.ValueIdx
open scoped BigOperators

theorem codesX (a0 : Vec Ideal S1152x3072 .bf16) : k0_pay4 a0 = qCodes (R := 1152) (N := 3072) a0 :=
  codesV_eq (n := 96) (N := 3072) a0 rfl shapeCasts_S1152x3072_S1152x96x32 reduces_S1152x96x32_S1152x96 shapeCasts_S1152x96_S1152x96x1
    broadcasts_S1152x96x1_S1152x96x32 shapeCasts_S1152x96x32_S1152x3072

theorem scaleX (a0 : Vec Ideal S1152x3072 .bf16) : k0_pay5 a0 = qScale (R := 1152) (N := 3072) 96 a0 :=
  scaleV_eq (n := 96) (N := 3072) a0 rfl shapeCasts_S1152x3072_S1152x96x32 reduces_S1152x96x32_S1152x96

theorem deqX (a0 : Vec Ideal S1152x3072 .bf16) : k0_pay6 a0 = qDeq (R := 1152) (N := 3072) a0 := by
  have e : k0_pay6 a0 = deqV (n := 96) (N := 3072) (k0_pay4 a0) (k0_pay5 a0) shapeCasts_S1152x3072_S1152x96x32 shapeCasts_S1152x96_S1152x96x1
    shapeCasts_S1152x96x1_S1152x96x1 broadcasts_S1152x96x1_S1152x96x32 shapeCasts_S1152x96x32_S1152x3072 := rfl
  rw [e, codesX, scaleX]
  exact deqV_eq (n := 96) (N := 3072) a0 rfl _ _ _ _ _

/-- The product of the quantised activations and the dequantised weights. -/
def prod (xd : FVec Ideal S1152x3072 .bf16) (w : Vec Ideal S3072x16384 .fp8e4m3) (s : Vec Ideal S96x16384 .i8) : FVec Ideal S1152x16384 .f32 :=
  matmul dot_S1152x3072_S3072x16384_S1152x16384_1_0_0_1_n_n none xd
    (shapeCast S3072x16384 (mulf (shapeCast S96x32x16384 (extf .bf16 w bitsLt_fp8e4m3_bf16) shapeCasts_S3072x16384_S96x32x16384)
      (broadcastTo S96x32x16384 (shapeCast S96x1x16384 (shapeCast S96x1x16384 (truncf .bf16 (exp2 (subf (k0_pay7 s) k0_pay8)) bitsLt_bf16_f32)
        shapeCasts_S96x16384_S96x1x16384) shapeCasts_S96x1x16384_S96x1x16384) broadcasts_S96x1x16384_S96x32x16384)) shapeCasts_S96x32x16384_S3072x16384)
    (constant S1152x16384 .f32 0x00000000#32)

theorem prod_apply (xd : FVec Ideal S1152x3072 .bf16) (w : Vec Ideal S3072x16384 .fp8e4m3) (s : Vec Ideal S96x16384 .i8)
    (hs : ∀ j, 1 ≤ (s j).toNat ∧ (s j).toNat ≤ 254) (r : Fin 1152) (c : Fin 16384) : prod xd w s (ix2 r c) = proj xd w s r c := by
  unfold prod
  refine (Ideal.matmul_plain_apply (φ₁ := .bf16) (φ₂ := .bf16) (M := 1152) (K := 3072) (N := 16384) none xd _ _ r c).trans ?_
  rw [show constant (F := Ideal) S1152x16384 .f32 0x00000000#32 (ix2 r c) = (0 : EReal) from by
    show Ideal.ofBits .f32 0x00000000#32 = 0
    simp [Ideal.ofBits, Ideal.ieee], zero_add]
  unfold proj
  refine Finset.sum_congr rfl fun k _ => congrArg (xd (ix2 r k) * ·) ?_
  refine (Cert.DownAlgebra.refWeight (a := 96) (b := 32) (n := 16384) _ _ _ _ _ _ _ k c ⟨k.val / 32, by omega⟩ rfl).trans ?_
  exact congrArg (w (ix2 k c) * ·) (Cert.DownAlgebra.scale_eq _ (hs _).1 (hs _).2)

/-- The gated activations of the product. -/
def gate (p : FVec Ideal S1152x16384 .f32) : FVec Ideal S1152x8192 .f32 :=
  mulf (mulf (extractStridedSlice S1152x8192 ![0, 0] p slices_S1152x16384_o0_0_S1152x8192)
    (logistic (extractStridedSlice S1152x8192 ![0, 0] p slices_S1152x16384_o0_0_S1152x8192)))
    (extractStridedSlice S1152x8192 ![0, 8192] p slices_S1152x16384_o0_8192_S1152x8192)

theorem gate_apply (p : FVec Ideal S1152x16384 .f32) (r : Fin 1152) (c : Fin 8192) :
    gate p (ix2 r c) = (p (ix2 r ⟨c.val, by omega⟩) * Ideal.logistic (p (ix2 r ⟨c.val, by omega⟩)) * p (ix2 r ⟨8192 + c.val, by omega⟩) : EReal) := by
  have e0 : extractStridedSlice S1152x8192 ![0, 0] p slices_S1152x16384_o0_0_S1152x8192 (ix2 r c) = p (ix2 r ⟨c.val, by omega⟩) :=
    extractStridedSlice_apply ![0, 0] _ slices_S1152x16384_o0_0_S1152x8192 (ix2 r c) (ix2 r ⟨c.val, by omega⟩) (fun a => by
      match a with
      | ⟨0, _⟩ => show r.val = 0 + r.val; omega
      | ⟨1, _⟩ => show c.val = 0 + c.val; omega)
  have e1 : extractStridedSlice S1152x8192 ![0, 8192] p slices_S1152x16384_o0_8192_S1152x8192 (ix2 r c) = p (ix2 r ⟨8192 + c.val, by omega⟩) :=
    extractStridedSlice_apply ![0, 8192] _ slices_S1152x16384_o0_8192_S1152x8192 (ix2 r c) (ix2 r ⟨8192 + c.val, by omega⟩) (fun a => by
      match a with
      | ⟨0, _⟩ => show r.val = 0 + r.val; omega
      | ⟨1, _⟩ => show 8192 + c.val = 8192 + c.val; rfl)
  show (extractStridedSlice S1152x8192 ![0, 0] p slices_S1152x16384_o0_0_S1152x8192 (ix2 r c)
    * Ideal.logistic (extractStridedSlice S1152x8192 ![0, 0] p slices_S1152x16384_o0_0_S1152x8192 (ix2 r c))
    * extractStridedSlice S1152x8192 ![0, 8192] p slices_S1152x16384_o0_8192_S1152x8192 (ix2 r c) : EReal) = _
  rw [e0, e1]

theorem gate_eq (xd : FVec Ideal S1152x3072 .bf16) (w : Vec Ideal S3072x16384 .fp8e4m3) (s : Vec Ideal S96x16384 .i8)
    (hs : ∀ j, 1 ≤ (s j).toNat ∧ (s j).toNat ≤ 254) : gate (prod xd w s) = gated xd w s := by
  funext y
  obtain ⟨r, c, rfl⟩ : ∃ (r : Fin 1152) (c : Fin 8192), y = (ix2 r c : S1152x8192.Idx) := ⟨y 0, y 1, eq_ix2 y⟩
  have g : gated xd w s (ix2 r c) = proj xd w s r ⟨c.val, by omega⟩ * Ideal.logistic (proj xd w s r ⟨c.val, by omega⟩) * proj xd w s r ⟨8192 + c.val, by omega⟩ := by
    unfold gated; rfl
  rw [gate_apply, prod_apply xd w s hs, prod_apply xd w s hs, g]

variable (xd : FVec Ideal S1152x3072 .bf16) (w : Vec Ideal S3072x16384 .fp8e4m3) (s : Vec Ideal S96x16384 .i8) (hs : ∀ j, 1 ≤ (s j).toNat ∧ (s j).toNat ≤ 254)

include hs in
theorem codesH : k0_pay11 xd w (k0_pay7 s) k0_pay8 = qCodes (gated xd w s) := by
  have e : k0_pay11 xd w (k0_pay7 s) k0_pay8 = codesV (n := 256) (N := 8192) (shapeCast S1152x256x32 (gate (prod xd w s)) shapeCasts_S1152x8192_S1152x256x32)
      (expoV (n := 256) (shapeCast S1152x256x32 (gate (prod xd w s)) shapeCasts_S1152x8192_S1152x256x32) reduces_S1152x256x32_S1152x256) shapeCasts_S1152x256_S1152x256x1
      broadcasts_S1152x256x1_S1152x256x32 shapeCasts_S1152x256x32_S1152x8192 := rfl
  rw [e, gate_eq xd w s hs]
  exact codesV_eq (n := 256) (N := 8192) _ rfl _ _ _ _ _

include hs in
theorem scaleH : k0_pay12 xd w (k0_pay7 s) k0_pay8 = qScale 256 (gated xd w s) := by
  have e : k0_pay12 xd w (k0_pay7 s) k0_pay8 = exp2 (expoV (n := 256) (shapeCast S1152x256x32 (gate (prod xd w s)) shapeCasts_S1152x8192_S1152x256x32) reduces_S1152x256x32_S1152x256) := rfl
  rw [e, gate_eq xd w s hs]
  exact scaleV_eq (n := 256) (N := 8192) _ rfl _ _

include hs in
theorem deqH : k0_pay1 (k0_pay11 xd w (k0_pay7 s) k0_pay8) (k0_pay12 xd w (k0_pay7 s) k0_pay8) = qDeq (gated xd w s) := by
  rw [codesH xd w s hs, scaleH xd w s hs]
  exact deqV_eq (n := 256) (N := 8192) (gated xd w s) rfl shapeCasts_S1152x8192_S1152x256x32 shapeCasts_S1152x256_S1152x256x1 shapeCasts_S1152x256x1_S1152x256x1
    broadcasts_S1152x256x1_S1152x256x32 shapeCasts_S1152x256x32_S1152x8192

end Cert.UpRefSpec

end
-- ==== Proof.UpAlgebra.lean ====
/- The gate and up projection equals its reference over the extended reals, all five results.

   Both sides quantise the activations, multiply by the dequantised weights, gate, and quantise again. The scales of the
   weights agree because every byte is between 1 and 254. -/
module

public import proofs.«01_k».proof.Proof.UpValue
public import proofs.«01_k».proof.Proof.UpRefValue
public import proofs.«01_k».proof.Proof.UpRefSpec
public import proofs.«01_k».proof.Proof.Gen.Pre_up_bytes_regular
public import proofs.«01_k».proof.Defs

@[expose] public section

noncomputable section

namespace Cert.UpAlgebra

open Cert.UpSpec Cert.UpRefSpec
open Idealize.ShloMosaic Idealize.ShloMosaic.TcCoe Idealize.ShloMosaic.ValueIdx
open Idealize.SL Idealize.SL.Sem
open Cert.UpRefIdeal Cert.UpRefIdeal.Gen Cert.UpRefIdeal.Whole

/-- The precondition, read at an index. -/
theorem bytes_of_pre (a0 : Vec Ideal S1152x3072 .bf16) (a1 : Vec Ideal S3072x16384 .fp8e4m3) (a2 : Vec Ideal S96x16384 .i8)
    (h : Cert.Pre_up_bytes_regular.fn (F := Ideal) a0 a1 a2 = fun _ => 1#1) (j : S96x16384.Idx) :
    1 ≤ (a2 j).toNat ∧ (a2 j).toNat ≤ 254 := by
  have e := congrFun h j
  change IntOp.andi (IntOp.cmpi .uge (a2 j) 1#8) (IntOp.cmpi .ule (a2 j) 254#8) = 1#1 at e
  generalize a2 j = s at e ⊢
  revert s; decide +kernel

variable (a0 : Vec Ideal S1152x3072 .bf16) (a1 : Vec Ideal S3072x16384 .fp8e4m3) (a2 : Vec Ideal S96x16384 .i8)
  (hs : ∀ j, 1 ≤ (a2 j).toNat ∧ (a2 j).toNat ≤ 254)

include hs in
theorem G5_eq : G5 a0 a1 a2 = qCodes (R := 1152) (N := 8192) (gated (qDeq (R := 1152) (N := 3072) a0) a1 a2) := by
  rw [← deqX]
  exact codesH _ a1 a2 hs

include hs in
theorem G6_eq : G6 a0 a1 a2 = qScale (R := 1152) (N := 8192) 256 (gated (qDeq (R := 1152) (N := 3072) a0) a1 a2) := by
  rw [← deqX]
  exact scaleH _ a1 a2 hs

include hs in
theorem G7_eq : G7 a0 a1 a2 = qDeq (R := 1152) (N := 8192) (gated (qDeq (R := 1152) (N := 3072) a0) a1 a2) := by
  rw [← deqX]
  exact deqH _ a1 a2 hs

theorem algebraic : Cert.algebraic_UpIdeal_UpRefIdeal_pre_up_bytes_regular := by
  intro m g m' g' hpre hargs
  refine ⟨_, _, _, _, _, Cert.UpIdeal.Value.run m g, ?_⟩
  refine (θ_run _ _ _).mono (fun r h c => ?_) (Cert.UpRefIdeal.Whole.run m' g')
  obtain ⟨h0, h1, h2, h3, h4, k0, k1, k2⟩ := h c
  obtain ⟨e0, e1, e2⟩ := hargs c
  rw [e0, e1, e2] at h0 h1 h2 h3 h4
  have hs := bytes_of_pre _ _ _ (hpre c)
  exact ⟨h0.trans (codesX _), h1.trans (scaleX _), h2.trans (G5_eq _ _ _ hs), h3.trans (G6_eq _ _ _ hs), h4.trans (G7_eq _ _ _ hs), k0, k1, k2⟩

end Cert.UpAlgebra

end
-- ==== Proof.lean ====
module

public import proofs.«01_k».proof.Defs
public import proofs.«01_k».proof.Proof.Gen.Down
public import proofs.«01_k».proof.Proof.Gen.DownIdeal
public import proofs.«01_k».proof.Proof.Gen.DownIdeal.Frame
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownRefIdeal
public import proofs.«01_k».proof.Proof.Gen.DownRefIdeal.Frame
public import proofs.«01_k».proof.Proof.Gen.DownRefIdeal.Value
public import proofs.«01_k».proof.Proof.Gen.Pre_scale_bytes_regular
public import proofs.«01_k».proof.Proof.Gen.Up
public import proofs.«01_k».proof.Proof.Gen.Up.Frame
public import proofs.«01_k».proof.Proof.Gen.Up.Skeleton
public import proofs.«01_k».proof.Proof.Gen.Up.Loops
public import proofs.«01_k».proof.Proof.Gen.Up.Launch
public import proofs.«01_k».proof.Proof.Gen.Up.Points
public import proofs.«01_k».proof.Proof.Gen.UpIdeal
public import proofs.«01_k».proof.Proof.Gen.UpIdeal.Frame
public import proofs.«01_k».proof.Proof.Gen.UpIdeal.Skeleton
public import proofs.«01_k».proof.Proof.Gen.UpIdeal.Loops
public import proofs.«01_k».proof.Proof.Gen.UpIdeal.Launch
public import proofs.«01_k».proof.Proof.Gen.UpIdeal.Points
public import proofs.«01_k».proof.Proof.Gen.UpRefIdeal
public import proofs.«01_k».proof.Proof.Gen.UpRefIdeal.Frame
public import proofs.«01_k».proof.Proof.Gen.Pre_up_bytes_regular
public import proofs.«01_k».proof.Proof.DownFrame
public import proofs.«01_k».proof.Proof.DownSame
public import proofs.«01_k».proof.Proof.DownAlgebra
public import proofs.«01_k».proof.Proof.MachFrame
public import proofs.«01_k».proof.Proof.UpFrame
public import proofs.«01_k».proof.Proof.UpAlgebra
public import Idealize.ShloMosaic.Adequacy
public import Idealize.ShloMosaic.Lib.Bf16Pair
public import Idealize.ShloMosaic.Init

@[expose] public section

noncomputable section

namespace Cert.Proof

open Idealize.ShloMosaic Idealize.SL.Sem

theorem claim : Cert.Claim :=
  ⟨Cert.Up.Gen.facts, Cert.UpIdeal.Gen.facts, Cert.UpRefIdeal.Gen.facts, Cert.Down.Gen.facts, Cert.DownIdeal.Gen.facts, Cert.DownRefIdeal.Gen.facts,
   Cert.Pre_up_bytes_regular.Gen.facts, Cert.Pre_scale_bytes_regular.Gen.facts,
   fun m ρ _ => Cert.Up.Gen.frame m ρ,
   fun m ρ _ => Cert.UpIdeal.Gen.frame m ρ,
   fun m ρ _ => Cert.UpIdeal.Gen.frame m ρ,
   fun m ρ _ => Cert.UpRefIdeal.Gen.frame m ρ,
   fun m ρ _ => Cert.UpRefIdeal.Gen.frame m ρ,
   fun m ρ _ => Cert.DownSame.frame m ρ,
   fun m ρ _ => Cert.DownIdeal.Gen.frame m ρ,
   fun m ρ _ => Cert.DownIdeal.Gen.frame m ρ,
   fun m ρ _ => Cert.DownRefIdeal.Gen.frame m ρ,
   fun m ρ _ => Cert.DownRefIdeal.Gen.frame m ρ,
   IdealRules.bf16_pair.statement Cert.UpIdeal.S32x128 Cert.UpIdeal.S16x128,
   Cert.UpAlgebra.algebraic,
   trivial,
   Cert.DownAlgebra.algebraic⟩

end Cert.Proof

end
